-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_logits [hPre_finite_logits : Cert.Pre_finite_logits.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_logits.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_logits [hPre_finite_logits : Cert.Pre_finite_logits.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_logits.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_attention [hPre_finite_attention : Cert.Pre_finite_attention.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_attention [hPre_finite_attention : Cert.Pre_finite_attention.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rows [hPre_finite_rows : Cert.Pre_finite_rows.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rows [hPre_finite_rows : Cert.Pre_finite_rows.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_loss [hPre_finite_loss : Cert.Pre_finite_loss.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_loss.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_loss.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_loss.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite_loss.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_loss [hPre_finite_loss : Cert.Pre_finite_loss.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_loss.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_loss.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_loss.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite_loss.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite_logits [hKernel5Ideal : Cert.Kernel5Ideal.Facts] [hPre_finite_logits : Cert.Pre_finite_logits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_logits m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite_logits [hReference5Ideal : Cert.Reference5Ideal.Facts] [hPre_finite_logits : Cert.Pre_finite_logits.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_logits m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_attention [hKernel2Ideal : Cert.Kernel2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_attention m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_attention [hReference2Ideal : Cert.Reference2Ideal.Facts] [hPre_finite_attention : Cert.Pre_finite_attention.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_attention m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_rows [hKernel3Ideal : Cert.Kernel3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rows m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_rows [hReference3Ideal : Cert.Reference3Ideal.Facts] [hPre_finite_rows : Cert.Pre_finite_rows.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rows m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_loss [hKernel4Ideal : Cert.Kernel4Ideal.Facts] [hPre_finite_loss : Cert.Pre_finite_loss.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_loss m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_loss [hReference4Ideal : Cert.Reference4Ideal.Facts] [hPre_finite_loss : Cert.Pre_finite_loss.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_loss m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel5_Kernel5Ideal : Prop :=
  True

def algebraic_Kernel5Ideal_Reference5Ideal_pre_finite_logits [hKernel5Ideal : Cert.Kernel5Ideal.Facts] [hReference5Ideal : Cert.Reference5Ideal.Facts] [hPre_finite_logits : Cert.Pre_finite_logits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_logits m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel2_Kernel2Ideal : Prop :=
  True

def algebraic_Kernel2Ideal_Reference2Ideal_pre_finite_attention [hKernel2Ideal : Cert.Kernel2Ideal.Facts] [hReference2Ideal : Cert.Reference2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_attention m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v142_1)) (v1 : (c : Dev Cert.Kernel2Ideal.nD) → Buf (Elt Ideal) ((c.tc : Thread Cert.Kernel2Ideal.nD Cert.Kernel2Ideal.τ).loc Cert.Kernel2Ideal.main_v142_2)) (v2 : (c : Dev Cert.Kernel2Ideal.nD) → Buf (Elt Ideal) ((c.tc : Thread Cert.Kernel2Ideal.nD Cert.Kernel2Ideal.τ).loc Cert.Kernel2Ideal.main_v142_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v142_1) = v0 c
          ∧ r.2.mem ((c.tc : Thread Cert.Kernel2Ideal.nD Cert.Kernel2Ideal.τ).loc Cert.Kernel2Ideal.main_v142_2) = v1 c
          ∧ r.2.mem ((c.tc : Thread Cert.Kernel2Ideal.nD Cert.Kernel2Ideal.τ).loc Cert.Kernel2Ideal.main_v142_3) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v107) = v0 c
          ∧ r.2.mem ((c.tc : Thread Cert.Reference2Ideal.nD Cert.Reference2Ideal.τ).loc Cert.Reference2Ideal.main_v106) = v1 c
          ∧ r.2.mem ((c.tc : Thread Cert.Reference2Ideal.nD Cert.Reference2Ideal.τ).loc Cert.Reference2Ideal.main_v130) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_rows [hKernel3Ideal : Cert.Kernel3Ideal.Facts] [hReference3Ideal : Cert.Reference3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rows m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)) (v3 : (c : Dev Cert.Kernel3Ideal.nD) → Buf (Elt Ideal) ((c.tc : Thread Cert.Kernel3Ideal.nD Cert.Kernel3Ideal.τ).loc Cert.Kernel3Ideal.main_v16_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_v16_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_loss [hKernel4Ideal : Cert.Kernel4Ideal.Facts] [hReference4Ideal : Cert.Reference4Ideal.Facts] [hPre_finite_loss : Cert.Pre_finite_loss.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_loss m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)) (v4 : (c : Dev Cert.Kernel4Ideal.nD) → Buf (Elt Ideal) ((c.tc : Thread Cert.Kernel4Ideal.nD Cert.Kernel4Ideal.τ).loc Cert.Kernel4Ideal.main_v20_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_v20_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v72) = v1 c
          ∧ r.2.mem ((c.tc : Thread Cert.Reference4Ideal.nD Cert.Reference4Ideal.τ).loc Cert.Reference4Ideal.main_v74) = v2 c
          ∧ r.2.mem ((c.tc : Thread Cert.Reference4Ideal.nD Cert.Reference4Ideal.τ).loc Cert.Reference4Ideal.main_v76) = v3 c
          ∧ r.2.mem ((c.tc : Thread Cert.Reference4Ideal.nD Cert.Reference4Ideal.τ).loc Cert.Reference4Ideal.main_v78) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v75) = v0 c
          ∧ r.2.mem ((c.tc : Thread Cert.Reference10Ideal.nD Cert.Reference10Ideal.τ).loc Cert.Reference10Ideal.main_v74) = v1 c
          ∧ r.2.mem ((c.tc : Thread Cert.Reference10Ideal.nD Cert.Reference10Ideal.τ).loc Cert.Reference10Ideal.main_v70) = v2 c
          ∧ r.2.mem ((c.tc : Thread Cert.Reference10Ideal.nD Cert.Reference10Ideal.τ).loc Cert.Reference10Ideal.main_v80) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v21_0)) (v1 : (c : Dev Cert.Kernel11Ideal.nD) → Buf (Elt Ideal) ((c.tc : Thread Cert.Kernel11Ideal.nD Cert.Kernel11Ideal.τ).loc Cert.Kernel11Ideal.main_v21_1)) (v2 : (c : Dev Cert.Kernel11Ideal.nD) → Buf (Elt Ideal) ((c.tc : Thread Cert.Kernel11Ideal.nD Cert.Kernel11Ideal.τ).loc Cert.Kernel11Ideal.main_v21_2)) (v3 : (c : Dev Cert.Kernel11Ideal.nD) → Buf (Elt Ideal) ((c.tc : Thread Cert.Kernel11Ideal.nD Cert.Kernel11Ideal.τ).loc Cert.Kernel11Ideal.main_v21_3)) (v4 : (c : Dev Cert.Kernel11Ideal.nD) → Buf (Elt Ideal) ((c.tc : Thread Cert.Kernel11Ideal.nD Cert.Kernel11Ideal.τ).loc Cert.Kernel11Ideal.main_v21_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v21_0) = v0 c
          ∧ r.2.mem ((c.tc : Thread Cert.Kernel11Ideal.nD Cert.Kernel11Ideal.τ).loc Cert.Kernel11Ideal.main_v21_1) = v1 c
          ∧ r.2.mem ((c.tc : Thread Cert.Kernel11Ideal.nD Cert.Kernel11Ideal.τ).loc Cert.Kernel11Ideal.main_v21_2) = v2 c
          ∧ r.2.mem ((c.tc : Thread Cert.Kernel11Ideal.nD Cert.Kernel11Ideal.τ).loc Cert.Kernel11Ideal.main_v21_3) = v3 c
          ∧ r.2.mem ((c.tc : Thread Cert.Kernel11Ideal.nD Cert.Kernel11Ideal.τ).loc Cert.Kernel11Ideal.main_v21_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v53) = v0 c
          ∧ r.2.mem ((c.tc : Thread Cert.Reference11Ideal.nD Cert.Reference11Ideal.τ).loc Cert.Reference11Ideal.main_v48) = v1 c
          ∧ r.2.mem ((c.tc : Thread Cert.Reference11Ideal.nD Cert.Reference11Ideal.τ).loc Cert.Reference11Ideal.main_v44) = v2 c
          ∧ r.2.mem ((c.tc : Thread Cert.Reference11Ideal.nD Cert.Reference11Ideal.τ).loc Cert.Reference11Ideal.main_v52) = v3 c
          ∧ r.2.mem ((c.tc : Thread Cert.Reference11Ideal.nD Cert.Reference11Ideal.τ).loc Cert.Reference11Ideal.main_v54) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v5) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel5 : Cert.Kernel5.Facts) (hKernel5Ideal : Cert.Kernel5Ideal.Facts) (hReference5Ideal : Cert.Reference5Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_logits : Cert.Pre_finite_logits.Facts) (hPre_finite_attention : Cert.Pre_finite_attention.Facts) (hPre_finite_rows : Cert.Pre_finite_rows.Facts) (hPre_finite_loss : Cert.Pre_finite_loss.Facts),
    quiescent_Kernel (hKernel := hKernel)
    ∧ quiescent_KernelIdeal (hKernelIdeal := hKernelIdeal)
    ∧ quiescent_ReferenceIdeal (hReferenceIdeal := hReferenceIdeal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel5 (hKernel5 := hKernel5)
    ∧ quiescent_Kernel5Ideal (hKernel5Ideal := hKernel5Ideal)
    ∧ quiescent_Kernel5Ideal_pre_finite_logits (hKernel5Ideal := hKernel5Ideal) (hPre_finite_logits := hPre_finite_logits)
    ∧ quiescent_Reference5Ideal (hReference5Ideal := hReference5Ideal)
    ∧ quiescent_Reference5Ideal_pre_finite_logits (hReference5Ideal := hReference5Ideal) (hPre_finite_logits := hPre_finite_logits)
    ∧ quiescent_Kernel2 (hKernel2 := hKernel2)
    ∧ quiescent_Kernel2Ideal (hKernel2Ideal := hKernel2Ideal)
    ∧ quiescent_Kernel2Ideal_pre_finite_attention (hKernel2Ideal := hKernel2Ideal) (hPre_finite_attention := hPre_finite_attention)
    ∧ quiescent_Reference2Ideal (hReference2Ideal := hReference2Ideal)
    ∧ quiescent_Reference2Ideal_pre_finite_attention (hReference2Ideal := hReference2Ideal) (hPre_finite_attention := hPre_finite_attention)
    ∧ quiescent_Kernel3 (hKernel3 := hKernel3)
    ∧ quiescent_Kernel3Ideal (hKernel3Ideal := hKernel3Ideal)
    ∧ quiescent_Kernel3Ideal_pre_finite_rows (hKernel3Ideal := hKernel3Ideal) (hPre_finite_rows := hPre_finite_rows)
    ∧ quiescent_Reference3Ideal (hReference3Ideal := hReference3Ideal)
    ∧ quiescent_Reference3Ideal_pre_finite_rows (hReference3Ideal := hReference3Ideal) (hPre_finite_rows := hPre_finite_rows)
    ∧ quiescent_Kernel4 (hKernel4 := hKernel4)
    ∧ quiescent_Kernel4Ideal (hKernel4Ideal := hKernel4Ideal)
    ∧ quiescent_Kernel4Ideal_pre_finite_loss (hKernel4Ideal := hKernel4Ideal) (hPre_finite_loss := hPre_finite_loss)
    ∧ quiescent_Reference4Ideal (hReference4Ideal := hReference4Ideal)
    ∧ quiescent_Reference4Ideal_pre_finite_loss (hReference4Ideal := hReference4Ideal) (hPre_finite_loss := hPre_finite_loss)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel5_Kernel5Ideal
    ∧ algebraic_Kernel5Ideal_Reference5Ideal_pre_finite_logits (hKernel5Ideal := hKernel5Ideal) (hReference5Ideal := hReference5Ideal) (hPre_finite_logits := hPre_finite_logits)
    ∧ preserves_Kernel2_Kernel2Ideal
    ∧ algebraic_Kernel2Ideal_Reference2Ideal_pre_finite_attention (hKernel2Ideal := hKernel2Ideal) (hReference2Ideal := hReference2Ideal) (hPre_finite_attention := hPre_finite_attention)
    ∧ preserves_Kernel3_Kernel3Ideal
    ∧ algebraic_Kernel3Ideal_Reference3Ideal_pre_finite_rows (hKernel3Ideal := hKernel3Ideal) (hReference3Ideal := hReference3Ideal) (hPre_finite_rows := hPre_finite_rows)
    ∧ preserves_Kernel4_Kernel4Ideal
    ∧ algebraic_Kernel4Ideal_Reference4Ideal_pre_finite_loss (hKernel4Ideal := hKernel4Ideal) (hReference4Ideal := hReference4Ideal) (hPre_finite_loss := hPre_finite_loss)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_attention.lean ====
abbrev S8192x7168 : Shape := ⟨2, ![8192, 7168]⟩
abbrev S8192x1536 : Shape := ⟨2, ![8192, 1536]⟩
abbrev S512x512 : Shape := ⟨2, ![512, 512]⟩
abbrev S1x512 : Shape := ⟨2, ![1, 512]⟩
abbrev S3x512 : Shape := ⟨2, ![3, 512]⟩
abbrev S1x128 : Shape := ⟨2, ![1, 128]⟩
abbrev S8192x512 : Shape := ⟨2, ![8192, 512]⟩
abbrev S_ : Shape := ⟨0, ![]⟩

class Facts : Prop where
  slices_S8192x7168_S8192x512_0_3584 : S8192x7168.Slices ![0, 3584] S8192x512
  bcast_S_S8192x512 : S_.BroadcastsInDim S8192x512 (![] : Fin 0 → Fin S8192x512.rank)
  bcast_S_S512x512 : S_.BroadcastsInDim S512x512 (![] : Fin 0 → Fin S512x512.rank)

variable [Facts]

def fn {F : FTy → Type} [FloatOps F] (main_arg0 : FVec F S8192x7168 .bf16) (main_arg1 : FVec F S8192x1536 .bf16) (main_arg2 : FVec F S8192x7168 .bf16) (main_arg3 : FVec F S512x512 .bf16) (main_arg4 : FVec F S512x512 .bf16) (main_arg5 : FVec F S1x512 .f32) (main_arg6 : FVec F S3x512 .f32) (main_arg7 : FVec F S1x128 .f32) : IVec S8192x512 1 × IVec S512x512 1 :=
  let main_v0 : FVec F S8192x512 .bf16 := (extractStridedSlice S8192x512 ![0, 3584] · slices_S8192x7168_S8192x512_0_3584) main_arg0
  let main_v1 : FVec F S8192x512 .bf16 := Host.absf main_v0
  let main_cst : FVec F S_ .bf16 := constant S_ .bf16 0x7F80#16
  let main_v2 : FVec F S8192x512 .bf16 := broadcastInDim S8192x512 ![] bcast_S_S8192x512 main_cst
  let main_v3 : IVec S8192x512 1 := cmpf .olt main_v1 main_v2
  let main_v4 : FVec F S512x512 .bf16 := Host.absf main_arg3
  let main_cst_0 : FVec F S_ .bf16 := constant S_ .bf16 0x7F80#16
  let main_v5 : FVec F S512x512 .bf16 := broadcastInDim S512x512 ![] bcast_S_S512x512 main_cst_0
  let main_v6 : IVec S512x512 1 := cmpf .olt main_v4 main_v5
  (main_v3, main_v6)
-- ==== Pre_finite_logits.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) (main_arg1 : FVec F S4x512 .f32) : IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  main_v2
-- ==== Pre_finite_loss.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S1x1024 .f32) (main_arg2 : FVec F S1x1024 .f32) (main_arg3 : FVec F S8192x1024 .f32) : IVec S8192x1024 1 × IVec S1x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_rows.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S1x1024 .f32) (main_arg2 : FVec F S1x1024 .f32) (main_arg3 : FVec F S8192x1024 .f32) : IVec S8192x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Kernel.lean ====
abbrev S8192x1024 : Shape := ⟨2, ![8192, 1024]⟩
abbrev S8192x7168 : Shape := ⟨2, ![8192, 7168]⟩
abbrev S8192x1536 : Shape := ⟨2, ![8192, 1536]⟩
abbrev S1536x1024 : Shape := ⟨2, ![1536, 1024]⟩
abbrev S1024x1024 : Shape := ⟨2, ![1024, 1024]⟩
abbrev S1x3072 : Shape := ⟨2, ![1, 3072]⟩
abbrev S8192x3072 : Shape := ⟨2, ![8192, 3072]⟩
abbrev S8x3072 : Shape := ⟨2, ![8, 3072]⟩
abbrev S512x1024 : Shape := ⟨2, ![512, 1024]⟩
abbrev S512x1536 : Shape := ⟨2, ![512, 1536]⟩
abbrev S512x3072 : Shape := ⟨2, ![512, 3072]⟩
abbrev S512x7168 : Shape := ⟨2, ![512, 7168]⟩
abbrev S512x4096 : Shape := ⟨2, ![512, 4096]⟩
abbrev S1x1024 : Shape := ⟨2, ![1, 1024]⟩
abbrev S512x512 : Shape := ⟨2, ![512, 512]⟩
abbrev S1024 : Shape := ⟨1, ![1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1536, .bf16⟩
  | .hbm, ⟨3, _⟩ => ⟨S1536x1024, .bf16⟩
  | .hbm, ⟨4, _⟩ => ⟨S1024x1024, .bf16⟩
  | .hbm, ⟨5, _⟩ => ⟨S1x3072, .f32⟩
  | .hbm, ⟨6, _⟩ => ⟨S8192x3072, .bf16⟩
  | .hbm, ⟨7, _⟩ => ⟨S8192x7168, .bf16⟩
  | .hbm, ⟨8, _⟩ => ⟨S8192x1536, .bf16⟩
  | .hbm, ⟨9, _⟩ => ⟨S8x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1536, .bf16⟩
  | .local _ .vmem, ⟨9, _⟩ => ⟨S512x1536, .bf16⟩
  | .local _ .vmem, ⟨10, _⟩ => ⟨S1536x1024, .bf16⟩
  | .local _ .vmem, ⟨11, _⟩ => ⟨S1024x1024, .bf16⟩
  | .local _ .vmem, ⟨12, _⟩ => ⟨S1x3072, .f32⟩
  | .local _ .vmem, ⟨13, _⟩ => ⟨S512x3072, .bf16⟩
  | .local _ .vmem, ⟨14, _⟩ => ⟨S512x3072, .bf16⟩
  | .local _ .vmem, ⟨15, _⟩ => ⟨S512x7168, .bf16⟩
  | .local _ .vmem, ⟨16, _⟩ => ⟨S512x7168, .bf16⟩
  | .local _ .vmem, ⟨17, _⟩ => ⟨S512x1536, .bf16⟩
  | .local _ .vmem, ⟨18, _⟩ => ⟨S512x1536, .bf16⟩
  | .local _ .vmem, ⟨19, _⟩ => ⟨S8x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S8192x7168 : Shape := ⟨2, ![8192, 7168]⟩
abbrev S8192x1536 : Shape := ⟨2, ![8192, 1536]⟩
abbrev S1536x1024 : Shape := ⟨2, ![1536, 1024]⟩
abbrev S1024x1024 : Shape := ⟨2, ![1024, 1024]⟩
abbrev S1x3072 : Shape := ⟨2, ![1, 3072]⟩
abbrev S8192x512 : Shape := ⟨2, ![8192, 512]⟩
abbrev S512x1024 : Shape := ⟨2, ![512, 1024]⟩
abbrev S8192x3072 : Shape := ⟨2, ![8192, 3072]⟩
abbrev S1x1024 : Shape := ⟨2, ![1, 1024]⟩
abbrev S_ : Shape := ⟨0, ![]⟩
abbrev S1024 : Shape := ⟨1, ![1024]⟩
abbrev S7x3072 : Shape := ⟨2, ![7, 3072]⟩
abbrev S8x3072 : Shape := ⟨2, ![8, 3072]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1536, .bf16⟩
  | .hbm, ⟨3, _⟩ => ⟨S1536x1024, .bf16⟩
  | .hbm, ⟨4, _⟩ => ⟨S1024x1024, .bf16⟩
  | .hbm, ⟨5, _⟩ => ⟨S1x3072, .f32⟩
  | .hbm, ⟨6, _⟩ => ⟨S8192x1024, .f32⟩
  | .hbm, ⟨7, _⟩ => ⟨S8192x7168, .f32⟩
  | .hbm, ⟨8, _⟩ => ⟨S8192x1536, .f32⟩
  | .hbm, ⟨9, _⟩ => ⟨S1536x1024, .f32⟩
  | .hbm, ⟨10, _⟩ => ⟨S1024x1024, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S512x1024, .f32⟩
  | .hbm, ⟨15, _⟩ => ⟨S8192x1024, .f32⟩
  | .hbm, ⟨16, _⟩ => ⟨S512x1024, .f32⟩
  | .hbm, ⟨17, _⟩ => ⟨S8192x1024, .f32⟩
  | .hbm, ⟨18, _⟩ => ⟨S512x1024, .f32⟩
  | .hbm, ⟨19, _⟩ => ⟨S8192x1024, .f32⟩
  | .hbm, ⟨20, _⟩ => ⟨S8192x3072, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S1x3072, .f32⟩
  | .hbm, ⟨99, _⟩ => ⟨S8192x3072, .f32⟩
  | .hbm, ⟨100, _⟩ => ⟨S8192x3072, .f32⟩
  | .hbm, ⟨101, _⟩ => ⟨S_, .f32⟩
  | .hbm, ⟨102, _⟩ => ⟨S8192x7168, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x512, .f32⟩
  | .hbm, ⟨107, _⟩ => ⟨S8192x512, .f32⟩
  | .hbm, ⟨108, _⟩ => ⟨S8192x512, .f32⟩
  | .hbm, ⟨109, _⟩ => ⟨S8192x1536, .f32⟩
  | .hbm, ⟨110, _⟩ => ⟨S8192x3072, .bf16⟩
  | .hbm, ⟨111, _⟩ => ⟨S8192x7168, .bf16⟩
  | .hbm, ⟨112, _⟩ => ⟨S8192x1536, .bf16⟩
  | .hbm, ⟨113, _⟩ => ⟨S_, .f32⟩
  | .hbm, ⟨114, _⟩ => ⟨S7x3072, .f32⟩
  | .hbm, ⟨115, _⟩ => ⟨S8x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_10 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Kernel6.lean ====
abbrev S8192x4096 : Shape := ⟨2, ![8192, 4096]⟩
abbrev S8192x1024 : Shape := ⟨2, ![8192, 1024]⟩
abbrev S4096x1024 : Shape := ⟨2, ![4096, 1024]⟩
abbrev S512x1024 : Shape := ⟨2, ![512, 1024]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x4096 : Shape := ⟨2, ![8192, 4096]⟩
abbrev S8192x1024 : Shape := ⟨2, ![8192, 1024]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .hbm, ⟨3, _⟩ => ⟨S8192x4096, .f32⟩
  | .hbm, ⟨4, _⟩ => ⟨S8192x1024, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel7.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v16 : BitVec 1 := Scalar.cmpi .eq arg2 c3_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x4096 : Shape := ⟨2, ![8192, 4096]⟩
abbrev S8192x1024 : Shape := ⟨2, ![8192, 1024]⟩
abbrev S4096x1024 : Shape := ⟨2, ![4096, 1024]⟩
abbrev S_ : Shape := ⟨0, ![]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .hbm, ⟨3, _⟩ => ⟨S8192x4096, .f32⟩
  | .hbm, ⟨4, _⟩ => ⟨S8192x1024, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel8.lean ====
abbrev S8192x4096 : Shape := ⟨2, ![8192, 4096]⟩
abbrev S1024x4096 : Shape := ⟨2, ![1024, 4096]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x4096 : Shape := ⟨2, ![8192, 4096]⟩
abbrev S1024x4096 : Shape := ⟨2, ![1024, 4096]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x4096, .f32⟩
  | .hbm, ⟨4, _⟩ => ⟨S1024x4096, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x4096, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel5.lean ====
abbrev S4x512 : Shape := ⟨2, ![4, 512]⟩
abbrev S512 : Shape := ⟨1, ![512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_scratch0 : Ref sig .tc := ⟨.vmem, 6, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S4x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== Reference5Ideal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 71
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S4x512, .f32⟩
  | .hbm, ⟨6, _⟩ => ⟨S4x512, .i1⟩
  | .hbm, ⟨7, _⟩ => ⟨S4x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S4x512, .f32⟩
  | .hbm, ⟨35, _⟩ => ⟨S4x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S1x512, .f32⟩
  | .hbm, ⟨44, _⟩ => ⟨S4x512, .f32⟩
  | .hbm, ⟨45, _⟩ => ⟨S4x512, .f32⟩
  | .hbm, ⟨46, _⟩ => ⟨S4x512, .f32⟩
  | .hbm, ⟨47, _⟩ => ⟨S4x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S4x512, .f32⟩
  | .hbm, ⟨53, _⟩ => ⟨S_, .f32⟩
  | .hbm, ⟨54, _⟩ => ⟨S_, .f32⟩
  | .hbm, ⟨55, _⟩ => ⟨S4x512, .f32⟩
  | .hbm, ⟨56, _⟩ => ⟨S4x512, .f32⟩
  | .hbm, ⟨57, _⟩ => ⟨S4x512, .f32⟩
  | .hbm, ⟨58, _⟩ => ⟨S4x512, .f32⟩
  | .hbm, ⟨59, _⟩ => ⟨S4x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S1x512, .f32⟩
  | .hbm, ⟨64, _⟩ => ⟨S4x512, .f32⟩
  | .hbm, ⟨65, _⟩ => ⟨S4x512, .f32⟩
  | .hbm, ⟨66, _⟩ => ⟨S_, .f32⟩
  | .hbm, ⟨67, _⟩ => ⟨S512, .f32⟩
  | .hbm, ⟨68, _⟩ => ⟨S4x512, .f32⟩
  | .hbm, ⟨69, _⟩ => ⟨S4x512, .f32⟩
  | .hbm, ⟨70, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_call1_call0_cst : Ref sig .tc := ⟨.hbm, 53, rfl⟩
abbrev main_call1_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel2.lean ====
abbrev S8192x7168 : Shape := ⟨2, ![8192, 7168]⟩
abbrev S8192x1536 : Shape := ⟨2, ![8192, 1536]⟩
abbrev S512x512 : Shape := ⟨2, ![512, 512]⟩
abbrev S1x512 : Shape := ⟨2, ![1, 512]⟩
abbrev S3x512 : Shape := ⟨2, ![3, 512]⟩
abbrev S1x128 : Shape := ⟨2, ![1, 128]⟩
abbrev S8192x512 : Shape := ⟨2, ![8192, 512]⟩
abbrev S256x32x4x128 : Shape := ⟨4, ![256, 32, 4, 128]⟩
abbrev S256x4x32x128 : Shape := ⟨4, ![256, 4, 32, 128]⟩
abbrev S1x4x1x128 : Shape := ⟨4, ![1, 4, 1, 128]⟩
abbrev S_ : Shape := ⟨0, ![]⟩
abbrev S256x4x1x128 : Shape := ⟨4, ![256, 4, 1, 128]⟩
abbrev S32x32 : Shape := ⟨2, ![32, 32]⟩
abbrev S256x4x32x32 : Shape := ⟨4, ![256, 4, 32, 32]⟩
abbrev S256x4x128x128 : Shape := ⟨4, ![256, 4, 128, 128]⟩
abbrev S2x128x4x128x128 : Shape := ⟨5, ![2, 128, 4, 128, 128]⟩
abbrev S2x128x4x1x128 : Shape := ⟨5, ![2, 128, 4, 1, 128]⟩
abbrev S2x1x4x128x128 : Shape := ⟨5, ![2, 1, 4, 128, 128]⟩
abbrev S2x127x4x128x128 : Shape := ⟨5, ![2, 127, 4, 128, 128]⟩
abbrev S2x1x4x1x128 : Shape := ⟨5, ![2, 1, 4, 1, 128]⟩
abbrev S2x127x4x1x128 : Shape := ⟨5, ![2, 127, 4, 1, 128]⟩
abbrev S2x2x4x128x128 : Shape := ⟨5, ![2, 2, 4, 128, 128]⟩
abbrev S2x126x4x128x128 : Shape := ⟨5, ![2, 126, 4, 128, 128]⟩
abbrev S2x2x4x1x128 : Shape := ⟨5, ![2, 2, 4, 1, 128]⟩
abbrev S2x126x4x1x128 : Shape := ⟨5, ![2, 126, 4, 1, 128]⟩
abbrev S2x4x4x128x128 : Shape := ⟨5, ![2, 4, 4, 128, 128]⟩
abbrev S2x124x4x128x128 : Shape := ⟨5, ![2, 124, 4, 128, 128]⟩
abbrev S2x4x4x1x128 : Shape := ⟨5, ![2, 4, 4, 1, 128]⟩
abbrev S2x124x4x1x128 : Shape := ⟨5, ![2, 124, 4, 1, 128]⟩
abbrev S2x8x4x128x128 : Shape := ⟨5, ![2, 8, 4, 128, 128]⟩
abbrev S2x120x4x128x128 : Shape := ⟨5, ![2, 120, 4, 128, 128]⟩
abbrev S2x8x4x1x128 : Shape := ⟨5, ![2, 8, 4, 1, 128]⟩
abbrev S2x120x4x1x128 : Shape := ⟨5, ![2, 120, 4, 1, 128]⟩
abbrev S2x16x4x128x128 : Shape := ⟨5, ![2, 16, 4, 128, 128]⟩
abbrev S2x112x4x128x128 : Shape := ⟨5, ![2, 112, 4, 128, 128]⟩
abbrev S2x16x4x1x128 : Shape := ⟨5, ![2, 16, 4, 1, 128]⟩
abbrev S2x112x4x1x128 : Shape := ⟨5, ![2, 112, 4, 1, 128]⟩
abbrev S2x32x4x128x128 : Shape := ⟨5, ![2, 32, 4, 128, 128]⟩
abbrev S2x96x4x128x128 : Shape := ⟨5, ![2, 96, 4, 128, 128]⟩
abbrev S2x32x4x1x128 : Shape := ⟨5, ![2, 32, 4, 1, 128]⟩
abbrev S2x96x4x1x128 : Shape := ⟨5, ![2, 96, 4, 1, 128]⟩
abbrev S2x64x4x128x128 : Shape := ⟨5, ![2, 64, 4, 128, 128]⟩
abbrev S2x64x4x1x128 : Shape := ⟨5, ![2, 64, 4, 1, 128]⟩
abbrev S8x512 : Shape := ⟨2, ![8, 512]⟩
abbrev S8x128 : Shape := ⟨2, ![8, 128]⟩
abbrev S256x4096 : Shape := ⟨2, ![256, 4096]⟩
abbrev S16x4096 : Shape := ⟨2, ![16, 4096]⟩
abbrev S256x1536 : Shape := ⟨2, ![256, 1536]⟩
abbrev S8x4x128x128 : Shape := ⟨4, ![8, 4, 128, 128]⟩
abbrev S256x512 : Shape := ⟨2, ![256, 512]⟩
abbrev S4x128x128 : Shape := ⟨3, ![4, 128, 128]⟩
abbrev S16x512 : Shape := ⟨2, ![16, 512]⟩
abbrev S512 : Shape := ⟨1, ![512]⟩
abbrev S256x256 : Shape := ⟨2, ![256, 256]⟩
abbrev S32x128 : Shape := ⟨2, ![32, 128]⟩
abbrev S128 : Shape := ⟨1, ![128]⟩
abbrev S32 : Shape := ⟨1, ![32]⟩
abbrev S32x1 : Shape := ⟨2, ![32, 1]⟩
abbrev S256x128 : Shape := ⟨2, ![256, 128]⟩
abbrev S1x128x128 : Shape := ⟨3, ![1, 128, 128]⟩
abbrev S128x128 : Shape := ⟨2, ![128, 128]⟩
abbrev S1x1x128x128 : Shape := ⟨4, ![1, 1, 128, 128]⟩
abbrev S256 : Shape := ⟨1, ![256]⟩
abbrev S256x1 : Shape := ⟨2, ![256, 1]⟩

abbrev nBuf : Space → Nat
  | .hbm => 200
  | .vmem => 50
  | .smem => 0
  | _ => 0

abbrev hbmTy0_0 (i : Nat) : BufTy := match i % 128 with
  | 0 => ⟨S8192x7168, .bf16⟩
  | 1 => ⟨S8192x1536, .bf16⟩
  | 2 => ⟨S8192x7168, .bf16⟩
  | 3 => ⟨S512x512, .bf16⟩
  | 4 => ⟨S512x512, .bf16⟩
  | 5 => ⟨S1x512, .f32⟩
  | 6 => ⟨S3x512, .f32⟩
  | 7 => ⟨S1x128, .f32⟩
  | 8 => ⟨S8192x512, .bf16⟩
  | 9 => ⟨S8192x512, .f32⟩
  | 10 => ⟨S256x32x4x128, .f32⟩
  | 11 => ⟨S256x4x32x128, .f32⟩
  | 12 => ⟨S8192x512, .bf16⟩
  | 13 => ⟨S8192x512, .f32⟩
  | 14 => ⟨S256x32x4x128, .f32⟩
  | 15 => ⟨S256x4x32x128, .f32⟩
  | 16 => ⟨S8192x512, .bf16⟩
  | 17 => ⟨S8192x512, .f32⟩
  | 18 => ⟨S256x32x4x128, .f32⟩
  | 19 => ⟨S256x4x32x128, .f32⟩
  | 20 => ⟨S1x4x1x128, .f32⟩
  | 21 => ⟨S_, .f32⟩
  | 22 => ⟨S1x4x1x128, .f32⟩
  | 23 => ⟨S1x4x1x128, .f32⟩
  | 24 => ⟨S256x4x32x128, .f32⟩
  | 25 => ⟨S256x4x32x128, .f32⟩
  | 26 => ⟨S_, .f32⟩
  | 27 => ⟨S256x4x32x128, .f32⟩
  | 28 => ⟨S256x4x32x128, .f32⟩
  | 29 => ⟨S_, .f32⟩
  | 30 => ⟨S256x4x32x128, .f32⟩
  | 31 => ⟨S256x4x32x128, .f32⟩
  | 32 => ⟨S256x4x32x128, .f32⟩
  | 33 => ⟨S256x4x32x128, .f32⟩
  | 34 => ⟨S256x4x32x128, .f32⟩
  | 35 => ⟨S256x4x32x128, .f32⟩
  | 36 => ⟨S256x4x32x128, .f32⟩
  | 37 => ⟨S_, .f32⟩
  | 38 => ⟨S1x4x1x128, .f32⟩
  | 39 => ⟨S1x4x1x128, .f32⟩
  | 40 => ⟨S256x4x32x128, .f32⟩
  | 41 => ⟨S256x4x32x128, .f32⟩
  | 42 => ⟨S256x4x32x128, .f32⟩
  | 43 => ⟨S_, .f32⟩
  | 44 => ⟨S256x4x32x128, .f32⟩
  | 45 => ⟨S256x4x32x128, .f32⟩
  | 46 => ⟨S_, .f32⟩
  | 47 => ⟨S256x4x32x128, .f32⟩
  | 48 => ⟨S256x4x32x128, .f32⟩
  | 49 => ⟨S256x4x32x128, .f32⟩
  | 50 => ⟨S256x4x32x128, .f32⟩
  | 51 => ⟨S256x4x32x128, .f32⟩
  | 52 => ⟨S256x4x32x128, .f32⟩
  | 53 => ⟨S_, .f32⟩
  | 54 => ⟨S256x4x32x128, .f32⟩
  | 55 => ⟨S256x4x32x128, .f32⟩
  | 56 => ⟨S_, .f32⟩
  | 57 => ⟨S256x4x32x128, .f32⟩
  | 58 => ⟨S256x4x32x128, .f32⟩
  | 59 => ⟨S256x4x32x128, .f32⟩
  | 60 => ⟨S_, .f32⟩
  | 61 => ⟨S_, .f32⟩
  | 62 => ⟨S256x4x32x128, .f32⟩
  | 63 => ⟨S256x4x1x128, .f32⟩
  | 64 => ⟨S256x4x1x128, .f32⟩
  | 65 => ⟨S_, .i1⟩
  | 66 => ⟨S32x32, .i1⟩
  | 67 => ⟨S32x32, .i32⟩
  | 68 => ⟨S_, .i32⟩
  | 69 => ⟨S32x32, .i32⟩
  | 70 => ⟨S32x32, .i32⟩
  | 71 => ⟨S32x32, .i32⟩
  | 72 => ⟨S32x32, .i1⟩
  | 73 => ⟨S_, .i1⟩
  | 74 => ⟨S32x32, .i1⟩
  | 75 => ⟨S32x32, .i1⟩
  | 76 => ⟨S256x4x32x128, .f32⟩
  | 77 => ⟨S256x4x32x128, .f32⟩
  | 78 => ⟨S256x4x32x128, .f32⟩
  | 79 => ⟨S256x4x32x128, .f32⟩
  | 80 => ⟨S256x4x32x128, .f32⟩
  | 81 => ⟨S256x4x32x128, .f32⟩
  | 82 => ⟨S256x4x32x128, .f32⟩
  | 83 => ⟨S256x4x32x128, .f32⟩
  | 84 => ⟨S256x4x32x32, .f32⟩
  | 85 => ⟨S_, .f32⟩
  | 86 => ⟨S_, .f32⟩
  | 87 => ⟨S256x4x32x32, .i1⟩
  | 88 => ⟨S256x4x32x32, .f32⟩
  | 89 => ⟨S256x4x32x32, .f32⟩
  | 90 => ⟨S256x4x32x128, .f32⟩
  | 91 => ⟨S256x4x32x128, .f32⟩
  | 92 => ⟨S256x4x32x128, .f32⟩
  | 93 => ⟨S256x4x32x128, .f32⟩
  | 94 => ⟨S256x4x32x128, .f32⟩
  | 95 => ⟨S256x4x128x128, .f32⟩
  | 96 => ⟨S2x128x4x128x128, .f32⟩
  | 97 => ⟨S256x4x1x128, .f32⟩
  | 98 => ⟨S2x128x4x1x128, .f32⟩
  | 99 => ⟨S_, .f32⟩
  | 100 => ⟨S2x1x4x128x128, .f32⟩
  | 101 => ⟨S2x127x4x128x128, .f32⟩
  | 102 => ⟨S2x128x4x128x128, .f32⟩
  | 103 => ⟨S2x128x4x128x128, .f32⟩
  | 104 => ⟨S2x128x4x128x128, .f32⟩
  | 105 => ⟨S2x128x4x128x128, .f32⟩
  | 106 => ⟨S_, .f32⟩
  | 107 => ⟨S2x1x4x1x128, .f32⟩
  | 108 => ⟨S2x127x4x1x128, .f32⟩
  | 109 => ⟨S2x128x4x1x128, .f32⟩
  | 110 => ⟨S2x128x4x1x128, .f32⟩
  | 111 => ⟨S_, .f32⟩
  | 112 => ⟨S2x2x4x128x128, .f32⟩
  | 113 => ⟨S2x126x4x128x128, .f32⟩
  | 114 => ⟨S2x128x4x128x128, .f32⟩
  | 115 => ⟨S2x128x4x128x128, .f32⟩
  | 116 => ⟨S2x128x4x128x128, .f32⟩
  | 117 => ⟨S2x128x4x128x128, .f32⟩
  | 118 => ⟨S_, .f32⟩
  | 119 => ⟨S2x2x4x1x128, .f32⟩
  | 120 => ⟨S2x126x4x1x128, .f32⟩
  | 121 => ⟨S2x128x4x1x128, .f32⟩
  | 122 => ⟨S2x128x4x1x128, .f32⟩
  | 123 => ⟨S_, .f32⟩
  | 124 => ⟨S2x4x4x128x128, .f32⟩
  | 125 => ⟨S2x124x4x128x128, .f32⟩
  | 126 => ⟨S2x128x4x128x128, .f32⟩
  | 127 => ⟨S2x128x4x128x128, .f32⟩
  | _ => ⟨S8192x7168, .bf16⟩

abbrev hbmTy0_1 (i : Nat) : BufTy := match i % 128 with
  | 0 => ⟨S2x128x4x128x128, .f32⟩
  | 1 => ⟨S2x128x4x128x128, .f32⟩
  | 2 => ⟨S_, .f32⟩
  | 3 => ⟨S2x4x4x1x128, .f32⟩
  | 4 => ⟨S2x124x4x1x128, .f32⟩
  | 5 => ⟨S2x128x4x1x128, .f32⟩
  | 6 => ⟨S2x128x4x1x128, .f32⟩
  | 7 => ⟨S_, .f32⟩
  | 8 => ⟨S2x8x4x128x128, .f32⟩
  | 9 => ⟨S2x120x4x128x128, .f32⟩
  | 10 => ⟨S2x128x4x128x128, .f32⟩
  | 11 => ⟨S2x128x4x128x128, .f32⟩
  | 12 => ⟨S2x128x4x128x128, .f32⟩
  | 13 => ⟨S2x128x4x128x128, .f32⟩
  | 14 => ⟨S_, .f32⟩
  | 15 => ⟨S2x8x4x1x128, .f32⟩
  | 16 => ⟨S2x120x4x1x128, .f32⟩
  | 17 => ⟨S2x128x4x1x128, .f32⟩
  | 18 => ⟨S2x128x4x1x128, .f32⟩
  | 19 => ⟨S_, .f32⟩
  | 20 => ⟨S2x16x4x128x128, .f32⟩
  | 21 => ⟨S2x112x4x128x128, .f32⟩
  | 22 => ⟨S2x128x4x128x128, .f32⟩
  | 23 => ⟨S2x128x4x128x128, .f32⟩
  | 24 => ⟨S2x128x4x128x128, .f32⟩
  | 25 => ⟨S2x128x4x128x128, .f32⟩
  | 26 => ⟨S_, .f32⟩
  | 27 => ⟨S2x16x4x1x128, .f32⟩
  | 28 => ⟨S2x112x4x1x128, .f32⟩
  | 29 => ⟨S2x128x4x1x128, .f32⟩
  | 30 => ⟨S2x128x4x1x128, .f32⟩
  | 31 => ⟨S_, .f32⟩
  | 32 => ⟨S2x32x4x128x128, .f32⟩
  | 33 => ⟨S2x96x4x128x128, .f32⟩
  | 34 => ⟨S2x128x4x128x128, .f32⟩
  | 35 => ⟨S2x128x4x128x128, .f32⟩
  | 36 => ⟨S2x128x4x128x128, .f32⟩
  | 37 => ⟨S2x128x4x128x128, .f32⟩
  | 38 => ⟨S_, .f32⟩
  | 39 => ⟨S2x32x4x1x128, .f32⟩
  | 40 => ⟨S2x96x4x1x128, .f32⟩
  | 41 => ⟨S2x128x4x1x128, .f32⟩
  | 42 => ⟨S2x128x4x1x128, .f32⟩
  | 43 => ⟨S_, .f32⟩
  | 44 => ⟨S2x64x4x128x128, .f32⟩
  | 45 => ⟨S2x64x4x128x128, .f32⟩
  | 46 => ⟨S2x128x4x128x128, .f32⟩
  | 47 => ⟨S2x128x4x128x128, .f32⟩
  | 48 => ⟨S2x128x4x128x128, .f32⟩
  | 49 => ⟨S2x128x4x128x128, .f32⟩
  | 50 => ⟨S_, .f32⟩
  | 51 => ⟨S2x64x4x1x128, .f32⟩
  | 52 => ⟨S2x64x4x1x128, .f32⟩
  | 53 => ⟨S2x128x4x1x128, .f32⟩
  | 54 => ⟨S2x128x4x1x128, .f32⟩
  | 55 => ⟨S_, .f32⟩
  | 56 => ⟨S2x1x4x128x128, .f32⟩
  | 57 => ⟨S2x127x4x128x128, .f32⟩
  | 58 => ⟨S2x128x4x128x128, .f32⟩
  | 59 => ⟨S256x4x128x128, .f32⟩
  | 60 => ⟨S256x4x32x128, .f32⟩
  | 61 => ⟨S256x4x32x128, .f32⟩
  | 62 => ⟨S256x4x32x128, .f32⟩
  | 63 => ⟨S256x4x32x128, .f32⟩
  | 64 => ⟨S256x32x4x128, .f32⟩
  | 65 => ⟨S8192x512, .f32⟩
  | 66 => ⟨S8192x7168, .bf16⟩
  | 67 => ⟨S512x512, .f32⟩
  | 68 => ⟨S512x512, .f32⟩
  | 69 => ⟨S8x512, .f32⟩
  | 70 => ⟨S8x128, .f32⟩
  | 71 => ⟨S8x512, .f32⟩
  | _ => ⟨S8192x7168, .bf16⟩

abbrev hbmTy (i : Nat) : BufTy := match i / 128 with
  | 0 => hbmTy0_0 i
  | 1 => hbmTy0_1 i
  | _ => ⟨S8192x7168, .bf16⟩

abbrev bufTy : (tb : Table) → Fin (tcTables nBuf tb) → BufTy
  | .hbm, ⟨i, _⟩ => hbmTy i
  | .local _ .vmem, ⟨0, _⟩ => ⟨S256x4096, .bf16⟩
  | .local _ .vmem, ⟨1, _⟩ => ⟨S256x4096, .bf16⟩
  | .local _ .vmem, ⟨2, _⟩ => ⟨S16x4096, .bf16⟩
  | .local _ .vmem, ⟨3, _⟩ => ⟨S16x4096, .bf16⟩
  | .local _ .vmem, ⟨4, _⟩ => ⟨S256x1536, .bf16⟩
  | .local _ .vmem, ⟨5, _⟩ => ⟨S256x1536, .bf16⟩
  | .local _ .vmem, ⟨6, _⟩ => ⟨S8x4x128x128, .f32⟩
  | .local _ .vmem, ⟨7, _⟩ => ⟨S8x4x128x128, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x512, .f32⟩
  | .local _ .vmem, ⟨15, _⟩ => ⟨S3x512, .f32⟩
  | .local _ .vmem, ⟨16, _⟩ => ⟨S1x128, .f32⟩
  | .local _ .vmem, ⟨17, _⟩ => ⟨S256x4096, .bf16⟩
  | .local _ .vmem, ⟨18, _⟩ => ⟨S256x4096, .bf16⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S8x512, .f32⟩
  | .local _ .vmem, ⟨24, _⟩ => ⟨S8x128, .f32⟩
  | .local _ .vmem, ⟨25, _⟩ => ⟨S8x512, .f32⟩
  | .local _ .vmem, ⟨26, _⟩ => ⟨S4x128x128, .f32⟩
  | .local _ .vmem, ⟨27, _⟩ => ⟨S8x512, .f32⟩
  | .local _ .vmem, ⟨28, _⟩ => ⟨S16x512, .f32⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S8x512, .f32⟩
  | .local _ .vmem, ⟨40, _⟩ => ⟨S8x512, .f32⟩
  | .local _ .vmem, ⟨41, _⟩ => ⟨S256x512, .f32⟩
  | .local _ .vmem, ⟨42, _⟩ => ⟨S256x512, .f32⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | .local _ .vmem, ⟨47, _⟩ => ⟨S256x512, .f32⟩
  | .local _ .vmem, ⟨48, _⟩ => ⟨S256x512, .f32⟩
  | .local _ .vmem, ⟨49, _⟩ => ⟨S256x512, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v37 : Ref sig .tc := ⟨.hbm, 59, rfl⟩
abbrev main_call1_call0_cst : Ref sig .tc := ⟨.hbm, 60, rfl⟩
abbrev main_call1_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c : Ref sig .tc := ⟨.hbm, 65, rfl⟩
abbrev main_v41 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_0 : Ref sig .tc := ⟨.hbm, 73, rfl⟩
abbrev main_call2_v5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_5 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_6 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_7 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_8 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_9 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_10 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_11 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_12 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_13 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_14 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_15 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_16 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_17 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_18 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_19 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_20 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142_0 : Ref sig .tc := ⟨.hbm, 194, rfl⟩
abbrev main_v142_1 : Ref sig .tc := ⟨.hbm, 195, rfl⟩
abbrev main_v142_2 : Ref sig .tc := ⟨.hbm, 196, rfl⟩
abbrev main_v142_3 : Ref sig .tc := ⟨.hbm, 197, rfl⟩
abbrev main_v142_4 : Ref sig .tc := ⟨.hbm, 198, rfl⟩
abbrev main_v142_5 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_scratch11 : Ref sig .tc := ⟨.vmem, 37, rfl⟩
abbrev cc0_scratch12 : Ref sig .tc := ⟨.vmem, 38, rfl⟩
abbrev cc0_scratch13 : Ref sig .tc := ⟨.vmem, 39, rfl⟩
abbrev cc0_scratch14 : Ref sig .tc := ⟨.vmem, 40, rfl⟩
abbrev cc0_scratch15 : Ref sig .tc := ⟨.vmem, 41, rfl⟩
abbrev cc0_scratch16 : Ref sig .tc := ⟨.vmem, 42, rfl⟩
abbrev cc0_scratch17 : Ref sig .tc := ⟨.vmem, 43, rfl⟩
abbrev cc0_scratch18 : Ref sig .tc := ⟨.vmem, 44, rfl⟩
abbrev cc0_scratch19 : Ref sig .tc := ⟨.vmem, 45, rfl⟩
abbrev cc0_scratch20 : Ref sig .tc := ⟨.vmem, 46, rfl⟩
abbrev cc0_scratch21 : Ref sig .tc := ⟨.vmem, 47, rfl⟩
abbrev cc0_scratch22 : Ref sig .tc := ⟨.vmem, 48, rfl⟩
abbrev cc0_scratch23 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c16_i32_0 : BitVec 32 := 16#32
  let v3 : BitVec 32 := Scalar.muli v2 c16_i32_0
  let c1_i32 : BitVec 32 := 1#32
  let v4 : BitVec 32 := Scalar.subi v3 c1_i32
  let c0_i32 : BitVec 32 := 0#32
  let v5 : BitVec 32 := Scalar.maxsi v4 c0_i32
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference2Ideal.lean ====
abbrev S8192x7168 : Shape := ⟨2, ![8192, 7168]⟩
abbrev S8192x1536 : Shape := ⟨2, ![8192, 1536]⟩
abbrev S512x512 : Shape := ⟨2, ![512, 512]⟩
abbrev S1x512 : Shape := ⟨2, ![1, 512]⟩
abbrev S3x512 : Shape := ⟨2, ![3, 512]⟩
abbrev S1x128 : Shape := ⟨2, ![1, 128]⟩
abbrev S8192x4096 : Shape := ⟨2, ![8192, 4096]⟩
abbrev S8192x512 : Shape := ⟨2, ![8192, 512]⟩
abbrev S2x4096x512 : Shape := ⟨3, ![2, 4096, 512]⟩
abbrev S_ : Shape := ⟨0, ![]⟩
abbrev S2x2x512 : Shape := ⟨3, ![2, 2, 512]⟩
abbrev S2x4098x512 : Shape := ⟨3, ![2, 4098, 512]⟩
abbrev S512 : Shape := ⟨1, ![512]⟩
abbrev S1x1x512 : Shape := ⟨3, ![1, 1, 512]⟩
abbrev S2x256x512 : Shape := ⟨3, ![2, 256, 512]⟩
abbrev S2x4096x4x128 : Shape := ⟨4, ![2, 4096, 4, 128]⟩
abbrev S2x256x4x128 : Shape := ⟨4, ![2, 256, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S2x4x128x256 : Shape := ⟨4, ![2, 4, 128, 256]⟩
abbrev S2x4x256x128 : Shape := ⟨4, ![2, 4, 256, 128]⟩
abbrev S5x512 : Shape := ⟨2, ![5, 512]⟩
abbrev S8x512 : Shape := ⟨2, ![8, 512]⟩

abbrev nBuf : Space → Nat
  | .hbm => 164
  | .vmem => 0
  | .smem => 0
  | _ => 0

abbrev hbmTy0_0 (i : Nat) : BufTy := match i % 128 with
  | 0 => ⟨S8192x7168, .bf16⟩
  | 1 => ⟨S8192x1536, .bf16⟩
  | 2 => ⟨S8192x7168, .bf16⟩
  | 3 => ⟨S512x512, .bf16⟩
  | 4 => ⟨S512x512, .bf16⟩
  | 5 => ⟨S1x512, .f32⟩
  | 6 => ⟨S3x512, .f32⟩
  | 7 => ⟨S1x128, .f32⟩
  | 8 => ⟨S8192x4096, .bf16⟩
  | 9 => ⟨S8192x4096, .f32⟩
  | 10 => ⟨S512x512, .f32⟩
  | 11 => ⟨S512x512, .f32⟩
  | 12 => ⟨S8192x512, .f32⟩
  | 13 => ⟨S2x4096x512, .f32⟩
  | 14 => ⟨S8192x512, .f32⟩
  | 15 => ⟨S2x4096x512, .f32⟩
  | 16 => ⟨S8192x512, .f32⟩
  | 17 => ⟨S2x4096x512, .f32⟩
  | 18 => ⟨S8192x512, .f32⟩
  | 19 => ⟨S2x4096x512, .f32⟩
  | 20 => ⟨S2x4096x512, .f32⟩
  | 21 => ⟨S_, .f32⟩
  | 22 => ⟨S2x2x512, .f32⟩
  | 23 => ⟨S2x4098x512, .f32⟩
  | 24 => ⟨S2x4096x512, .f32⟩
  | 25 => ⟨S1x512, .f32⟩
  | 26 => ⟨S512, .f32⟩
  | 27 => ⟨S1x1x512, .f32⟩
  | 28 => ⟨S2x4096x512, .f32⟩
  | 29 => ⟨S2x4096x512, .f32⟩
  | 30 => ⟨S2x4096x512, .f32⟩
  | 31 => ⟨S1x512, .f32⟩
  | 32 => ⟨S512, .f32⟩
  | 33 => ⟨S1x1x512, .f32⟩
  | 34 => ⟨S2x4096x512, .f32⟩
  | 35 => ⟨S2x4096x512, .f32⟩
  | 36 => ⟨S2x4096x512, .f32⟩
  | 37 => ⟨S2x4096x512, .f32⟩
  | 38 => ⟨S1x512, .f32⟩
  | 39 => ⟨S512, .f32⟩
  | 40 => ⟨S1x1x512, .f32⟩
  | 41 => ⟨S2x4096x512, .f32⟩
  | 42 => ⟨S2x4096x512, .f32⟩
  | 43 => ⟨S2x4096x512, .f32⟩
  | 44 => ⟨S2x4096x512, .f32⟩
  | 45 => ⟨S2x256x512, .f32⟩
  | 46 => ⟨S2x256x512, .f32⟩
  | 47 => ⟨S2x4096x4x128, .f32⟩
  | 48 => ⟨S2x256x4x128, .f32⟩
  | 49 => ⟨S2x256x4x128, .f32⟩
  | 50 => ⟨S2x4x4096x256, .f32⟩
  | 51 => ⟨S_, .f32⟩
  | 52 => ⟨S2x4x4096x256, .f32⟩
  | 53 => ⟨S2x4x4096x256, .f32⟩
  | 54 => ⟨S_, .f32⟩
  | 55 => ⟨S2x4x4096, .f32⟩
  | 56 => ⟨S2x4x4096x1, .f32⟩
  | 57 => ⟨S2x4x4096x256, .f32⟩
  | 58 => ⟨S2x4x4096x256, .i1⟩
  | 59 => ⟨S2x4x4096x256, .f32⟩
  | 60 => ⟨S_, .f32⟩
  | 61 => ⟨S2x4x4096, .f32⟩
  | 62 => ⟨S_, .f32⟩
  | 63 => ⟨S2x4x4096, .f32⟩
  | 64 => ⟨S2x4x4096, .f32⟩
  | 65 => ⟨S_, .f32⟩
  | 66 => ⟨S2x4x4096, .f32⟩
  | 67 => ⟨S2x4x4096, .i1⟩
  | 68 => ⟨S_, .f32⟩
  | 69 => ⟨S2x4x4096, .f32⟩
  | 70 => ⟨S2x4x4096, .i1⟩
  | 71 => ⟨S_, .f32⟩
  | 72 => ⟨S2x4x4096, .f32⟩
  | 73 => ⟨S_, .f32⟩
  | 74 => ⟨S2x4x4096, .f32⟩
  | 75 => ⟨S_, .f32⟩
  | 76 => ⟨S2x4x4096, .f32⟩
  | 77 => ⟨S2x4x4096, .f32⟩
  | 78 => ⟨S2x4x4096, .f32⟩
  | 79 => ⟨S2x4x4096x1, .f32⟩
  | 80 => ⟨S2x4x4096x256, .f32⟩
  | 81 => ⟨S2x4x4096x256, .f32⟩
  | 82 => ⟨S2x4x4096x256, .f32⟩
  | 83 => ⟨S_, .f32⟩
  | 84 => ⟨S2x4x4096, .f32⟩
  | 85 => ⟨S2x4x4096x1, .f32⟩
  | 86 => ⟨S2x4x4096x256, .f32⟩
  | 87 => ⟨S2x4x4096x256, .f32⟩
  | 88 => ⟨S2x4x4096x1, .f32⟩
  | 89 => ⟨S_, .f32⟩
  | 90 => ⟨S2x4x4096x1, .f32⟩
  | 91 => ⟨S2x4x4096x1, .f32⟩
  | 92 => ⟨S2x4x128x4096, .f32⟩
  | 93 => ⟨S2x4096x4x128, .f32⟩
  | 94 => ⟨S2x4096x512, .f32⟩
  | 95 => ⟨S8192x512, .f32⟩
  | 96 => ⟨S8192x512, .f32⟩
  | 97 => ⟨S8192x512, .bf16⟩
  | 98 => ⟨S8192x512, .f32⟩
  | 99 => ⟨S8192x512, .bf16⟩
  | 100 => ⟨S8192x512, .f32⟩
  | 101 => ⟨S2x4096x512, .f32⟩
  | 102 => ⟨S2x4096x512, .f32⟩
  | 103 => ⟨S2x4096x4x128, .f32⟩
  | 104 => ⟨S2x4x128x4096, .f32⟩
  | 105 => ⟨S2x4x4096x256, .f32⟩
  | 106 => ⟨S2x4x128x256, .f32⟩
  | 107 => ⟨S2x256x4x128, .f32⟩
  | 108 => ⟨S2x4x4096x256, .f32⟩
  | 109 => ⟨S2x4x4096x256, .f32⟩
  | 110 => ⟨S2x4x4096x256, .f32⟩
  | 111 => ⟨S_, .f32⟩
  | 112 => ⟨S2x4x4096, .f32⟩
  | 113 => ⟨S2x4x4096x1, .f32⟩
  | 114 => ⟨S2x4x4096x1, .f32⟩
  | 115 => ⟨S2x4x4096x256, .f32⟩
  | 116 => ⟨S2x4x4096x256, .f32⟩
  | 117 => ⟨S_, .f32⟩
  | 118 => ⟨S2x4x4096, .f32⟩
  | 119 => ⟨S2x4x4096x256, .f32⟩
  | 120 => ⟨S2x4x4096x256, .f32⟩
  | 121 => ⟨S2x4x4096x256, .f32⟩
  | 122 => ⟨S_, .f32⟩
  | 123 => ⟨S2x4x4096x256, .f32⟩
  | 124 => ⟨S2x4x4096x256, .f32⟩
  | 125 => ⟨S2x4x256x128, .f32⟩
  | 126 => ⟨S2x256x4x128, .f32⟩
  | 127 => ⟨S2x256x512, .f32⟩
  | _ => ⟨S8192x7168, .bf16⟩

abbrev hbmTy0_1 (i : Nat) : BufTy := match i % 128 with
  | 0 => ⟨S2x256x512, .f32⟩
  | 1 => ⟨S512x512, .f32⟩
  | 2 => ⟨S512x512, .f32⟩
  | 3 => ⟨S2x4096x512, .f32⟩
  | 4 => ⟨S2x4096x512, .f32⟩
  | 5 => ⟨S_, .f32⟩
  | 6 => ⟨S512, .f32⟩
  | 7 => ⟨S1x1x512, .f32⟩
  | 8 => ⟨S_, .f32⟩
  | 9 => ⟨S512, .f32⟩
  | 10 => ⟨S1x512, .f32⟩
  | 11 => ⟨S_, .f32⟩
  | 12 => ⟨S3x512, .f32⟩
  | 13 => ⟨S2x4096x512, .f32⟩
  | 14 => ⟨S_, .f32⟩
  | 15 => ⟨S512, .f32⟩
  | 16 => ⟨S1x1x512, .f32⟩
  | 17 => ⟨S_, .f32⟩
  | 18 => ⟨S512, .f32⟩
  | 19 => ⟨S1x512, .f32⟩
  | 20 => ⟨S_, .f32⟩
  | 21 => ⟨S3x512, .f32⟩
  | 22 => ⟨S3x512, .f32⟩
  | 23 => ⟨S2x4096x512, .f32⟩
  | 24 => ⟨S_, .f32⟩
  | 25 => ⟨S512, .f32⟩
  | 26 => ⟨S1x1x512, .f32⟩
  | 27 => ⟨S_, .f32⟩
  | 28 => ⟨S512, .f32⟩
  | 29 => ⟨S1x512, .f32⟩
  | 30 => ⟨S_, .f32⟩
  | 31 => ⟨S3x512, .f32⟩
  | 32 => ⟨S3x512, .f32⟩
  | 33 => ⟨S_, .f32⟩
  | 34 => ⟨S5x512, .f32⟩
  | 35 => ⟨S8x512, .f32⟩
  | _ => ⟨S8192x7168, .bf16⟩

abbrev hbmTy (i : Nat) : BufTy := match i / 128 with
  | 0 => hbmTy0_0 i
  | 1 => hbmTy0_1 i
  | _ => ⟨S8192x7168, .bf16⟩

abbrev bufTy : (tb : Table) → Fin (tcTables nBuf tb) → BufTy
  | .hbm, ⟨i, _⟩ => hbmTy i
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_0 : Ref sig .tc := ⟨.hbm, 51, rfl⟩
abbrev main_v42 : Ref sig .tc := ⟨.hbm, 52, rfl⟩
abbrev main_v43 : Ref sig .tc := ⟨.hbm, 53, rfl⟩
abbrev main_cst_1 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_11 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_13 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_14 : Ref sig .tc := ⟨.hbm, 133, rfl⟩
abbrev main_v110 : Ref sig .tc := ⟨.hbm, 134, rfl⟩
abbrev main_v111 : Ref sig .tc := ⟨.hbm, 135, rfl⟩
abbrev main_cst_15 : Ref sig .tc := ⟨.hbm, 136, rfl⟩
abbrev main_v112 : Ref sig .tc := ⟨.hbm, 137, rfl⟩
abbrev main_v113 : Ref sig .tc := ⟨.hbm, 138, rfl⟩
abbrev main_cst_16 : Ref sig .tc := ⟨.hbm, 139, rfl⟩
abbrev main_v114 : Ref sig .tc := ⟨.hbm, 140, rfl⟩
abbrev main_v115 : Ref sig .tc := ⟨.hbm, 141, rfl⟩
abbrev main_cst_17 : Ref sig .tc := ⟨.hbm, 142, rfl⟩
abbrev main_v116 : Ref sig .tc := ⟨.hbm, 143, rfl⟩
abbrev main_v117 : Ref sig .tc := ⟨.hbm, 144, rfl⟩
abbrev main_cst_18 : Ref sig .tc := ⟨.hbm, 145, rfl⟩
abbrev main_v118 : Ref sig .tc := ⟨.hbm, 146, rfl⟩
abbrev main_v119 : Ref sig .tc := ⟨.hbm, 147, rfl⟩
abbrev main_cst_19 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_20 : Ref sig .tc := ⟨.hbm, 152, rfl⟩
abbrev main_v123 : Ref sig .tc := ⟨.hbm, 153, rfl⟩
abbrev main_v124 : Ref sig .tc := ⟨.hbm, 154, rfl⟩
abbrev main_cst_21 : Ref sig .tc := ⟨.hbm, 155, rfl⟩
abbrev main_v125 : Ref sig .tc := ⟨.hbm, 156, rfl⟩
abbrev main_v126 : Ref sig .tc := ⟨.hbm, 157, rfl⟩
abbrev main_cst_22 : Ref sig .tc := ⟨.hbm, 158, rfl⟩
abbrev main_v127 : Ref sig .tc := ⟨.hbm, 159, rfl⟩
abbrev main_v128 : Ref sig .tc := ⟨.hbm, 160, rfl⟩
abbrev main_cst_23 : Ref sig .tc := ⟨.hbm, 161, rfl⟩
abbrev main_v129 : Ref sig .tc := ⟨.hbm, 162, rfl⟩
abbrev main_v130 : Ref sig .tc := ⟨.hbm, 163, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 29
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8x1024, .f32⟩
  | .hbm, ⟨28, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S8x1024, .f32⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .bf16⟩
  | .hbm, ⟨80, _⟩ => ⟨S_, .f32⟩
  | .hbm, ⟨81, _⟩ => ⟨S7x1024, .f32⟩
  | .hbm, ⟨82, _⟩ => ⟨S8x1024, .f32⟩
  | .hbm, ⟨83, _⟩ => ⟨S_, .f32⟩
  | .hbm, ⟨84, _⟩ => ⟨S7x1024, .f32⟩
  | .hbm, ⟨85, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S8x1024 : Shape := ⟨2, ![8, 1024]⟩
abbrev S512x1024 : Shape := ⟨2, ![512, 1024]⟩
abbrev S512x1 : Shape := ⟨2, ![512, 1]⟩
abbrev S1024 : Shape := ⟨1, ![1024]⟩
abbrev S512 : Shape := ⟨1, ![512]⟩
abbrev S1 : Shape := ⟨1, ![1]⟩

abbrev nBuf : Space → Nat
  | .hbm => 34
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1, .f32⟩
  | .hbm, ⟨30, _⟩ => ⟨S8192x1024, .f32⟩
  | .hbm, ⟨31, _⟩ => ⟨S8192x1024, .bf16⟩
  | .hbm, ⟨32, _⟩ => ⟨S8x1024, .f32⟩
  | .hbm, ⟨33, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S1x1, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | .local _ .vmem, ⟨15, _⟩ => ⟨S8x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v56 : BitVec 1 := Scalar.cmpi .eq arg0 c15_i32
  let v57 : BitVec 32 := Scalar.extui v56
  let c0_i32_33 : BitVec 32 := 0#32
  let v58 : BitVec 1 := Scalar.cmpi .ne v57 c0_i32_33
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩
abbrev S7x1024 : Shape := ⟨2, ![7, 1024]⟩
abbrev S8x1024 : Shape := ⟨2, ![8, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S1x1, .f32⟩
  | .hbm, ⟨102, _⟩ => ⟨S8192x1024, .bf16⟩
  | .hbm, ⟨103, _⟩ => ⟨S_, .f32⟩
  | .hbm, ⟨104, _⟩ => ⟨S7x1024, .f32⟩
  | .hbm, ⟨105, _⟩ => ⟨S8x1024, .f32⟩
  | .hbm, ⟨106, _⟩ => ⟨S_, .f32⟩
  | .hbm, ⟨107, _⟩ => ⟨S7x1024, .f32⟩
  | .hbm, ⟨108, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_23 : Ref sig .tc := ⟨.hbm, 103, rfl⟩
abbrev main_v75 : Ref sig .tc := ⟨.hbm, 104, rfl⟩
abbrev main_v76 : Ref sig .tc := ⟨.hbm, 105, rfl⟩
abbrev main_cst_24 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Kernel9.lean ====
abbrev S4x512 : Shape := ⟨2, ![4, 512]⟩
abbrev S512 : Shape := ⟨1, ![512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference9Ideal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 35
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S1x512, .f32⟩
  | .hbm, ⟨21, _⟩ => ⟨S4x512, .f32⟩
  | .hbm, ⟨22, _⟩ => ⟨S4x512, .f32⟩
  | .hbm, ⟨23, _⟩ => ⟨S4x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S4x512, .f32⟩
  | .hbm, ⟨28, _⟩ => ⟨S4x512, .f32⟩
  | .hbm, ⟨29, _⟩ => ⟨S_, .f32⟩
  | .hbm, ⟨30, _⟩ => ⟨S_, .f32⟩
  | .hbm, ⟨31, _⟩ => ⟨S4x512, .f32⟩
  | .hbm, ⟨32, _⟩ => ⟨S1x512, .f32⟩
  | .hbm, ⟨33, _⟩ => ⟨S4x512, .f32⟩
  | .hbm, ⟨34, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_call0_cst : Ref sig .tc := ⟨.hbm, 29, rfl⟩
abbrev main_call0_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel10.lean ====
abbrev S8192x1536 : Shape := ⟨2, ![8192, 1536]⟩
abbrev S8192x7168 : Shape := ⟨2, ![8192, 7168]⟩
abbrev S8192x1024 : Shape := ⟨2, ![8192, 1024]⟩
abbrev S1536x1024 : Shape := ⟨2, ![1536, 1024]⟩
abbrev S1024x1024 : Shape := ⟨2, ![1024, 1024]⟩
abbrev S1x3072 : Shape := ⟨2, ![1, 3072]⟩
abbrev S1x1024 : Shape := ⟨2, ![1, 1024]⟩
abbrev S8192x1 : Shape := ⟨2, ![8192, 1]⟩
abbrev S512x1536 : Shape := ⟨2, ![512, 1536]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 12
  | .vmem => 23
  | .smem => 0
  | _ => 0

abbrev bufTy : (tb : Table) → Fin (tcTables nBuf tb) → BufTy
  | .hbm, ⟨0, _⟩ => ⟨S8192x1536, .bf16⟩
  | .hbm, ⟨1, _⟩ => ⟨S8192x7168, .bf16⟩
  | .hbm, ⟨2, _⟩ => ⟨S8192x1024, .f32⟩
  | .hbm, ⟨3, _⟩ => ⟨S1536x1024, .bf16⟩
  | .hbm, ⟨4, _⟩ => ⟨S1024x1024, .bf16⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S8192x1024, .bf16⟩
  | .hbm, ⟨9, _⟩ => ⟨S8192x1024, .f32⟩
  | .hbm, ⟨10, _⟩ => ⟨S8192x1, .f32⟩
  | .hbm, ⟨11, _⟩ => ⟨S8192x1024, .bf16⟩
  | .local _ .vmem, ⟨0, _⟩ => ⟨S512x1536, .bf16⟩
  | .local _ .vmem, ⟨1, _⟩ => ⟨S512x1536, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1536x1024, .bf16⟩
  | .local _ .vmem, ⟨11, _⟩ => ⟨S1024x1024, .bf16⟩
  | .local _ .vmem, ⟨12, _⟩ => ⟨S1x3072, .f32⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | .local _ .vmem, ⟨21, _⟩ => ⟨S512x1024, .bf16⟩
  | .local _ .vmem, ⟨22, _⟩ => ⟨S512x1024, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference10Ideal.lean ====
abbrev S8192x1536 : Shape := ⟨2, ![8192, 1536]⟩
abbrev S8192x7168 : Shape := ⟨2, ![8192, 7168]⟩
abbrev S8192x1024 : Shape := ⟨2, ![8192, 1024]⟩
abbrev S1536x1024 : Shape := ⟨2, ![1536, 1024]⟩
abbrev S1024x1024 : Shape := ⟨2, ![1024, 1024]⟩
abbrev S1x3072 : Shape := ⟨2, ![1, 3072]⟩
abbrev S1x1024 : Shape := ⟨2, ![1, 1024]⟩
abbrev S8192x512 : Shape := ⟨2, ![8192, 512]⟩
abbrev S512x1024 : Shape := ⟨2, ![512, 1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩

abbrev nBuf : Space → Nat
  | .hbm => 101
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x7168, .bf16⟩
  | .hbm, ⟨2, _⟩ => ⟨S8192x1024, .f32⟩
  | .hbm, ⟨3, _⟩ => ⟨S1536x1024, .bf16⟩
  | .hbm, ⟨4, _⟩ => ⟨S1024x1024, .bf16⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S8192x1536, .f32⟩
  | .hbm, ⟨9, _⟩ => ⟨S8192x7168, .f32⟩
  | .hbm, ⟨10, _⟩ => ⟨S1536x1024, .f32⟩
  | .hbm, ⟨11, _⟩ => ⟨S1024x1024, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S512x1024, .f32⟩
  | .hbm, ⟨16, _⟩ => ⟨S8192x1024, .f32⟩
  | .hbm, ⟨17, _⟩ => ⟨S512x1024, .f32⟩
  | .hbm, ⟨18, _⟩ => ⟨S8192x1024, .f32⟩
  | .hbm, ⟨19, _⟩ => ⟨S512x1024, .f32⟩
  | .hbm, ⟨20, _⟩ => ⟨S8192x1024, .f32⟩
  | .hbm, ⟨21, _⟩ => ⟨S8192x3072, .f32⟩
  | .hbm, ⟨22, _⟩ => ⟨S8192x3072, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .bf16⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x1024 : Shape := ⟨2, ![512, 1024]⟩
abbrev S512x4096 : Shape := ⟨2, ![512, 4096]⟩
abbrev S512x1 : Shape := ⟨2, ![512, 1]⟩
abbrev S1024x1024 : Shape := ⟨2, ![1024, 1024]⟩
abbrev S512 : Shape := ⟨1, ![512]⟩

abbrev nBuf : Space → Nat
  | .hbm => 38
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x4096, .bf16⟩
  | .hbm, ⟨34, _⟩ => ⟨S8192x1024, .f32⟩
  | .hbm, ⟨35, _⟩ => ⟨S8192x1, .f32⟩
  | .hbm, ⟨36, _⟩ => ⟨S8192x1024, .f32⟩
  | .hbm, ⟨37, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S512x4096, .bf16⟩
  | .local _ .vmem, ⟨11, _⟩ => ⟨S512x4096, .bf16⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference11Ideal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x4096, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x4096, .bf16⟩
  | .hbm, ⟨74, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel12.lean ====
abbrev S512x1024 : Shape := ⟨2, ![512, 1024]⟩
abbrev S512x512 : Shape := ⟨2, ![512, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1024x512, .bf16⟩
  | .hbm, ⟨4, _⟩ => ⟨S1024x512, .bf16⟩
  | .local _ .vmem, ⟨0, _⟩ => ⟨S512x1024, .f32⟩
  | .local _ .vmem, ⟨1, _⟩ => ⟨S512x512, .f32⟩
  | .local _ .vmem, ⟨2, _⟩ => ⟨S512x512, .f32⟩
  | .local _ .vmem, ⟨3, _⟩ => ⟨S1024x512, .bf16⟩
  | .local _ .vmem, ⟨4, _⟩ => ⟨S1024x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference12Ideal.lean ====
abbrev S512x1024 : Shape := ⟨2, ![512, 1024]⟩
abbrev S512x512 : Shape := ⟨2, ![512, 512]⟩
abbrev S_ : Shape := ⟨0, ![]⟩
abbrev S1024x512 : Shape := ⟨2, ![1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S_, .f32⟩
  | .hbm, ⟨4, _⟩ => ⟨S1024x512, .f32⟩
  | .hbm, ⟨5, _⟩ => ⟨S512x512, .f32⟩
  | .hbm, ⟨6, _⟩ => ⟨S512x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S1024x512, .bf16⟩
  | .hbm, ⟨12, _⟩ => ⟨S1024x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel13.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .hbm, ⟨2, _⟩ => ⟨S1024x512, .bf16⟩
  | .hbm, ⟨3, _⟩ => ⟨S512x512, .bf16⟩
  | .hbm, ⟨4, _⟩ => ⟨S512x512, .bf16⟩
  | .local _ .vmem, ⟨0, _⟩ => ⟨S512x1024, .f32⟩
  | .local _ .vmem, ⟨1, _⟩ => ⟨S1024x512, .bf16⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference13Ideal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .hbm, ⟨2, _⟩ => ⟨S1024x512, .bf16⟩
  | .hbm, ⟨3, _⟩ => ⟨S1024x512, .f32⟩
  | .hbm, ⟨4, _⟩ => ⟨S512x512, .f32⟩
  | .hbm, ⟨5, _⟩ => ⟨S512x512, .bf16⟩
  | .hbm, ⟨6, _⟩ => ⟨S1024x512, .f32⟩
  | .hbm, ⟨7, _⟩ => ⟨S512x512, .f32⟩
  | .hbm, ⟨8, _⟩ => ⟨S512x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4x1x1024 : Shape := ⟨3, ![4, 1, 1024]⟩
abbrev S1x1x1024 : Shape := ⟨3, ![1, 1, 1024]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x1x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S4x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S4x1x1024 : Shape := ⟨3, ![4, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S_, .f32⟩
  | .hbm, ⟨7, _⟩ => ⟨S4x1x1024, .f32⟩
  | .hbm, ⟨8, _⟩ => ⟨S4x1x1024, .f32⟩
  | .hbm, ⟨9, _⟩ => ⟨S_, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S_, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S_, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x1x1024, .f32⟩
  | .hbm, ⟨36, _⟩ => ⟨S_, .f32⟩
  | .hbm, ⟨37, _⟩ => ⟨S4x1x1024, .f32⟩
  | .hbm, ⟨38, _⟩ => ⟨S4x1x1024, .f32⟩
  | _, _ => ⟨S4x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S8192x1024 : Shape := ⟨2, ![8192, 1024]⟩
abbrev S1024x7168 : Shape := ⟨2, ![1024, 7168]⟩
abbrev S8192x7168 : Shape := ⟨2, ![8192, 7168]⟩
abbrev S1024x1024 : Shape := ⟨2, ![1024, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | .hbm, ⟨5, _⟩ => ⟨S8192x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Merge.Spec.lean ====
module

public import Idealize.ShloMosaic.Lib.Pointwise

@[expose] public section

set_option maxRecDepth 16384

noncomputable section

open Idealize.ShloMosaic

namespace Cert.Merge

variable (X : FVec Ideal ⟨2, ![8192, 1024]⟩ .bf16) (P : FVec Ideal ⟨2, ![8192, 7168]⟩ .bf16)
  (Y : FVec Ideal ⟨2, ![8192, 1536]⟩ .bf16) (Wb : FVec Ideal ⟨2, ![1536, 1024]⟩ .bf16)
  (Wo : FVec Ideal ⟨2, ![1024, 1024]⟩ .bf16) (B : FVec Ideal ⟨2, ![1, 3072]⟩ .f32)

/-- The gradient of the merged rows: the cotangent times the transposed output projection. -/
def dmerged (i : Fin 8192) (k : Fin 1024) : EReal := ∑ e : Fin 1024, X (ix2 i e) * Wo (ix2 k e)

/-- The gate of branch `b`: the logistic of its column of the projection plus its bias. -/
def gate (b : Fin 3) (i : Fin 8192) (k : Fin 1024) : EReal :=
  Ideal.logistic (P (ix2 i ⟨4096 + (1024 * b.val + k.val), by omega⟩) + B (ix2 0 ⟨1024 * b.val + k.val, by omega⟩))

/-- Branch `b`: its third of the mixers' outputs times its third of the branch weights. -/
def branch (b : Fin 3) (i : Fin 8192) (k : Fin 1024) : EReal :=
  ∑ l : Fin 512, Y (ix2 i ⟨512 * b.val + l.val, by omega⟩) * Wb (ix2 ⟨512 * b.val + l.val, by omega⟩ k)

/-- The gradient of the gate's argument. -/
def dscore (b : Fin 3) (i : Fin 8192) (k : Fin 1024) : EReal :=
  dmerged X Wo i k * branch Y Wb b i k * gate P B b i k * (1 - gate P B b i k)

/-- The gradient of the three branches, side by side. -/
def dBranches : FVec Ideal ⟨2, ![8192, 3072]⟩ .bf16 := fun j =>
  dmerged X Wo (j 0) ⟨(j 1).val % 1024, Nat.mod_lt _ (by decide)⟩
    * gate P B ⟨(j 1).val / 1024, by have : (j 1).val < 3072 := (j 1).isLt; omega⟩ (j 0) ⟨(j 1).val % 1024, Nat.mod_lt _ (by decide)⟩

/-- The gradient of the projection: nothing for the mixers' columns, the gates' arguments after them. -/
def dProj : FVec Ideal ⟨2, ![8192, 7168]⟩ .bf16 := fun j =>
  if (j 1).val < 4096 then 0
  else dscore X P Y Wb Wo B ⟨((j 1).val - 4096) / 1024, by have : (j 1).val < 7168 := (j 1).isLt; omega⟩ (j 0)
    ⟨((j 1).val - 4096) % 1024, Nat.mod_lt _ (by decide)⟩

/-- The gradient of the mixers' outputs. -/
def dMixed : FVec Ideal ⟨2, ![8192, 1536]⟩ .bf16 := fun j =>
  ∑ k : Fin 1024, dmerged X Wo (j 0) k
    * gate P B ⟨(j 1).val / 512, by have : (j 1).val < 1536 := (j 1).isLt; omega⟩ (j 0) k * Wb (ix2 (j 1) k)

/-- The gradient of the gates' bias, in the first of eight rows. -/
def dBias : FVec Ideal ⟨2, ![8, 3072]⟩ .f32 := fun j =>
  if (j 0).val = 0 then
    ∑ i : Fin 8192, dscore X P Y Wb Wo B ⟨(j 1).val / 1024, by have : (j 1).val < 3072 := (j 1).isLt; omega⟩ i
      ⟨(j 1).val % 1024, Nat.mod_lt _ (by decide)⟩
  else 0

/-- The gradient of the projection at a gate's column. -/
theorem dProj_gate (b : Fin 3) (k : Fin 1024) (j : (⟨2, ![8192, 7168]⟩ : Shape).Idx)
    (h : (j 1).val = 4096 + (1024 * b.val + k.val)) : dProj X P Y Wb Wo B j = dscore X P Y Wb Wo B b (j 0) k := by
  have hb : ((j 1).val - 4096) / 1024 = b.val := by omega
  have hk : ((j 1).val - 4096) % 1024 = k.val := by omega
  unfold dProj
  rw [if_neg (by omega)]
  exact congrArg₂ (fun b k => dscore X P Y Wb Wo B b (j 0) k) (Fin.ext hb) (Fin.ext hk)

/-- The gradient of the projection at a mixer's column. -/
theorem dProj_mixer (j : (⟨2, ![8192, 7168]⟩ : Shape).Idx) (h : (j 1).val < 4096) : dProj X P Y Wb Wo B j = 0 := by
  unfold dProj
  rw [if_pos h]

/-- Two arrays whose columns are cut into equal bands are equal when they are equal in every band. -/
theorem ext_bands {R N n q : ℕ} (hn : 0 < n) (hN : N = n * q) {T U : (⟨2, ![R, N]⟩ : Shape).Idx → EReal}
    (h : ∀ (i : Fin R) (b : Fin q) (k : Fin n) (hk : n * b.val + k.val < N), T (ix2 i ⟨n * b.val + k.val, hk⟩) = U (ix2 i ⟨n * b.val + k.val, hk⟩)) :
    T = U := by
  funext j
  have hj : (j 1).val < N := (j 1).isLt
  have hb : (j 1).val / n < q := Nat.div_lt_of_lt_mul (hN ▸ hj)
  have e : n * ((j 1).val / n) + (j 1).val % n = (j 1).val := Nat.div_add_mod _ _
  have hi : j = ix2 (j 0) ⟨n * (⟨(j 1).val / n, hb⟩ : Fin q).val + (⟨(j 1).val % n, Nat.mod_lt _ hn⟩ : Fin n).val, by
      show n * ((j 1).val / n) + (j 1).val % n < N; omega⟩ := by
    funext a
    match a with
    | ⟨0, _⟩ => rfl
    | ⟨1, _⟩ => exact Fin.ext e.symm
  exact (congrArg T hi).trans ((h _ _ _ _).trans (congrArg U hi.symm))

/-- The gradient of branch `b`. -/
theorem dBranches_at (i : Fin 8192) (b : Fin 3) (k : Fin 1024) (hk : 1024 * b.val + k.val < 3072) :
    dBranches X P Wo B (ix2 i ⟨1024 * b.val + k.val, hk⟩) = dmerged X Wo i k * gate P B b i k := by
  have hb : (1024 * b.val + k.val) / 1024 = b.val := by omega
  have hl : (1024 * b.val + k.val) % 1024 = k.val := by omega
  exact congrArg₂ (fun b k => dmerged X Wo i k * gate P B b i k) (Fin.ext hb) (Fin.ext hl)

/-- The gradient of mixer `b`'s outputs. -/
theorem dMixed_at (i : Fin 8192) (b : Fin 3) (l : Fin 512) (hl : 512 * b.val + l.val < 1536) :
    dMixed X P Wb Wo B (ix2 i ⟨512 * b.val + l.val, hl⟩)
      = ∑ k : Fin 1024, dmerged X Wo i k * gate P B b i k * Wb (ix2 ⟨512 * b.val + l.val, hl⟩ k) := by
  have hb : (512 * b.val + l.val) / 512 = b.val := by omega
  exact congrArg (fun b => ∑ k : Fin 1024, dmerged X Wo i k * gate P B b i k * Wb (ix2 ⟨512 * _ + l.val, hl⟩ k)) (Fin.ext hb)

/-- The gradient of gate `b`'s bias. -/
theorem dBias_at (r : Fin 8) (b : Fin 3) (k : Fin 1024) (hk : 1024 * b.val + k.val < 3072) :
    dBias X P Y Wb Wo B (ix2 r ⟨1024 * b.val + k.val, hk⟩)
      = if r.val = 0 then ∑ i : Fin 8192, dscore X P Y Wb Wo B b i k else 0 := by
  have hb : (1024 * b.val + k.val) / 1024 = b.val := by omega
  have hl : (1024 * b.val + k.val) % 1024 = k.val := by omega
  unfold dBias
  refine if_congr Iff.rfl ?_ rfl
  exact congrArg₂ (fun b k => ∑ i : Fin 8192, dscore X P Y Wb Wo B b i k) (Fin.ext hb) (Fin.ext hl)

end Cert.Merge
end
-- ==== Proof.Merge.Geo.lean ====
module

public import proofs.«01_k».proof.Proof.Gen.KernelIdeal.Frame
public import Idealize.ShloMosaic.Lib.Pipeline.ValueKit
public import Idealize.ShloMosaic.Lib.Pointwise
public import proofs.«01_k».proof.Proof.Merge.Spec

@[expose] public section

set_option maxRecDepth 16384

noncomputable section

open Idealize.ShloMosaic Idealize.ShloMosaic.TcCoe Idealize.SL.Sem
open Idealize.ShloMosaic.Pipeline (Dat)

namespace Cert.KernelIdeal.Merge

open Cert.Merge Cert.KernelIdeal Cert.KernelIdeal.Gen

/-- The block of every window at grid point `t`. -/
theorem idx : ∀ t : Fin cfg0.N, win0_0.index t = ![t.val, 0] ∧ win0_1.index t = ![t.val, 4] ∧ win0_2.index t = ![t.val, 5]
    ∧ win0_3.index t = ![t.val, 6] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] :=
  (by decide +kernel : ∀ t : Fin grid0.N, _)

end Cert.KernelIdeal.Merge
end
-- ==== Proof.Merge.Tiles.lean ====
module

public import proofs.«01_k».proof.Proof.Gen.KernelIdeal.Frame
public import Idealize.ShloMosaic.Lib.Pipeline.ValueKit
public import Idealize.ShloMosaic.Lib.Pointwise
public import proofs.«01_k».proof.Proof.Merge.Geo

@[expose] public section

set_option maxRecDepth 16384

noncomputable section

open Idealize.ShloMosaic Idealize.ShloMosaic.TcCoe Idealize.SL.Sem
open Idealize.ShloMosaic.Pipeline (Dat)

namespace Cert.KernelIdeal.Merge

open Cert.Merge Cert.KernelIdeal Cert.KernelIdeal.Gen

variable (m : (ℓ : Loc nD τ sig) → Buf (Elt Ideal) ℓ)

/-- The first result after the run: the gradient of the three branches. -/
theorem final8 (c : Dev nD) : (dats m 0 c).arrAt 8 (cfgs 0).N
    = dBranches (m ((c : Thread nD τ).loc main_arg0)) (m ((c : Thread nD τ).loc main_arg1)) (m ((c : Thread nD τ).loc main_arg4))
        (m ((c : Thread nD τ).loc main_arg5)) := by
  refine (dats m 0 c).arrAt_eq_of_covers 8 _ (by decide +kernel) fun t hf y => ?_
  blk_simp
  rw [after0_8]
  by_cases h : t.val % 16 = 0
  · rw [outsAt0_A m c t h]
    frame_out
    canon_tiles x h
    all_goals (open_payloads; pointwise [dBranches, dmerged, gate]; blk_point [iblk, V, idx t])
  · rw [outsAt0_B m c t h]
    frame_out
    canon_tiles x h
    all_goals (open_payloads; pointwise [dBranches, dmerged, gate]; blk_point [iblk, V, idx t])

/-- The third result after the run: the gradient of the mixers' outputs. -/
theorem final10 (c : Dev nD) : (dats m 0 c).arrAt 10 (cfgs 0).N
    = dMixed (m ((c : Thread nD τ).loc main_arg0)) (m ((c : Thread nD τ).loc main_arg1)) (m ((c : Thread nD τ).loc main_arg3))
        (m ((c : Thread nD τ).loc main_arg4)) (m ((c : Thread nD τ).loc main_arg5)) := by
  refine (dats m 0 c).arrAt_eq_of_covers 10 _ (by decide +kernel) fun t hf y => ?_
  blk_simp
  rw [after0_10]
  by_cases h : t.val % 16 = 0
  · rw [outsAt0_A m c t h]
    frame_out
    canon_tiles x h
    all_goals (open_payloads; pointwise [dMixed, dmerged, gate]; blk_point [iblk, V, idx t])
  · rw [outsAt0_B m c t h]
    frame_out
    canon_tiles x h
    all_goals (open_payloads; pointwise [dMixed, dmerged, gate]; blk_point [iblk, V, idx t])

end Cert.KernelIdeal.Merge
end
-- ==== Proof.Merge.Proj.lean ====
module

public import proofs.«01_k».proof.Proof.Gen.KernelIdeal.Frame
public import Idealize.ShloMosaic.Lib.Pipeline.ValueKit
public import Idealize.ShloMosaic.Lib.Pointwise
public import proofs.«01_k».proof.Proof.Merge.Geo

@[expose] public section

set_option maxRecDepth 16384

noncomputable section

open Idealize.ShloMosaic Idealize.ShloMosaic.TcCoe Idealize.SL.Sem
open Idealize.ShloMosaic.Pipeline (Dat)

namespace Cert.KernelIdeal.Merge

open Cert.Merge Cert.KernelIdeal Cert.KernelIdeal.Gen

variable (m : (ℓ : Loc nD τ sig) → Buf (Elt Ideal) ℓ)

/-- A position of the second result's tile lies under one of the four stores. -/
theorem cover9 (y : S512x7168.Idx) {w0 w1 w2 : FVec Ideal S512x1024 .bf16} {w3 : FVec Ideal S512x4096 .bf16} :
    ∃ p ∈ ([⟨Rect.unit ![0, 6144] ![512, 1024] inb_S512x7168_S512x1024_0_6144, w0⟩,
      ⟨Rect.unit ![0, 5120] ![512, 1024] inb_S512x7168_S512x1024_0_5120, w1⟩,
      ⟨Rect.unit ![0, 4096] ![512, 1024] inb_S512x7168_S512x1024_0_4096, w2⟩,
      ⟨Rect.unit ![0, 0] ![512, 4096] inb_S512x7168_S512x4096_0_0, w3⟩] : List (View.Piece (Elt Ideal) S512x7168 .bf16)), y ∈ p.1.set := by
  have h0 : (y 0).val < 512 := (y 0).isLt
  have h1 : (y 1).val < 7168 := (y 1).isLt
  by_cases h3 : (y 1).val < 4096
  · refine ⟨_, .tail _ (.tail _ (.tail _ (.head _))), ?_⟩
    rw [Rect.mem_set_unit]
    exact Fin.forall_fin_two.2 ⟨⟨Nat.zero_le _, by show (y 0).val < 0 + 512; omega⟩, ⟨Nat.zero_le _, by show (y 1).val < 0 + 4096; omega⟩⟩
  by_cases h4 : (y 1).val < 5120
  · refine ⟨_, .tail _ (.tail _ (.head _)), ?_⟩
    rw [Rect.mem_set_unit]
    exact Fin.forall_fin_two.2 ⟨⟨Nat.zero_le _, by show (y 0).val < 0 + 512; omega⟩, ⟨not_lt.1 h3, by show (y 1).val < 4096 + 1024; omega⟩⟩
  by_cases h5 : (y 1).val < 6144
  · refine ⟨_, .tail _ (.head _), ?_⟩
    rw [Rect.mem_set_unit]
    exact Fin.forall_fin_two.2 ⟨⟨Nat.zero_le _, by show (y 0).val < 0 + 512; omega⟩, ⟨not_lt.1 h4, by show (y 1).val < 5120 + 1024; omega⟩⟩
  · refine ⟨_, .head _, ?_⟩
    rw [Rect.mem_set_unit]
    exact Fin.forall_fin_two.2 ⟨⟨Nat.zero_le _, by show (y 0).val < 0 + 512; omega⟩, ⟨not_lt.1 h5, by show (y 1).val < 6144 + 1024; omega⟩⟩

/-- The second result after the run: the gradient of the projection. -/
theorem final9 (c : Dev nD) : (dats m 0 c).arrAt 9 (cfgs 0).N
    = dProj (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  by_cases h : t.val % 16 = 0
  · rw [outsAt0_A m c t h]
    frame_out
    canon_tiles x h using (cover9 y)
    · rw [dProj_gate _ _ _ _ _ _ 2 (x 1) _ (by blk_simp [idx t]; omega)]
      open_payloads
      pointwise [dscore, dmerged, branch, gate]
      blk_point [iblk, V, idx t]
    · rw [dProj_gate _ _ _ _ _ _ 1 (x 1) _ (by blk_simp [idx t]; omega)]
      open_payloads
      pointwise [dscore, dmerged, branch, gate]
      blk_point [iblk, V, idx t]
    · rw [dProj_gate _ _ _ _ _ _ 0 (x 1) _ (by blk_simp [idx t]; omega)]
      open_payloads
      pointwise [dscore, dmerged, branch, gate]
      blk_point [iblk, V, idx t]
    · rw [dProj_mixer _ _ _ _ _ _ _ (by blk_simp [idx t]; omega)]
      pointwise [k0_pay4]
  · rw [outsAt0_B m c t h]
    frame_out
    canon_tiles x h using (cover9 y)
    · rw [dProj_gate _ _ _ _ _ _ 2 (x 1) _ (by blk_simp [idx t]; omega)]
      open_payloads
      pointwise [dscore, dmerged, branch, gate]
      blk_point [iblk, V, idx t]
    · rw [dProj_gate _ _ _ _ _ _ 1 (x 1) _ (by blk_simp [idx t]; omega)]
      open_payloads
      pointwise [dscore, dmerged, branch, gate]
      blk_point [iblk, V, idx t]
    · rw [dProj_gate _ _ _ _ _ _ 0 (x 1) _ (by blk_simp [idx t]; omega)]
      open_payloads
      pointwise [dscore, dmerged, branch, gate]
      blk_point [iblk, V, idx t]
    · rw [dProj_mixer _ _ _ _ _ _ _ (by blk_simp [idx t]; omega)]
      pointwise [k0_pay4]

end Cert.KernelIdeal.Merge
end
-- ==== Proof.Merge.Bias.lean ====
module

public import proofs.«01_k».proof.Proof.Gen.KernelIdeal.Frame
public import Idealize.ShloMosaic.Lib.Pipeline.ValueKit
public import Idealize.ShloMosaic.Lib.Pointwise
public import Idealize.ShloMosaic.Lib.WritesUnit
public import proofs.«01_k».proof.Proof.Merge.Geo

@[expose] public section

set_option maxRecDepth 16384

noncomputable section

open Idealize.ShloMosaic Idealize.ShloMosaic.TcCoe Idealize.SL.Sem
open Idealize.ShloMosaic.Pipeline (Dat)

namespace Cert.KernelIdeal.Merge

open Cert.Merge Cert.KernelIdeal Cert.KernelIdeal.Gen

variable (m : (ℓ : Loc nD τ sig) → Buf (Elt Ideal) ℓ)

/-- Three stores into the first row, side by side: there the store's own value, elsewhere what was there. -/
theorem row_stores {κ : Kind} {sp : Space} (v : View sig κ sp S8x3072 .f32) (f : v.ty.Contents (Elt Ideal))
    (w0 w1 w2 : FVec Ideal S1x1024 .f32) (L : List (View.Piece (Elt Ideal) S8x3072 .f32)) (r : Fin 8) (b : Fin 3) (k : Fin 1024) :
    v.read (Elt Ideal) (v.writes (Elt Ideal) f
      (⟨Rect.unit ![0, 2048] ![1, 1024] inb_S8x3072_S1x1024_0_2048, w2⟩ :: ⟨Rect.unit ![0, 1024] ![1, 1024] inb_S8x3072_S1x1024_0_1024, w1⟩
        :: ⟨Rect.unit ![0, 0] ![1, 1024] inb_S8x3072_S1x1024_0_0, w0⟩ :: L)) (ix2 r ⟨1024 * b.val + k.val, by omega⟩)
    = if r.val = 0 then (![w0 (ix2 0 k), w1 (ix2 0 k), w2 (ix2 0 k)] b : EReal)
      else v.read (Elt Ideal) (v.writes (Elt Ideal) f L) (ix2 r ⟨1024 * b.val + k.val, by omega⟩) := by
  by_cases hr : r.val = 0
  · rw [if_pos hr]
    match b with
    | ⟨0, _⟩ =>
      rw [View.read_writes_cons_unit_of_not_mem v f _ _ _ _ rfl 1 (.inl (by show 1024 * 0 + k.val < 2048; omega)),
        View.read_writes_cons_unit_of_not_mem v f _ _ _ _ rfl 1 (.inl (by show 1024 * 0 + k.val < 1024; omega))]
      exact View.read_writes_cons_unit_of_mem v f _ _ _ _ (ix2 0 k) rfl (Fin.forall_fin_two.2 ⟨hr, by show 1024 * 0 + k.val = 0 + k.val; omega⟩)
    | ⟨1, _⟩ =>
      rw [View.read_writes_cons_unit_of_not_mem v f _ _ _ _ rfl 1 (.inl (by show 1024 * 1 + k.val < 2048; omega))]
      exact View.read_writes_cons_unit_of_mem v f _ _ _ _ (ix2 0 k) rfl (Fin.forall_fin_two.2 ⟨hr, rfl⟩)
    | ⟨2, _⟩ =>
      exact View.read_writes_cons_unit_of_mem v f _ _ _ _ (ix2 0 k) rfl (Fin.forall_fin_two.2 ⟨hr, rfl⟩)
  · rw [if_neg hr, View.read_writes_cons_unit_of_not_mem v f _ _ _ _ rfl 0 (.inr (by show 0 + 1 ≤ r.val; omega)),
      View.read_writes_cons_unit_of_not_mem v f _ _ _ _ rfl 0 (.inr (by show 0 + 1 ≤ r.val; omega)),
      View.read_writes_cons_unit_of_not_mem v f _ _ _ _ rfl 0 (.inr (by show 0 + 1 ≤ r.val; omega))]

/-- The zero fill reads zero. -/
theorem zero_fill {κ : Kind} {sp : Space} (v : View sig κ sp S8x3072 .f32) (f : v.ty.Contents (Elt Ideal)) (y : S8x3072.Idx) :
    v.read (Elt Ideal) (v.writes (Elt Ideal) f [⟨Rect.unit ![0, 0] ![8, 3072] inb_S8x3072_S8x3072_0_0, k0_pay2 (F := Ideal)⟩]) y
      = (0 : EReal) := by
  refine (View.read_writes_cons_unit_of_mem v f _ _ _ y y rfl (Fin.forall_fin_two.2 ⟨(Nat.zero_add _).symm, (Nat.zero_add _).symm⟩)).trans ?_
  pointwise [k0_pay2]

/-- A load of 1024 lanes of the first row from what the stores so far left. -/
theorem load_row {κ : Kind} {sp : Space} (v : View sig κ sp S8x3072 .f32) (L : List (View.Piece (Elt Ideal) S8x3072 .f32)) (o : ℕ)
    (inb : ∀ a, (![0, o] : Fin 2 → ℕ) a + (![1, 1024] : Fin 2 → ℕ) a ≤ S8x3072.size a) (k : Fin 1024) (ho : o + k.val < 3072) :
    v.readCov L (Rect.unit (s := S8x3072) ![0, o] ![1, 1024] inb).toLoadRect (show (⟨2, ![1, 1024]⟩ : Shape).Idx from ix2 0 k)
      = v.read (Elt Ideal) (v.writes (Elt Ideal) v.junk L) (ix2 0 ⟨o + k.val, ho⟩) := by
  rw [View.readCov_eq_canon', ← View.read_writes_junk_eq_canon v]
  refine congrArg _ (funext fun a => Fin.ext ?_)
  match a with
  | ⟨0, _⟩ => rfl
  | ⟨1, _⟩ => show o + 1 * k.val = o + k.val; omega

/-- A tile's share of the bias's gradient. -/
def share (c : Dev nD) (t : Fin cfg0.N) (b : Fin 3) (k : Fin 1024) : EReal :=
  ∑ r : Fin 512, dscore (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b
    ⟨512 * t.val + r.val, by have : t.val < 16 := lt_of_lt_of_eq t.isLt N_0; omega⟩ k

/-- What the tile adds to the first branch's part of the row. -/
theorem part0 (c : Dev nD) (t : Fin cfg0.N) (old : FVec Ideal S1x1024 .f32) (k : Fin 1024) :
    k0_pay10 (F := Ideal) (k0_pay7 (iblk m c 0 t) (iblk m c 6 t) (iblk m c 1 t)
      (View.ld (iblk m c 7 t) (Rect.unit ![0, 0] ![1, 1024] inb_S1x3072_S1x1024_0_0))
      (View.ld (iblk m c 4 t) (Rect.unit ![0, 0] ![512, 512] inb_S512x1536_S512x512_0_0))
      (View.ld (iblk m c 5 t) (Rect.unit ![0, 0] ![512, 1024] inb_S1536x1024_S512x1024_0_0))) (k0_pay9 old) (ix2 0 k)
    = old (ix2 0 k) + share m c t 0 k := by
  open_payloads
  pointwise [share, dscore, dmerged, branch, gate]
  blk_point [iblk, V, idx t]

/-- What the tile adds to the second branch's part of the row. -/
theorem part1 (c : Dev nD) (t : Fin cfg0.N) (old : FVec Ideal S1x1024 .f32) (k : Fin 1024) :
    k0_pay18 (F := Ideal) (k0_pay16 old) (k0_pay17 (k0_pay3 (iblk m c 0 t) (iblk m c 6 t)) (iblk m c 2 t)
      (View.ld (iblk m c 7 t) (Rect.unit ![0, 1024] ![1, 1024] inb_S1x3072_S1x1024_0_1024))
      (View.ld (iblk m c 4 t) (Rect.unit ![0, 512] ![512, 512] inb_S512x1536_S512x512_0_512))
      (View.ld (iblk m c 5 t) (Rect.unit ![512, 0] ![512, 1024] inb_S1536x1024_S512x1024_512_0))) (ix2 0 k)
    = old (ix2 0 k) + share m c t 1 k := by
  open_payloads
  pointwise [share, dscore, dmerged, branch, gate]
  blk_point [iblk, V, idx t]

/-- What the tile adds to the third branch's part of the row. -/
theorem part2 (c : Dev nD) (t : Fin cfg0.N) (old : FVec Ideal S1x1024 .f32) (k : Fin 1024) :
    k0_pay24 (F := Ideal) (k0_pay3 (iblk m c 0 t) (iblk m c 6 t)) (iblk m c 3 t)
      (View.ld (iblk m c 7 t) (Rect.unit ![0, 2048] ![1, 1024] inb_S1x3072_S1x1024_0_2048))
      (View.ld (iblk m c 4 t) (Rect.unit ![0, 1024] ![512, 512] inb_S512x1536_S512x512_0_1024))
      (View.ld (iblk m c 5 t) (Rect.unit ![1024, 0] ![512, 1024] inb_S1536x1024_S512x1024_1024_0)) old (ix2 0 k)
    = old (ix2 0 k) + share m c t 2 k := by
  open_payloads
  pointwise [share, dscore, dmerged, branch, gate]
  blk_point [iblk, V, idx t]

/-- The first tile starts the row from zero. -/
theorem first (c : Dev nD) (t : Fin cfg0.N) (h : t.val % 16 = 0) (r : Fin 8) (b : Fin 3) (k : Fin 1024) :
    (outsAt0 m c t.val t.isLt).2.2.2 (ix2 r ⟨1024 * b.val + k.val, by omega⟩) = if r.val = 0 then share m c t b k else (0 : EReal) := by
  rw [outsAt0_A m c t h]
  frame_out
  rw [← View.read_writes_junk_eq_canon (ms0_11 t).view, row_stores]
  by_cases hr : r.val = 0
  · rw [if_pos hr, if_pos hr]
    match b with
    | ⟨0, _⟩ =>
      refine (part0 m c t _ k).trans ?_
      rw [load_row _ _ 0 _ _ (by omega), zero_fill, zero_add]
      rfl
    | ⟨1, _⟩ =>
      refine (part1 m c t _ k).trans ?_
      rw [load_row _ _ 1024 _ _ (by omega),
        View.read_writes_cons_unit_of_not_mem _ _ _ _ _ _ rfl 1 (.inr (by show 0 + 1024 ≤ 1024 + k.val; omega)), zero_fill, zero_add]
      rfl
    | ⟨2, _⟩ =>
      refine (part2 m c t _ k).trans ?_
      rw [load_row _ _ 2048 _ _ (by omega),
        View.read_writes_cons_unit_of_not_mem _ _ _ _ _ _ rfl 1 (.inr (by show 1024 + 1024 ≤ 2048 + k.val; omega)),
        View.read_writes_cons_unit_of_not_mem _ _ _ _ _ _ rfl 1 (.inr (by show 0 + 1024 ≤ 2048 + k.val; omega)), zero_fill, zero_add]
      rfl
  · rw [if_neg hr, if_neg hr]
    exact zero_fill _ _ _

/-- A later tile adds its share to the first row. -/
theorem later (c : Dev nD) (t : Fin cfg0.N) (h : ¬t.val % 16 = 0) (r : Fin 8) (b : Fin 3) (k : Fin 1024) :
    (outsAt0 m c t.val t.isLt).2.2.2 (ix2 r ⟨1024 * b.val + k.val, by omega⟩)
      = (show EReal from (outsAt0 m c (t.val - 1) (Nat.lt_of_le_of_lt (Nat.sub_le _ _) t.isLt)).2.2.2 (ix2 r ⟨1024 * b.val + k.val, by omega⟩))
        + if r.val = 0 then share m c t b k else (0 : EReal) := by
  rw [outsAt0_B m c t h]
  frame_out
  rw [row_stores]
  by_cases hr : r.val = 0
  · rw [if_pos hr, if_pos hr]
    match b with
    | ⟨0, _⟩ =>
      refine (part0 m c t _ k).trans ?_
      pointwise
      blk_point
    | ⟨1, _⟩ =>
      refine (part1 m c t _ k).trans ?_
      pointwise
      blk_point
    | ⟨2, _⟩ =>
      refine (part2 m c t _ k).trans ?_
      pointwise
      blk_point
  · rw [if_neg hr, if_neg hr, View.writes_nil, Memref.IsWhole.read_unread]
    exact (add_zero _).symm

/-- What a tile adds to the result, at any position. -/
def term (c : Dev nD) (t : Fin cfg0.N) (j : S8x3072.Idx) : EReal :=
  if (j 0).val = 0 then share m c t ⟨(j 1).val / 1024, by have : (j 1).val < 3072 := (j 1).isLt; omega⟩
    ⟨(j 1).val % 1024, Nat.mod_lt _ (by decide)⟩ else 0

/-- A position by its branch and lane. -/
theorem split_lane (j : S8x3072.Idx) :
    ∃ (r : Fin 8) (b : Fin 3) (k : Fin 1024), j = ix2 r ⟨1024 * b.val + k.val, by omega⟩ := by
  have h : (j 1).val < 3072 := (j 1).isLt
  refine ⟨j 0, ⟨(j 1).val / 1024, by omega⟩, ⟨(j 1).val % 1024, Nat.mod_lt _ (by decide)⟩, ?_⟩
  funext a
  match a with
  | ⟨0, _⟩ => rfl
  | ⟨1, _⟩ => exact Fin.ext (by show (j 1).val = 1024 * ((j 1).val / 1024) + (j 1).val % 1024; omega)

/-- What a tile adds, by branch and lane. -/
theorem term_at (c : Dev nD) (t : Fin cfg0.N) (r : Fin 8) (b : Fin 3) (k : Fin 1024) :
    term m c t (ix2 r ⟨1024 * b.val + k.val, by omega⟩) = if r.val = 0 then share m c t b k else 0 := by
  have hb : (1024 * b.val + k.val) / 1024 = b.val := by omega
  have hk : (1024 * b.val + k.val) % 1024 = k.val := by omega
  show (if r.val = 0 then share m c t ⟨(1024 * b.val + k.val) / 1024, _⟩ ⟨(1024 * b.val + k.val) % 1024, _⟩ else 0) = _
  exact congrArg₂ (fun b k => if r.val = 0 then share m c t b k else (0 : EReal)) (Fin.ext hb) (Fin.ext hk)

/-- The fourth result after the run: the gradient of the gates' bias. -/
theorem final11 (c : Dev nD) : (dats m 0 c).arrAt 11 (cfgs 0).N
    = dBias (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  have hN : t.val < 16 := lt_of_lt_of_eq t.isLt N_0
  have hy : (win0_11.blk t).view.emb y = y := by blk_ext [idx t]
  rw [hy]
  refine (Pipeline.eq_sum_fin_of_reset_step_apply_of_flush (fun n h => (outsAt0 m c n h).2.2.2) 16 (fun _ => (0 : EReal)) (term m c)
    (fun t h j => ?_) (fun t h j => ?_) t ((flush0_11 t).mp hf) y).trans ?_
  · obtain ⟨r, b, k, rfl⟩ := split_lane j
    rw [term_at, zero_add]
    exact first m c t h r b k
  · obtain ⟨r, b, k, rfl⟩ := split_lane j
    rw [term_at]
    exact later m c t h r b k
  · rw [zero_add]
    unfold term dBias share
    by_cases h0 : (y 0).val = 0
    · simp only [if_pos h0]
      refine Fin.sum_mul_add_congr fun s r hl => ?_
      exact congrArg (fun i => dscore _ _ _ _ _ _ _ i _) (Fin.ext (by show 512 * (16 * (t.val / 16) + s.val) + r.val = s.val * 512 + r.val; omega))
    · simp only [if_neg h0]
      exact Finset.sum_const_zero

end Cert.KernelIdeal.Merge
end
-- ==== Proof.Merge.Ref.lean ====
module

public import proofs.«01_k».proof.Proof.Gen.ReferenceIdeal.Run
public import Idealize.ShloMosaic.Lib.Pipeline.ValueKit
public import proofs.«01_k».proof.Proof.Merge.Spec

@[expose] public section

set_option maxRecDepth 16384

noncomputable section

open Idealize.ShloMosaic Idealize.ShloMosaic.TcCoe Idealize.SL.Sem

namespace Cert.ReferenceIdeal.Merge

open Cert.Merge Cert.ReferenceIdeal Cert.ReferenceIdeal.Gen

variable (m : (ℓ : Loc nD τ sig) → Buf (Elt Ideal) ℓ)

/-- The reference's gradient of the projection at a gate's column. -/
theorem ref9_gate (c : Dev nD) (i : Fin 8192) (b : Fin 3) (k : Fin 1024) :
    Value.res_main_v92 m c (ix2 i ⟨4096 + (1024 * b.val + k.val), by omega⟩)
      = dscore (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b i k := by
  pointwise [Value.res_main_v92, dscore, dmerged, branch, gate, Ideal.logistic]
  match b with
  | ⟨0, _⟩ =>
    simp (disch := omega) only [dif_pos, dif_neg, ← mul_assoc]
    blk_point
  | ⟨1, _⟩ =>
    simp (disch := omega) only [dif_pos, dif_neg, ← mul_assoc]
    blk_point
  | ⟨2, _⟩ =>
    simp (disch := omega) only [dif_pos, dif_neg, ← mul_assoc]
    blk_point

/-- The reference's gradient of the projection. -/
theorem ref9 (c : Dev nD) : Value.res_main_v92 m c = dProj (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext j
  by_cases h : (j 1).val < 4096
  · rw [dProj_mixer _ _ _ _ _ _ j h]
    idx_vars j
    pointwise [Value.res_main_v92] at h ⊢
    rw [dif_neg (by omega)]
  · have hj : (j 1).val < 7168 := (j 1).isLt
    have hi : j = ix2 (j 0) ⟨4096 + (1024 * (⟨((j 1).val - 4096) / 1024, by omega⟩ : Fin 3).val
        + (⟨((j 1).val - 4096) % 1024, Nat.mod_lt _ (by decide)⟩ : Fin 1024).val), by show 4096 + (1024 * (((j 1).val - 4096) / 1024) + ((j 1).val - 4096) % 1024) < 7168; omega⟩ := by
      funext a
      match a with
      | ⟨0, _⟩ => rfl
      | ⟨1, _⟩ => exact Fin.ext (by show (j 1).val = 4096 + (1024 * (((j 1).val - 4096) / 1024) + ((j 1).val - 4096) % 1024); omega)
    refine (congrArg _ hi).trans ((ref9_gate m c (j 0) _ _).trans (dProj_gate _ _ _ _ _ _ _ _ j ?_).symm)
    show (j 1).val = 4096 + (1024 * (((j 1).val - 4096) / 1024) + ((j 1).val - 4096) % 1024)
    omega

/-- The reference's gradient of the mixers' outputs, by branch and lane. -/
theorem ref10_at (c : Dev nD) (i : Fin 8192) (b : Fin 3) (l : Fin 512) :
    Value.res_main_v93 m c (ix2 i ⟨512 * b.val + l.val, by omega⟩)
      = ∑ k : Fin 1024, dmerged (m ((c : Thread nD τ).loc main_arg0)) (m ((c : Thread nD τ).loc main_arg4)) i k
        * gate (m ((c : Thread nD τ).loc main_arg1)) (m ((c : Thread nD τ).loc main_arg5)) b i k
        * (show FVec Ideal S1536x1024 .bf16 from m ((c : Thread nD τ).loc main_arg3)) (ix2 ⟨512 * b.val + l.val, by omega⟩ k) := by
  pointwise [Value.res_main_v93, dmerged, gate, Ideal.logistic]
  match b with
  | ⟨0, _⟩ =>
    simp (disch := omega) only [dif_pos, dif_neg, ← mul_assoc]
    blk_point
  | ⟨1, _⟩ =>
    simp (disch := omega) only [dif_pos, dif_neg, ← mul_assoc]
    blk_point
  | ⟨2, _⟩ =>
    simp (disch := omega) only [dif_pos, dif_neg, ← mul_assoc]
    blk_point

/-- The reference's gradient of the gates' bias, by branch and lane. -/
theorem ref11_at (c : Dev nD) (r : Fin 8) (b : Fin 3) (k : Fin 1024) :
    Value.res_main_v95 m c (ix2 r ⟨1024 * b.val + k.val, by omega⟩)
      = if r.val = 0 then ∑ i : Fin 8192, dscore (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b i k else 0 := by
  by_cases h : r.val = 0
  · rw [if_pos h]
    pointwise [Value.res_main_v95, dscore, dmerged, branch, gate, Ideal.logistic, h]
    match b with
    | ⟨0, _⟩ =>
      simp (disch := omega) only [dif_pos, dif_neg, ← mul_assoc, zero_add]
      blk_point
      | ⟨1, _⟩ =>
      simp (disch := omega) only [dif_pos, dif_neg, ← mul_assoc, zero_add]
      blk_point
    | ⟨2, _⟩ =>
      simp (disch := omega) only [dif_pos, dif_neg, ← mul_assoc, zero_add]
      blk_point
  · rw [if_neg h]
    pointwise [Value.res_main_v95]
    rw [dif_neg (by omega)]

/-- The reference's gradient of the mixers' outputs. -/
theorem ref10 (c : Dev nD) : Value.res_main_v93 m c = dMixed (m ((c : Thread nD τ).loc main_arg0)) (m ((c : Thread nD τ).loc main_arg1))
    (m ((c : Thread nD τ).loc main_arg3)) (m ((c : Thread nD τ).loc main_arg4)) (m ((c : Thread nD τ).loc main_arg5)) :=
  ext_bands (n := 512) (q := 3) (by decide) rfl fun i b l hl => (ref10_at m c i b l).trans (dMixed_at _ _ _ _ _ i b l hl).symm

/-- The reference's gradient of the gates' bias. -/
theorem ref11 (c : Dev nD) : Value.res_main_v95 m c = dBias (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) :=
  ext_bands (n := 1024) (q := 3) (by decide) rfl fun r b k hk => (ref11_at m c r b k).trans (dBias_at _ _ _ _ _ _ r b k hk).symm

end Cert.ReferenceIdeal.Merge
end
-- ==== Proof.Merge.Pair.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Claim
public import proofs.«01_k».proof.Proof.Merge.Tiles
public import proofs.«01_k».proof.Proof.Merge.Proj
public import proofs.«01_k».proof.Proof.Merge.Bias
public import proofs.«01_k».proof.Proof.Merge.Ref

@[expose] public section

set_option maxRecDepth 16384

noncomputable section

namespace Cert.Merge

open Idealize.ShloMosaic Idealize.SL.Sem

set_option maxHeartbeats 1000000 in
/-- The merge's backward call and the derivative of the merge's lines end with the same four gradients. -/
theorem algebraic : Cert.algebraic_KernelIdeal_ReferenceIdeal := by
  pair_intro
  · run_from Cert.KernelIdeal.Gen.run_main m g
  · run_from Cert.ReferenceIdeal.Value.run m' g'
    all_goals obtain ⟨h0, h1, h2, h3, h4, h5⟩ := hagree c
    · have e := Cert.KernelIdeal.Merge.final8 m c
      rw [← h4, ← h5] at e
      refine Eq.trans ?_ e.symm
      refine Cert.Merge.ext_bands (n := 1024) (q := 3) (by decide) rfl fun i b k hk => ?_
      refine Eq.trans ?_ (Cert.Merge.dBranches_at _ _ _ _ i b k hk).symm
      pointwise [Cert.Merge.dmerged, Cert.Merge.gate, Ideal.logistic]
      match b with
      | ⟨0, _⟩ =>
        simp (disch := omega) only [dif_pos, dif_neg, ← mul_assoc]
        blk_point
      | ⟨1, _⟩ =>
        simp (disch := omega) only [dif_pos, dif_neg, ← mul_assoc]
        blk_point
      | ⟨2, _⟩ =>
        simp (disch := omega) only [dif_pos, dif_neg, ← mul_assoc]
        blk_point
    · exact ((Cert.ReferenceIdeal.Merge.ref9 m' c).trans (by rw [h0, h1, h2, h3, h4, h5])).trans (Cert.KernelIdeal.Merge.final9 m c).symm
    · exact ((Cert.ReferenceIdeal.Merge.ref10 m' c).trans (by rw [h0, h1, h3, h4, h5])).trans (Cert.KernelIdeal.Merge.final10 m c).symm
    · exact ((Cert.ReferenceIdeal.Merge.ref11 m' c).trans (by rw [h0, h1, h2, h3, h4, h5])).trans (Cert.KernelIdeal.Merge.final11 m c).symm

end Cert.Merge
end
-- ==== Proof.Mlp.Spec.lean ====
module

public import Idealize.ShloMosaic.Lib.Pointwise

@[expose] public section

set_option maxRecDepth 16384

noncomputable section

open Idealize.ShloMosaic

namespace Cert.Mlp

/-- The gradient of the activations: the cotangent through the second projection, times the derivative of the squared ReLU. -/
def dAct (a : FVec Ideal ⟨2, ![8192, 4096]⟩ .bf16) (dz : FVec Ideal ⟨2, ![8192, 1024]⟩ .bf16) (w : FVec Ideal ⟨2, ![4096, 1024]⟩ .bf16) :
    FVec Ideal ⟨2, ![8192, 4096]⟩ .bf16 := fun i =>
  (∑ k : Fin 1024, dz (ix2 (i 0) k) * w (ix2 (i 1) k)) * (Ideal.ofBits .f32 0x40000000#32 * max (a i) 0)

/-- The gradient of the second projection: the squared ReLU of the activations, transposed, times the cotangent. -/
def dDown (a : FVec Ideal ⟨2, ![8192, 4096]⟩ .bf16) (dz : FVec Ideal ⟨2, ![8192, 1024]⟩ .bf16) : FVec Ideal ⟨2, ![4096, 1024]⟩ .bf16 := fun i =>
  ∑ t : Fin 8192, max (a (ix2 t (i 0))) 0 * max (a (ix2 t (i 0))) 0 * dz (ix2 t (i 1))

/-- The gradient of the layer's input: the cotangent through the first projection, and the residual beside it. -/
def dInput (da : FVec Ideal ⟨2, ![8192, 4096]⟩ .bf16) (w : FVec Ideal ⟨2, ![1024, 4096]⟩ .bf16) (dz : FVec Ideal ⟨2, ![8192, 1024]⟩ .f32) :
    FVec Ideal ⟨2, ![8192, 1024]⟩ .f32 := fun i =>
  (∑ k : Fin 4096, da (ix2 (i 0) k) * w (ix2 (i 1) k)) + Ideal.ofBits .f32 0x3FD744FD#32 * dz i

end Cert.Mlp

end
-- ==== Proof.Mlp.Act.lean ====
module

public import proofs.«01_k».proof.Proof.Gen.Kernel6Ideal.Frame
public import Idealize.ShloMosaic.Lib.Pipeline.ValueKit
public import proofs.«01_k».proof.Proof.Mlp.Spec

@[expose] public section

set_option maxRecDepth 16384

noncomputable section

open Idealize.ShloMosaic Idealize.ShloMosaic.TcCoe Idealize.SL.Sem
open Idealize.ShloMosaic.Pipeline (Dat)

namespace Cert.Kernel6Ideal.Mlp

open Cert.Mlp Cert.Kernel6Ideal Cert.Kernel6Ideal.Gen

variable (m : (ℓ : Loc nD τ sig) → Buf (Elt Ideal) ℓ)

/-- The block of every window at grid point `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result after the run: the gradient of the activations. -/
theorem final3 (c : Dev nD) : (dats m 0 c).arrAt 3 (cfgs 0).N
    = dAct (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  open_payloads
  pointwise [dAct]
  blk_point [iblk, V, idx t]

end Cert.Kernel6Ideal.Mlp

end
-- ==== Proof.Mlp.Down.lean ====
module

public import proofs.«01_k».proof.Proof.Gen.Kernel7Ideal.Frame
public import Idealize.ShloMosaic.Lib.Pipeline.ValueKit
public import Idealize.ShloMosaic.Lib.Pipeline.ReadBack
public import proofs.«01_k».proof.Proof.Mlp.Spec

@[expose] public section

set_option maxRecDepth 16384

noncomputable section

open Idealize.ShloMosaic Idealize.ShloMosaic.TcCoe Idealize.SL.Sem
open Idealize.ShloMosaic.Pipeline (Dat)

namespace Cert.Kernel7Ideal.Mlp

open Cert.Mlp Cert.Kernel7Ideal Cert.Kernel7Ideal.Gen

variable (m : (ℓ : Loc nD τ sig) → Buf (Elt Ideal) ℓ)

/-- The block of every window at grid point `t`. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The product of a tile's squared ReLUs, transposed, and its cotangents. -/
def tileSum (a b : Vec Ideal S2048x1024 .bf16) (y : S1024x1024.Idx) : EReal :=
  ∑ k : Fin 2048, max (a (ix2 k (y 0))) 0 * max (a (ix2 k (y 0))) 0 * b (ix2 k (y 1))

/-- What grid point `t` adds at an entry of its block. -/
def term (c : Dev nD) (t : Fin cfg0.N) (y : S1024x1024.Idx) : EReal := tileSum (iblk m c 0 t) (iblk m c 1 t) y

/-- The running sum at grid point `n`: the written block at the last point of a run, the held block before. -/
def running (c : Dev nD) (n : ℕ) (h : n < cfg0.N) (y : S1024x1024.Idx) : EReal :=
  if n % 4 = 3 then (outsAt0 m c n h).1 y else (outsAt0 m c n h).2 y

/-- The result after the run: the gradient of the second projection. -/
theorem final2 (c : Dev nD) : (dats m 0 c).arrAt 2 (cfgs 0).N
    = dDown (m ((c : Thread nD τ).loc main_arg0)) (m ((c : Thread nD τ).loc main_arg1)) := by
  refine (dats m 0 c).arrAt_eq_of_covers 2 _ (by decide +kernel) fun t hf y => ?_
  have h3 := (flush0_2 t).mp hf
  have h : running m c t.val t.isLt y = 0 + ∑ s : Fin 4, term m c ⟨4 * (t.val / 4) + s.val, _⟩ y :=
    Pipeline.eq_sum_fin_of_reset_step_apply_of_flush (running m c) 4 (fun _ => 0) (term m c)
      (fun t h y => by
        rw [running, if_neg (by omega), outsAt0_A m c t h (by omega) (by omega)]
        frame_out
        open_payloads
        pointwise [term, tileSum])
      (fun t h y => by
        by_cases h3 : t.val % 4 = 3
        · rw [running, if_pos h3, running, if_neg (by omega), outsAt0_C m c t h (by omega) h3]
          frame_out
          rw [read_unread_whole]
          open_payloads
          pointwise [term, tileSum]
        · rw [running, if_neg h3, running, if_neg (by omega), outsAt0_B m c t h (by omega) h3]
          frame_out
          rw [read_unread_whole]
          open_payloads
          pointwise [term, tileSum])
      t h3 y
  blk_simp
  rw [after0_2]
  rw [running, if_pos h3] at h
  refine h.trans ?_
  rw [zero_add]
  unfold term tileSum dDown
  refine Fin.sum_mul_add_congr fun s k hl => ?_
  have hs := idx ⟨4 * (t.val / 4) + s.val, Pipeline.run_point_lt_of_flush t h3 s⟩
  blk_point [iblk, V, idx t, hs]

end Cert.Kernel7Ideal.Mlp

end
-- ==== Proof.Mlp.Input.lean ====
module

public import proofs.«01_k».proof.Proof.Gen.Kernel8Ideal.Frame
public import Idealize.ShloMosaic.Lib.Pipeline.ValueKit
public import proofs.«01_k».proof.Proof.Mlp.Spec

@[expose] public section

set_option maxRecDepth 16384

noncomputable section

open Idealize.ShloMosaic Idealize.ShloMosaic.TcCoe Idealize.SL.Sem
open Idealize.ShloMosaic.Pipeline (Dat)

namespace Cert.Kernel8Ideal.Mlp

open Cert.Mlp Cert.Kernel8Ideal Cert.Kernel8Ideal.Gen

variable (m : (ℓ : Loc nD τ sig) → Buf (Elt Ideal) ℓ)

/-- The block of every window at grid point `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result after the run: the gradient of the input. -/
theorem final3 (c : Dev nD) : (dats m 0 c).arrAt 3 (cfgs 0).N
    = dInput (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  open_payloads
  pointwise [dInput]
  blk_point [iblk, V, idx t]

end Cert.Kernel8Ideal.Mlp

end
-- ==== Proof.Mlp.Pair.lean ====
module

public import Idealize.ShloMosaic.Lib.Claim
public import proofs.«01_k».proof.Defs
public import proofs.«01_k».proof.Proof.Mlp.Act
public import proofs.«01_k».proof.Proof.Mlp.Down
public import proofs.«01_k».proof.Proof.Mlp.Input
public import proofs.«01_k».proof.Proof.Gen.Reference6Ideal.Run
public import proofs.«01_k».proof.Proof.Gen.Reference7Ideal.Run
public import proofs.«01_k».proof.Proof.Gen.Reference8Ideal.Run

@[expose] public section

set_option maxRecDepth 16384

noncomputable section

open Idealize.ShloMosaic Idealize.ShloMosaic.TcCoe Idealize.SL.Sem
open Idealize.ShloMosaic.Pipeline (Dat)

namespace Cert.Mlp

/-- The activations' gradient is zero where the activation is not positive, as the maximum is there. -/
theorem relu_rule (x a : EReal) : (if 0 < a then x * (Ideal.ofBits .f32 0x40000000#32 * max a 0) else 0) = x * (Ideal.ofBits .f32 0x40000000#32 * max a 0) := by
  split_ifs with h
  · rfl
  · rw [max_eq_right (not_lt.mp h), mul_zero, mul_zero]

set_option maxHeartbeats 1000000 in
/-- The backward call of the squared ReLU and the derivative of the squared ReLU end with the same gradient. -/
theorem algebraic6 : Cert.algebraic_Kernel6Ideal_Reference6Ideal := by
  pair_intro
  · run_from Cert.Kernel6Ideal.Gen.run_main m g
  · run_from Cert.Reference6Ideal.Value.run m' g'
    obtain ⟨h0, h1, h2⟩ := hagree c
    have e := Cert.Kernel6Ideal.Mlp.final3 m c
    refine Eq.trans ?_ e.symm
    funext i
    pointwise [dAct]
    exact relu_rule _ _

set_option maxHeartbeats 1000000 in
/-- The backward call of the second projection and the derivative in its weights end with the same gradient. -/
theorem algebraic7 : Cert.algebraic_Kernel7Ideal_Reference7Ideal := by
  pair_intro
  · run_from Cert.Kernel7Ideal.Gen.run_main m g
  · run_from Cert.Reference7Ideal.Value.run m' g'
    obtain ⟨h0, h1, h2⟩ := hagree c
    have e := Cert.Kernel7Ideal.Mlp.final2 m c
    refine Eq.trans ?_ e.symm
    funext i
    pointwise [dDown]
    exact Finset.sum_congr rfl fun k _ => mul_comm _ _

set_option maxHeartbeats 1000000 in
/-- The way back through the first projection and the residual, and the derivative of both, end with the same gradient. -/
theorem algebraic8 : Cert.algebraic_Kernel8Ideal_Reference8Ideal := by
  pair_intro
  · run_from Cert.Kernel8Ideal.Gen.run_main m g
  · run_from Cert.Reference8Ideal.Value.run m' g'
    obtain ⟨h0, h1, h2⟩ := hagree c
    have e := Cert.Kernel8Ideal.Mlp.final3 m c
    refine Eq.trans ?_ e.symm
    funext i
    pointwise [dInput]

end Cert.Mlp

end
-- ==== Proof.Real.lean ====
module

public import Idealize.ShloMosaic.Lib.IdealHost

@[expose] public section

set_option maxRecDepth 16384

noncomputable section

open Idealize.ShloMosaic Idealize.ShloMosaic.TcCoe Idealize.SL.Sem

namespace Cert.Real

/-- A finite factor that is not negative goes inside a sum. -/
theorem mul_sum_left {n : ℕ} (a : EReal) (h0 : 0 ≤ a) (ht : a ≠ ⊤) (f : Fin n → EReal) : a * ∑ k, f k = ∑ k, a * f k := by
  classical
  induction (Finset.univ : Finset (Fin n)) using Finset.induction_on with
  | empty => simp
  | insert k s hk ih => rw [Finset.sum_insert hk, Finset.sum_insert hk, EReal.left_distrib_of_nonneg_of_ne_top h0 ht, ih]

/-- A division by a real number other than zero is a product by its inverse. -/
theorem div_coe (x : EReal) (z : ℝ) (hz : z ≠ 0) : Ideal.div x z = x * ((z⁻¹ : ℝ) : EReal) := by
  unfold Ideal.div
  rw [if_neg (by exact_mod_cast hz), EReal.coe_inv]

/-- The derivative of a quotient by a sum, written with the quotient itself, is the one written with the square of the sum. -/
theorem quotient_rule {n : ℕ} (E D : Fin n → EReal) (a z : ℝ) (ha : 0 ≤ a) (hz : 0 < z) (k : Fin n) (hk : E k = a) :
    Ideal.div (E k) z * (D k - ∑ j, D j * Ideal.div (E j) z)
      = (Ideal.div (D k) z + -∑ j, D j * Ideal.div 1 ((z : EReal) * z) * E j) * E k := by
  have hi : (0 : EReal) ≤ ((z⁻¹ : ℝ) : EReal) := by exact_mod_cast (inv_pos.mpr hz).le
  have hit : ((z⁻¹ : ℝ) : EReal) ≠ ⊤ := EReal.coe_ne_top _
  have hs : ((z⁻¹ : ℝ) : EReal) * ∑ j, D j * Ideal.div (E j) z = ∑ j, D j * Ideal.div 1 ((z : EReal) * z) * E j := by
    rw [mul_sum_left _ hi hit]
    refine Finset.sum_congr rfl fun j _ => ?_
    rw [div_coe _ _ hz.ne', ← EReal.coe_mul, div_coe _ _ (mul_ne_zero hz.ne' hz.ne'), one_mul, mul_inv, EReal.coe_mul]
    generalize ((z⁻¹ : ℝ) : EReal) = i
    ac_rfl
  rw [← hs, hk, div_coe _ _ hz.ne', div_coe _ _ hz.ne', ← mul_neg, mul_comm (D k), ← EReal.left_distrib_of_nonneg_of_ne_top hi hit, sub_eq_add_neg]
  generalize ((z⁻¹ : ℝ) : EReal) = i
  ac_rfl

/-- The word the maximum starts from is the least extended real. -/
theorem least_word : Ideal.ofBits .f32 0xFF800000#32 = ⊥ := by simp [Ideal.ofBits, Ideal.ieee]

/-- The sum of finitely many real numbers is their sum as extended reals. -/
theorem coe_sum {n : ℕ} (g : Fin n → ℝ) : ((∑ k, g k : ℝ) : EReal) = ∑ k, (g k : EReal) := by
  classical
  induction (Finset.univ : Finset (Fin n)) using Finset.induction_on with
  | empty => simp
  | insert k s hk ih => rw [Finset.sum_insert hk, Finset.sum_insert hk, EReal.coe_add, ih]

/-- A finite sum of real numbers is a real number. -/
theorem sum_real {n : ℕ} (f : Fin n → EReal) (h : ∀ k, ∃ r : ℝ, f k = r) : ∃ r : ℝ, ∑ k, f k = r := by
  choose g hg using h
  exact ⟨∑ k, g k, by rw [coe_sum]; exact Finset.sum_congr rfl fun k _ => hg k⟩

/-- The greatest of finitely many real numbers, of which there is one, is a real number. -/
theorem fold_max_real {n : ℕ} (f : Fin (n + 1) → EReal) (h : ∀ k, ∃ r : ℝ, f k = r) : ∃ r : ℝ, Finset.univ.fold max ⊥ f = r := by
  have hb : Finset.univ.fold max ⊥ f ≠ ⊥ := by
    obtain ⟨r, hr⟩ := h 0
    have : f 0 ≤ Finset.univ.fold max ⊥ f := (Finset.le_fold_max _).mpr (Or.inr ⟨0, Finset.mem_univ _, le_rfl⟩)
    rw [hr] at this
    exact fun e => absurd (e ▸ this) (by simp)
  have ht : Finset.univ.fold max ⊥ f ≠ ⊤ := by
    refine ne_of_lt ((Finset.fold_max_lt _).mpr ⟨by simp, fun k _ => ?_⟩)
    obtain ⟨r, hr⟩ := h k
    rw [hr]
    exact EReal.coe_lt_top r
  exact ⟨_, (EReal.coe_toReal ht hb).symm⟩

/-- An extended real whose absolute value is less than the word of infinity is a real number. -/
theorem real_of_abs_lt (x : EReal) (h : max x (-x) < ⊤) : ∃ r : ℝ, x = r := by
  obtain ⟨h1, h2⟩ := max_lt_iff.mp h
  exact ⟨x.toReal, (EReal.coe_toReal h1.ne (fun e => by simp [e] at h2)).symm⟩

/-- The exponential of the difference of two real numbers is a positive real number. -/
theorem exp_real (x y : EReal) (hx : ∃ r : ℝ, x = r) (hy : ∃ r : ℝ, y = r) : ∃ r : ℝ, 0 < r ∧ Ideal.exp (x - y) = r := by
  obtain ⟨a, rfl⟩ := hx
  obtain ⟨b, rfl⟩ := hy
  exact ⟨Real.exp (a - b), Real.exp_pos _, by rw [← EReal.coe_sub]; rfl⟩

/-- A positive sum of positive real numbers. -/
theorem sum_pos_real {n : ℕ} (f : Fin (n + 1) → EReal) (h : ∀ k, ∃ r : ℝ, 0 < r ∧ f k = r) : ∃ r : ℝ, 0 < r ∧ ∑ k, f k = r := by
  choose g h0 hg using h
  exact ⟨∑ k, g k, Finset.sum_pos (fun k _ => h0 k) ⟨0, Finset.mem_univ _⟩, by rw [coe_sum]; exact Finset.sum_congr rfl fun k _ => hg k⟩

/-- Where the comparison of the absolute value with the word of infinity answers one, the element is a real number. -/
theorem finite_real (x : EReal) (h : FloatOps.cmpf (F := Ideal) (φ := .f32) .olt (max x (-x)) (Ideal.ofBits .f32 0x7F800000#32) = 1#1) : ∃ r : ℝ, x = r := by
  refine real_of_abs_lt x ?_
  have e : Ideal.ofBits .f32 0x7F800000#32 = ⊤ := by simp [Ideal.ofBits, Ideal.ieee]
  rw [e] at h
  change Ideal.cmp CmpFPredicate.olt (max x (-x)) ⊤ = 1#1 at h
  by_contra hn
  rw [show Ideal.cmp CmpFPredicate.olt (max x (-x)) ⊤ = 0#1 from by unfold Ideal.cmp; simp only [hn, decide_false]; rfl] at h
  exact absurd h (by decide)

end Cert.Real

end
-- ==== Proof.Bounds.Spec.lean ====
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Bounds

/-- The largest of a column's four logits. -/
def top (x : FVec Ideal ⟨2, ![4, 512]⟩ .f32) (l : Fin 512) : EReal := max ⊥ (Finset.univ.fold max ⊥ fun k : Fin 4 => x (ix2 k l))

/-- The exponential of a logit, the column's largest taken off. -/
def expo (x : FVec Ideal ⟨2, ![4, 512]⟩ .f32) (k : Fin 4) (l : Fin 512) : EReal := Ideal.exp (x (ix2 k l) - top x l)

/-- The sum of a column's exponentials. -/
def total (x : FVec Ideal ⟨2, ![4, 512]⟩ .f32) (l : Fin 512) : EReal := ∑ k : Fin 4, expo x k l

/-- The softmax over the four rows. -/
def soft (x : FVec Ideal ⟨2, ![4, 512]⟩ .f32) : FVec Ideal ⟨2, ![4, 512]⟩ .f32 := fun i => Ideal.div (expo x (i 0) (i 1)) (total x (i 1))

/-- The gradient of the softmax: the cotangents of the row and of the rows after it, and for the first row less all of them. -/
def dSoft (ct : FVec Ideal ⟨2, ![4, 512]⟩ .f32) (k : Fin 4) (l : Fin 512) : EReal :=
  if k.val = 0 then ct (ix2 3 l) + ct (ix2 2 l) + ct (ix2 1 l) + ct (ix2 0 l) - ∑ k : Fin 4, ct (ix2 k l)
  else if k.val = 1 then ct (ix2 3 l) + ct (ix2 2 l) + ct (ix2 1 l)
  else if k.val = 2 then ct (ix2 3 l) + ct (ix2 2 l)
  else ct (ix2 3 l)

/-- The gradient of the logits, from the softmax and the cotangent. -/
def dLogit (s ct : FVec Ideal ⟨2, ![4, 512]⟩ .f32) : FVec Ideal ⟨2, ![4, 512]⟩ .f32 := fun i =>
  s i * (dSoft ct (i 0) (i 1) - ∑ k : Fin 4, s (ix2 k (i 1)) * dSoft ct k (i 1))

end Cert.Bounds

end
-- ==== Proof.Bounds.Call.lean ====
module

public import Idealize.ShloMosaic.Lib.Pipeline.ValueKit
public import Idealize.ShloMosaic.Lib.Pipeline.ReadBack
public import proofs.«01_k».proof.Proof.Bounds.Spec
public import proofs.«01_k».proof.Proof.Gen.Kernel5Ideal.Frame

@[expose] public section

set_option maxRecDepth 16384

noncomputable section

open Idealize.ShloMosaic Idealize.ShloMosaic.TcCoe Idealize.SL.Sem
open Idealize.ShloMosaic.Pipeline (Dat)

namespace Cert.Kernel5Ideal.Bounds

open Cert.Bounds Cert.Kernel5Ideal Cert.Kernel5Ideal.Gen

variable (m : (ℓ : Loc nD τ sig) → Buf (Elt Ideal) ℓ) (ρ : Dev nD → PrngReg)

/-- The block of every window at the one grid point. -/
theorem idx : ∀ t : Fin cfg1.N, win1_0.index t = ![0, 0] ∧ win1_1.index t = ![0, 0] ∧ win1_2.index t = ![0, 0] :=
  (by decide +kernel : ∀ t : Fin grid1.N, _)

/-- Four rows written one by one and read as a whole. -/
theorem rows (v : View sig .tc .vmem S4x512 .f32) (a b c d : FVec Ideal S1x512 .f32) (G : FVec Ideal S4x512 .f32)
    (ha : ∀ x : S1x512.Idx, a x = G (ix2 0 (x 1))) (hb : ∀ x : S1x512.Idx, b x = G (ix2 1 (x 1))) (hc : ∀ x : S1x512.Idx, c x = G (ix2 2 (x 1)))
    (hd : ∀ x : S1x512.Idx, d x = G (ix2 3 (x 1))) :
    v.readCov (Val := Elt Ideal) [⟨Rect.unit ![0, 0] ![1, 512] inb_S4x512_S1x512_0_0, a⟩, ⟨Rect.unit ![1, 0] ![1, 512] inb_S4x512_S1x512_1_0, b⟩,
        ⟨Rect.unit ![2, 0] ![1, 512] inb_S4x512_S1x512_2_0, c⟩, ⟨Rect.unit ![3, 0] ![1, 512] inb_S4x512_S1x512_3_0, d⟩]
      (Rect.unit ![0, 0] ![4, 512] inb_S4x512_S4x512_0_0).toLoadRect = G := by
  rw [View.readCov_eq_canon']
  funext y
  rw [show (Rect.unit ![0, 0] ![4, 512] inb_S4x512_S4x512_0_0).toLoadRect.idx y = y from by first | rfl | idx_ext | (funext a; blk_simp)]
  canon_tiles x h
  · exact (ha x).trans (congrArg G (by idx_ext))
  · exact (hb x).trans (congrArg G (by idx_ext))
  · exact (hc x).trans (congrArg G (by idx_ext))
  · exact (hd x).trans (congrArg G (by idx_ext))

/-- The block of every window of the first call. -/
theorem idx0 : ∀ t : Fin cfg0.N, win0_0.index t = ![0, 0] ∧ win0_1.index t = ![0, 0] :=
  (by decide +kernel : ∀ t : Fin grid0.N, _)

/-- The softmax the first call leaves for the second. -/
theorem saved (c : Dev nD) : V1 m ρ c main_v0_0 = soft (m ((c : Thread nD τ).loc main_arg0)) := by
  refine (W1_arr m ρ c 1).trans ?_
  refine (dat0 (V0 m ρ) c).arrAt_eq_of_covers 1 _ (by decide +kernel) fun t hf y => ?_
  blk_simp
  rw [after0_1, outsAt0]
  frame_out
  open_payloads
  repeat rw [read_unread_whole]
  pointwise [soft, expo, total, top, show ∀ a : EReal, max ⊥ a = a from fun a => max_eq_right bot_le, show Ideal.ofBits .f32 0xFF800000#32 = ⊥ from by simp [Ideal.ofBits, Ideal.ieee]]
  blk_point [iblk0, idx0 t]

/-- The cotangent the second call reads is the program's argument. -/
theorem kept (c : Dev nD) : V1 m ρ c main_arg1 = m ((c : Thread nD τ).loc main_arg1) :=
  W1_args m ρ c main_arg1 (by decide)

/-- The result after the run: the gradient of the logits. -/
theorem final2 (c : Dev nD) : (dat1 (V1 m ρ) c).arrAt 2 cfg1.N = dLogit (V1 m ρ c main_v0_0) (V1 m ρ c main_arg1) := by
  generalize V1 m ρ = V
  refine (dat1 V c).arrAt_eq_of_covers 2 _ (by decide +kernel) fun t hf y => ?_
  blk_simp
  rw [after1_2, outsAt1]
  frame_out
  rw [rows (G := fun i => dSoft (iblk1 V c 1 t) (i 0) (i 1))]
  · open_payloads
    repeat rw [read_unread_whole]
    pointwise [dLogit, dSoft]
    blk_point [iblk1, idx t]
  all_goals
    intro x
    open_payloads
    repeat rw [read_unread_whole]
    pointwise [dSoft]
    first | done | blk_point []

end Cert.Kernel5Ideal.Bounds

end
-- ==== Proof.Bounds.Run.lean ====
module

public import Idealize.ShloMosaic.Lib.Pipeline.ValueKit
public import proofs.«01_k».proof.Proof.Bounds.Spec
public import proofs.«01_k».proof.Proof.Gen.Kernel5Ideal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic Idealize.ShloMosaic.TcCoe Idealize.SL.Sem
open Idealize.ShloMosaic.Pipeline (Dat)

namespace Cert.Kernel5Ideal.Bounds

open Cert.Bounds Cert.Kernel5Ideal Cert.Kernel5Ideal.Gen

variable {F : FTy → Type} [FloatOps F] (m : (ℓ : Loc nD τ sig) → Buf (Elt F) ℓ) (ρ : Dev nD → PrngReg)

set_option backward.isDefEq.respectTransparency.types false in
/-- Every run of the two calls ends with each array at what the second call leaves. -/
theorem run : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The result and the arguments after the run. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_v1 (by decide))).trans (W2_arr m ρ c 2),
    (h c _ (mem_uc main_arg0 (by decide))).trans (W2_main_arg0 m ρ c),
    (h c _ (mem_uc main_arg1 (by decide))).trans (W2_main_arg1 m ρ c)⟩) (run m ρ)

end Cert.Kernel5Ideal.Bounds

end
-- ==== Proof.Bounds.Ref.lean ====
module

public import Idealize.ShloMosaic.Lib.Pipeline.ValueKit
public import proofs.«01_k».proof.Proof.Bounds.Spec
public import proofs.«01_k».proof.Proof.Gen.Reference5Ideal.Read

@[expose] public section

set_option maxRecDepth 16384

noncomputable section

open Idealize.ShloMosaic Idealize.ShloMosaic.TcCoe Idealize.SL.Sem
open Idealize.ShloMosaic.Pipeline (Dat)

namespace Cert.Reference5Ideal.Bounds

open Cert.Bounds Cert.Reference5Ideal Cert.Reference5Ideal.Gen Cert.Reference5Ideal.Read

/-- The running sums from the last row up: each entry is the initial value and the entries of its own row and of the rows after it. -/
theorem window (x : S4x512.Idx → EReal) (v : EReal) (k : Fin 4) (l : Fin 512) :
    Ideal.hostReduceWindowAdd ![4, 1] ![1, 1] ![0, 0] ![3, 0] reduceWindows_S4x512_S4x512_w4s1p0_3_w1s1p0_0 x v (ix2 k l)
      = v + (if h : k.val + 0 < 4 then x (ix2 ⟨k.val + 0, h⟩ l) else v) + (if h : k.val + 1 < 4 then x (ix2 ⟨k.val + 1, h⟩ l) else v)
        + (if h : k.val + 2 < 4 then x (ix2 ⟨k.val + 2, h⟩ l) else v) + (if h : k.val + 3 < 4 then x (ix2 ⟨k.val + 3, h⟩ l) else v) := by
  unfold Ideal.hostReduceWindowAdd Host.reduceWindow
  have e : List.finRange (Shape.numel ⟨S4x512.rank, ![4, 1]⟩) = [⟨0, by decide⟩, ⟨1, by decide⟩, ⟨2, by decide⟩, ⟨3, by decide⟩] := by decide
  have step : ∀ (n : Fin (Shape.numel ⟨S4x512.rank, ![4, 1]⟩)) (c : ℕ), c = n.val →
      (if hin : ∀ a, ![0, 0] a ≤ ((ix2 k l : S4x512.Idx) a).val * ![1, 1] a + ((Shape.rowMajor ⟨S4x512.rank, ![4, 1]⟩).symm n a).val
            ∧ ((ix2 k l : S4x512.Idx) a).val * ![1, 1] a + ((Shape.rowMajor ⟨S4x512.rank, ![4, 1]⟩).symm n a).val - ![0, 0] a < S4x512.size a
        then x (fun a => ⟨((ix2 k l : S4x512.Idx) a).val * ![1, 1] a + ((Shape.rowMajor ⟨S4x512.rank, ![4, 1]⟩).symm n a).val - ![0, 0] a, (hin a).2⟩) else v)
      = if h : k.val + c < 4 then x (ix2 ⟨k.val + c, h⟩ l) else v := by
    rintro n c rfl
    have h0 : ((Shape.rowMajor ⟨S4x512.rank, ![4, 1]⟩).symm n 0).val = n.val := by revert n; decide
    have h1 : ((Shape.rowMajor ⟨S4x512.rank, ![4, 1]⟩).symm n 1).val = 0 := by revert n; decide
    by_cases hk : k.val + n.val < 4
    · rw [dif_pos hk, dif_pos (Fin.forall_fin_two.2 ⟨⟨Nat.zero_le _, by show k.val * 1 + _ - 0 < 4; omega⟩, ⟨Nat.zero_le _, by show l.val * 1 + _ - 0 < 512; omega⟩⟩)]
      exact congrArg x (funext (Fin.forall_fin_two.2 ⟨Fin.ext (by show k.val * 1 + _ - 0 = k.val + n.val; omega), Fin.ext (by show l.val * 1 + _ - 0 = l.val; omega)⟩))
    · rw [dif_neg hk, dif_neg fun hin => hk (by have := (hin 0).2; change k.val * 1 + _ - 0 < 4 at this; omega)]
  dsimp only
  rw [e]
  simp only [List.foldl]
  exact congrArg₂ (· + ·) (congrArg₂ (· + ·) (congrArg₂ (· + ·) (congrArg (v + ·) (step ⟨0, by decide⟩ 0 rfl)) (step ⟨1, by decide⟩ 1 rfl))
    (step ⟨2, by decide⟩ 2 rfl)) (step ⟨3, by decide⟩ 3 rfl)

/-- A sum less itself is the sum and the negatives of its terms: where a term is infinite both sides are the least value. -/
theorem add_neg_sum (a b c d : EReal) : a + b + c + d - (a + b + c + d) = a + b + c + d + (-a + -b + -c + -d) := by
  by_cases h : a + b + c + d = ⊥
  · rw [h, sub_eq_add_neg, EReal.bot_add, EReal.bot_add]
  · have h3 : a + b + c ≠ ⊥ ∧ d ≠ ⊥ := ⟨fun e => h (by rw [e, EReal.bot_add]), fun e => h (by rw [e, EReal.add_bot])⟩
    have h2 : a + b ≠ ⊥ ∧ c ≠ ⊥ := ⟨fun e => h3.1 (by rw [e, EReal.bot_add]), fun e => h3.1 (by rw [e, EReal.add_bot])⟩
    have h1 : a ≠ ⊥ ∧ b ≠ ⊥ := ⟨fun e => h2.1 (by rw [e, EReal.bot_add]), fun e => h2.1 (by rw [e, EReal.add_bot])⟩
    rw [sub_eq_add_neg, EReal.neg_add (Or.inl h3.1) (Or.inr h3.2), EReal.neg_add (Or.inl h2.1) (Or.inr h2.2), EReal.neg_add (Or.inl h1.1) (Or.inr h1.2)]
    rfl

theorem r36 (x1 : FVec Ideal S4x512 .f32) (i : S4x512.Idx) :
    val_main_v36 (F := Ideal) x1 i = if (i 0).val = 0 then -x1 (ix2 0 (i 1)) + -x1 (ix2 1 (i 1)) + -x1 (ix2 2 (i 1)) + -x1 (ix2 3 (i 1)) else 0 := by
  pointwise [val_main_v36, val_main_v35, val_main_v34, val_main_v33, val_main_cst_9, val_main_cst_10]
  simp only [Nat.lt_one_iff, Fin.sum_univ_four, dite_eq_ite]

/-- The gradient of the softmax. -/
theorem r38 (x1 : FVec Ideal S4x512 .f32) : val_main_v38 (F := Ideal) x1 = fun i => dSoft x1 (i 0) (i 1) := by
  funext i
  have e32 : val_main_v32 (F := Ideal) x1 = x1 := by
    funext i
    pointwise [val_main_v32]
  rw [val_main_v38_apply, r36]
  unfold val_main_v37 Host.reduceWindowAdd
  rw [Ideal.hostReduceWindowAdd_def, e32, show val_main_call1_call0_v0 (F := Ideal) (Shape.Idx.first h_S_) = 0 from by
    pointwise [val_main_call1_call0_v0, val_main_call1_call0_cst]]
  obtain ⟨k, l, rfl⟩ : ∃ k l, i = ix2 k l := ⟨i 0, i 1, by idx_ext⟩
  rw [window]
  show _ = dSoft x1 k l
  unfold dSoft
  fin_cases k
  · simp only [Fin.isValue]
    have := add_neg_sum (x1 (ix2 0 l)) (x1 (ix2 1 l)) (x1 (ix2 2 l)) (x1 (ix2 3 l))
    simp [Fin.sum_univ_four]
    rw [add_comm, ← this]
    congr 1
    ac_rfl
  · simp
    exact (fun a b c => by ac_rfl : ∀ a b c : EReal, a + b + c = c + b + a) _ _ _
  · simp
    exact add_comm _ _
  · simp

theorem r20 (x0 : FVec Ideal S4x512 .f32) : val_main_v20 (F := Ideal) x0 = fun i => expo x0 (i 0) (i 1) := by
  funext i
  pointwise [val_main_v20, val_main_v19, val_main_v18, val_main_v17, val_main_v7, val_main_v6, val_main_cst_1, val_main_v0, val_main_cst, expo, top, show Ideal.ofBits .f32 0xFF800000#32 = ⊥ from by simp [Ideal.ofBits, Ideal.ieee]]

theorem r50 (x0 x1 : FVec Ideal S4x512 .f32) : val_main_v50 (F := Ideal) x0 x1 = fun i =>
    (Ideal.div (dSoft x1 (i 0) (i 1)) (total x0 (i 1)) + -∑ k : Fin 4, dSoft x1 k (i 1) * Ideal.div 1 (total x0 (i 1) * total x0 (i 1)) * expo x0 k (i 1))
      * expo x0 (i 0) (i 1) := by
  funext i
  unfold val_main_v50 val_main_v49 val_main_v48 val_main_v47 val_main_v46 val_main_v45 val_main_v44 val_main_v43 val_main_v42 val_main_v41 val_main_v40
    val_main_v39 val_main_v27 val_main_v26 val_main_v25 val_main_v22 val_main_v21
  have e1 := r20 x0
  have e2 := r38 x1
  generalize val_main_v20 (F := Ideal) x0 = y at *
  generalize val_main_v38 (F := Ideal) x1 = z at *
  subst e1 e2
  pointwise [val_main_cst_7, val_main_cst_8, val_main_cst_11, val_main_cst_12, total]
  simp only [Fin.sum_univ_one]

end Cert.Reference5Ideal.Bounds

end
-- ==== Proof.Bounds.Pair.lean ====
module

public import Idealize.ShloMosaic.Lib.Pipeline.ValueKit
public import Idealize.ShloMosaic.Lib.Claim
public import proofs.«01_k».proof.Defs
public import proofs.«01_k».proof.Proof.Real
public import proofs.«01_k».proof.Proof.Bounds.Call
public import proofs.«01_k».proof.Proof.Bounds.Run
public import proofs.«01_k».proof.Proof.Bounds.Ref
public import proofs.«01_k».proof.Proof.Gen.Reference5Ideal.Run
public import proofs.«01_k».proof.Proof.Gen.Pre_finite_logits

@[expose] public section

set_option maxRecDepth 16384

noncomputable section

open Idealize.ShloMosaic Idealize.ShloMosaic.TcCoe Idealize.SL.Sem
open Idealize.ShloMosaic.Pipeline (Dat)

namespace Cert.Bounds

open Cert.Real

/-- Logits whose comparison with infinity answers one everywhere are real numbers. -/
theorem logits_real (x ct : FVec Ideal ⟨2, ![4, 512]⟩ .f32) (h : Cert.Pre_finite_logits.fn x ct = fun _ => 1#1) (i : (⟨2, ![4, 512]⟩ : Shape).Idx) : ∃ r : ℝ, x i = r := by
  have := congrFun h i
  unfold Cert.Pre_finite_logits.fn at this
  exact finite_real _ this

/-- The gradient from the softmax and the cotangent is the one the rules for the exponential and the quotient give, for finite logits. -/
theorem rule (x ct : FVec Ideal ⟨2, ![4, 512]⟩ .f32) (hx : ∀ i, ∃ r : ℝ, x i = r) (i : (⟨2, ![4, 512]⟩ : Shape).Idx) :
    (Ideal.div (dSoft ct (i 0) (i 1)) (total x (i 1)) + -∑ k : Fin 4, dSoft ct k (i 1) * Ideal.div 1 (total x (i 1) * total x (i 1)) * expo x k (i 1))
      * expo x (i 0) (i 1) = dLogit (soft x) ct i := by
  have hm : ∃ r : ℝ, top x (i 1) = r := by
    obtain ⟨r, hr⟩ := fold_max_real (fun k : Fin 4 => x (ix2 k (i 1))) fun k => hx _
    exact ⟨r, by unfold top; rw [hr]; simp⟩
  have he : ∀ k, ∃ r : ℝ, 0 < r ∧ expo x k (i 1) = r := fun k => exp_real _ _ (hx _) hm
  obtain ⟨z, hz, e⟩ : ∃ r : ℝ, 0 < r ∧ total x (i 1) = r := sum_pos_real (fun k => expo x k (i 1)) he
  obtain ⟨a, ha, ea⟩ := he (i 0)
  unfold dLogit soft
  show _ = Ideal.div (expo x (i 0) (i 1)) (total x (i 1)) * (dSoft ct (i 0) (i 1) - ∑ k : Fin 4, Ideal.div (expo x k (i 1)) (total x (i 1)) * dSoft ct k (i 1))
  rw [e, ← quotient_rule (fun k => expo x k (i 1)) (fun k => dSoft ct k (i 1)) a z ha.le hz (i 0) ea]
  refine congrArg (_ * ·) (congrArg (_ - ·) (Finset.sum_congr rfl fun k _ => mul_comm _ _))

set_option maxHeartbeats 1000000 in
/-- The backward call of the lower bounds and their derivative end with the same gradient of finite logits. -/
theorem algebraic5 : Cert.algebraic_Kernel5Ideal_Reference5Ideal_pre_finite_logits := by
  pair_intro
  · run_from Cert.Kernel5Ideal.Bounds.run_main m g
  · run_from Cert.Reference5Ideal.Value.run m' g'
    obtain ⟨h0, h1⟩ := hagree c
    have e := Cert.Kernel5Ideal.Bounds.final2 m g c
    rw [Cert.Kernel5Ideal.Bounds.saved, Cert.Kernel5Ideal.Bounds.kept] at e
    refine Eq.trans ?_ e.symm
    try rw [h0, h1]
    exact (Cert.Reference5Ideal.Bounds.r50 _ _).trans (funext fun i => rule _ _ (logits_real _ _ (hpre c)) i)

end Cert.Bounds

end
-- ==== Proof.Mixer.Runs.lean ====
module

public import proofs.«01_k».proof.Proof.Gen.Kernel2Ideal.Frame.RunC
public import Idealize.ShloMosaic.Lib.Claim

@[expose] public section

set_option maxRecDepth 16384
set_option Elab.async false

noncomputable section

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Mixer

variable {F : FTy → Type} [FloatOps F]
variable (m : (ℓ : Loc nD τ sig) → Buf (Elt F) ℓ) (ρ : Dev nD → PrngReg)

/-- What a point leaves: the six results' blocks and the two carried scratch buffers. -/
abbrev Held (F : FTy → Type) [FloatOps F] : Type := Vec F S256x4096 .bf16 × Vec F S256x512 .f32 × Vec F S256x512 .f32 × Vec F S8x512 .f32 × Vec F S8x128 .f32 × Vec F S8x512 .f32 × Vec F S4x128x128 .f32 × Vec F S8x512 .f32

/-- The body's run at the first point. -/
def runA (c : Dev nD) (t : Fin cfg0.N) (h0 : t.val % 16 = 0) (h1 : t.val % 32 = 0) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) ((hcond0_0 t).mpr h0) ((hcond0_1 t).mpr h1) (X0_0 m c t) (X0_1 m c t) (iblk m c 2 t) (iblk m c 3 t) (iblk m c 4 t) (iblk m c 5 t) (iblk m c 6 t) (iblk m c 7 t) (iblk m c 8 t) (iblk m c 9 t)

/-- What the first point leaves. -/
def leftA (c : Dev nD) (t : Fin cfg0.N) (h0 : t.val % 16 = 0) (h1 : t.val % 32 = 0) : Held F :=
  (VO0_10.read (Elt F) (VO0_10.writes (Elt F) VO0_10.junk (runA m c t h0 h1).1),
   VO0_11.read (Elt F) (VO0_11.writes (Elt F) VO0_11.junk (runA m c t h0 h1).2.1),
   VO0_12.read (Elt F) (VO0_12.writes (Elt F) VO0_12.junk (runA m c t h0 h1).2.2.1),
   VO0_13.read (Elt F) (VO0_13.writes (Elt F) VO0_13.junk (runA m c t h0 h1).2.2.2.1),
   VO0_14.read (Elt F) (VO0_14.writes (Elt F) VO0_14.junk (runA m c t h0 h1).2.2.2.2.1),
   VO0_15.read (Elt F) (VO0_15.writes (Elt F) VO0_15.junk (runA m c t h0 h1).2.2.2.2.2.1),
   VS0_0.read (Elt F) (VS0_0.writes (Elt F) VS0_0.junk (runA m c t h0 h1).2.2.2.2.2.2.1),
   VS0_1.read (Elt F) (VS0_1.writes (Elt F) VS0_1.junk (runA m c t h0 h1).2.2.2.2.2.2.2.1))

/-- The body's run at a point inside a batch, after contents `p`. -/
def runB (c : Dev nD) (t : Fin cfg0.N) (h0 : ¬t.val % 16 = 0) (h1 : ¬t.val % 32 = 0) (p : Held F) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) (fun h => h0 ((hcond0_0 t).mp h)) (fun h => h1 ((hcond0_1 t).mp h)) (X0_0 m c t) (X0_1 m c t) (iblk m c 2 t) (iblk m c 3 t) (iblk m c 4 t) (iblk m c 5 t) (iblk m c 6 t) (iblk m c 7 t) (iblk m c 8 t) (iblk m c 9 t) p.2.1 p.2.2.1 p.2.2.2.1 p.2.2.2.2.1 p.2.2.2.2.2.1 p.2.2.2.2.2.2.1 p.2.2.2.2.2.2.2

/-- What a point inside a batch leaves. -/
def leftB (c : Dev nD) (t : Fin cfg0.N) (h0 : ¬t.val % 16 = 0) (h1 : ¬t.val % 32 = 0) (p : Held F) : Held F :=
  (VO0_10.read (Elt F) (VO0_10.writes (Elt F) VO0_10.junk (runB m c t h0 h1 p).1),
   VO0_11.read (Elt F) (VO0_11.writes (Elt F) VO0_11.junk (runB m c t h0 h1 p).2.1),
   VO0_12.read (Elt F) (VO0_12.writes (Elt F) VO0_12.junk (runB m c t h0 h1 p).2.2.1),
   (ms0_13 t).view.read (Elt F) ((ms0_13 t).view.writes (Elt F) ((hs0_13 t).unread p.2.2.2.1) (runB m c t h0 h1 p).2.2.2.1),
   (ms0_14 t).view.read (Elt F) ((ms0_14 t).view.writes (Elt F) ((hs0_14 t).unread p.2.2.2.2.1) (runB m c t h0 h1 p).2.2.2.2.1),
   (ms0_15 t).view.read (Elt F) ((ms0_15 t).view.writes (Elt F) ((hs0_15 t).unread p.2.2.2.2.2.1) (runB m c t h0 h1 p).2.2.2.2.2.1),
   VS0_0.read (Elt F) (VS0_0.writes (Elt F) VS0_0.junk (runB m c t h0 h1 p).2.2.2.2.2.2.1),
   VS0_1.read (Elt F) (VS0_1.writes (Elt F) VS0_1.junk (runB m c t h0 h1 p).2.2.2.2.2.2.2.1))

/-- The body's run at the first point of a later batch, after contents `p`. -/
def runC (c : Dev nD) (t : Fin cfg0.N) (h0 : t.val % 16 = 0) (h1 : ¬t.val % 32 = 0) (p : Held F) := kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) ((hcond0_0 t).mpr h0) (fun h => h1 ((hcond0_1 t).mp h)) (X0_0 m c t) (X0_1 m c t) (iblk m c 2 t) (iblk m c 3 t) (iblk m c 4 t) (iblk m c 5 t) (iblk m c 6 t) (iblk m c 7 t) (iblk m c 8 t) (iblk m c 9 t) p.2.2.2.1 p.2.2.2.2.1 p.2.2.2.2.2.1

/-- What the first point of a later batch leaves. -/
def leftC (c : Dev nD) (t : Fin cfg0.N) (h0 : t.val % 16 = 0) (h1 : ¬t.val % 32 = 0) (p : Held F) : Held F :=
  (VO0_10.read (Elt F) (VO0_10.writes (Elt F) VO0_10.junk (runC m c t h0 h1 p).1),
   VO0_11.read (Elt F) (VO0_11.writes (Elt F) VO0_11.junk (runC m c t h0 h1 p).2.1),
   VO0_12.read (Elt F) (VO0_12.writes (Elt F) VO0_12.junk (runC m c t h0 h1 p).2.2.1),
   (ms0_13 t).view.read (Elt F) ((ms0_13 t).view.writes (Elt F) ((hs0_13 t).unread p.2.2.2.1) (runC m c t h0 h1 p).2.2.2.1),
   (ms0_14 t).view.read (Elt F) ((ms0_14 t).view.writes (Elt F) ((hs0_14 t).unread p.2.2.2.2.1) (runC m c t h0 h1 p).2.2.2.2.1),
   (ms0_15 t).view.read (Elt F) ((ms0_15 t).view.writes (Elt F) ((hs0_15 t).unread p.2.2.2.2.2.1) (runC m c t h0 h1 p).2.2.2.2.2.1),
   VS0_0.read (Elt F) (VS0_0.writes (Elt F) VS0_0.junk (runC m c t h0 h1 p).2.2.2.2.2.2.1),
   VS0_1.read (Elt F) (VS0_1.writes (Elt F) VS0_1.junk (runC m c t h0 h1 p).2.2.2.2.2.2.2.1))

/-- The stores of the grid's first point cover window 10's block. -/
theorem cover_A_10 (c : Dev nD) (t : Fin cfg0.N) (h0 : t.val % 16 = 0) (h1 : t.val % 32 = 0) (y : S256x4096.Idx) : ∃ pc ∈ (runA m c t h0 h1).1, y ∈ pc.1.set :=
  View.cover_of_tiledBy (runA m c t h0 h1).1 ![32, 128] (by sl_kernel_rfl) y

/-- The stores of the grid's first point cover window 11's block. -/
theorem cover_A_11 (c : Dev nD) (t : Fin cfg0.N) (h0 : t.val % 16 = 0) (h1 : t.val % 32 = 0) (y : S256x512.Idx) : ∃ pc ∈ (runA m c t h0 h1).2.1, y ∈ pc.1.set :=
  View.cover_of_tiledBy (runA m c t h0 h1).2.1 ![256, 128] (by sl_kernel_rfl) y

/-- The stores of the grid's first point cover window 12's block. -/
theorem cover_A_12 (c : Dev nD) (t : Fin cfg0.N) (h0 : t.val % 16 = 0) (h1 : t.val % 32 = 0) (y : S256x512.Idx) : ∃ pc ∈ (runA m c t h0 h1).2.2.1, y ∈ pc.1.set :=
  View.cover_of_tiledBy (runA m c t h0 h1).2.2.1 ![256, 128] (by sl_kernel_rfl) y

/-- The stores of the grid's first point cover window 13's block. -/
theorem cover_A_13 (c : Dev nD) (t : Fin cfg0.N) (h0 : t.val % 16 = 0) (h1 : t.val % 32 = 0) (y : S8x512.Idx) : ∃ pc ∈ (runA m c t h0 h1).2.2.2.1, y ∈ pc.1.set :=
  View.cover_of_tiledBy (runA m c t h0 h1).2.2.2.1 ![1, 512] (by sl_kernel_rfl) y

/-- The stores of the grid's first point cover window 14's block. -/
theorem cover_A_14 (c : Dev nD) (t : Fin cfg0.N) (h0 : t.val % 16 = 0) (h1 : t.val % 32 = 0) (y : S8x128.Idx) : ∃ pc ∈ (runA m c t h0 h1).2.2.2.2.1, y ∈ pc.1.set :=
  View.cover_of_tiledBy (runA m c t h0 h1).2.2.2.2.1 ![1, 128] (by sl_kernel_rfl) y

/-- The stores of the grid's first point cover window 15's block. -/
theorem cover_A_15 (c : Dev nD) (t : Fin cfg0.N) (h0 : t.val % 16 = 0) (h1 : t.val % 32 = 0) (y : S8x512.Idx) : ∃ pc ∈ (runA m c t h0 h1).2.2.2.2.2.1, y ∈ pc.1.set :=
  View.cover_of_tiledBy (runA m c t h0 h1).2.2.2.2.2.1 ![1, 128] (by sl_kernel_rfl) y

/-- The stores of the grid's first point cover scratch 0. -/
theorem scover_A_0 (c : Dev nD) (t : Fin cfg0.N) (h0 : t.val % 16 = 0) (h1 : t.val % 32 = 0) (y : S4x128x128.Idx) : ∃ pc ∈ (runA m c t h0 h1).2.2.2.2.2.2.1, y ∈ pc.1.set :=
  View.cover_of_wholeMem (runA m c t h0 h1).2.2.2.2.2.2.1 (by sl_whole_mem) y

/-- The stores of the grid's first point cover scratch 1. -/
theorem scover_A_1 (c : Dev nD) (t : Fin cfg0.N) (h0 : t.val % 16 = 0) (h1 : t.val % 32 = 0) (y : S8x512.Idx) : ∃ pc ∈ (runA m c t h0 h1).2.2.2.2.2.2.2.1, y ∈ pc.1.set :=
  View.cover_of_tiledL (runA m c t h0 h1).2.2.2.2.2.2.2.1 S8x512.size (by sl_kernel_rfl) y

/-- The stores of a point that goes on in its batch cover window 10's block. -/
theorem cover_B_10 (c : Dev nD) (t : Fin cfg0.N) (h0 : ¬t.val % 16 = 0) (h1 : ¬t.val % 32 = 0) (p : Held F) (y : S256x4096.Idx) : ∃ pc ∈ (runB m c t h0 h1 p).1, y ∈ pc.1.set :=
  View.cover_of_tiledBy (runB m c t h0 h1 p).1 ![32, 128] (by sl_kernel_rfl) y

/-- The stores of a point that goes on in its batch cover window 11's block. -/
theorem cover_B_11 (c : Dev nD) (t : Fin cfg0.N) (h0 : ¬t.val % 16 = 0) (h1 : ¬t.val % 32 = 0) (p : Held F) (y : S256x512.Idx) : ∃ pc ∈ (runB m c t h0 h1 p).2.1, y ∈ pc.1.set :=
  View.cover_of_tiledL (runB m c t h0 h1 p).2.1 S256x128.size (by sl_kernel_rfl) y

/-- The stores of a point that goes on in its batch cover window 12's block. -/
theorem cover_B_12 (c : Dev nD) (t : Fin cfg0.N) (h0 : ¬t.val % 16 = 0) (h1 : ¬t.val % 32 = 0) (p : Held F) (y : S256x512.Idx) : ∃ pc ∈ (runB m c t h0 h1 p).2.2.1, y ∈ pc.1.set :=
  View.cover_of_tiledL (runB m c t h0 h1 p).2.2.1 S256x128.size (by sl_kernel_rfl) y

/-- The stores of a point that goes on in its batch cover scratch 0. -/
theorem scover_B_0 (c : Dev nD) (t : Fin cfg0.N) (h0 : ¬t.val % 16 = 0) (h1 : ¬t.val % 32 = 0) (p : Held F) (y : S4x128x128.Idx) : ∃ pc ∈ (runB m c t h0 h1 p).2.2.2.2.2.2.1, y ∈ pc.1.set :=
  View.cover_of_tiledL (runB m c t h0 h1 p).2.2.2.2.2.2.1 S1x128x128.size (by sl_kernel_rfl) y

/-- The stores of a point that goes on in its batch cover scratch 1. -/
theorem scover_B_1 (c : Dev nD) (t : Fin cfg0.N) (h0 : ¬t.val % 16 = 0) (h1 : ¬t.val % 32 = 0) (p : Held F) (y : S8x512.Idx) : ∃ pc ∈ (runB m c t h0 h1 p).2.2.2.2.2.2.2.1, y ∈ pc.1.set :=
  View.cover_of_tiledL (runB m c t h0 h1 p).2.2.2.2.2.2.2.1 S8x512.size (by sl_kernel_rfl) y

/-- The stores of a later batch's first point cover window 10's block. -/
theorem cover_C_10 (c : Dev nD) (t : Fin cfg0.N) (h0 : t.val % 16 = 0) (h1 : ¬t.val % 32 = 0) (p : Held F) (y : S256x4096.Idx) : ∃ pc ∈ (runC m c t h0 h1 p).1, y ∈ pc.1.set :=
  View.cover_of_tiledBy (runC m c t h0 h1 p).1 ![32, 128] (by sl_kernel_rfl) y

/-- The stores of a later batch's first point cover window 11's block. -/
theorem cover_C_11 (c : Dev nD) (t : Fin cfg0.N) (h0 : t.val % 16 = 0) (h1 : ¬t.val % 32 = 0) (p : Held F) (y : S256x512.Idx) : ∃ pc ∈ (runC m c t h0 h1 p).2.1, y ∈ pc.1.set :=
  View.cover_of_tiledBy (runC m c t h0 h1 p).2.1 ![256, 128] (by sl_kernel_rfl) y

/-- The stores of a later batch's first point cover window 12's block. -/
theorem cover_C_12 (c : Dev nD) (t : Fin cfg0.N) (h0 : t.val % 16 = 0) (h1 : ¬t.val % 32 = 0) (p : Held F) (y : S256x512.Idx) : ∃ pc ∈ (runC m c t h0 h1 p).2.2.1, y ∈ pc.1.set :=
  View.cover_of_tiledBy (runC m c t h0 h1 p).2.2.1 ![256, 128] (by sl_kernel_rfl) y

/-- The stores of a later batch's first point cover scratch 0. -/
theorem scover_C_0 (c : Dev nD) (t : Fin cfg0.N) (h0 : t.val % 16 = 0) (h1 : ¬t.val % 32 = 0) (p : Held F) (y : S4x128x128.Idx) : ∃ pc ∈ (runC m c t h0 h1 p).2.2.2.2.2.2.1, y ∈ pc.1.set :=
  View.cover_of_wholeMem (runC m c t h0 h1 p).2.2.2.2.2.2.1 (by sl_whole_mem) y

/-- The stores of a later batch's first point cover scratch 1. -/
theorem scover_C_1 (c : Dev nD) (t : Fin cfg0.N) (h0 : t.val % 16 = 0) (h1 : ¬t.val % 32 = 0) (p : Held F) (y : S8x512.Idx) : ∃ pc ∈ (runC m c t h0 h1 p).2.2.2.2.2.2.2.1, y ∈ pc.1.set :=
  View.cover_of_tiledL (runC m c t h0 h1 p).2.2.2.2.2.2.2.1 S8x512.size (by sl_kernel_rfl) y

end Cert.Kernel2Ideal.Mixer

end
-- ==== Proof.Mixer.Points.lean ====
module

public import proofs.«01_k».proof.Proof.Mixer.Runs

@[expose] public section

set_option maxRecDepth 16384
set_option Elab.async false

noncomputable section

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Mixer

variable {F : FTy → Type} [FloatOps F]
variable (m : (ℓ : Loc nD τ sig) → Buf (Elt F) ℓ) (ρ : Dev nD → PrngReg)

/-- What the body leaves at point `n`, from what the point before left. -/
def outsAt0 (c : Dev nD) : (n : ℕ) → n < cfg0.N → Held F
  | 0, hn => leftA m c ⟨0, hn⟩ (Nat.zero_mod _) (Nat.zero_mod _)
  | n + 1, hn =>
    if h0 : (n + 1) % 16 = 0 then
      if h1 : (n + 1) % 32 = 0 then leftA m c ⟨n + 1, hn⟩ h0 h1
      else leftC m c ⟨n + 1, hn⟩ h0 h1 (outsAt0 c n (Nat.lt_of_succ_lt hn))
    else
      if h1 : (n + 1) % 32 = 0 then False.elim (by omega)
      else leftB m c ⟨n + 1, hn⟩ h0 h1 (outsAt0 c n (Nat.lt_of_succ_lt hn))

/-- At the first point. -/
theorem outsAt0_A (c : Dev nD) (t : Fin cfg0.N) (h0 : t.val % 16 = 0) (h1 : t.val % 32 = 0) : outsAt0 m c t.val t.isLt = leftA m c t h0 h1 := by
  obtain ⟨n, hn⟩ := t
  cases n with
  | zero => rfl
  | succ n => exact (dif_pos h0).trans (dif_pos h1)

/-- At a point inside a batch. -/
theorem outsAt0_B (c : Dev nD) (t : Fin cfg0.N) (h0 : ¬t.val % 16 = 0) (h1 : ¬t.val % 32 = 0) : outsAt0 m c t.val t.isLt = leftB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

/-- At the first point of a later batch. -/
theorem outsAt0_C (c : Dev nD) (t : Fin cfg0.N) (h0 : t.val % 16 = 0) (h1 : ¬t.val % 32 = 0) : outsAt0 m c t.val t.isLt = leftC m c t h0 h1 (outsAt0 m c (t.val - 1) (Nat.lt_of_le_of_lt (Nat.sub_le _ _) t.isLt)) := by
  obtain ⟨n, hn⟩ := t
  cases n with
  | zero => exact absurd (Nat.zero_mod _) h1
  | succ n => exact (dif_pos h0).trans (dif_neg h1)

/-- The region invariant before position `n` with a scratch the kernel CARRIES between points: before the first point the
    class's (every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)) ∗ (∃ r, prngReg c r))

/-- Before the first point the scratches hold anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨_ + 16, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
/-- What the body leaves in window 1's block. -/
theorem after0_1 (c : Dev nD) (t : Fin cfg0.N) : (dats m 0 c).after 1 t = X0_1 m c t := by dsimp only [dats]
/-- What the body leaves in window 2's block. -/
theorem after0_2 (c : Dev nD) (t : Fin cfg0.N) : (dats m 0 c).after 2 t = iblk m c 2 t := by dsimp only [dats]
/-- What the body leaves in window 3's block. -/
theorem after0_3 (c : Dev nD) (t : Fin cfg0.N) : (dats m 0 c).after 3 t = iblk m c 3 t := by dsimp only [dats]
/-- What the body leaves in window 4's block. -/
theorem after0_4 (c : Dev nD) (t : Fin cfg0.N) : (dats m 0 c).after 4 t = iblk m c 4 t := by dsimp only [dats]
/-- What the body leaves in window 5's block. -/
theorem after0_5 (c : Dev nD) (t : Fin cfg0.N) : (dats m 0 c).after 5 t = iblk m c 5 t := by dsimp only [dats]
/-- What the body leaves in window 6's block. -/
theorem after0_6 (c : Dev nD) (t : Fin cfg0.N) : (dats m 0 c).after 6 t = iblk m c 6 t := by dsimp only [dats]
/-- What the body leaves in window 7's block. -/
theorem after0_7 (c : Dev nD) (t : Fin cfg0.N) : (dats m 0 c).after 7 t = iblk m c 7 t := by dsimp only [dats]
/-- What the body leaves in window 8's block. -/
theorem after0_8 (c : Dev nD) (t : Fin cfg0.N) : (dats m 0 c).after 8 t = iblk m c 8 t := by dsimp only [dats]
/-- What the body leaves in window 9's block. -/
theorem after0_9 (c : Dev nD) (t : Fin cfg0.N) : (dats m 0 c).after 9 t = iblk m c 9 t := by dsimp only [dats]
/-- What the body leaves in window 10's block. -/
theorem after0_10 (c : Dev nD) (t : Fin cfg0.N) : (dats m 0 c).after 10 t = (outsAt0 m c t.val t.isLt).1 := by dsimp only [dats]
/-- What the body leaves in window 11's block. -/
theorem after0_11 (c : Dev nD) (t : Fin cfg0.N) : (dats m 0 c).after 11 t = (outsAt0 m c t.val t.isLt).2.1 := by dsimp only [dats]
/-- What the body leaves in window 12's block. -/
theorem after0_12 (c : Dev nD) (t : Fin cfg0.N) : (dats m 0 c).after 12 t = (outsAt0 m c t.val t.isLt).2.2.1 := by dsimp only [dats]
/-- What the body leaves in window 13's block. -/
theorem after0_13 (c : Dev nD) (t : Fin cfg0.N) : (dats m 0 c).after 13 t = (outsAt0 m c t.val t.isLt).2.2.2.1 := by dsimp only [dats]
/-- What the body leaves in window 14's block. -/
theorem after0_14 (c : Dev nD) (t : Fin cfg0.N) : (dats m 0 c).after 14 t = (outsAt0 m c t.val t.isLt).2.2.2.2.1 := by dsimp only [dats]
/-- What the body leaves in window 15's block. -/
theorem after0_15 (c : Dev nD) (t : Fin cfg0.N) : (dats m 0 c).after 15 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
/-- What the body finds in window 1's block. -/
theorem before0_1 (c : Dev nD) (t : Fin cfg0.N) (d) : (dats m 0 c).before 1 t d = X0_1 m c t :=
  before0_1_of m (dats m 0 c) (A_eq m c 1) (after0_1 m c) t d
/-- What the body finds in window 2's block. -/
theorem before0_2 (c : Dev nD) (t : Fin cfg0.N) (d) : (dats m 0 c).before 2 t d = iblk m c 2 t :=
  before0_2_of m (dats m 0 c) (A_eq m c 2) (after0_2 m c) t d
/-- What the body finds in window 3's block. -/
theorem before0_3 (c : Dev nD) (t : Fin cfg0.N) (d) : (dats m 0 c).before 3 t d = iblk m c 3 t :=
  before0_3_of m (dats m 0 c) (A_eq m c 3) (after0_3 m c) t d
/-- What the body finds in window 4's block. -/
theorem before0_4 (c : Dev nD) (t : Fin cfg0.N) (d) : (dats m 0 c).before 4 t d = iblk m c 4 t :=
  before0_4_of m (dats m 0 c) (A_eq m c 4) (after0_4 m c) t d
/-- What the body finds in window 5's block. -/
theorem before0_5 (c : Dev nD) (t : Fin cfg0.N) (d) : (dats m 0 c).before 5 t d = iblk m c 5 t :=
  before0_5_of m (dats m 0 c) (A_eq m c 5) (after0_5 m c) t d
/-- What the body finds in window 6's block. -/
theorem before0_6 (c : Dev nD) (t : Fin cfg0.N) (d) : (dats m 0 c).before 6 t d = iblk m c 6 t :=
  before0_6_of m (dats m 0 c) (A_eq m c 6) (after0_6 m c) t d
/-- What the body finds in window 7's block. -/
theorem before0_7 (c : Dev nD) (t : Fin cfg0.N) (d) : (dats m 0 c).before 7 t d = iblk m c 7 t :=
  before0_7_of m (dats m 0 c) (A_eq m c 7) (after0_7 m c) t d
/-- What the body finds in window 8's block. -/
theorem before0_8 (c : Dev nD) (t : Fin cfg0.N) (d) : (dats m 0 c).before 8 t d = iblk m c 8 t :=
  before0_8_of m (dats m 0 c) (A_eq m c 8) (after0_8 m c) t d
/-- What the body finds in window 9's block. -/
theorem before0_9 (c : Dev nD) (t : Fin cfg0.N) (d) : (dats m 0 c).before 9 t d = iblk m c 9 t :=
  before0_9_of m (dats m 0 c) (A_eq m c 9) (after0_9 m c) t d
/-- At a point of case B output 11's current staging buffer holds what the body left at the point before: the point is
    not the first, the buffer was not written back between (`flush0_11`), the window is live and uncut. -/
theorem before0_11_B (c : Dev nD) (t : Fin cfg0.N) (h0 : ¬t.val % 16 = 0) (h1 : ¬t.val % 32 = 0) (d) :
    (dats m 0 c).before 11 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case B output 12's current staging buffer holds what the body left at the point before: the point is
    not the first, the buffer was not written back between (`flush0_12`), the window is live and uncut. -/
theorem before0_12_B (c : Dev nD) (t : Fin cfg0.N) (h0 : ¬t.val % 16 = 0) (h1 : ¬t.val % 32 = 0) (d) :
    (dats m 0 c).before 12 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
/-- At a point of case B output 13's current staging buffer holds what the body left at the point before: the point is
    not the first, the buffer was not written back between (`flush0_13`), the window is live and uncut. -/
theorem before0_13_B (c : Dev nD) (t : Fin cfg0.N) (h0 : ¬t.val % 16 = 0) (h1 : ¬t.val % 32 = 0) (d) :
    (dats m 0 c).before 13 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point of case B output 14's current staging buffer holds what the body left at the point before: the point is
    not the first, the buffer was not written back between (`flush0_14`), the window is live and uncut. -/
theorem before0_14_B (c : Dev nD) (t : Fin cfg0.N) (h0 : ¬t.val % 16 = 0) (h1 : ¬t.val % 32 = 0) (d) :
    (dats m 0 c).before 14 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case B output 15's current staging buffer holds what the body left at the point before: the point is
    not the first, the buffer was not written back between (`flush0_15`), the window is live and uncut. -/
theorem before0_15_B (c : Dev nD) (t : Fin cfg0.N) (h0 : ¬t.val % 16 = 0) (h1 : ¬t.val % 32 = 0) (d) :
    (dats m 0 c).before 15 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
/-- At a point of case C output 13's current staging buffer holds what the body left at the point before: the point is
    not the first, the buffer was not written back between (`flush0_13`), the window is live and uncut. -/
theorem before0_13_C (c : Dev nD) (t : Fin cfg0.N) (h0 : t.val % 16 = 0) (h1 : ¬t.val % 32 = 0) (d) :
    (dats m 0 c).before 13 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point of case C output 14's current staging buffer holds what the body left at the point before: the point is
    not the first, the buffer was not written back between (`flush0_14`), the window is live and uncut. -/
theorem before0_14_C (c : Dev nD) (t : Fin cfg0.N) (h0 : t.val % 16 = 0) (h1 : ¬t.val % 32 = 0) (d) :
    (dats m 0 c).before 14 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case C output 15's current staging buffer holds what the body left at the point before: the point is
    not the first, the buffer was not written back between (`flush0_15`), the window is live and uncut. -/
theorem before0_15_C (c : Dev nD) (t : Fin cfg0.N) (h0 : t.val % 16 = 0) (h1 : ¬t.val % 32 = 0) (d) :
    (dats m 0 c).before 15 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]

/-! ## The body obligation, at a generic point -/

/-- What the body is called with at point `t` (the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

end Cert.Kernel2Ideal.Mixer

end
-- ==== Proof.Mixer.Body.lean ====
module

public import proofs.«01_k».proof.Proof.Mixer.Runs

@[expose] public section

set_option maxRecDepth 16384
set_option Elab.async false

noncomputable section

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Mixer

variable {F : FTy → Type} [FloatOps F]
variable (m : (ℓ : Loc nD τ sig) → Buf (Elt F) ℓ) (ρ : Dev nD → PrngReg)

/-- At the first point: a run that leaves stores covering the results' blocks leaves the blocks those stores make. -/
theorem bodyOfA (c : Dev nD) (i : grid0.Coords) (arg2 : Memref sig .tc .vmem S256x4096 .bf16) (harg2 : arg2.IsWhole) (arg3 : Memref sig .tc .vmem S16x4096 .bf16) (harg3 : arg3.IsWhole) (arg4 : Memref sig .tc .vmem S256x1536 .bf16) (harg4 : arg4.IsWhole) (arg6 : Memref sig .tc .vmem S8x4x128x128 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S1x512 .f32) (harg10 : arg10.IsWhole) (arg11 : Memref sig .tc .vmem S3x512 .f32) (harg11 : arg11.IsWhole) (arg12 : Memref sig .tc .vmem S1x128 .f32) (harg12 : arg12.IsWhole) (arg13 : Memref sig .tc .vmem S256x4096 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S8x512 .f32) (harg16 : arg16.IsWhole) (arg17 : Memref sig .tc .vmem S8x128 .f32) (harg17 : arg17.IsWhole) (arg18 : Memref sig .tc .vmem S8x512 .f32) (harg18 : arg18.IsWhole) (arg19 : Memref sig .tc .vmem S4x128x128 .f32) (harg19 : arg19.IsWhole) (arg20 : Memref sig .tc .vmem S8x512 .f32) (harg20 : arg20.IsWhole) (arg21 : Memref sig .tc .vmem S16x512 .f32) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S8x512 .f32) (harg32 : arg32.IsWhole) (arg33 : Memref sig .tc .vmem S8x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S256x512 .f32) (harg36 : arg36.IsWhole) (arg37 : Memref sig .tc .vmem S256x512 .f32) (harg37 : arg37.IsWhole) (arg38 : Memref sig .tc .vmem S256x512 .f32) (harg38 : arg38.IsWhole) (arg39 : Memref sig .tc .vmem S256x512 .f32) (harg39 : arg39.IsWhole) (arg40 : Memref sig .tc .vmem S256x512 .f32) (harg40 : arg40.IsWhole) (arg41 : Memref sig .tc .vmem S256x512 .f32) (harg41 : arg41.IsWhole) (arg42 : Memref sig .tc .vmem S256x512 .f32) (harg42 : arg42.IsWhole) (hc0 : cond0_0 i) (hc1 : cond0_1 i)
    (x0 : Vec F S256x4096 .bf16) (x1 : Vec F S16x4096 .bf16) (x2 : Vec F S256x1536 .bf16) (x3 : Vec F S8x4x128x128 .f32) (x4 : Vec F S256x512 .f32) (x5 : Vec F S256x512 .bf16) (x6 : Vec F S256x512 .bf16) (x7 : Vec F S1x512 .f32) (x8 : Vec F S3x512 .f32) (x9 : Vec F S1x128 .f32)
    (L10 : List (View.Piece (Elt F) S256x4096 .bf16)) (L11 : List (View.Piece (Elt F) S256x512 .f32)) (L12 : List (View.Piece (Elt F) S256x512 .f32)) (L13 : List (View.Piece (Elt F) S8x512 .f32)) (L14 : List (View.Piece (Elt F) S8x128 .f32)) (L15 : List (View.Piece (Elt F) S8x512 .f32)) (LS0 : List (View.Piece (Elt F) S4x128x128 .f32)) (LS1 : List (View.Piece (Elt F) S8x512 .f32)) (LT2 : List (View.Piece (Elt F) S16x512 .f32)) (LT3 : List (View.Piece (Elt F) S256x512 .bf16)) (LT4 : List (View.Piece (Elt F) S256x512 .bf16)) (LT5 : List (View.Piece (Elt F) S256x512 .bf16)) (LT6 : List (View.Piece (Elt F) S256x512 .bf16)) (LT7 : List (View.Piece (Elt F) S256x512 .bf16)) (LT8 : List (View.Piece (Elt F) S256x512 .f32)) (LT9 : List (View.Piece (Elt F) S256x512 .f32)) (LT10 : List (View.Piece (Elt F) S256x512 .f32)) (LT11 : List (View.Piece (Elt F) S256x512 .f32)) (LT12 : List (View.Piece (Elt F) S256x512 .f32)) (LT13 : List (View.Piece (Elt F) S8x512 .f32)) (LT14 : List (View.Piece (Elt F) S8x512 .f32)) (LT15 : List (View.Piece (Elt F) S256x512 .f32)) (LT16 : List (View.Piece (Elt F) S256x512 .f32)) (LT17 : List (View.Piece (Elt F) S256x512 .f32)) (LT18 : List (View.Piece (Elt F) S256x512 .f32)) (LT19 : List (View.Piece (Elt F) S256x512 .f32)) (LT20 : List (View.Piece (Elt F) S256x512 .f32)) (LT21 : List (View.Piece (Elt F) S256x512 .f32)) (LT22 : List (View.Piece (Elt F) S256x512 .f32)) (LT23 : List (View.Piece (Elt F) S256x512 .f32))
    (hrun : ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LT2) ∗ (∃ f, arg22.view.loc (c : Thread nD τ) ↦[arg22.view.set]{fullShare} arg22.view.writes (Elt F) f LT3) ∗ (∃ f, arg23.view.loc (c : Thread nD τ) ↦[arg23.view.set]{fullShare} arg23.view.writes (Elt F) f LT4) ∗ (∃ f, arg24.view.loc (c : Thread nD τ) ↦[arg24.view.set]{fullShare} arg24.view.writes (Elt F) f LT5) ∗ (∃ f, arg25.view.loc (c : Thread nD τ) ↦[arg25.view.set]{fullShare} arg25.view.writes (Elt F) f LT6) ∗ (∃ f, arg26.view.loc (c : Thread nD τ) ↦[arg26.view.set]{fullShare} arg26.view.writes (Elt F) f LT7) ∗ (∃ f, arg27.view.loc (c : Thread nD τ) ↦[arg27.view.set]{fullShare} arg27.view.writes (Elt F) f LT8) ∗ (∃ f, arg28.view.loc (c : Thread nD τ) ↦[arg28.view.set]{fullShare} arg28.view.writes (Elt F) f LT9) ∗ (∃ f, arg29.view.loc (c : Thread nD τ) ↦[arg29.view.set]{fullShare} arg29.view.writes (Elt F) f LT10) ∗ (∃ f, arg30.view.loc (c : Thread nD τ) ↦[arg30.view.set]{fullShare} arg30.view.writes (Elt F) f LT11) ∗ (∃ f, arg31.view.loc (c : Thread nD τ) ↦[arg31.view.set]{fullShare} arg31.view.writes (Elt F) f LT12) ∗ (∃ f, arg32.view.loc (c : Thread nD τ) ↦[arg32.view.set]{fullShare} arg32.view.writes (Elt F) f LT13) ∗ (∃ f, arg33.view.loc (c : Thread nD τ) ↦[arg33.view.set]{fullShare} arg33.view.writes (Elt F) f LT14) ∗ (∃ f, arg34.view.loc (c : Thread nD τ) ↦[arg34.view.set]{fullShare} arg34.view.writes (Elt F) f LT15) ∗ (∃ f, arg35.view.loc (c : Thread nD τ) ↦[arg35.view.set]{fullShare} arg35.view.writes (Elt F) f LT16) ∗ (∃ f, arg36.view.loc (c : Thread nD τ) ↦[arg36.view.set]{fullShare} arg36.view.writes (Elt F) f LT17) ∗ (∃ f, arg37.view.loc (c : Thread nD τ) ↦[arg37.view.set]{fullShare} arg37.view.writes (Elt F) f LT18) ∗ (∃ f, arg38.view.loc (c : Thread nD τ) ↦[arg38.view.set]{fullShare} arg38.view.writes (Elt F) f LT19) ∗ (∃ f, arg39.view.loc (c : Thread nD τ) ↦[arg39.view.set]{fullShare} arg39.view.writes (Elt F) f LT20) ∗ (∃ f, arg40.view.loc (c : Thread nD τ) ↦[arg40.view.set]{fullShare} arg40.view.writes (Elt F) f LT21) ∗ (∃ f, arg41.view.loc (c : Thread nD τ) ↦[arg41.view.set]{fullShare} arg41.view.writes (Elt F) f LT22) ∗ (∃ f, arg42.view.loc (c : Thread nD τ) ↦[arg42.view.set]{fullShare} arg42.view.writes (Elt F) f LT23)) -∗ K ⟨⟩))
          ⊢ wp frame (wpE (defs₀ (F := F)) Variants.none c none) E (cc0_mixer_bwd i arg2 harg2 arg3 harg3 arg4 harg4 (Memref.whole main_arg2) (Memref.isWhole_whole _) arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K)
    (hc10 : ∀ y : S256x4096.Idx, ∃ pc ∈ L10, y ∈ pc.1.set) (hc11 : ∀ y : S256x512.Idx, ∃ pc ∈ L11, y ∈ pc.1.set) (hc12 : ∀ y : S256x512.Idx, ∃ pc ∈ L12, y ∈ pc.1.set) (hc13 : ∀ y : S8x512.Idx, ∃ pc ∈ L13, y ∈ pc.1.set) (hc14 : ∀ y : S8x128.Idx, ∃ pc ∈ L14, y ∈ pc.1.set) (hc15 : ∀ y : S8x512.Idx, ∃ pc ∈ L15, y ∈ pc.1.set) (hcs0 : ∀ y : S4x128x128.Idx, ∃ pc ∈ LS0, y ∈ pc.1.set) (hcs1 : ∀ y : S8x512.Idx, ∃ pc ∈ LS1, y ∈ pc.1.set)
    (E : Set ℕ) (K : PUnit → sProp (MT nD τ sig Unit (Elt F) ℕ (UR sig nD τ) ℕ)) :
      iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (VO0_10.read (Elt F) (VO0_10.writes (Elt F) VO0_10.junk L10)) ∗ owns (c : Thread nD τ) arg14 fullShare (VO0_11.read (Elt F) (VO0_11.writes (Elt F) VO0_11.junk L11)) ∗ owns (c : Thread nD τ) arg15 fullShare (VO0_12.read (Elt F) (VO0_12.writes (Elt F) VO0_12.junk L12)) ∗ owns (c : Thread nD τ) arg16 fullShare (VO0_13.read (Elt F) (VO0_13.writes (Elt F) VO0_13.junk L13)) ∗ owns (c : Thread nD τ) arg17 fullShare (VO0_14.read (Elt F) (VO0_14.writes (Elt F) VO0_14.junk L14)) ∗ owns (c : Thread nD τ) arg18 fullShare (VO0_15.read (Elt F) (VO0_15.writes (Elt F) VO0_15.junk L15)) ∗ owns (c : Thread nD τ) arg19 fullShare (VS0_0.read (Elt F) (VS0_0.writes (Elt F) VS0_0.junk LS0)) ∗ owns (c : Thread nD τ) arg20 fullShare (VS0_1.read (Elt F) (VS0_1.writes (Elt F) VS0_1.junk LS1)) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)) -∗ K ⟨⟩))
          ⊢ wp frame (wpE (defs₀ (F := F)) Variants.none c none) E (cc0_mixer_bwd i arg2 harg2 arg3 harg3 arg4 harg4 (Memref.whole main_arg2) (Memref.isWhole_whole _) arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  iintro ⟨H0, H1, H2, H3, H4, H5, H6, H7, H8, H9, H10, H11, H12, H13, H14, H15, HS0, HS1, HS2, HS3, HS4, HS5, HS6, HS7, HS8, HS9, HS10, HS11, HS12, HS13, HS14, HS15, HS16, HS17, HS18, HS19, HS20, HS21, HS22, HS23, HK⟩
  iapply (hrun E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  iintro ⟨H0, H1, H2, H3, H4, H5, H6, H7, H8, H9, ⟨%fH10, H10⟩, ⟨%fH11, H11⟩, ⟨%fH12, H12⟩, ⟨%fH13, H13⟩, ⟨%fH14, H14⟩, ⟨%fH15, H15⟩, ⟨%fHS0, HS0⟩, ⟨%fHS1, HS1⟩, ⟨%fHS2, HS2⟩, ⟨%fHS3, HS3⟩, ⟨%fHS4, HS4⟩, ⟨%fHS5, HS5⟩, ⟨%fHS6, HS6⟩, ⟨%fHS7, HS7⟩, ⟨%fHS8, HS8⟩, ⟨%fHS9, HS9⟩, ⟨%fHS10, HS10⟩, ⟨%fHS11, HS11⟩, ⟨%fHS12, HS12⟩, ⟨%fHS13, HS13⟩, ⟨%fHS14, HS14⟩, ⟨%fHS15, HS15⟩, ⟨%fHS16, HS16⟩, ⟨%fHS17, HS17⟩, ⟨%fHS18, HS18⟩, ⟨%fHS19, HS19⟩, ⟨%fHS20, HS20⟩, ⟨%fHS21, HS21⟩, ⟨%fHS22, HS22⟩, ⟨%fHS23, HS23⟩⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ hc10
  isplitl [H11]
  · unfold owns; iexists _; isplitr
    swap; · iexact H11
    ipureintro; exact View.read_writes_of_cover _ _ _ _ _ hc11
  isplitl [H12]
  · unfold owns; iexists _; isplitr
    swap; · iexact H12
    ipureintro; exact View.read_writes_of_cover _ _ _ _ _ hc12
  isplitl [H13]
  · unfold owns; iexists _; isplitr
    swap; · iexact H13
    ipureintro; exact View.read_writes_of_cover _ _ _ _ _ hc13
  isplitl [H14]
  · unfold owns; iexists _; isplitr
    swap; · iexact H14
    ipureintro; exact View.read_writes_of_cover _ _ _ _ _ hc14
  isplitl [H15]
  · unfold owns; iexists _; isplitr
    swap; · iexact H15
    ipureintro; exact View.read_writes_of_cover _ _ _ _ _ hc15
  isplitl [HS0]
  · unfold owns; iexists _; isplitr
    swap; · iexact HS0
    ipureintro; exact View.read_writes_of_cover _ _ _ _ _ hcs0
  isplitl [HS1]
  · unfold owns; iexists _; isplitr
    swap; · iexact HS1
    ipureintro; exact View.read_writes_of_cover _ _ _ _ _ hcs1
  isplitl [HS2]
  · iexists _; unfold owns; iexists _; isplitr
    swap; · iexact HS2
    ipureintro; rfl
  isplitl [HS3]
  · iexists _; unfold owns; iexists _; isplitr
    swap; · iexact HS3
    ipureintro; rfl
  isplitl [HS4]
  · iexists _; unfold owns; iexists _; isplitr
    swap; · iexact HS4
    ipureintro; rfl
  isplitl [HS5]
  · iexists _; unfold owns; iexists _; isplitr
    swap; · iexact HS5
    ipureintro; rfl
  isplitl [HS6]
  · iexists _; unfold owns; iexists _; isplitr
    swap; · iexact HS6
    ipureintro; rfl
  isplitl [HS7]
  · iexists _; unfold owns; iexists _; isplitr
    swap; · iexact HS7
    ipureintro; rfl
  isplitl [HS8]
  · iexists _; unfold owns; iexists _; isplitr
    swap; · iexact HS8
    ipureintro; rfl
  isplitl [HS9]
  · iexists _; unfold owns; iexists _; isplitr
    swap; · iexact HS9
    ipureintro; rfl
  isplitl [HS10]
  · iexists _; unfold owns; iexists _; isplitr
    swap; · iexact HS10
    ipureintro; rfl
  isplitl [HS11]
  · iexists _; unfold owns; iexists _; isplitr
    swap; · iexact HS11
    ipureintro; rfl
  isplitl [HS12]
  · iexists _; unfold owns; iexists _; isplitr
    swap; · iexact HS12
    ipureintro; rfl
  isplitl [HS13]
  · iexists _; unfold owns; iexists _; isplitr
    swap; · iexact HS13
    ipureintro; rfl
  isplitl [HS14]
  · iexists _; unfold owns; iexists _; isplitr
    swap; · iexact HS14
    ipureintro; rfl
  isplitl [HS15]
  · iexists _; unfold owns; iexists _; isplitr
    swap; · iexact HS15
    ipureintro; rfl
  isplitl [HS16]
  · iexists _; unfold owns; iexists _; isplitr
    swap; · iexact HS16
    ipureintro; rfl
  isplitl [HS17]
  · iexists _; unfold owns; iexists _; isplitr
    swap; · iexact HS17
    ipureintro; rfl
  isplitl [HS18]
  · iexists _; unfold owns; iexists _; isplitr
    swap; · iexact HS18
    ipureintro; rfl
  isplitl [HS19]
  · iexists _; unfold owns; iexists _; isplitr
    swap; · iexact HS19
    ipureintro; rfl
  isplitl [HS20]
  · iexists _; unfold owns; iexists _; isplitr
    swap; · iexact HS20
    ipureintro; rfl
  isplitl [HS21]
  · iexists _; unfold owns; iexists _; isplitr
    swap; · iexact HS21
    ipureintro; rfl
  isplitl [HS22]
  · iexists _; unfold owns; iexists _; isplitr
    swap; · iexact HS22
    ipureintro; rfl
  iexists _; unfold owns; iexists _; isplitr
  swap; · iexact HS23
  ipureintro; rfl

/-- At a point inside a batch: a run that leaves stores covering the results' blocks leaves the blocks those stores make. -/
theorem bodyOfB (c : Dev nD) (i : grid0.Coords) (arg2 : Memref sig .tc .vmem S256x4096 .bf16) (harg2 : arg2.IsWhole) (arg3 : Memref sig .tc .vmem S16x4096 .bf16) (harg3 : arg3.IsWhole) (arg4 : Memref sig .tc .vmem S256x1536 .bf16) (harg4 : arg4.IsWhole) (arg6 : Memref sig .tc .vmem S8x4x128x128 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S1x512 .f32) (harg10 : arg10.IsWhole) (arg11 : Memref sig .tc .vmem S3x512 .f32) (harg11 : arg11.IsWhole) (arg12 : Memref sig .tc .vmem S1x128 .f32) (harg12 : arg12.IsWhole) (arg13 : Memref sig .tc .vmem S256x4096 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S8x512 .f32) (harg16 : arg16.IsWhole) (arg17 : Memref sig .tc .vmem S8x128 .f32) (harg17 : arg17.IsWhole) (arg18 : Memref sig .tc .vmem S8x512 .f32) (harg18 : arg18.IsWhole) (arg19 : Memref sig .tc .vmem S4x128x128 .f32) (harg19 : arg19.IsWhole) (arg20 : Memref sig .tc .vmem S8x512 .f32) (harg20 : arg20.IsWhole) (arg21 : Memref sig .tc .vmem S16x512 .f32) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S8x512 .f32) (harg32 : arg32.IsWhole) (arg33 : Memref sig .tc .vmem S8x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S256x512 .f32) (harg36 : arg36.IsWhole) (arg37 : Memref sig .tc .vmem S256x512 .f32) (harg37 : arg37.IsWhole) (arg38 : Memref sig .tc .vmem S256x512 .f32) (harg38 : arg38.IsWhole) (arg39 : Memref sig .tc .vmem S256x512 .f32) (harg39 : arg39.IsWhole) (arg40 : Memref sig .tc .vmem S256x512 .f32) (harg40 : arg40.IsWhole) (arg41 : Memref sig .tc .vmem S256x512 .f32) (harg41 : arg41.IsWhole) (arg42 : Memref sig .tc .vmem S256x512 .f32) (harg42 : arg42.IsWhole) (hc0 : ¬cond0_0 i) (hc1 : ¬cond0_1 i)
    (x0 : Vec F S256x4096 .bf16) (x1 : Vec F S16x4096 .bf16) (x2 : Vec F S256x1536 .bf16) (x3 : Vec F S8x4x128x128 .f32) (x4 : Vec F S256x512 .f32) (x5 : Vec F S256x512 .bf16) (x6 : Vec F S256x512 .bf16) (x7 : Vec F S1x512 .f32) (x8 : Vec F S3x512 .f32) (x9 : Vec F S1x128 .f32) (xo11 : Vec F S256x512 .f32) (xo12 : Vec F S256x512 .f32) (xo13 : Vec F S8x512 .f32) (xo14 : Vec F S8x128 .f32) (xo15 : Vec F S8x512 .f32) (xs0 : Vec F S4x128x128 .f32) (xs1 : Vec F S8x512 .f32)
    (L10 : List (View.Piece (Elt F) S256x4096 .bf16)) (L11 : List (View.Piece (Elt F) S256x512 .f32)) (L12 : List (View.Piece (Elt F) S256x512 .f32)) (L13 : List (View.Piece (Elt F) S8x512 .f32)) (L14 : List (View.Piece (Elt F) S8x128 .f32)) (L15 : List (View.Piece (Elt F) S8x512 .f32)) (LS0 : List (View.Piece (Elt F) S4x128x128 .f32)) (LS1 : List (View.Piece (Elt F) S8x512 .f32)) (LT2 : List (View.Piece (Elt F) S16x512 .f32)) (LT3 : List (View.Piece (Elt F) S256x512 .bf16)) (LT4 : List (View.Piece (Elt F) S256x512 .bf16)) (LT5 : List (View.Piece (Elt F) S256x512 .bf16)) (LT6 : List (View.Piece (Elt F) S256x512 .bf16)) (LT7 : List (View.Piece (Elt F) S256x512 .bf16)) (LT8 : List (View.Piece (Elt F) S256x512 .f32)) (LT9 : List (View.Piece (Elt F) S256x512 .f32)) (LT10 : List (View.Piece (Elt F) S256x512 .f32)) (LT11 : List (View.Piece (Elt F) S256x512 .f32)) (LT12 : List (View.Piece (Elt F) S256x512 .f32)) (LT13 : List (View.Piece (Elt F) S8x512 .f32)) (LT14 : List (View.Piece (Elt F) S8x512 .f32)) (LT15 : List (View.Piece (Elt F) S256x512 .f32)) (LT16 : List (View.Piece (Elt F) S256x512 .f32)) (LT17 : List (View.Piece (Elt F) S256x512 .f32)) (LT18 : List (View.Piece (Elt F) S256x512 .f32)) (LT19 : List (View.Piece (Elt F) S256x512 .f32)) (LT20 : List (View.Piece (Elt F) S256x512 .f32)) (LT21 : List (View.Piece (Elt F) S256x512 .f32)) (LT22 : List (View.Piece (Elt F) S256x512 .f32)) (LT23 : List (View.Piece (Elt F) S256x512 .f32))
    (hrun : ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xo11 ∗ owns (c : Thread nD τ) arg15 fullShare xo12 ∗ owns (c : Thread nD τ) arg16 fullShare xo13 ∗ owns (c : Thread nD τ) arg17 fullShare xo14 ∗ owns (c : Thread nD τ) arg18 fullShare xo15 ∗ owns (c : Thread nD τ) arg19 fullShare xs0 ∗ owns (c : Thread nD τ) arg20 fullShare xs1 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (arg16.view.loc (c : Thread nD τ) ↦[arg16.view.set]{fullShare} arg16.view.writes (Elt F) (harg16.unread xo13) L13) ∗ (arg17.view.loc (c : Thread nD τ) ↦[arg17.view.set]{fullShare} arg17.view.writes (Elt F) (harg17.unread xo14) L14) ∗ (arg18.view.loc (c : Thread nD τ) ↦[arg18.view.set]{fullShare} arg18.view.writes (Elt F) (harg18.unread xo15) L15) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LT2) ∗ (∃ f, arg22.view.loc (c : Thread nD τ) ↦[arg22.view.set]{fullShare} arg22.view.writes (Elt F) f LT3) ∗ (∃ f, arg23.view.loc (c : Thread nD τ) ↦[arg23.view.set]{fullShare} arg23.view.writes (Elt F) f LT4) ∗ (∃ f, arg24.view.loc (c : Thread nD τ) ↦[arg24.view.set]{fullShare} arg24.view.writes (Elt F) f LT5) ∗ (∃ f, arg25.view.loc (c : Thread nD τ) ↦[arg25.view.set]{fullShare} arg25.view.writes (Elt F) f LT6) ∗ (∃ f, arg26.view.loc (c : Thread nD τ) ↦[arg26.view.set]{fullShare} arg26.view.writes (Elt F) f LT7) ∗ (∃ f, arg27.view.loc (c : Thread nD τ) ↦[arg27.view.set]{fullShare} arg27.view.writes (Elt F) f LT8) ∗ (∃ f, arg28.view.loc (c : Thread nD τ) ↦[arg28.view.set]{fullShare} arg28.view.writes (Elt F) f LT9) ∗ (∃ f, arg29.view.loc (c : Thread nD τ) ↦[arg29.view.set]{fullShare} arg29.view.writes (Elt F) f LT10) ∗ (∃ f, arg30.view.loc (c : Thread nD τ) ↦[arg30.view.set]{fullShare} arg30.view.writes (Elt F) f LT11) ∗ (∃ f, arg31.view.loc (c : Thread nD τ) ↦[arg31.view.set]{fullShare} arg31.view.writes (Elt F) f LT12) ∗ (∃ f, arg32.view.loc (c : Thread nD τ) ↦[arg32.view.set]{fullShare} arg32.view.writes (Elt F) f LT13) ∗ (∃ f, arg33.view.loc (c : Thread nD τ) ↦[arg33.view.set]{fullShare} arg33.view.writes (Elt F) f LT14) ∗ (∃ f, arg34.view.loc (c : Thread nD τ) ↦[arg34.view.set]{fullShare} arg34.view.writes (Elt F) f LT15) ∗ (∃ f, arg35.view.loc (c : Thread nD τ) ↦[arg35.view.set]{fullShare} arg35.view.writes (Elt F) f LT16) ∗ (∃ f, arg36.view.loc (c : Thread nD τ) ↦[arg36.view.set]{fullShare} arg36.view.writes (Elt F) f LT17) ∗ (∃ f, arg37.view.loc (c : Thread nD τ) ↦[arg37.view.set]{fullShare} arg37.view.writes (Elt F) f LT18) ∗ (∃ f, arg38.view.loc (c : Thread nD τ) ↦[arg38.view.set]{fullShare} arg38.view.writes (Elt F) f LT19) ∗ (∃ f, arg39.view.loc (c : Thread nD τ) ↦[arg39.view.set]{fullShare} arg39.view.writes (Elt F) f LT20) ∗ (∃ f, arg40.view.loc (c : Thread nD τ) ↦[arg40.view.set]{fullShare} arg40.view.writes (Elt F) f LT21) ∗ (∃ f, arg41.view.loc (c : Thread nD τ) ↦[arg41.view.set]{fullShare} arg41.view.writes (Elt F) f LT22) ∗ (∃ f, arg42.view.loc (c : Thread nD τ) ↦[arg42.view.set]{fullShare} arg42.view.writes (Elt F) f LT23)) -∗ K ⟨⟩))
          ⊢ wp frame (wpE (defs₀ (F := F)) Variants.none c none) E (cc0_mixer_bwd i arg2 harg2 arg3 harg3 arg4 harg4 (Memref.whole main_arg2) (Memref.isWhole_whole _) arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K)
    (hc10 : ∀ y : S256x4096.Idx, ∃ pc ∈ L10, y ∈ pc.1.set) (hc11 : ∀ y : S256x512.Idx, ∃ pc ∈ L11, y ∈ pc.1.set) (hc12 : ∀ y : S256x512.Idx, ∃ pc ∈ L12, y ∈ pc.1.set) (hcs0 : ∀ y : S4x128x128.Idx, ∃ pc ∈ LS0, y ∈ pc.1.set) (hcs1 : ∀ y : S8x512.Idx, ∃ pc ∈ LS1, y ∈ pc.1.set)
    (E : Set ℕ) (K : PUnit → sProp (MT nD τ sig Unit (Elt F) ℕ (UR sig nD τ) ℕ)) :
      iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xo11 ∗ owns (c : Thread nD τ) arg15 fullShare xo12 ∗ owns (c : Thread nD τ) arg16 fullShare xo13 ∗ owns (c : Thread nD τ) arg17 fullShare xo14 ∗ owns (c : Thread nD τ) arg18 fullShare xo15 ∗ owns (c : Thread nD τ) arg19 fullShare xs0 ∗ owns (c : Thread nD τ) arg20 fullShare xs1 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (VO0_10.read (Elt F) (VO0_10.writes (Elt F) VO0_10.junk L10)) ∗ owns (c : Thread nD τ) arg14 fullShare (VO0_11.read (Elt F) (VO0_11.writes (Elt F) VO0_11.junk L11)) ∗ owns (c : Thread nD τ) arg15 fullShare (VO0_12.read (Elt F) (VO0_12.writes (Elt F) VO0_12.junk L12)) ∗ owns (c : Thread nD τ) arg16 fullShare (arg16.view.read (Elt F) (arg16.view.writes (Elt F) (harg16.unread xo13) L13)) ∗ owns (c : Thread nD τ) arg17 fullShare (arg17.view.read (Elt F) (arg17.view.writes (Elt F) (harg17.unread xo14) L14)) ∗ owns (c : Thread nD τ) arg18 fullShare (arg18.view.read (Elt F) (arg18.view.writes (Elt F) (harg18.unread xo15) L15)) ∗ owns (c : Thread nD τ) arg19 fullShare (VS0_0.read (Elt F) (VS0_0.writes (Elt F) VS0_0.junk LS0)) ∗ owns (c : Thread nD τ) arg20 fullShare (VS0_1.read (Elt F) (VS0_1.writes (Elt F) VS0_1.junk LS1)) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)) -∗ K ⟨⟩))
          ⊢ wp frame (wpE (defs₀ (F := F)) Variants.none c none) E (cc0_mixer_bwd i arg2 harg2 arg3 harg3 arg4 harg4 (Memref.whole main_arg2) (Memref.isWhole_whole _) arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  iintro ⟨H0, H1, H2, H3, H4, H5, H6, H7, H8, H9, H10, H11, H12, H13, H14, H15, HS0, HS1, HS2, HS3, HS4, HS5, HS6, HS7, HS8, HS9, HS10, HS11, HS12, HS13, HS14, HS15, HS16, HS17, HS18, HS19, HS20, HS21, HS22, HS23, HK⟩
  iapply (hrun E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  iintro ⟨H0, H1, H2, H3, H4, H5, H6, H7, H8, H9, ⟨%fH10, H10⟩, ⟨%fH11, H11⟩, ⟨%fH12, H12⟩, H13, H14, H15, ⟨%fHS0, HS0⟩, ⟨%fHS1, HS1⟩, ⟨%fHS2, HS2⟩, ⟨%fHS3, HS3⟩, ⟨%fHS4, HS4⟩, ⟨%fHS5, HS5⟩, ⟨%fHS6, HS6⟩, ⟨%fHS7, HS7⟩, ⟨%fHS8, HS8⟩, ⟨%fHS9, HS9⟩, ⟨%fHS10, HS10⟩, ⟨%fHS11, HS11⟩, ⟨%fHS12, HS12⟩, ⟨%fHS13, HS13⟩, ⟨%fHS14, HS14⟩, ⟨%fHS15, HS15⟩, ⟨%fHS16, HS16⟩, ⟨%fHS17, HS17⟩, ⟨%fHS18, HS18⟩, ⟨%fHS19, HS19⟩, ⟨%fHS20, HS20⟩, ⟨%fHS21, HS21⟩, ⟨%fHS22, HS22⟩, ⟨%fHS23, HS23⟩⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ hc10
  isplitl [H11]
  · unfold owns; iexists _; isplitr
    swap; · iexact H11
    ipureintro; exact View.read_writes_of_cover _ _ _ _ _ hc11
  isplitl [H12]
  · unfold owns; iexists _; isplitr
    swap; · iexact H12
    ipureintro; exact View.read_writes_of_cover _ _ _ _ _ hc12
  isplitl [H13]
  · unfold owns; iexists _; isplitr
    swap; · iexact H13
    ipureintro; rfl
  isplitl [H14]
  · unfold owns; iexists _; isplitr
    swap; · iexact H14
    ipureintro; rfl
  isplitl [H15]
  · unfold owns; iexists _; isplitr
    swap; · iexact H15
    ipureintro; rfl
  isplitl [HS0]
  · unfold owns; iexists _; isplitr
    swap; · iexact HS0
    ipureintro; exact View.read_writes_of_cover _ _ _ _ _ hcs0
  isplitl [HS1]
  · unfold owns; iexists _; isplitr
    swap; · iexact HS1
    ipureintro; exact View.read_writes_of_cover _ _ _ _ _ hcs1
  isplitl [HS2]
  · iexists _; unfold owns; iexists _; isplitr
    swap; · iexact HS2
    ipureintro; rfl
  isplitl [HS3]
  · iexists _; unfold owns; iexists _; isplitr
    swap; · iexact HS3
    ipureintro; rfl
  isplitl [HS4]
  · iexists _; unfold owns; iexists _; isplitr
    swap; · iexact HS4
    ipureintro; rfl
  isplitl [HS5]
  · iexists _; unfold owns; iexists _; isplitr
    swap; · iexact HS5
    ipureintro; rfl
  isplitl [HS6]
  · iexists _; unfold owns; iexists _; isplitr
    swap; · iexact HS6
    ipureintro; rfl
  isplitl [HS7]
  · iexists _; unfold owns; iexists _; isplitr
    swap; · iexact HS7
    ipureintro; rfl
  isplitl [HS8]
  · iexists _; unfold owns; iexists _; isplitr
    swap; · iexact HS8
    ipureintro; rfl
  isplitl [HS9]
  · iexists _; unfold owns; iexists _; isplitr
    swap; · iexact HS9
    ipureintro; rfl
  isplitl [HS10]
  · iexists _; unfold owns; iexists _; isplitr
    swap; · iexact HS10
    ipureintro; rfl
  isplitl [HS11]
  · iexists _; unfold owns; iexists _; isplitr
    swap; · iexact HS11
    ipureintro; rfl
  isplitl [HS12]
  · iexists _; unfold owns; iexists _; isplitr
    swap; · iexact HS12
    ipureintro; rfl
  isplitl [HS13]
  · iexists _; unfold owns; iexists _; isplitr
    swap; · iexact HS13
    ipureintro; rfl
  isplitl [HS14]
  · iexists _; unfold owns; iexists _; isplitr
    swap; · iexact HS14
    ipureintro; rfl
  isplitl [HS15]
  · iexists _; unfold owns; iexists _; isplitr
    swap; · iexact HS15
    ipureintro; rfl
  isplitl [HS16]
  · iexists _; unfold owns; iexists _; isplitr
    swap; · iexact HS16
    ipureintro; rfl
  isplitl [HS17]
  · iexists _; unfold owns; iexists _; isplitr
    swap; · iexact HS17
    ipureintro; rfl
  isplitl [HS18]
  · iexists _; unfold owns; iexists _; isplitr
    swap; · iexact HS18
    ipureintro; rfl
  isplitl [HS19]
  · iexists _; unfold owns; iexists _; isplitr
    swap; · iexact HS19
    ipureintro; rfl
  isplitl [HS20]
  · iexists _; unfold owns; iexists _; isplitr
    swap; · iexact HS20
    ipureintro; rfl
  isplitl [HS21]
  · iexists _; unfold owns; iexists _; isplitr
    swap; · iexact HS21
    ipureintro; rfl
  isplitl [HS22]
  · iexists _; unfold owns; iexists _; isplitr
    swap; · iexact HS22
    ipureintro; rfl
  iexists _; unfold owns; iexists _; isplitr
  swap; · iexact HS23
  ipureintro; rfl

/-- At the first point of a later batch: a run that leaves stores covering the results' blocks leaves the blocks those stores make. -/
theorem bodyOfC (c : Dev nD) (i : grid0.Coords) (arg2 : Memref sig .tc .vmem S256x4096 .bf16) (harg2 : arg2.IsWhole) (arg3 : Memref sig .tc .vmem S16x4096 .bf16) (harg3 : arg3.IsWhole) (arg4 : Memref sig .tc .vmem S256x1536 .bf16) (harg4 : arg4.IsWhole) (arg6 : Memref sig .tc .vmem S8x4x128x128 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S1x512 .f32) (harg10 : arg10.IsWhole) (arg11 : Memref sig .tc .vmem S3x512 .f32) (harg11 : arg11.IsWhole) (arg12 : Memref sig .tc .vmem S1x128 .f32) (harg12 : arg12.IsWhole) (arg13 : Memref sig .tc .vmem S256x4096 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S8x512 .f32) (harg16 : arg16.IsWhole) (arg17 : Memref sig .tc .vmem S8x128 .f32) (harg17 : arg17.IsWhole) (arg18 : Memref sig .tc .vmem S8x512 .f32) (harg18 : arg18.IsWhole) (arg19 : Memref sig .tc .vmem S4x128x128 .f32) (harg19 : arg19.IsWhole) (arg20 : Memref sig .tc .vmem S8x512 .f32) (harg20 : arg20.IsWhole) (arg21 : Memref sig .tc .vmem S16x512 .f32) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S8x512 .f32) (harg32 : arg32.IsWhole) (arg33 : Memref sig .tc .vmem S8x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S256x512 .f32) (harg36 : arg36.IsWhole) (arg37 : Memref sig .tc .vmem S256x512 .f32) (harg37 : arg37.IsWhole) (arg38 : Memref sig .tc .vmem S256x512 .f32) (harg38 : arg38.IsWhole) (arg39 : Memref sig .tc .vmem S256x512 .f32) (harg39 : arg39.IsWhole) (arg40 : Memref sig .tc .vmem S256x512 .f32) (harg40 : arg40.IsWhole) (arg41 : Memref sig .tc .vmem S256x512 .f32) (harg41 : arg41.IsWhole) (arg42 : Memref sig .tc .vmem S256x512 .f32) (harg42 : arg42.IsWhole) (hc0 : cond0_0 i) (hc1 : ¬cond0_1 i)
    (x0 : Vec F S256x4096 .bf16) (x1 : Vec F S16x4096 .bf16) (x2 : Vec F S256x1536 .bf16) (x3 : Vec F S8x4x128x128 .f32) (x4 : Vec F S256x512 .f32) (x5 : Vec F S256x512 .bf16) (x6 : Vec F S256x512 .bf16) (x7 : Vec F S1x512 .f32) (x8 : Vec F S3x512 .f32) (x9 : Vec F S1x128 .f32) (xo13 : Vec F S8x512 .f32) (xo14 : Vec F S8x128 .f32) (xo15 : Vec F S8x512 .f32)
    (L10 : List (View.Piece (Elt F) S256x4096 .bf16)) (L11 : List (View.Piece (Elt F) S256x512 .f32)) (L12 : List (View.Piece (Elt F) S256x512 .f32)) (L13 : List (View.Piece (Elt F) S8x512 .f32)) (L14 : List (View.Piece (Elt F) S8x128 .f32)) (L15 : List (View.Piece (Elt F) S8x512 .f32)) (LS0 : List (View.Piece (Elt F) S4x128x128 .f32)) (LS1 : List (View.Piece (Elt F) S8x512 .f32)) (LT2 : List (View.Piece (Elt F) S16x512 .f32)) (LT3 : List (View.Piece (Elt F) S256x512 .bf16)) (LT4 : List (View.Piece (Elt F) S256x512 .bf16)) (LT5 : List (View.Piece (Elt F) S256x512 .bf16)) (LT6 : List (View.Piece (Elt F) S256x512 .bf16)) (LT7 : List (View.Piece (Elt F) S256x512 .bf16)) (LT8 : List (View.Piece (Elt F) S256x512 .f32)) (LT9 : List (View.Piece (Elt F) S256x512 .f32)) (LT10 : List (View.Piece (Elt F) S256x512 .f32)) (LT11 : List (View.Piece (Elt F) S256x512 .f32)) (LT12 : List (View.Piece (Elt F) S256x512 .f32)) (LT13 : List (View.Piece (Elt F) S8x512 .f32)) (LT14 : List (View.Piece (Elt F) S8x512 .f32)) (LT15 : List (View.Piece (Elt F) S256x512 .f32)) (LT16 : List (View.Piece (Elt F) S256x512 .f32)) (LT17 : List (View.Piece (Elt F) S256x512 .f32)) (LT18 : List (View.Piece (Elt F) S256x512 .f32)) (LT19 : List (View.Piece (Elt F) S256x512 .f32)) (LT20 : List (View.Piece (Elt F) S256x512 .f32)) (LT21 : List (View.Piece (Elt F) S256x512 .f32)) (LT22 : List (View.Piece (Elt F) S256x512 .f32)) (LT23 : List (View.Piece (Elt F) S256x512 .f32))
    (hrun : ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xo13 ∗ owns (c : Thread nD τ) arg17 fullShare xo14 ∗ owns (c : Thread nD τ) arg18 fullShare xo15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (arg16.view.loc (c : Thread nD τ) ↦[arg16.view.set]{fullShare} arg16.view.writes (Elt F) (harg16.unread xo13) L13) ∗ (arg17.view.loc (c : Thread nD τ) ↦[arg17.view.set]{fullShare} arg17.view.writes (Elt F) (harg17.unread xo14) L14) ∗ (arg18.view.loc (c : Thread nD τ) ↦[arg18.view.set]{fullShare} arg18.view.writes (Elt F) (harg18.unread xo15) L15) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LT2) ∗ (∃ f, arg22.view.loc (c : Thread nD τ) ↦[arg22.view.set]{fullShare} arg22.view.writes (Elt F) f LT3) ∗ (∃ f, arg23.view.loc (c : Thread nD τ) ↦[arg23.view.set]{fullShare} arg23.view.writes (Elt F) f LT4) ∗ (∃ f, arg24.view.loc (c : Thread nD τ) ↦[arg24.view.set]{fullShare} arg24.view.writes (Elt F) f LT5) ∗ (∃ f, arg25.view.loc (c : Thread nD τ) ↦[arg25.view.set]{fullShare} arg25.view.writes (Elt F) f LT6) ∗ (∃ f, arg26.view.loc (c : Thread nD τ) ↦[arg26.view.set]{fullShare} arg26.view.writes (Elt F) f LT7) ∗ (∃ f, arg27.view.loc (c : Thread nD τ) ↦[arg27.view.set]{fullShare} arg27.view.writes (Elt F) f LT8) ∗ (∃ f, arg28.view.loc (c : Thread nD τ) ↦[arg28.view.set]{fullShare} arg28.view.writes (Elt F) f LT9) ∗ (∃ f, arg29.view.loc (c : Thread nD τ) ↦[arg29.view.set]{fullShare} arg29.view.writes (Elt F) f LT10) ∗ (∃ f, arg30.view.loc (c : Thread nD τ) ↦[arg30.view.set]{fullShare} arg30.view.writes (Elt F) f LT11) ∗ (∃ f, arg31.view.loc (c : Thread nD τ) ↦[arg31.view.set]{fullShare} arg31.view.writes (Elt F) f LT12) ∗ (∃ f, arg32.view.loc (c : Thread nD τ) ↦[arg32.view.set]{fullShare} arg32.view.writes (Elt F) f LT13) ∗ (∃ f, arg33.view.loc (c : Thread nD τ) ↦[arg33.view.set]{fullShare} arg33.view.writes (Elt F) f LT14) ∗ (∃ f, arg34.view.loc (c : Thread nD τ) ↦[arg34.view.set]{fullShare} arg34.view.writes (Elt F) f LT15) ∗ (∃ f, arg35.view.loc (c : Thread nD τ) ↦[arg35.view.set]{fullShare} arg35.view.writes (Elt F) f LT16) ∗ (∃ f, arg36.view.loc (c : Thread nD τ) ↦[arg36.view.set]{fullShare} arg36.view.writes (Elt F) f LT17) ∗ (∃ f, arg37.view.loc (c : Thread nD τ) ↦[arg37.view.set]{fullShare} arg37.view.writes (Elt F) f LT18) ∗ (∃ f, arg38.view.loc (c : Thread nD τ) ↦[arg38.view.set]{fullShare} arg38.view.writes (Elt F) f LT19) ∗ (∃ f, arg39.view.loc (c : Thread nD τ) ↦[arg39.view.set]{fullShare} arg39.view.writes (Elt F) f LT20) ∗ (∃ f, arg40.view.loc (c : Thread nD τ) ↦[arg40.view.set]{fullShare} arg40.view.writes (Elt F) f LT21) ∗ (∃ f, arg41.view.loc (c : Thread nD τ) ↦[arg41.view.set]{fullShare} arg41.view.writes (Elt F) f LT22) ∗ (∃ f, arg42.view.loc (c : Thread nD τ) ↦[arg42.view.set]{fullShare} arg42.view.writes (Elt F) f LT23)) -∗ K ⟨⟩))
          ⊢ wp frame (wpE (defs₀ (F := F)) Variants.none c none) E (cc0_mixer_bwd i arg2 harg2 arg3 harg3 arg4 harg4 (Memref.whole main_arg2) (Memref.isWhole_whole _) arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K)
    (hc10 : ∀ y : S256x4096.Idx, ∃ pc ∈ L10, y ∈ pc.1.set) (hc11 : ∀ y : S256x512.Idx, ∃ pc ∈ L11, y ∈ pc.1.set) (hc12 : ∀ y : S256x512.Idx, ∃ pc ∈ L12, y ∈ pc.1.set) (hcs0 : ∀ y : S4x128x128.Idx, ∃ pc ∈ LS0, y ∈ pc.1.set) (hcs1 : ∀ y : S8x512.Idx, ∃ pc ∈ LS1, y ∈ pc.1.set)
    (E : Set ℕ) (K : PUnit → sProp (MT nD τ sig Unit (Elt F) ℕ (UR sig nD τ) ℕ)) :
      iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xo13 ∗ owns (c : Thread nD τ) arg17 fullShare xo14 ∗ owns (c : Thread nD τ) arg18 fullShare xo15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (VO0_10.read (Elt F) (VO0_10.writes (Elt F) VO0_10.junk L10)) ∗ owns (c : Thread nD τ) arg14 fullShare (VO0_11.read (Elt F) (VO0_11.writes (Elt F) VO0_11.junk L11)) ∗ owns (c : Thread nD τ) arg15 fullShare (VO0_12.read (Elt F) (VO0_12.writes (Elt F) VO0_12.junk L12)) ∗ owns (c : Thread nD τ) arg16 fullShare (arg16.view.read (Elt F) (arg16.view.writes (Elt F) (harg16.unread xo13) L13)) ∗ owns (c : Thread nD τ) arg17 fullShare (arg17.view.read (Elt F) (arg17.view.writes (Elt F) (harg17.unread xo14) L14)) ∗ owns (c : Thread nD τ) arg18 fullShare (arg18.view.read (Elt F) (arg18.view.writes (Elt F) (harg18.unread xo15) L15)) ∗ owns (c : Thread nD τ) arg19 fullShare (VS0_0.read (Elt F) (VS0_0.writes (Elt F) VS0_0.junk LS0)) ∗ owns (c : Thread nD τ) arg20 fullShare (VS0_1.read (Elt F) (VS0_1.writes (Elt F) VS0_1.junk LS1)) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)) -∗ K ⟨⟩))
          ⊢ wp frame (wpE (defs₀ (F := F)) Variants.none c none) E (cc0_mixer_bwd i arg2 harg2 arg3 harg3 arg4 harg4 (Memref.whole main_arg2) (Memref.isWhole_whole _) arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  iintro ⟨H0, H1, H2, H3, H4, H5, H6, H7, H8, H9, H10, H11, H12, H13, H14, H15, HS0, HS1, HS2, HS3, HS4, HS5, HS6, HS7, HS8, HS9, HS10, HS11, HS12, HS13, HS14, HS15, HS16, HS17, HS18, HS19, HS20, HS21, HS22, HS23, HK⟩
  iapply (hrun E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  iintro ⟨H0, H1, H2, H3, H4, H5, H6, H7, H8, H9, ⟨%fH10, H10⟩, ⟨%fH11, H11⟩, ⟨%fH12, H12⟩, H13, H14, H15, ⟨%fHS0, HS0⟩, ⟨%fHS1, HS1⟩, ⟨%fHS2, HS2⟩, ⟨%fHS3, HS3⟩, ⟨%fHS4, HS4⟩, ⟨%fHS5, HS5⟩, ⟨%fHS6, HS6⟩, ⟨%fHS7, HS7⟩, ⟨%fHS8, HS8⟩, ⟨%fHS9, HS9⟩, ⟨%fHS10, HS10⟩, ⟨%fHS11, HS11⟩, ⟨%fHS12, HS12⟩, ⟨%fHS13, HS13⟩, ⟨%fHS14, HS14⟩, ⟨%fHS15, HS15⟩, ⟨%fHS16, HS16⟩, ⟨%fHS17, HS17⟩, ⟨%fHS18, HS18⟩, ⟨%fHS19, HS19⟩, ⟨%fHS20, HS20⟩, ⟨%fHS21, HS21⟩, ⟨%fHS22, HS22⟩, ⟨%fHS23, HS23⟩⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ hc10
  isplitl [H11]
  · unfold owns; iexists _; isplitr
    swap; · iexact H11
    ipureintro; exact View.read_writes_of_cover _ _ _ _ _ hc11
  isplitl [H12]
  · unfold owns; iexists _; isplitr
    swap; · iexact H12
    ipureintro; exact View.read_writes_of_cover _ _ _ _ _ hc12
  isplitl [H13]
  · unfold owns; iexists _; isplitr
    swap; · iexact H13
    ipureintro; rfl
  isplitl [H14]
  · unfold owns; iexists _; isplitr
    swap; · iexact H14
    ipureintro; rfl
  isplitl [H15]
  · unfold owns; iexists _; isplitr
    swap; · iexact H15
    ipureintro; rfl
  isplitl [HS0]
  · unfold owns; iexists _; isplitr
    swap; · iexact HS0
    ipureintro; exact View.read_writes_of_cover _ _ _ _ _ hcs0
  isplitl [HS1]
  · unfold owns; iexists _; isplitr
    swap; · iexact HS1
    ipureintro; exact View.read_writes_of_cover _ _ _ _ _ hcs1
  isplitl [HS2]
  · iexists _; unfold owns; iexists _; isplitr
    swap; · iexact HS2
    ipureintro; rfl
  isplitl [HS3]
  · iexists _; unfold owns; iexists _; isplitr
    swap; · iexact HS3
    ipureintro; rfl
  isplitl [HS4]
  · iexists _; unfold owns; iexists _; isplitr
    swap; · iexact HS4
    ipureintro; rfl
  isplitl [HS5]
  · iexists _; unfold owns; iexists _; isplitr
    swap; · iexact HS5
    ipureintro; rfl
  isplitl [HS6]
  · iexists _; unfold owns; iexists _; isplitr
    swap; · iexact HS6
    ipureintro; rfl
  isplitl [HS7]
  · iexists _; unfold owns; iexists _; isplitr
    swap; · iexact HS7
    ipureintro; rfl
  isplitl [HS8]
  · iexists _; unfold owns; iexists _; isplitr
    swap; · iexact HS8
    ipureintro; rfl
  isplitl [HS9]
  · iexists _; unfold owns; iexists _; isplitr
    swap; · iexact HS9
    ipureintro; rfl
  isplitl [HS10]
  · iexists _; unfold owns; iexists _; isplitr
    swap; · iexact HS10
    ipureintro; rfl
  isplitl [HS11]
  · iexists _; unfold owns; iexists _; isplitr
    swap; · iexact HS11
    ipureintro; rfl
  isplitl [HS12]
  · iexists _; unfold owns; iexists _; isplitr
    swap; · iexact HS12
    ipureintro; rfl
  isplitl [HS13]
  · iexists _; unfold owns; iexists _; isplitr
    swap; · iexact HS13
    ipureintro; rfl
  isplitl [HS14]
  · iexists _; unfold owns; iexists _; isplitr
    swap; · iexact HS14
    ipureintro; rfl
  isplitl [HS15]
  · iexists _; unfold owns; iexists _; isplitr
    swap; · iexact HS15
    ipureintro; rfl
  isplitl [HS16]
  · iexists _; unfold owns; iexists _; isplitr
    swap; · iexact HS16
    ipureintro; rfl
  isplitl [HS17]
  · iexists _; unfold owns; iexists _; isplitr
    swap; · iexact HS17
    ipureintro; rfl
  isplitl [HS18]
  · iexists _; unfold owns; iexists _; isplitr
    swap; · iexact HS18
    ipureintro; rfl
  isplitl [HS19]
  · iexists _; unfold owns; iexists _; isplitr
    swap; · iexact HS19
    ipureintro; rfl
  isplitl [HS20]
  · iexists _; unfold owns; iexists _; isplitr
    swap; · iexact HS20
    ipureintro; rfl
  isplitl [HS21]
  · iexists _; unfold owns; iexists _; isplitr
    swap; · iexact HS21
    ipureintro; rfl
  isplitl [HS22]
  · iexists _; unfold owns; iexists _; isplitr
    swap; · iexact HS22
    ipureintro; rfl
  iexists _; unfold owns; iexists _; isplitr
  swap; · iexact HS23
  ipureintro; rfl

end Cert.Kernel2Ideal.Mixer

end
-- ==== Proof.Mixer.BodyAt.lean ====
module

public import proofs.«01_k».proof.Proof.Mixer.Body

@[expose] public section

set_option maxRecDepth 16384
set_option Elab.async false

noncomputable section

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Mixer

variable {F : FTy → Type} [FloatOps F]
variable (m : (ℓ : Loc nD τ sig) → Buf (Elt F) ℓ) (ρ : Dev nD → PrngReg)

attribute [local irreducible] runA runB runC kernelRun0_A kernelRun0_B kernelRun0_C

set_option maxHeartbeats 4000000

/-- The body at the first point. -/
theorem bodyA (c : Dev nD) (t : Fin cfg0.N) (h0 : t.val % 16 = 0) (h1 : t.val % 32 = 0) (E : Set ℕ) (K : PUnit → sProp (MT nD τ sig Unit (Elt F) ℕ (UR sig nD τ) ℕ)) :
      iprop(owns (c : Thread nD τ) (ms0_0 t) fullShare (X0_0 m c t) ∗ owns (c : Thread nD τ) (ms0_1 t) fullShare (X0_1 m c t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)
            ∗ (iprop(owns (c : Thread nD τ) (ms0_0 t) fullShare (X0_0 m c t) ∗ owns (c : Thread nD τ) (ms0_1 t) fullShare (X0_1 m c t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare ((leftA m c t h0 h1).1) ∗ owns (c : Thread nD τ) (ms0_11 t) fullShare ((leftA m c t h0 h1).2.1) ∗ owns (c : Thread nD τ) (ms0_12 t) fullShare ((leftA m c t h0 h1).2.2.1) ∗ owns (c : Thread nD τ) (ms0_13 t) fullShare ((leftA m c t h0 h1).2.2.2.1) ∗ owns (c : Thread nD τ) (ms0_14 t) fullShare ((leftA m c t h0 h1).2.2.2.2.1) ∗ owns (c : Thread nD τ) (ms0_15 t) fullShare ((leftA m c t h0 h1).2.2.2.2.2.1) ∗ owns (c : Thread nD τ) scM0_0 fullShare ((leftA m c t h0 h1).2.2.2.2.2.2.1) ∗ owns (c : Thread nD τ) scM0_1 fullShare ((leftA m c t h0 h1).2.2.2.2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)) -∗ K ⟨⟩))
          ⊢ wp frame (wpE (defs₀ (F := F)) Variants.none c none) E (cc0_mixer_bwd (grid0.coords t) (ms0_0 t) (hs0_0 t) (ms0_1 t) (hs0_1 t) (ms0_2 t) (hs0_2 t) (Memref.whole main_arg2) (Memref.isWhole_whole _) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _)) K :=
  bodyOfA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) ((hcond0_0 t).mpr h0) ((hcond0_1 t).mpr h1) (X0_0 m c t) (X0_1 m c t) (iblk m c 2 t) (iblk m c 3 t) (iblk m c 4 t) (iblk m c 5 t) (iblk m c 6 t) (iblk m c 7 t) (iblk m c 8 t) (iblk m c 9 t)
    _ _ _ _ _ _ _ _ _ _ _ _ _ _ _ _ _ _ _ _ _ _ _ _ _ _ _ _ _ _ (runA m c t h0 h1).2.2.2.2.2.2.2.2.2.2.2.2.2.2.2.2.2.2.2.2.2.2.2.2.2.2.2.2.2.2 (cover_A_10 m c t h0 h1) (cover_A_11 m c t h0 h1) (cover_A_12 m c t h0 h1) (cover_A_13 m c t h0 h1) (cover_A_14 m c t h0 h1) (cover_A_15 m c t h0 h1) (scover_A_0 m c t h0 h1) (scover_A_1 m c t h0 h1) E K

/-- The body at a point inside a batch. -/
theorem bodyB (c : Dev nD) (t : Fin cfg0.N) (h0 : ¬t.val % 16 = 0) (h1 : ¬t.val % 32 = 0) (p : Held F) (E : Set ℕ) (K : PUnit → sProp (MT nD τ sig Unit (Elt F) ℕ (UR sig nD τ) ℕ)) :
      iprop(owns (c : Thread nD τ) (ms0_0 t) fullShare (X0_0 m c t) ∗ owns (c : Thread nD τ) (ms0_1 t) fullShare (X0_1 m c t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ (∃ d, owns (c : Thread nD τ) (ms0_10 t) fullShare d) ∗ owns (c : Thread nD τ) (ms0_11 t) fullShare p.2.1 ∗ owns (c : Thread nD τ) (ms0_12 t) fullShare p.2.2.1 ∗ owns (c : Thread nD τ) (ms0_13 t) fullShare p.2.2.2.1 ∗ owns (c : Thread nD τ) (ms0_14 t) fullShare p.2.2.2.2.1 ∗ owns (c : Thread nD τ) (ms0_15 t) fullShare p.2.2.2.2.2.1 ∗ owns (c : Thread nD τ) scM0_0 fullShare p.2.2.2.2.2.2.1 ∗ owns (c : Thread nD τ) scM0_1 fullShare p.2.2.2.2.2.2.2 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)
            ∗ (iprop(owns (c : Thread nD τ) (ms0_0 t) fullShare (X0_0 m c t) ∗ owns (c : Thread nD τ) (ms0_1 t) fullShare (X0_1 m c t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare ((leftB m c t h0 h1 p).1) ∗ owns (c : Thread nD τ) (ms0_11 t) fullShare ((leftB m c t h0 h1 p).2.1) ∗ owns (c : Thread nD τ) (ms0_12 t) fullShare ((leftB m c t h0 h1 p).2.2.1) ∗ owns (c : Thread nD τ) (ms0_13 t) fullShare ((leftB m c t h0 h1 p).2.2.2.1) ∗ owns (c : Thread nD τ) (ms0_14 t) fullShare ((leftB m c t h0 h1 p).2.2.2.2.1) ∗ owns (c : Thread nD τ) (ms0_15 t) fullShare ((leftB m c t h0 h1 p).2.2.2.2.2.1) ∗ owns (c : Thread nD τ) scM0_0 fullShare ((leftB m c t h0 h1 p).2.2.2.2.2.2.1) ∗ owns (c : Thread nD τ) scM0_1 fullShare ((leftB m c t h0 h1 p).2.2.2.2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)) -∗ K ⟨⟩))
          ⊢ wp frame (wpE (defs₀ (F := F)) Variants.none c none) E (cc0_mixer_bwd (grid0.coords t) (ms0_0 t) (hs0_0 t) (ms0_1 t) (hs0_1 t) (ms0_2 t) (hs0_2 t) (Memref.whole main_arg2) (Memref.isWhole_whole _) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _)) K :=
  bodyOfB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) (fun h => h0 ((hcond0_0 t).mp h)) (fun h => h1 ((hcond0_1 t).mp h)) (X0_0 m c t) (X0_1 m c t) (iblk m c 2 t) (iblk m c 3 t) (iblk m c 4 t) (iblk m c 5 t) (iblk m c 6 t) (iblk m c 7 t) (iblk m c 8 t) (iblk m c 9 t) p.2.1 p.2.2.1 p.2.2.2.1 p.2.2.2.2.1 p.2.2.2.2.2.1 p.2.2.2.2.2.2.1 p.2.2.2.2.2.2.2
    _ _ _ _ _ _ _ _ _ _ _ _ _ _ _ _ _ _ _ _ _ _ _ _ _ _ _ _ _ _ (runB m c t h0 h1 p).2.2.2.2.2.2.2.2.2.2.2.2.2.2.2.2.2.2.2.2.2.2.2.2.2.2.2.2.2.2 (cover_B_10 m c t h0 h1 p) (cover_B_11 m c t h0 h1 p) (cover_B_12 m c t h0 h1 p) (scover_B_0 m c t h0 h1 p) (scover_B_1 m c t h0 h1 p) E K

/-- The body at the first point of a later batch. -/
theorem bodyC (c : Dev nD) (t : Fin cfg0.N) (h0 : t.val % 16 = 0) (h1 : ¬t.val % 32 = 0) (p : Held F) (E : Set ℕ) (K : PUnit → sProp (MT nD τ sig Unit (Elt F) ℕ (UR sig nD τ) ℕ)) :
      iprop(owns (c : Thread nD τ) (ms0_0 t) fullShare (X0_0 m c t) ∗ owns (c : Thread nD τ) (ms0_1 t) fullShare (X0_1 m c t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ (∃ d, owns (c : Thread nD τ) (ms0_10 t) fullShare d) ∗ (∃ d, owns (c : Thread nD τ) (ms0_11 t) fullShare d) ∗ (∃ d, owns (c : Thread nD τ) (ms0_12 t) fullShare d) ∗ owns (c : Thread nD τ) (ms0_13 t) fullShare p.2.2.2.1 ∗ owns (c : Thread nD τ) (ms0_14 t) fullShare p.2.2.2.2.1 ∗ owns (c : Thread nD τ) (ms0_15 t) fullShare p.2.2.2.2.2.1 ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)
            ∗ (iprop(owns (c : Thread nD τ) (ms0_0 t) fullShare (X0_0 m c t) ∗ owns (c : Thread nD τ) (ms0_1 t) fullShare (X0_1 m c t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare ((leftC m c t h0 h1 p).1) ∗ owns (c : Thread nD τ) (ms0_11 t) fullShare ((leftC m c t h0 h1 p).2.1) ∗ owns (c : Thread nD τ) (ms0_12 t) fullShare ((leftC m c t h0 h1 p).2.2.1) ∗ owns (c : Thread nD τ) (ms0_13 t) fullShare ((leftC m c t h0 h1 p).2.2.2.1) ∗ owns (c : Thread nD τ) (ms0_14 t) fullShare ((leftC m c t h0 h1 p).2.2.2.2.1) ∗ owns (c : Thread nD τ) (ms0_15 t) fullShare ((leftC m c t h0 h1 p).2.2.2.2.2.1) ∗ owns (c : Thread nD τ) scM0_0 fullShare ((leftC m c t h0 h1 p).2.2.2.2.2.2.1) ∗ owns (c : Thread nD τ) scM0_1 fullShare ((leftC m c t h0 h1 p).2.2.2.2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d)) -∗ K ⟨⟩))
          ⊢ wp frame (wpE (defs₀ (F := F)) Variants.none c none) E (cc0_mixer_bwd (grid0.coords t) (ms0_0 t) (hs0_0 t) (ms0_1 t) (hs0_1 t) (ms0_2 t) (hs0_2 t) (Memref.whole main_arg2) (Memref.isWhole_whole _) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _)) K :=
  bodyOfC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) ((hcond0_0 t).mpr h0) (fun h => h1 ((hcond0_1 t).mp h)) (X0_0 m c t) (X0_1 m c t) (iblk m c 2 t) (iblk m c 3 t) (iblk m c 4 t) (iblk m c 5 t) (iblk m c 6 t) (iblk m c 7 t) (iblk m c 8 t) (iblk m c 9 t) p.2.2.2.1 p.2.2.2.2.1 p.2.2.2.2.2.1
    _ _ _ _ _ _ _ _ _ _ _ _ _ _ _ _ _ _ _ _ _ _ _ _ _ _ _ _ _ _ (runC m c t h0 h1 p).2.2.2.2.2.2.2.2.2.2.2.2.2.2.2.2.2.2.2.2.2.2.2.2.2.2.2.2.2.2 (cover_C_10 m c t h0 h1 p) (cover_C_11 m c t h0 h1 p) (cover_C_12 m c t h0 h1 p) (scover_C_0 m c t h0 h1 p) (scover_C_1 m c t h0 h1 p) E K

end Cert.Kernel2Ideal.Mixer

end
-- ==== Proof.Mixer.Frame.lean ====
module

public import proofs.«01_k».proof.Proof.Mixer.Points
public import proofs.«01_k».proof.Proof.Mixer.BodyAt

@[expose] public section

set_option maxRecDepth 16384
set_option Elab.async false

noncomputable section

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Mixer

variable {F : FTy → Type} [FloatOps F]
variable (m : (ℓ : Loc nD τ sig) → Buf (Elt F) ℓ) (ρ : Dev nD → PrngReg)

attribute [local irreducible] leftA leftB leftC

set_option maxHeartbeats 48000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 32 = 0
    · by_cases hz : t.val = 0
      · rw [PhiS_castSucc m c t, PhiS_zero m c _ _ hz, PhiA0_eq]
        rw [outsAt0_A m c t h0 h1]
        iintro ⟨⟨⟨HS0, HS1, HS2, HS3, HS4, HS5, HS6, HS7, HS8, HS9, HS10, HS11, HS12, HS13, HS14, HS15, HS16, HS17, HS18, HS19, HS20, HS21, HS22, HS23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply (bodyA m c t h0 h1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        isplitl [HS15]; · iexact HS15
        isplitl [HS16]; · iexact HS16
        isplitl [HS17]; · iexact HS17
        isplitl [HS18]; · iexact HS18
        isplitl [HS19]; · iexact HS19
        isplitl [HS20]; · iexact HS20
        isplitl [HS21]; · iexact HS21
        isplitl [HS22]; · iexact HS22
        isplitl [HS23]; · iexact HS23
        iintro ⟨H0, H1, H2, H3, H4, H5, H6, H7, H8, H9, H10, H11, H12, H13, H14, H15, HS0, HS1, HS2, HS3, HS4, HS5, HS6, HS7, HS8, HS9, HS10, HS11, HS12, HS13, HS14, HS15, HS16, HS17, HS18, HS19, HS20, HS21, HS22, HS23⟩
        isplitl [HS0 HS1 HS2 HS3 HS4 HS5 HS6 HS7 HS8 HS9 HS10 HS11 HS12 HS13 HS14 HS15 HS16 HS17 HS18 HS19 HS20 HS21 HS22 HS23 Hg]
        · isplitl [HS0 HS1 HS2 HS3 HS4 HS5 HS6 HS7 HS8 HS9 HS10 HS11 HS12 HS13 HS14 HS15 HS16 HS17 HS18 HS19 HS20 HS21 HS22 HS23]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            isplitl [HS10]; · iexact HS10
            isplitl [HS11]; · iexact HS11
            isplitl [HS12]; · iexact HS12
            isplitl [HS13]; · iexact HS13
            isplitl [HS14]; · iexact HS14
            isplitl [HS15]; · iexact HS15
            isplitl [HS16]; · iexact HS16
            isplitl [HS17]; · iexact HS17
            isplitl [HS18]; · iexact HS18
            isplitl [HS19]; · iexact HS19
            isplitl [HS20]; · iexact HS20
            isplitl [HS21]; · iexact HS21
            isplitl [HS22]; · iexact HS22
            iexact HS23
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      · exfalso; have hN : t.val < 32 := lt_of_lt_of_eq t.isLt (show cfg0.N = 32 from N_0); omega
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_13_C m c t h0 h1, before0_14_C m c t h0 h1, before0_15_C m c t h0 h1]
        iintro ⟨⟨⟨HS0, HS1, HS2, HS3, HS4, HS5, HS6, HS7, HS8, HS9, HS10, HS11, HS12, HS13, HS14, HS15, HS16, HS17, HS18, HS19, HS20, HS21, HS22, HS23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply (bodyC m c t h0 h1 (outsAt0 m c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexact H13
        isplitl [H14]; · iexact H14
        isplitl [H15]; · iexact H15
        isplitl [HS0]; · iexists _; iexact HS0
        isplitl [HS1]; · iexists _; iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        isplitl [HS15]; · iexact HS15
        isplitl [HS16]; · iexact HS16
        isplitl [HS17]; · iexact HS17
        isplitl [HS18]; · iexact HS18
        isplitl [HS19]; · iexact HS19
        isplitl [HS20]; · iexact HS20
        isplitl [HS21]; · iexact HS21
        isplitl [HS22]; · iexact HS22
        isplitl [HS23]; · iexact HS23
        iintro ⟨H0, H1, H2, H3, H4, H5, H6, H7, H8, H9, H10, H11, H12, H13, H14, H15, HS0, HS1, HS2, HS3, HS4, HS5, HS6, HS7, HS8, HS9, HS10, HS11, HS12, HS13, HS14, HS15, HS16, HS17, HS18, HS19, HS20, HS21, HS22, HS23⟩
        isplitl [HS0 HS1 HS2 HS3 HS4 HS5 HS6 HS7 HS8 HS9 HS10 HS11 HS12 HS13 HS14 HS15 HS16 HS17 HS18 HS19 HS20 HS21 HS22 HS23 Hg]
        · isplitl [HS0 HS1 HS2 HS3 HS4 HS5 HS6 HS7 HS8 HS9 HS10 HS11 HS12 HS13 HS14 HS15 HS16 HS17 HS18 HS19 HS20 HS21 HS22 HS23]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            isplitl [HS10]; · iexact HS10
            isplitl [HS11]; · iexact HS11
            isplitl [HS12]; · iexact HS12
            isplitl [HS13]; · iexact HS13
            isplitl [HS14]; · iexact HS14
            isplitl [HS15]; · iexact HS15
            isplitl [HS16]; · iexact HS16
            isplitl [HS17]; · iexact HS17
            isplitl [HS18]; · iexact HS18
            isplitl [HS19]; · iexact HS19
            isplitl [HS20]; · iexact HS20
            isplitl [HS21]; · iexact HS21
            isplitl [HS22]; · iexact HS22
            iexact HS23
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
  · by_cases h1 : t.val % 32 = 0
    · exfalso; omega
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_11_B m c t h0 h1, before0_12_B m c t h0 h1, before0_13_B m c t h0 h1, before0_14_B m c t h0 h1, before0_15_B m c t h0 h1]
        iintro ⟨⟨⟨HS0, HS1, HS2, HS3, HS4, HS5, HS6, HS7, HS8, HS9, HS10, HS11, HS12, HS13, HS14, HS15, HS16, HS17, HS18, HS19, HS20, HS21, HS22, HS23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply (bodyB m c t h0 h1 (outsAt0 m c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [H12]; · iexact H12
        isplitl [H13]; · iexact H13
        isplitl [H14]; · iexact H14
        isplitl [H15]; · iexact H15
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        isplitl [HS15]; · iexact HS15
        isplitl [HS16]; · iexact HS16
        isplitl [HS17]; · iexact HS17
        isplitl [HS18]; · iexact HS18
        isplitl [HS19]; · iexact HS19
        isplitl [HS20]; · iexact HS20
        isplitl [HS21]; · iexact HS21
        isplitl [HS22]; · iexact HS22
        isplitl [HS23]; · iexact HS23
        iintro ⟨H0, H1, H2, H3, H4, H5, H6, H7, H8, H9, H10, H11, H12, H13, H14, H15, HS0, HS1, HS2, HS3, HS4, HS5, HS6, HS7, HS8, HS9, HS10, HS11, HS12, HS13, HS14, HS15, HS16, HS17, HS18, HS19, HS20, HS21, HS22, HS23⟩
        isplitl [HS0 HS1 HS2 HS3 HS4 HS5 HS6 HS7 HS8 HS9 HS10 HS11 HS12 HS13 HS14 HS15 HS16 HS17 HS18 HS19 HS20 HS21 HS22 HS23 Hg]
        · isplitl [HS0 HS1 HS2 HS3 HS4 HS5 HS6 HS7 HS8 HS9 HS10 HS11 HS12 HS13 HS14 HS15 HS16 HS17 HS18 HS19 HS20 HS21 HS22 HS23]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [HS9]; · iexact HS9
            isplitl [HS10]; · iexact HS10
            isplitl [HS11]; · iexact HS11
            isplitl [HS12]; · iexact HS12
            isplitl [HS13]; · iexact HS13
            isplitl [HS14]; · iexact HS14
            isplitl [HS15]; · iexact HS15
            isplitl [HS16]; · iexact HS16
            isplitl [HS17]; · iexact HS17
            isplitl [HS18]; · iexact HS18
            isplitl [HS19]; · iexact HS19
            isplitl [HS20]; · iexact HS20
            isplitl [HS21]; · iexact HS21
            isplitl [HS22]; · iexact HS22
            iexact HS23
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10, HS11, HS12, HS13, HS14, HS15, HS16, HS17, HS18, HS19, HS20, HS21, HS22, HS23⟩, Hg⟩
  isplitl [HS0 HS1 HS2 HS3 HS4 HS5 HS6 HS7 HS8 HS9 HS10 HS11 HS12 HS13 HS14 HS15 HS16 HS17 HS18 HS19 HS20 HS21 HS22 HS23]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    isplitl [HS10]
    · iexact HS10
    isplitl [HS11]
    · iexact HS11
    isplitl [HS12]
    · iexact HS12
    isplitl [HS13]
    · iexact HS13
    isplitl [HS14]
    · iexact HS14
    isplitl [HS15]
    · iexact HS15
    isplitl [HS16]
    · iexact HS16
    isplitl [HS17]
    · iexact HS17
    isplitl [HS18]
    · iexact HS18
    isplitl [HS19]
    · iexact HS19
    isplitl [HS20]
    · iexact HS20
    isplitl [HS21]
    · iexact HS21
    isplitl [HS22]
    · iexact HS22
    iexact HS23
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- From any memory with zero counters the call runs, leaves its arguments unchanged and its counters at zero, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel2Ideal.Mixer

end
-- ==== Proof.Mixer.Attn.lean ====
module

public import Idealize.ShloMosaic.Lib.Pointwise

@[expose] public section

set_option maxRecDepth 16384

noncomputable section

open Idealize.ShloMosaic

namespace Cert.Mixer

variable (P : FVec Ideal ⟨2, ![8192, 7168]⟩ .bf16) (G : FVec Ideal ⟨2, ![8192, 1536]⟩ .bf16)
  (K V : FVec Ideal ⟨2, ![512, 512]⟩ .bf16)

/-- The score of row `t` against memory slot `n`: the product of the query and the key, scaled. -/
def score (b : Fin 2) (h : Fin 4) (t : Fin 4096) (n : Fin 256) : EReal :=
  (∑ d : Fin 128, P (ix2 ⟨4096 * b.val + t.val, by omega⟩ ⟨3584 + (128 * h.val + d.val), by omega⟩)
    * K (ix2 ⟨256 * b.val + n.val, by omega⟩ ⟨128 * h.val + d.val, by omega⟩)) * Ideal.ofBits .f32 0x3DB504F3#32

/-- The largest score of row `t`. -/
def top (b : Fin 2) (h : Fin 4) (t : Fin 4096) : EReal := Finset.univ.fold max (Ideal.ofBits .f32 0xFF800000#32) fun n => score P K b h t n

/-- The largest score is at least the word the maximum starts from. -/
theorem max_top (b : Fin 2) (h : Fin 4) (t : Fin 4096) : max (Ideal.ofBits .f32 0xFF800000#32) (top P K b h t) = top P K b h t := by
  unfold top
  exact max_eq_right ((Finset.le_fold_max _).mpr (Or.inl le_rfl))

/-- The exponential of a score less the largest. -/
def expo (b : Fin 2) (h : Fin 4) (t : Fin 4096) (n : Fin 256) : EReal := Ideal.exp (score P K b h t n - top P K b h t)

/-- The sum of a row's exponentials. -/
def total (b : Fin 2) (h : Fin 4) (t : Fin 4096) : EReal := ∑ n : Fin 256, expo P K b h t n

/-- The probability of memory slot `n` at row `t`. -/
def prob (b : Fin 2) (h : Fin 4) (t : Fin 4096) (n : Fin 256) : EReal := Ideal.div (expo P K b h t n) (total P K b h t)

/-- The gradient of a probability: the product of the cotangent and the value. -/
def dprob (b : Fin 2) (h : Fin 4) (t : Fin 4096) (n : Fin 256) : EReal :=
  ∑ d : Fin 128, G (ix2 ⟨4096 * b.val + t.val, by omega⟩ ⟨1024 + (128 * h.val + d.val), by omega⟩)
    * V (ix2 ⟨256 * b.val + n.val, by omega⟩ ⟨128 * h.val + d.val, by omega⟩)

/-- The gradient of a score. -/
def dscore (b : Fin 2) (h : Fin 4) (t : Fin 4096) (n : Fin 256) : EReal :=
  prob P K b h t n * (dprob G V b h t n - ∑ k : Fin 256, dprob G V b h t k * prob P K b h t k) * Ideal.ofBits .f32 0x3DB504F3#32

/-- The gradient of the memory's values at a batch, slot, head and lane. -/
def dValueAt (b : Fin 2) (n : Fin 256) (h : Fin 4) (d : Fin 128) : EReal :=
  ∑ t : Fin 4096, prob P K b h t n * G (ix2 ⟨4096 * b.val + t.val, by omega⟩ ⟨1024 + (128 * h.val + d.val), by omega⟩)

/-- The gradient of the memory's keys at a batch, slot, head and lane. -/
def dKeyAt (b : Fin 2) (n : Fin 256) (h : Fin 4) (d : Fin 128) : EReal :=
  ∑ t : Fin 4096, dscore P G K V b h t n * P (ix2 ⟨4096 * b.val + t.val, by omega⟩ ⟨3584 + (128 * h.val + d.val), by omega⟩)

end Cert.Mixer

end
-- ==== Proof.Mixer.Tile.lean ====
module

public import proofs.«01_k».proof.Proof.Gen.Kernel2Ideal.Skeleton
public import Idealize.ShloMosaic.Lib.Pipeline.ValueKit
public import proofs.«01_k».proof.Proof.Mixer.Attn

@[expose] public section

set_option maxRecDepth 16384

noncomputable section

open Idealize.ShloMosaic Idealize.ShloMosaic.TcCoe Idealize.SL.Sem

namespace Cert.Kernel2Ideal.Mixer

open Cert.Kernel2Ideal Cert.Kernel2Ideal.Gen Cert.Mixer

variable {P : FVec Ideal ⟨2, ![8192, 7168]⟩ .bf16} {G : FVec Ideal ⟨2, ![8192, 1536]⟩ .bf16}
  {K V : FVec Ideal ⟨2, ![512, 512]⟩ .bf16} {b : Fin 2} {h : Fin 4} {u : Fin 256 → Fin 4096}
  {q g k v : Vec Ideal S256x128 .bf16}

/-- The queries of a tile are a head's columns of the tile's rows. -/
def IsQ (P : FVec Ideal ⟨2, ![8192, 7168]⟩ .bf16) (b : Fin 2) (h : Fin 4) (u : Fin 256 → Fin 4096) (q : Vec Ideal S256x128 .bf16) : Prop :=
  ∀ (r : Fin 256) (d : Fin 128), q (ix2 r d) = P (ix2 ⟨4096 * b.val + (u r).val, by omega⟩ ⟨3584 + (128 * h.val + d.val), by omega⟩)

/-- The cotangents of a tile are a head's columns of the tile's rows. -/
def IsG (G : FVec Ideal ⟨2, ![8192, 1536]⟩ .bf16) (b : Fin 2) (h : Fin 4) (u : Fin 256 → Fin 4096) (g : Vec Ideal S256x128 .bf16) : Prop :=
  ∀ (r : Fin 256) (d : Fin 128), g (ix2 r d) = G (ix2 ⟨4096 * b.val + (u r).val, by omega⟩ ⟨1024 + (128 * h.val + d.val), by omega⟩)

/-- The keys, or the values, of a batch's memory are a head's columns of its slots. -/
def IsM (K : FVec Ideal ⟨2, ![512, 512]⟩ .bf16) (b : Fin 2) (h : Fin 4) (k : Vec Ideal S256x128 .bf16) : Prop :=
  ∀ (n : Fin 256) (d : Fin 128), k (ix2 n d) = K (ix2 ⟨256 * b.val + n.val, by omega⟩ ⟨128 * h.val + d.val, by omega⟩)

/-- A tile of numbers is a function of the tile's rows and the memory's slots. -/
def IsRow (f : Fin 4096 → Fin 256 → EReal) (u : Fin 256 → Fin 4096) (x : S256x256.Idx → EReal) : Prop :=
  ∀ (r n : Fin 256), x (ix2 r n) = f (u r) n

/-- The probabilities of the first head's tile. -/
theorem prob_A (hq : IsQ P b h u q) (hk : IsM K b h k) : IsRow (prob P K b h) u (k0_pay2213 (F := Ideal) (k0_pay2211 q k) k0_pay2212) := fun r n => by
  have hs : ∀ r n, mulf (k0_pay2211 q k) k0_pay2212 (ix2 r n) = score P K b h (u r) n := fun r n => by
    unfold IsQ at hq; unfold IsM at hk
    pointwise [k0_pay2211, k0_pay2212, hq, hk, score]
  unfold k0_pay2213
  generalize mulf (k0_pay2211 q k) k0_pay2212 = x at *
  pointwise [hs, prob, expo, total, top]

/-- The gradients of the probabilities of a tile. -/
theorem dprob_B (hg : IsG G b h u g) (hv : IsM V b h v) : IsRow (dprob G V b h) u (k0_pay2219 (F := Ideal) g v) := fun r n => by
  unfold IsG at hg; unfold IsM at hv
  pointwise [k0_pay2219, hg, hv, dprob]

/-- What a tile adds to the gradient of the memory's values. -/
theorem dvalue_A {x : Vec Ideal S256x256 .f32} (hx : IsRow (prob P K b h) u x) (hg : IsG G b h u g) (old : Vec Ideal S256x128 .f32) (n : Fin 256) (d : Fin 128) :
    k0_pay2222 g x old (ix2 n d) = old (ix2 n d) + ∑ r : Fin 256, prob P K b h (u r) n * G (ix2 ⟨4096 * b.val + (u r).val, by omega⟩ ⟨1024 + (128 * h.val + d.val), by omega⟩) := by
  unfold IsG at hg; unfold IsRow at hx
  pointwise [k0_pay2222, hg, hx]

/-- The gradients of the scores of a tile. -/
theorem dscore_B {x y : Vec Ideal S256x256 .f32} (hx : IsRow (prob P K b h) u x) (hy : IsRow (dprob G V b h) u y) : IsRow (dscore P G K V b h) u (k0_pay2227 (F := Ideal) x y) := fun r n => by
  unfold IsRow at hx hy
  pointwise [k0_pay2227, hx, hy, dscore]

/-- What a tile adds to the gradient of the memory's keys. -/
theorem dkey_A {x : Vec Ideal S256x256 .bf16} (hx : IsRow (dscore P G K V b h) u x) (hq : IsQ P b h u q) (old : Vec Ideal S256x128 .f32) (n : Fin 256) (d : Fin 128) :
    k0_pay2225 q x old (ix2 n d) = old (ix2 n d) + ∑ r : Fin 256, dscore P G K V b h (u r) n * P (ix2 ⟨4096 * b.val + (u r).val, by omega⟩ ⟨3584 + (128 * h.val + d.val), by omega⟩) := by
  unfold IsQ at hq; unfold IsRow at hx
  pointwise [k0_pay2225, hq, hx]

/-- The second head's probabilities are computed as the first's. -/
theorem same_2214 : @k0_pay2214 Ideal _ = fun q k => k0_pay2213 (k0_pay2211 q k) k0_pay2212 := rfl

/-- The third head's probabilities are computed as the first's. -/
theorem same_2215 : @k0_pay2215 Ideal _ = fun q k => k0_pay2213 (k0_pay2211 q k) k0_pay2212 := rfl

/-- The fourth head's probabilities are computed as the first's. -/
theorem same_2218 (q k : Vec Ideal S256x128 .bf16) : k0_pay2218 (k0_pay2216 q k) (k0_pay2217 q k) = k0_pay2213 (k0_pay2211 q k) k0_pay2212 := rfl

/-- The third head's gradients of the probabilities are computed as the second's. -/
theorem same_2220 : @k0_pay2220 Ideal _ = k0_pay2219 := rfl

/-- The fourth head's gradients of the probabilities are computed as the second's. -/
theorem same_2221 : @k0_pay2221 Ideal _ = k0_pay2219 := rfl

/-- The second head's sums for the values are computed as the first's. -/
theorem same_2226 : @k0_pay2226 Ideal _ = k0_pay2222 := rfl

/-- The third head's sums for the values are computed as the first's. -/
theorem same_2230 : @k0_pay2230 Ideal _ = k0_pay2222 := rfl

/-- The fourth head's sums for the values are computed as the first's. -/
theorem same_2234 : @k0_pay2234 Ideal _ = k0_pay2222 := rfl

/-- The first head's gradients of the scores are computed as the second's. -/
theorem same_2223 : @k0_pay2223 Ideal _ = fun g x v => k0_pay2227 x (k0_pay2219 g v) := rfl

/-- The third head's gradients of the scores are computed as the second's. -/
theorem same_2231 : @k0_pay2231 Ideal _ = k0_pay2227 := rfl

/-- The second head's sums for the keys are computed as the first's. -/
theorem same_2229 : @k0_pay2229 Ideal _ = fun q x y old => k0_pay2225 q (k0_pay2227 x y) old := rfl

/-- The third head's sums for the keys are computed as the first's. -/
theorem same_2233 : @k0_pay2233 Ideal _ = fun q x y old => k0_pay2225 q (k0_pay2227 x y) old := rfl

end Cert.Kernel2Ideal.Mixer

end
-- ==== Proof.Mixer.Blocks.lean ====
module

public import Idealize.ShloMosaic.Lib.Pipeline.ValueKit
public import Idealize.ShloMosaic.Lib.Pipeline.ReadBack
public import proofs.«01_k».proof.Proof.Mixer.Runs
public import proofs.«01_k».proof.Proof.Mixer.Tile

@[expose] public section

set_option maxRecDepth 16384

noncomputable section

open Idealize.ShloMosaic Idealize.ShloMosaic.TcCoe Idealize.SL.Sem
open Idealize.ShloMosaic.Pipeline (Dat)

namespace Cert.Kernel2Ideal.Mixer

open Cert.Kernel2Ideal Cert.Kernel2Ideal.Gen Cert.Mixer

variable (m : (ℓ : Loc nD τ sig) → Buf (Elt Ideal) ℓ)

/-- The blocks the attention reads at a grid point: a batch's tiles come last first. -/
theorem idx : ∀ t : Fin cfg0.N, win0_0.index t = ![t.val / 16 * 16 + (15 - t.val % 16), 0] ∧ win0_2.index t = ![t.val / 16 * 16 + (15 - t.val % 16), 0]
    ∧ win0_5.index t = ![t.val / 16, 0] ∧ win0_6.index t = ![t.val / 16, 0] :=
  (by decide +kernel : ∀ t : Fin grid0.N, _)

/-- A grid point's batch. -/
def batch (t : Fin cfg0.N) : Fin 2 := ⟨t.val / 16, by have := lt_of_lt_of_eq t.isLt (show cfg0.N = 32 from N_0); omega⟩

/-- The row, in its batch, of a row of a grid point's tile. -/
def row (t : Fin cfg0.N) (r : Fin 256) : Fin 4096 := ⟨256 * (15 - t.val % 16) + r.val, by omega⟩

/-- The tile of the projection's columns, read off the argument. -/
theorem pTile (c : Dev nD) (t : Fin cfg0.N) (r : Fin 256) (l : Fin 4096) :
    X0_0 m c t (ix2 r l) = m ((c : Thread nD τ).loc main_arg0) (ix2 ⟨4096 * (batch t).val + (row t r).val, by have := (batch t).isLt; have := (row t r).isLt; omega⟩ ⟨l.val, by omega⟩) := by
  unfold X0_0 Pipeline.Window.fill
  rw [dif_pos (moved0_0 t _)]
  unfold iblk
  rw [show V m c (Pipeline.arrRef spec0 0) = m ((c : Thread nD τ).loc main_arg0) from V_main_arg0 m c]
  blk_point [idx t, batch, row]

/-- The tile of the cotangents, read off the argument. -/
theorem gTile (c : Dev nD) (t : Fin cfg0.N) (r : Fin 256) (l : Fin 1536) :
    iblk m c 2 t (ix2 r l) = m ((c : Thread nD τ).loc main_arg1) (ix2 ⟨4096 * (batch t).val + (row t r).val, by have := (batch t).isLt; have := (row t r).isLt; omega⟩ l) := by
  unfold iblk
  rw [show V m c (Pipeline.arrRef spec0 2) = m ((c : Thread nD τ).loc main_arg1) from V_main_arg1 m c]
  blk_point [idx t, batch, row]

/-- The batch's keys, read off the argument. -/
theorem kBlock (c : Dev nD) (t : Fin cfg0.N) (r : Fin 256) (l : Fin 512) :
    iblk m c 5 t (ix2 r l) = m ((c : Thread nD τ).loc main_arg3) (ix2 ⟨256 * (batch t).val + r.val, by have := (batch t).isLt; omega⟩ l) := by
  unfold iblk
  rw [show V m c (Pipeline.arrRef spec0 5) = m ((c : Thread nD τ).loc main_arg3) from V_main_arg3 m c]
  blk_point [idx t, batch, row]

/-- The batch's values, read off the argument. -/
theorem vBlock (c : Dev nD) (t : Fin cfg0.N) (r : Fin 256) (l : Fin 512) :
    iblk m c 6 t (ix2 r l) = m ((c : Thread nD τ).loc main_arg4) (ix2 ⟨256 * (batch t).val + r.val, by have := (batch t).isLt; omega⟩ l) := by
  unfold iblk
  rw [show V m c (Pipeline.arrRef spec0 6) = m ((c : Thread nD τ).loc main_arg4) from V_main_arg4 m c]
  blk_point [idx t, batch, row]

/-- The queries a head reads. -/
theorem isQ (c : Dev nD) (t : Fin cfg0.N) (h : Fin 4) (o : ℕ) (ho : o = 3584 + 128 * h.val) (i : ∀ a, (![0, o] : Fin 2 → ℕ) a + (![256, 128] : Fin 2 → ℕ) a ≤ S256x4096.size a) :
    IsQ (m ((c : Thread nD τ).loc main_arg0)) (batch t) h (row t) (View.ld (X0_0 m c t) (Rect.unit (s := S256x4096) ![0, o] ![256, 128] i)) := fun r d => by
  subst ho
  refine Eq.trans (congrArg (X0_0 m c t) (?_ : _ = ix2 r ⟨3584 + 128 * h.val + d.val, by omega⟩)) ((pTile m c t r _).trans ?_)
  · idx_ext
  · exact congrArg _ (by idx_ext)

/-- The cotangents a head reads. -/
theorem isG (c : Dev nD) (t : Fin cfg0.N) (h : Fin 4) (o : ℕ) (ho : o = 1024 + 128 * h.val) (i : ∀ a, (![0, o] : Fin 2 → ℕ) a + (![256, 128] : Fin 2 → ℕ) a ≤ S256x1536.size a) :
    IsG (m ((c : Thread nD τ).loc main_arg1)) (batch t) h (row t) (View.ld (iblk m c 2 t) (Rect.unit (s := S256x1536) ![0, o] ![256, 128] i)) := fun r d => by
  subst ho
  refine Eq.trans (congrArg (iblk m c 2 t) (?_ : _ = ix2 r ⟨1024 + 128 * h.val + d.val, by omega⟩)) ((gTile m c t r _).trans ?_)
  · idx_ext
  · exact congrArg _ (by idx_ext)

/-- The keys a head reads. -/
theorem isK (c : Dev nD) (t : Fin cfg0.N) (h : Fin 4) (o : ℕ) (ho : o = 128 * h.val) (i : ∀ a, (![0, o] : Fin 2 → ℕ) a + (![256, 128] : Fin 2 → ℕ) a ≤ S256x512.size a) :
    IsM (m ((c : Thread nD τ).loc main_arg3)) (batch t) h (View.ld (iblk m c 5 t) (Rect.unit (s := S256x512) ![0, o] ![256, 128] i)) := fun r d => by
  subst ho
  refine Eq.trans (congrArg (iblk m c 5 t) (?_ : _ = ix2 r ⟨128 * h.val + d.val, by omega⟩)) ((kBlock m c t r _).trans ?_)
  · idx_ext
  · exact congrArg _ (by idx_ext)

/-- The values a head reads. -/
theorem isV (c : Dev nD) (t : Fin cfg0.N) (h : Fin 4) (o : ℕ) (ho : o = 128 * h.val) (i : ∀ a, (![0, o] : Fin 2 → ℕ) a + (![256, 128] : Fin 2 → ℕ) a ≤ S256x512.size a) :
    IsM (m ((c : Thread nD τ).loc main_arg4)) (batch t) h (View.ld (iblk m c 6 t) (Rect.unit (s := S256x512) ![0, o] ![256, 128] i)) := fun r d => by
  subst ho
  refine Eq.trans (congrArg (iblk m c 6 t) (?_ : _ = ix2 r ⟨128 * h.val + d.val, by omega⟩)) ((vBlock m c t r _).trans ?_)
  · idx_ext
  · exact congrArg _ (by idx_ext)

end Cert.Kernel2Ideal.Mixer

end
-- ==== Proof.Mixer.Canon.lean ====
module

public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Canon

variable {a b : ℕ} {e : EltTy} {o n : Fin 2 → ℕ}

/-- What a list of stores leaves at an index the last of them holds is that store's value there. -/
theorem canon_hit (i : ∀ k, o k + n k ≤ (![a, b] : Fin 2 → ℕ) k) (w : (Rect.unit (s := ⟨2, ![a, b]⟩) o n i).shape.Idx → Elt Ideal e)
    (L : List (View.Piece (Elt Ideal) ⟨2, ![a, b]⟩ e)) (y : (⟨2, ![a, b]⟩ : Shape).Idx) (x : (Rect.unit (s := ⟨2, ![a, b]⟩) o n i).shape.Idx)
    (h0 : (y 0).val = o 0 + (x 0).val) (h1 : (y 1).val = o 1 + (x 1).val) :
    View.canon ((⟨Rect.unit (s := ⟨2, ![a, b]⟩) o n i, w⟩ : View.Piece (Elt Ideal) ⟨2, ![a, b]⟩ e) :: L) y = w x := by
  have hy : y = (Rect.unit (s := ⟨2, ![a, b]⟩) o n i).emb x := by
    refine funext fun k => Fin.ext ?_
    fin_cases k
    · exact h0.trans (by simp [Rect.emb, Rect.unit])
    · exact h1.trans (by simp [Rect.emb, Rect.unit])
  rw [hy]
  exact View.canon_cons_emb _ w L x

/-- What a list of stores leaves at an index the last of them misses is what the stores before it left there. -/
theorem canon_skip (i : ∀ k, o k + n k ≤ (![a, b] : Fin 2 → ℕ) k) (w : (Rect.unit (s := ⟨2, ![a, b]⟩) o n i).shape.Idx → Elt Ideal e)
    (L : List (View.Piece (Elt Ideal) ⟨2, ![a, b]⟩ e)) (y : (⟨2, ![a, b]⟩ : Shape).Idx) (k : Fin 2) (h : (y k).val < o k ∨ o k + n k ≤ (y k).val) :
    View.canon ((⟨Rect.unit (s := ⟨2, ![a, b]⟩) o n i, w⟩ : View.Piece (Elt Ideal) ⟨2, ![a, b]⟩ e) :: L) y = View.canon L y :=
  View.canon_cons_of_not_mem _ L (Rect.not_mem_set_of_axis _ y k (o k) (n k) rfl rfl rfl h)

end Cert.Canon

end
-- ==== Proof.Mixer.Heads.lean ====
module

public import Idealize.ShloMosaic.Lib.Pipeline.ValueKit
public import Idealize.ShloMosaic.Lib.Pipeline.ReadBack
public import proofs.«01_k».proof.Proof.Mixer.Canon
public import proofs.«01_k».proof.Proof.Mixer.Runs

@[expose] public section

set_option maxRecDepth 16384

noncomputable section

open Idealize.ShloMosaic Idealize.ShloMosaic.TcCoe Idealize.SL.Sem
open Idealize.ShloMosaic.Pipeline (Dat)

namespace Cert.Kernel2Ideal.Mixer

open Cert.Kernel2Ideal Cert.Kernel2Ideal.Gen Cert.Canon

/-- Four heads' stores, side by side, hold at a head's column what that head stored. -/
theorem heads (w0 w1 w2 w3 : Vec Ideal S256x128 .f32) (L : List (View.Piece (Elt Ideal) S256x512 .f32)) (h : Fin 4) (n : Fin 256) (d : Fin 128) :
    View.canon ((⟨Rect.unit (s := S256x512) ![0, 384] ![256, 128] inb_S256x512_S256x128_0_384, w3⟩ : View.Piece (Elt Ideal) S256x512 .f32) :: (⟨Rect.unit (s := S256x512) ![0, 256] ![256, 128] inb_S256x512_S256x128_0_256, w2⟩ : View.Piece (Elt Ideal) S256x512 .f32) :: (⟨Rect.unit (s := S256x512) ![0, 128] ![256, 128] inb_S256x512_S256x128_0_128, w1⟩ : View.Piece (Elt Ideal) S256x512 .f32) :: (⟨Rect.unit (s := S256x512) ![0, 0] ![256, 128] inb_S256x512_S256x128_0_0, w0⟩ : View.Piece (Elt Ideal) S256x512 .f32) :: L) (ix2 n ⟨128 * h.val + d.val, by omega⟩)
      = (![w0, w1, w2, w3] : Fin 4 → Vec Ideal S256x128 .f32) h (ix2 n d) := by
  have hd := d.isLt
  fin_cases h
  · refine (canon_skip _ _ _ _ 1 (Or.inl (by show 128 * 0 + d.val < 384; omega))).trans ?_
    refine (canon_skip _ _ _ _ 1 (Or.inl (by show 128 * 0 + d.val < 256; omega))).trans ?_
    refine (canon_skip _ _ _ _ 1 (Or.inl (by show 128 * 0 + d.val < 128; omega))).trans ?_
    exact canon_hit _ _ _ _ (ix2 n d) (by show n.val = 0 + n.val; omega) (by show 128 * 0 + d.val = 0 + d.val; omega)
  · refine (canon_skip _ _ _ _ 1 (Or.inl (by show 128 * 1 + d.val < 384; omega))).trans ?_
    refine (canon_skip _ _ _ _ 1 (Or.inl (by show 128 * 1 + d.val < 256; omega))).trans ?_
    exact canon_hit _ _ _ _ (ix2 n d) (by show n.val = 0 + n.val; omega) (by show 128 * 1 + d.val = 128 + d.val; omega)
  · refine (canon_skip _ _ _ _ 1 (Or.inl (by show 128 * 2 + d.val < 384; omega))).trans ?_
    exact canon_hit _ _ _ _ (ix2 n d) (by show n.val = 0 + n.val; omega) (by show 128 * 2 + d.val = 256 + d.val; omega)
  · exact canon_hit _ _ _ _ (ix2 n d) (by show n.val = 0 + n.val; omega) (by show 128 * 3 + d.val = 384 + d.val; omega)

/-- The first head's columns, before it stores, hold what the whole block was set to. -/
theorem before_0 {κ : Kind} {sp : Space} (v : View sig κ sp S256x512 .f32) (z : Vec Ideal S256x512 .f32) (y : S256x128.Idx) (hz : ∀ x, z x = (0 : EReal)) :
    v.readCov [⟨Rect.unit (s := S256x512) ![0, 0] ![256, 512] inb_S256x512_S256x512_0_0, z⟩] (Rect.unit (s := S256x512) ![0, 0] ![256, 128] inb_S256x512_S256x128_0_0).toLoadRect y = (0 : EReal) := by
  rw [View.readCov_eq_canon']
  exact (canon_hit _ _ _ _ (ix2 ⟨(y 0).val, (y 0).isLt⟩ ⟨0 + (y 1).val, by have h1 : (y 1).val < 128 := (y 1).isLt; omega⟩) (by show 0 + 1 * (y 0).val = 0 + (y 0).val; omega) (by show 0 + 1 * (y 1).val = 0 + (0 + (y 1).val); omega)).trans (hz _)

/-- The second head's columns, before it stores, hold what the whole block was set to. -/
theorem before_1 {κ : Kind} {sp : Space} (v : View sig κ sp S256x512 .f32) (w0 : Vec Ideal S256x128 .f32) (z : Vec Ideal S256x512 .f32) (y : S256x128.Idx) (hz : ∀ x, z x = (0 : EReal)) :
    v.readCov [⟨Rect.unit (s := S256x512) ![0, 0] ![256, 128] inb_S256x512_S256x128_0_0, w0⟩, ⟨Rect.unit (s := S256x512) ![0, 0] ![256, 512] inb_S256x512_S256x512_0_0, z⟩] (Rect.unit (s := S256x512) ![0, 128] ![256, 128] inb_S256x512_S256x128_0_128).toLoadRect y = (0 : EReal) := by
  rw [View.readCov_eq_canon']
  refine (canon_skip _ _ _ _ 1 (Or.inr (by show 0 + 128 ≤ 128 + 1 * (y 1).val; omega))).trans ?_
  exact (canon_hit _ _ _ _ (ix2 ⟨(y 0).val, (y 0).isLt⟩ ⟨128 + (y 1).val, by have h1 : (y 1).val < 128 := (y 1).isLt; omega⟩) (by show 0 + 1 * (y 0).val = 0 + (y 0).val; omega) (by show 128 + 1 * (y 1).val = 0 + (128 + (y 1).val); omega)).trans (hz _)

/-- The third head's columns, before it stores, hold what the whole block was set to. -/
theorem before_2 {κ : Kind} {sp : Space} (v : View sig κ sp S256x512 .f32) (w0 w1 : Vec Ideal S256x128 .f32) (z : Vec Ideal S256x512 .f32) (y : S256x128.Idx) (hz : ∀ x, z x = (0 : EReal)) :
    v.readCov [⟨Rect.unit (s := S256x512) ![0, 128] ![256, 128] inb_S256x512_S256x128_0_128, w1⟩, ⟨Rect.unit (s := S256x512) ![0, 0] ![256, 128] inb_S256x512_S256x128_0_0, w0⟩, ⟨Rect.unit (s := S256x512) ![0, 0] ![256, 512] inb_S256x512_S256x512_0_0, z⟩] (Rect.unit (s := S256x512) ![0, 256] ![256, 128] inb_S256x512_S256x128_0_256).toLoadRect y = (0 : EReal) := by
  rw [View.readCov_eq_canon']
  refine (canon_skip _ _ _ _ 1 (Or.inr (by show 128 + 128 ≤ 256 + 1 * (y 1).val; omega))).trans ?_
  refine (canon_skip _ _ _ _ 1 (Or.inr (by show 0 + 128 ≤ 256 + 1 * (y 1).val; omega))).trans ?_
  exact (canon_hit _ _ _ _ (ix2 ⟨(y 0).val, (y 0).isLt⟩ ⟨256 + (y 1).val, by have h1 : (y 1).val < 128 := (y 1).isLt; omega⟩) (by show 0 + 1 * (y 0).val = 0 + (y 0).val; omega) (by show 256 + 1 * (y 1).val = 0 + (256 + (y 1).val); omega)).trans (hz _)

/-- The fourth head's columns, before it stores, hold what the whole block was set to. -/
theorem before_3 {κ : Kind} {sp : Space} (v : View sig κ sp S256x512 .f32) (w0 w1 w2 : Vec Ideal S256x128 .f32) (z : Vec Ideal S256x512 .f32) (y : S256x128.Idx) (hz : ∀ x, z x = (0 : EReal)) :
    v.readCov [⟨Rect.unit (s := S256x512) ![0, 256] ![256, 128] inb_S256x512_S256x128_0_256, w2⟩, ⟨Rect.unit (s := S256x512) ![0, 128] ![256, 128] inb_S256x512_S256x128_0_128, w1⟩, ⟨Rect.unit (s := S256x512) ![0, 0] ![256, 128] inb_S256x512_S256x128_0_0, w0⟩, ⟨Rect.unit (s := S256x512) ![0, 0] ![256, 512] inb_S256x512_S256x512_0_0, z⟩] (Rect.unit (s := S256x512) ![0, 384] ![256, 128] inb_S256x512_S256x128_0_384).toLoadRect y = (0 : EReal) := by
  rw [View.readCov_eq_canon']
  refine (canon_skip _ _ _ _ 1 (Or.inr (by show 256 + 128 ≤ 384 + 1 * (y 1).val; omega))).trans ?_
  refine (canon_skip _ _ _ _ 1 (Or.inr (by show 128 + 128 ≤ 384 + 1 * (y 1).val; omega))).trans ?_
  refine (canon_skip _ _ _ _ 1 (Or.inr (by show 0 + 128 ≤ 384 + 1 * (y 1).val; omega))).trans ?_
  exact (canon_hit _ _ _ _ (ix2 ⟨(y 0).val, (y 0).isLt⟩ ⟨384 + (y 1).val, by have h1 : (y 1).val < 128 := (y 1).isLt; omega⟩) (by show 0 + 1 * (y 0).val = 0 + (y 0).val; omega) (by show 384 + 1 * (y 1).val = 0 + (384 + (y 1).val); omega)).trans (hz _)

end Cert.Kernel2Ideal.Mixer

end
-- ==== Proof.Mixer.Steps.lean ====
module

public import Idealize.ShloMosaic.Lib.Pipeline.ValueKit
public import Idealize.ShloMosaic.Lib.Pipeline.ReadBack
public import proofs.«01_k».proof.Proof.Mixer.Blocks
public import proofs.«01_k».proof.Proof.Mixer.Heads

@[expose] public section

set_option maxRecDepth 16384

noncomputable section

open Idealize.ShloMosaic Idealize.ShloMosaic.TcCoe Idealize.SL.Sem
open Idealize.ShloMosaic.Pipeline (Dat)

namespace Cert.Kernel2Ideal.Mixer

open Cert.Kernel2Ideal Cert.Kernel2Ideal.Gen Cert.Mixer

variable (m : (ℓ : Loc nD τ sig) → Buf (Elt Ideal) ℓ)

/-- What a grid point adds to the gradient of the memory's values. -/
def dvTerm (c : Dev nD) (t : Fin cfg0.N) (h : Fin 4) (n : Fin 256) (d : Fin 128) : EReal :=
  ∑ r : Fin 256, prob (m ((c : Thread nD τ).loc main_arg0)) (m ((c : Thread nD τ).loc main_arg3)) (batch t) h (row t r) n * m ((c : Thread nD τ).loc main_arg1) (ix2 ⟨4096 * (batch t).val + (row t r).val, by have := (batch t).isLt; have := (row t r).isLt; omega⟩ ⟨1024 + (128 * h.val + d.val), by omega⟩)

/-- What a grid point adds to the gradient of the memory's keys. -/
def dkTerm (c : Dev nD) (t : Fin cfg0.N) (h : Fin 4) (n : Fin 256) (d : Fin 128) : EReal :=
  ∑ r : Fin 256, dscore (m ((c : Thread nD τ).loc main_arg0)) (m ((c : Thread nD τ).loc main_arg1)) (m ((c : Thread nD τ).loc main_arg3)) (m ((c : Thread nD τ).loc main_arg4)) (batch t) h (row t r) n * m ((c : Thread nD τ).loc main_arg0) (ix2 ⟨4096 * (batch t).val + (row t r).val, by have := (batch t).isLt; have := (row t r).isLt; omega⟩ ⟨3584 + (128 * h.val + d.val), by omega⟩)

variable {m} {c : Dev nD} {t : Fin cfg0.N} {h : Fin 4} {q g k v : Vec Ideal S256x128 .bf16} {old : Vec Ideal S256x128 .f32}

/-- A head's sums for the memory's values at a grid point. -/
theorem dv_piece (hq : IsQ (m ((c : Thread nD τ).loc main_arg0)) (batch t) h (row t) q) (hk : IsM (m ((c : Thread nD τ).loc main_arg3)) (batch t) h k) (hg : IsG (m ((c : Thread nD τ).loc main_arg1)) (batch t) h (row t) g) (n : Fin 256) (d : Fin 128) :
    k0_pay2222 (F := Ideal) g (k0_pay2213 (k0_pay2211 q k) k0_pay2212) old (ix2 n d) = old (ix2 n d) + dvTerm m c t h n d :=
  dvalue_A (prob_A hq hk) hg old n d

/-- A head's sums for the memory's keys at a grid point. -/
theorem dk_piece (hq : IsQ (m ((c : Thread nD τ).loc main_arg0)) (batch t) h (row t) q) (hk : IsM (m ((c : Thread nD τ).loc main_arg3)) (batch t) h k) (hg : IsG (m ((c : Thread nD τ).loc main_arg1)) (batch t) h (row t) g) (hv : IsM (m ((c : Thread nD τ).loc main_arg4)) (batch t) h v) (n : Fin 256) (d : Fin 128) :
    k0_pay2225 (F := Ideal) q (k0_pay2227 (k0_pay2213 (k0_pay2211 q k) k0_pay2212) (k0_pay2219 g v)) old (ix2 n d) = old (ix2 n d) + dkTerm m c t h n d :=
  dkey_A (dscore_B (prob_A hq hk) (dprob_B hg hv)) hq old n d

/-- The block of sums for the keys starts at zero. -/
theorem zeroK : ∀ x, k0_pay5 (F := Ideal) x = (0 : EReal) := fun x => by
  pointwise [k0_pay5]

/-- The block of sums for the values starts at zero. -/
theorem zeroV : ∀ x, k0_pay6 (F := Ideal) x = (0 : EReal) := fun x => by
  pointwise [k0_pay6]

variable (m c t)

/-- At the first point, the block of sums for the memory's values is the point's term. -/
theorem dv_A (h0 : t.val % 16 = 0) (h1 : t.val % 32 = 0) (h : Fin 4) (n : Fin 256) (d : Fin 128) :
    (leftA m c t h0 h1).2.2.1 (ix2 n ⟨128 * h.val + d.val, by omega⟩) = dvTerm m c t h n d := by
  unfold leftA runA
  dsimp only
  frame_out
  refine (heads _ _ _ _ _ h n d).trans ?_
  fin_cases h
  · exact (dv_piece (isQ m c t 0 _ rfl _) (isK m c t 0 _ rfl _) (isG m c t 0 _ rfl _) n d).trans ((congrArg (· + dvTerm m c t 0 n d) (before_0 _ _ _ zeroV)).trans (zero_add _))
  · exact (dv_piece (isQ m c t 1 _ rfl _) (isK m c t 1 _ rfl _) (isG m c t 1 _ rfl _) n d).trans ((congrArg (· + dvTerm m c t 1 n d) (before_1 _ _ _ _ zeroV)).trans (zero_add _))
  · exact (dv_piece (isQ m c t 2 _ rfl _) (isK m c t 2 _ rfl _) (isG m c t 2 _ rfl _) n d).trans ((congrArg (· + dvTerm m c t 2 n d) (before_2 _ _ _ _ _ zeroV)).trans (zero_add _))
  · exact (dv_piece (isQ m c t 3 _ rfl _) (isK m c t 3 _ rfl _) (isG m c t 3 _ rfl _) n d).trans ((congrArg (· + dvTerm m c t 3 n d) (before_3 _ _ _ _ _ _ zeroV)).trans (zero_add _))

/-- At a point inside a batch, the block of sums for the memory's values grows by the point's term. -/
theorem dv_B (h0 : ¬t.val % 16 = 0) (h1 : ¬t.val % 32 = 0) (p : Held Ideal) (h : Fin 4) (n : Fin 256) (d : Fin 128) :
    (leftB m c t h0 h1 p).2.2.1 (ix2 n ⟨128 * h.val + d.val, by omega⟩) = p.2.2.1 (ix2 n ⟨128 * h.val + d.val, by omega⟩) + dvTerm m c t h n d := by
  unfold leftB runB
  dsimp only
  frame_out
  refine (heads _ _ _ _ _ h n d).trans ?_
  fin_cases h
  · exact (dv_piece (isQ m c t 0 _ rfl _) (isK m c t 0 _ rfl _) (isG m c t 0 _ rfl _) n d).trans (congrArg (· + dvTerm m c t 0 n d) (congrArg p.2.2.1 (by idx_ext)))
  · exact (dv_piece (isQ m c t 1 _ rfl _) (isK m c t 1 _ rfl _) (isG m c t 1 _ rfl _) n d).trans (congrArg (· + dvTerm m c t 1 n d) (congrArg p.2.2.1 (by idx_ext)))
  · exact (dv_piece (isQ m c t 2 _ rfl _) (isK m c t 2 _ rfl _) (isG m c t 2 _ rfl _) n d).trans (congrArg (· + dvTerm m c t 2 n d) (congrArg p.2.2.1 (by idx_ext)))
  · exact (dv_piece (isQ m c t 3 _ rfl _) (isK m c t 3 _ rfl _) (isG m c t 3 _ rfl _) n d).trans (congrArg (· + dvTerm m c t 3 n d) (congrArg p.2.2.1 (by idx_ext)))

/-- At the first point of a later batch, the block of sums for the memory's values is the point's term. -/
theorem dv_C (h0 : t.val % 16 = 0) (h1 : ¬t.val % 32 = 0) (p : Held Ideal) (h : Fin 4) (n : Fin 256) (d : Fin 128) :
    (leftC m c t h0 h1 p).2.2.1 (ix2 n ⟨128 * h.val + d.val, by omega⟩) = dvTerm m c t h n d := by
  unfold leftC runC
  dsimp only
  frame_out
  refine (heads _ _ _ _ _ h n d).trans ?_
  fin_cases h
  · exact (dv_piece (isQ m c t 0 _ rfl _) (isK m c t 0 _ rfl _) (isG m c t 0 _ rfl _) n d).trans ((congrArg (· + dvTerm m c t 0 n d) (before_0 _ _ _ zeroV)).trans (zero_add _))
  · exact (dv_piece (isQ m c t 1 _ rfl _) (isK m c t 1 _ rfl _) (isG m c t 1 _ rfl _) n d).trans ((congrArg (· + dvTerm m c t 1 n d) (before_1 _ _ _ _ zeroV)).trans (zero_add _))
  · exact (dv_piece (isQ m c t 2 _ rfl _) (isK m c t 2 _ rfl _) (isG m c t 2 _ rfl _) n d).trans ((congrArg (· + dvTerm m c t 2 n d) (before_2 _ _ _ _ _ zeroV)).trans (zero_add _))
  · exact (dv_piece (isQ m c t 3 _ rfl _) (isK m c t 3 _ rfl _) (isG m c t 3 _ rfl _) n d).trans ((congrArg (· + dvTerm m c t 3 n d) (before_3 _ _ _ _ _ _ zeroV)).trans (zero_add _))

/-- At the first point, the block of sums for the memory's keys is the point's term. -/
theorem dk_A (h0 : t.val % 16 = 0) (h1 : t.val % 32 = 0) (h : Fin 4) (n : Fin 256) (d : Fin 128) :
    (leftA m c t h0 h1).2.1 (ix2 n ⟨128 * h.val + d.val, by omega⟩) = dkTerm m c t h n d := by
  unfold leftA runA
  dsimp only
  frame_out
  refine (heads _ _ _ _ _ h n d).trans ?_
  fin_cases h
  · exact (dk_piece (isQ m c t 0 _ rfl _) (isK m c t 0 _ rfl _) (isG m c t 0 _ rfl _) (isV m c t 0 _ rfl _) n d).trans ((congrArg (· + dkTerm m c t 0 n d) (before_0 _ _ _ zeroK)).trans (zero_add _))
  · exact (dk_piece (isQ m c t 1 _ rfl _) (isK m c t 1 _ rfl _) (isG m c t 1 _ rfl _) (isV m c t 1 _ rfl _) n d).trans ((congrArg (· + dkTerm m c t 1 n d) (before_1 _ _ _ _ zeroK)).trans (zero_add _))
  · exact (dk_piece (isQ m c t 2 _ rfl _) (isK m c t 2 _ rfl _) (isG m c t 2 _ rfl _) (isV m c t 2 _ rfl _) n d).trans ((congrArg (· + dkTerm m c t 2 n d) (before_2 _ _ _ _ _ zeroK)).trans (zero_add _))
  · exact (dk_piece (isQ m c t 3 _ rfl _) (isK m c t 3 _ rfl _) (isG m c t 3 _ rfl _) (isV m c t 3 _ rfl _) n d).trans ((congrArg (· + dkTerm m c t 3 n d) (before_3 _ _ _ _ _ _ zeroK)).trans (zero_add _))

/-- At a point inside a batch, the block of sums for the memory's keys grows by the point's term. -/
theorem dk_B (h0 : ¬t.val % 16 = 0) (h1 : ¬t.val % 32 = 0) (p : Held Ideal) (h : Fin 4) (n : Fin 256) (d : Fin 128) :
    (leftB m c t h0 h1 p).2.1 (ix2 n ⟨128 * h.val + d.val, by omega⟩) = p.2.1 (ix2 n ⟨128 * h.val + d.val, by omega⟩) + dkTerm m c t h n d := by
  unfold leftB runB
  dsimp only
  frame_out
  refine (heads _ _ _ _ _ h n d).trans ?_
  fin_cases h
  · exact (dk_piece (isQ m c t 0 _ rfl _) (isK m c t 0 _ rfl _) (isG m c t 0 _ rfl _) (isV m c t 0 _ rfl _) n d).trans (congrArg (· + dkTerm m c t 0 n d) (congrArg p.2.1 (by idx_ext)))
  · exact (dk_piece (isQ m c t 1 _ rfl _) (isK m c t 1 _ rfl _) (isG m c t 1 _ rfl _) (isV m c t 1 _ rfl _) n d).trans (congrArg (· + dkTerm m c t 1 n d) (congrArg p.2.1 (by idx_ext)))
  · exact (dk_piece (isQ m c t 2 _ rfl _) (isK m c t 2 _ rfl _) (isG m c t 2 _ rfl _) (isV m c t 2 _ rfl _) n d).trans (congrArg (· + dkTerm m c t 2 n d) (congrArg p.2.1 (by idx_ext)))
  · exact (dk_piece (isQ m c t 3 _ rfl _) (isK m c t 3 _ rfl _) (isG m c t 3 _ rfl _) (isV m c t 3 _ rfl _) n d).trans (congrArg (· + dkTerm m c t 3 n d) (congrArg p.2.1 (by idx_ext)))

/-- At the first point of a later batch, the block of sums for the memory's keys is the point's term. -/
theorem dk_C (h0 : t.val % 16 = 0) (h1 : ¬t.val % 32 = 0) (p : Held Ideal) (h : Fin 4) (n : Fin 256) (d : Fin 128) :
    (leftC m c t h0 h1 p).2.1 (ix2 n ⟨128 * h.val + d.val, by omega⟩) = dkTerm m c t h n d := by
  unfold leftC runC
  dsimp only
  frame_out
  refine (heads _ _ _ _ _ h n d).trans ?_
  fin_cases h
  · exact (dk_piece (isQ m c t 0 _ rfl _) (isK m c t 0 _ rfl _) (isG m c t 0 _ rfl _) (isV m c t 0 _ rfl _) n d).trans ((congrArg (· + dkTerm m c t 0 n d) (before_0 _ _ _ zeroK)).trans (zero_add _))
  · exact (dk_piece (isQ m c t 1 _ rfl _) (isK m c t 1 _ rfl _) (isG m c t 1 _ rfl _) (isV m c t 1 _ rfl _) n d).trans ((congrArg (· + dkTerm m c t 1 n d) (before_1 _ _ _ _ zeroK)).trans (zero_add _))
  · exact (dk_piece (isQ m c t 2 _ rfl _) (isK m c t 2 _ rfl _) (isG m c t 2 _ rfl _) (isV m c t 2 _ rfl _) n d).trans ((congrArg (· + dkTerm m c t 2 n d) (before_2 _ _ _ _ _ zeroK)).trans (zero_add _))
  · exact (dk_piece (isQ m c t 3 _ rfl _) (isK m c t 3 _ rfl _) (isG m c t 3 _ rfl _) (isV m c t 3 _ rfl _) n d).trans ((congrArg (· + dkTerm m c t 3 n d) (before_3 _ _ _ _ _ _ zeroK)).trans (zero_add _))

end Cert.Kernel2Ideal.Mixer

end
-- ==== Proof.Mixer.Final.lean ====
module

public import Idealize.ShloMosaic.Lib.Pipeline.ValueKit
public import Idealize.ShloMosaic.Lib.Pipeline.ReadBack
public import proofs.«01_k».proof.Proof.Mixer.Points
public import proofs.«01_k».proof.Proof.Mixer.Steps

@[expose] public section

set_option maxRecDepth 16384

noncomputable section

open Idealize.ShloMosaic Idealize.ShloMosaic.TcCoe Idealize.SL.Sem
open Idealize.ShloMosaic.Pipeline (Dat)

namespace Cert.Kernel2Ideal.Mixer

open Cert.Kernel2Ideal Cert.Kernel2Ideal.Gen Cert.Mixer

variable (m : (ℓ : Loc nD τ sig) → Buf (Elt Ideal) ℓ)

/-- The blocks of sums a grid point holds: its batch's. -/
theorem idxOut : ∀ t : Fin cfg0.N, win0_11.index t = ![t.val / 16, 0] ∧ win0_12.index t = ![t.val / 16, 0] :=
  (by decide +kernel : ∀ t : Fin grid0.N, _)

/-- Summing over a batch's tiles, last first, and over a tile's rows is summing over the batch's rows. -/
theorem sum_rows (f : Fin 4096 → EReal) (t : Fin cfg0.N) (h : ∀ s : Fin 16, 16 * (t.val / 16) + s.val < cfg0.N) :
    ∑ s : Fin 16, ∑ r : Fin 256, f (row ⟨16 * (t.val / 16) + s.val, h s⟩ r) = ∑ u : Fin 4096, f u := by
  rw [← Equiv.sum_comp Fin.revPerm]
  refine Fin.sum_mul_add_congr fun s k hl => congrArg f (Fin.ext ?_)
  have hr : (Fin.revPerm s).val = 15 - s.val := by rw [Fin.revPerm_apply, Fin.val_rev]; omega
  have hs := s.isLt
  have hm : (16 * (t.val / 16) + (15 - s.val)) % 16 = 15 - s.val := by omega
  have hd : 15 - (15 - s.val) = s.val := by omega
  show 256 * (15 - (16 * (t.val / 16) + (Fin.revPerm s).val) % 16) + k.val = s.val * 256 + k.val
  rw [hr, hm, hd, Nat.mul_comm]

/-- What a row adds to the gradient of the memory's values. -/
def dvSum (c : Dev nD) (b : Fin 2) (h : Fin 4) (n : Fin 256) (d : Fin 128) (u : Fin 4096) : EReal :=
  prob (m ((c : Thread nD τ).loc main_arg0)) (m ((c : Thread nD τ).loc main_arg3)) b h u n * m ((c : Thread nD τ).loc main_arg1) (ix2 ⟨4096 * b.val + u.val, by omega⟩ ⟨1024 + (128 * h.val + d.val), by omega⟩)

/-- The block of sums for the memory's values after grid point `n`. -/
def dvHeld (c : Dev nD) (n : ℕ) (hn : n < cfg0.N) (i : Fin 4 × Fin 256 × Fin 128) : EReal :=
  (outsAt0 m c n hn).2.2.1 (ix2 i.2.1 ⟨128 * i.1.val + i.2.2.val, by omega⟩)

/-- At a batch's last grid point the block holds the gradient of the batch's memory values. -/
theorem dv_last (c : Dev nD) (t : Fin cfg0.N) (ht : t.val % 16 = 15) (h : Fin 4) (n : Fin 256) (d : Fin 128) :
    (outsAt0 m c t.val t.isLt).2.2.1 (ix2 n ⟨128 * h.val + d.val, by omega⟩) = dValueAt (m ((c : Thread nD τ).loc main_arg0)) (m ((c : Thread nD τ).loc main_arg1)) (m ((c : Thread nD τ).loc main_arg3)) (batch t) n h d := by
  have e : dvHeld m c t.val t.isLt (h, n, d) = 0 + ∑ s : Fin 16, dvTerm m c ⟨16 * (t.val / 16) + s.val, _⟩ h n d :=
    Pipeline.eq_sum_fin_of_reset_step_apply_of_flush (dvHeld m c) 16 (fun _ => 0) (fun t i => dvTerm m c t i.1 i.2.1 i.2.2)
      (fun t h0 i => by
        rw [dvHeld, zero_add]
        by_cases h1 : t.val % 32 = 0
        · rw [outsAt0_A m c t h0 h1]
          exact dv_A m c t h0 h1 i.1 i.2.1 i.2.2
        · rw [outsAt0_C m c t h0 h1]
          exact dv_C m c t h0 h1 _ i.1 i.2.1 i.2.2)
      (fun t h0 i => by
        rw [dvHeld, outsAt0_B m c t h0 (by omega)]
        exact dv_B m c t h0 (by omega) _ i.1 i.2.1 i.2.2)
      t ht (h, n, d)
  refine e.trans ?_
  rw [zero_add]
  have hb : ∀ s : Fin 16, batch ⟨16 * (t.val / 16) + s.val, Pipeline.run_point_lt_of_flush t ht s⟩ = batch t := fun s =>
    Fin.ext (by show (16 * (t.val / 16) + s.val) / 16 = t.val / 16; omega)
  have hs : ∀ s : Fin 16, dvTerm m c ⟨16 * (t.val / 16) + s.val, Pipeline.run_point_lt_of_flush t ht s⟩ h n d
      = ∑ r : Fin 256, dvSum m c (batch t) h n d (row ⟨16 * (t.val / 16) + s.val, Pipeline.run_point_lt_of_flush t ht s⟩ r) := fun s => by
    rw [← hb s]
    rfl
  rw [Finset.sum_congr rfl fun s _ => hs s]
  exact sum_rows (dvSum m c (batch t) h n d) t fun s => Pipeline.run_point_lt_of_flush t ht s

/-- The gradient of the memory's values as the run leaves it. -/
theorem final12 (c : Dev nD) : (dats m 0 c).arrAt 12 (cfgs 0).N
    = fun i : (⟨2, ![512, 512]⟩ : Shape).Idx => dValueAt (m ((c : Thread nD τ).loc main_arg0)) (m ((c : Thread nD τ).loc main_arg1)) (m ((c : Thread nD τ).loc main_arg3)) ⟨(i 0).val / 256, by have h : (i 0).val < 512 := (i 0).isLt; omega⟩ ⟨(i 0).val % 256, by omega⟩
      ⟨(i 1).val / 128, by have h : (i 1).val < 512 := (i 1).isLt; omega⟩ ⟨(i 1).val % 128, by omega⟩ := by
  refine (dats m 0 c).arrAt_eq_of_covers 12 _ (by decide +kernel) fun t hf y => ?_
  have ht := (flush0_12 t).mp hf
  blk_simp
  rw [after0_12]
  obtain ⟨n, l, rfl⟩ : ∃ (n : Fin 256) (l : Fin 512), y = ix2 n l := ⟨y 0, y 1, (ix2_eta y).symm⟩
  have e0 : win0_12.index t 0 = t.val / 16 := congrFun (idxOut t).2 0
  have e1 : win0_12.index t 1 = 0 := congrFun (idxOut t).2 1
  have hl : ix2 n l = ix2 n (⟨128 * (l.val / 128) + l.val % 128, by omega⟩ : Fin 512) := congrArg (ix2 n) (Fin.ext (by show l.val = 128 * (l.val / 128) + l.val % 128; omega))
  refine (congrArg (outsAt0 m c t.val t.isLt).2.2.1 hl).trans ((dv_last m c t ht ⟨l.val / 128, by omega⟩ n ⟨l.val % 128, by omega⟩).trans ?_)
  congr 1 <;> refine Fin.ext ?_
  · show t.val / 16 = (win0_12.index t 0 * 256 + n.val) / 256
    omega
  · show n.val = (win0_12.index t 0 * 256 + n.val) % 256
    omega
  · show l.val / 128 = (win0_12.index t 1 * 512 + l.val) / 128
    omega
  · show l.val % 128 = (win0_12.index t 1 * 512 + l.val) % 128
    omega

/-- What a row adds to the gradient of the memory's keys. -/
def dkSum (c : Dev nD) (b : Fin 2) (h : Fin 4) (n : Fin 256) (d : Fin 128) (u : Fin 4096) : EReal :=
  dscore (m ((c : Thread nD τ).loc main_arg0)) (m ((c : Thread nD τ).loc main_arg1)) (m ((c : Thread nD τ).loc main_arg3)) (m ((c : Thread nD τ).loc main_arg4)) b h u n * m ((c : Thread nD τ).loc main_arg0) (ix2 ⟨4096 * b.val + u.val, by omega⟩ ⟨3584 + (128 * h.val + d.val), by omega⟩)

/-- The block of sums for the memory's keys after grid point `n`. -/
def dkHeld (c : Dev nD) (n : ℕ) (hn : n < cfg0.N) (i : Fin 4 × Fin 256 × Fin 128) : EReal :=
  (outsAt0 m c n hn).2.1 (ix2 i.2.1 ⟨128 * i.1.val + i.2.2.val, by omega⟩)

/-- At a batch's last grid point the block holds the gradient of the batch's memory keys. -/
theorem dk_last (c : Dev nD) (t : Fin cfg0.N) (ht : t.val % 16 = 15) (h : Fin 4) (n : Fin 256) (d : Fin 128) :
    (outsAt0 m c t.val t.isLt).2.1 (ix2 n ⟨128 * h.val + d.val, by omega⟩) = dKeyAt (m ((c : Thread nD τ).loc main_arg0)) (m ((c : Thread nD τ).loc main_arg1)) (m ((c : Thread nD τ).loc main_arg3)) (m ((c : Thread nD τ).loc main_arg4)) (batch t) n h d := by
  have e : dkHeld m c t.val t.isLt (h, n, d) = 0 + ∑ s : Fin 16, dkTerm m c ⟨16 * (t.val / 16) + s.val, _⟩ h n d :=
    Pipeline.eq_sum_fin_of_reset_step_apply_of_flush (dkHeld m c) 16 (fun _ => 0) (fun t i => dkTerm m c t i.1 i.2.1 i.2.2)
      (fun t h0 i => by
        rw [dkHeld, zero_add]
        by_cases h1 : t.val % 32 = 0
        · rw [outsAt0_A m c t h0 h1]
          exact dk_A m c t h0 h1 i.1 i.2.1 i.2.2
        · rw [outsAt0_C m c t h0 h1]
          exact dk_C m c t h0 h1 _ i.1 i.2.1 i.2.2)
      (fun t h0 i => by
        rw [dkHeld, outsAt0_B m c t h0 (by omega)]
        exact dk_B m c t h0 (by omega) _ i.1 i.2.1 i.2.2)
      t ht (h, n, d)
  refine e.trans ?_
  rw [zero_add]
  have hb : ∀ s : Fin 16, batch ⟨16 * (t.val / 16) + s.val, Pipeline.run_point_lt_of_flush t ht s⟩ = batch t := fun s =>
    Fin.ext (by show (16 * (t.val / 16) + s.val) / 16 = t.val / 16; omega)
  have hs : ∀ s : Fin 16, dkTerm m c ⟨16 * (t.val / 16) + s.val, Pipeline.run_point_lt_of_flush t ht s⟩ h n d
      = ∑ r : Fin 256, dkSum m c (batch t) h n d (row ⟨16 * (t.val / 16) + s.val, Pipeline.run_point_lt_of_flush t ht s⟩ r) := fun s => by
    rw [← hb s]
    rfl
  rw [Finset.sum_congr rfl fun s _ => hs s]
  exact sum_rows (dkSum m c (batch t) h n d) t fun s => Pipeline.run_point_lt_of_flush t ht s

/-- The gradient of the memory's keys as the run leaves it. -/
theorem final11 (c : Dev nD) : (dats m 0 c).arrAt 11 (cfgs 0).N
    = fun i : (⟨2, ![512, 512]⟩ : Shape).Idx => dKeyAt (m ((c : Thread nD τ).loc main_arg0)) (m ((c : Thread nD τ).loc main_arg1)) (m ((c : Thread nD τ).loc main_arg3)) (m ((c : Thread nD τ).loc main_arg4)) ⟨(i 0).val / 256, by have h : (i 0).val < 512 := (i 0).isLt; omega⟩ ⟨(i 0).val % 256, by omega⟩
      ⟨(i 1).val / 128, by have h : (i 1).val < 512 := (i 1).isLt; omega⟩ ⟨(i 1).val % 128, by omega⟩ := by
  refine (dats m 0 c).arrAt_eq_of_covers 11 _ (by decide +kernel) fun t hf y => ?_
  have ht := (flush0_11 t).mp hf
  blk_simp
  rw [after0_11]
  obtain ⟨n, l, rfl⟩ : ∃ (n : Fin 256) (l : Fin 512), y = ix2 n l := ⟨y 0, y 1, (ix2_eta y).symm⟩
  have e0 : win0_11.index t 0 = t.val / 16 := congrFun (idxOut t).1 0
  have e1 : win0_11.index t 1 = 0 := congrFun (idxOut t).1 1
  have hl : ix2 n l = ix2 n (⟨128 * (l.val / 128) + l.val % 128, by omega⟩ : Fin 512) := congrArg (ix2 n) (Fin.ext (by show l.val = 128 * (l.val / 128) + l.val % 128; omega))
  refine (congrArg (outsAt0 m c t.val t.isLt).2.1 hl).trans ((dk_last m c t ht ⟨l.val / 128, by omega⟩ n ⟨l.val % 128, by omega⟩).trans ?_)
  congr 1 <;> refine Fin.ext ?_
  · show t.val / 16 = (win0_11.index t 0 * 256 + n.val) / 256
    omega
  · show n.val = (win0_11.index t 0 * 256 + n.val) % 256
    omega
  · show l.val / 128 = (win0_11.index t 1 * 512 + l.val) / 128
    omega
  · show l.val % 128 = (win0_11.index t 1 * 512 + l.val) % 128
    omega

end Cert.Kernel2Ideal.Mixer

end
-- ==== Proof.Mixer.Conv.lean ====
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mixer

section
variable (P : (⟨2, ![8192, 7168]⟩ : Shape).Idx → EReal) (G : (⟨2, ![8192, 1536]⟩ : Shape).Idx → EReal)

/-- The gated input of the convolution at row `s`. -/
def gated (b : Fin 2) (s : Fin 4096) (l : Fin 512) : EReal :=
  P (ix2 ⟨4096 * b.val + s.val, by omega⟩ ⟨512 + l.val, by omega⟩) * P (ix2 ⟨4096 * b.val + s.val, by omega⟩ ⟨1024 + l.val, by omega⟩)

/-- The gated input `k` rows before row `s`, zero before the first row. -/
def gatedBack (b : Fin 2) (k : ℕ) (s : Fin 4096) (l : Fin 512) : EReal := if k ≤ s.val then gated P b ⟨s.val - k, by omega⟩ l else 0

/-- The cotangent of the convolution's output at row `s`. -/
def dconv (b : Fin 2) (s : Fin 4096) (l : Fin 512) : EReal :=
  P (ix2 ⟨4096 * b.val + s.val, by omega⟩ ⟨l.val, by omega⟩) * G (ix2 ⟨4096 * b.val + s.val, by omega⟩ ⟨l.val, by omega⟩)

/-- What row `s` adds to the gradient of the convolution's tap `r`: the first tap looks two rows back, the last none. Rows past the third are empty. -/
def tapAt (r : Fin 8) (l : Fin 512) (b : Fin 2) (s : Fin 4096) : EReal := if r.val < 3 then dconv P G b s l * gatedBack P b (2 - r.val) s l else 0

/-- The gradient of the convolution's taps: the sum over the rows of both batches. -/
def dTap (r : Fin 8) (l : Fin 512) : EReal := ∑ b : Fin 2, ∑ s : Fin 4096, tapAt P G r l b s

/-- The gated input one row back. -/
theorem gatedBack_sub (b : Fin 2) (k : ℕ) (s : Fin 4096) (h : k ≤ s.val) (l : Fin 512) : gatedBack P b k s l = gated P b ⟨s.val - k, by omega⟩ l := if_pos h

end

end Cert.Mixer

end
-- ==== Proof.Mixer.ConvTile.lean ====
module

public import Idealize.ShloMosaic.Lib.Pipeline.ValueKit
public import Idealize.ShloMosaic.Lib.Pointwise
public import proofs.«01_k».proof.Proof.Mixer.Runs
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Kernel2Ideal.Mixer

open Cert.Kernel2Ideal Cert.Kernel2Ideal.Gen Idealize.ShloMosaic.WordCmp

variable (u e : FVec Ideal S256x512 .f32) (old p15 p14 : FVec Ideal S1x512 .f32)

/-- A choice by whether two small numbers agree as words is a choice by whether they agree. -/
theorem select_word {α : Type} (r k : ℕ) (hr : r < 256) (hk : k < 256) (x y : α) :
    Scalar.select (IntOp.cmpi CmpIPredicate.eq (BitVec.ofNat 32 r) (BitVec.ofNat 32 k)) x y = if r = k then x else y := by
  by_cases h : r = k
  · rw [if_pos h, show Scalar.select _ x y = x from if_pos ((WordCmp.cmpi_eq_ofNat_eq_one_iff (by omega) (by omega)).mpr h)]
  · rw [if_neg h, show Scalar.select _ x y = y from if_neg fun e => h ((WordCmp.cmpi_eq_ofNat_eq_one_iff (by omega) (by omega)).mp e)]

/-- The input one row back in the tile; the tile's first row gets the last row before the tile. -/
theorem one_back (r : Fin 256) (l : Fin 512) : k0_pay16 (F := Ideal) u p15 k0_pay15 (ix2 r l) = if r.val = 0 then p15 (ix2 0 l) else u (ix2 ⟨r.val - 1, by omega⟩ l) := by
  open_payloads
  pointwise
  refine (select_word r.val 0 r.isLt (by omega) _ _).trans ?_
  by_cases h : r.val = 0
  · rw [if_pos h, if_pos h]
  · rw [if_neg h, if_neg h]
    exact congrArg (fun k => u (ix2 k l)) (Fin.ext (by show (r.val + 256 - 1) % 256 = r.val - 1; omega))

/-- The input two rows back in the tile; the tile's first two rows get the last two rows before the tile. -/
theorem two_back (r : Fin 256) (l : Fin 512) : k0_pay17 (F := Ideal) u (iota Kind.tc S256x512 32 [0] iota_S256x512_d0_w32) p15 p14 (ix2 r l)
    = if r.val = 0 then p14 (ix2 0 l) else if r.val = 1 then p15 (ix2 0 l) else u (ix2 ⟨r.val - 2, by omega⟩ l) := by
  open_payloads
  pointwise
  refine (select_word r.val 0 r.isLt (by omega) _ _).trans ?_
  by_cases h : r.val = 0
  · rw [if_pos h, if_pos h]
  · rw [if_neg h, if_neg h]
    refine (select_word r.val 1 r.isLt (by omega) _ _).trans ?_
    by_cases h' : r.val = 1
    · rw [if_pos h', if_pos h']
    · rw [if_neg h', if_neg h']
      exact congrArg (fun k => u (ix2 k l)) (Fin.ext (by show (r.val + 256 - 2) % 256 = r.val - 2; omega))

/-- The last tap's row: the tile's sum of the products is added. -/
theorem tap2 (l : Fin 512) : k0_pay28 (F := Ideal) u e old (ix2 0 l) = old (ix2 0 l) + ∑ r : Fin 256, e (ix2 r l) * u (ix2 r l) := by
  open_payloads
  pointwise

/-- The middle tap's row. -/
theorem tap1 (l : Fin 512) : k0_pay27 (F := Ideal) u e old (ix2 0 l) = old (ix2 0 l) + ∑ r : Fin 256, e (ix2 r l) * u (ix2 r l) := by
  open_payloads
  pointwise

/-- The first tap's row. -/
theorem tap0 (l : Fin 512) : k0_pay26 (F := Ideal) u e old (ix2 0 l) = old (ix2 0 l) + ∑ r : Fin 256, e (ix2 r l) * u (ix2 r l) := by
  open_payloads
  pointwise

/-- The rows before the tile, all zero at a batch's first tile. -/
theorem before_rows (i : grid0.Coords) (a b : Vec Ideal S16x512 .bf16) (r : Fin 16) (l : Fin 512) :
    k0_pay14 (F := Ideal) i a b (ix2 r l) = if (i 1).val = 15 then (0 : EReal) else (a (ix2 r l) : EReal) * b (ix2 r l) := by
  open_payloads
  pointwise
  exact select_word (i 1).val 15 (lt_trans (i 1).isLt (show (16 : ℕ) < 256 by omega)) (by omega) _ _

end Cert.Kernel2Ideal.Mixer

end
-- ==== Proof.Mixer.ConvSteps.lean ====
module

public import Idealize.ShloMosaic.Lib.Pipeline.ValueKit
public import Idealize.ShloMosaic.Lib.WritesUnit
public import Idealize.ShloMosaic.Lib.Pipeline.ReadBack
public import proofs.«01_k».proof.Proof.Mixer.Blocks
public import proofs.«01_k».proof.Proof.Mixer.Conv
public import proofs.«01_k».proof.Proof.Mixer.ConvTile

@[expose] public section

set_option maxRecDepth 16384

noncomputable section

open Idealize.ShloMosaic Idealize.ShloMosaic.TcCoe Idealize.SL.Sem
open Idealize.ShloMosaic.Pipeline (Dat)

namespace Cert.Kernel2Ideal.Mixer

open Cert.Kernel2Ideal Cert.Kernel2Ideal.Gen Cert.Mixer

variable (m : (ℓ : Loc nD τ sig) → Buf (Elt Ideal) ℓ)

/-- The rows before a grid point's tile: the block of sixteen before the tile's first row. -/
theorem idxBefore : ∀ t : Fin cfg0.N, win0_1.index t = ![16 * (t.val / 16 * 16 + (15 - t.val % 16)) - 1, 0] :=
  (by decide +kernel : ∀ t : Fin grid0.N, _)

/-- A grid point's place in its batch. -/
theorem place : ∀ t : Fin cfg0.N, ((grid0.coords t) 1).val = t.val % 16 :=
  (by decide +kernel : ∀ t : Fin grid0.N, _)

/-- The sixteen rows before the tile, read off the argument. -/
theorem beforeTile (c : Dev nD) (t : Fin cfg0.N) (h : ¬t.val % 16 = 15) (r : Fin 16) (l : Fin 4096) :
    X0_1 m c t (ix2 r l) = m ((c : Thread nD τ).loc main_arg0) (ix2 ⟨4096 * (batch t).val + (256 * (15 - t.val % 16) - 16 + r.val), by have := (batch t).isLt; omega⟩ ⟨l.val, by omega⟩) := by
  unfold X0_1 Pipeline.Window.fill
  rw [dif_pos (moved0_1 t _)]
  unfold iblk
  rw [show V m c (Pipeline.arrRef spec0 1) = m ((c : Thread nD τ).loc main_arg0) from V_main_arg0 m c]
  have hk : (16 * (t.val / 16 * 16 + (15 - t.val % 16)) - 1) * 16 = 4096 * (t.val / 16) + (256 * (15 - t.val % 16) - 16) := by omega
  blk_point [idxBefore t, batch, hk]

/-- The gated input of the tile's rows. -/
theorem isU (c : Dev nD) (t : Fin cfg0.N) (r : Fin 256) (l : Fin 512) : (k0_pay13 (F := Ideal) (View.ld (X0_0 m c t) (Rect.unit ![0, 512] ![256, 512] inb_S256x4096_S256x512_0_512)) (View.ld (X0_0 m c t) (Rect.unit ![0, 1024] ![256, 512] inb_S256x4096_S256x512_0_1024))) (ix2 r l) = gated (m ((c : Thread nD τ).loc main_arg0)) (batch t) (row t r) l := by
  open_payloads
  pointwise [gated]
  refine congrArg₂ (· * ·) (Eq.trans (congrArg (X0_0 m c t) (?_ : _ = ix2 r ⟨512 + l.val, by omega⟩)) ((pTile m c t r _).trans ?_))
    (Eq.trans (congrArg (X0_0 m c t) (?_ : _ = ix2 r ⟨1024 + l.val, by omega⟩)) ((pTile m c t r _).trans ?_))
  · idx_ext
  · rfl
  · idx_ext
  · rfl

/-- The cotangent of the convolution at the tile's rows. -/
theorem isE (c : Dev nD) (t : Fin cfg0.N) (r : Fin 256) (l : Fin 512) : (k0_pay20 (F := Ideal) (k0_pay10 (View.ld (X0_0 m c t) (Rect.unit ![0, 0] ![256, 512] inb_S256x4096_S256x512_0_0))) (View.ld (iblk m c 2 t) (Rect.unit ![0, 0] ![256, 512] inb_S256x1536_S256x512_0_0))) (ix2 r l) = dconv (m ((c : Thread nD τ).loc main_arg0)) (m ((c : Thread nD τ).loc main_arg1)) (batch t) (row t r) l := by
  open_payloads
  pointwise [dconv]
  refine congrArg₂ (· * ·) (Eq.trans (congrArg (X0_0 m c t) (?_ : _ = ix2 r ⟨l.val, by omega⟩)) ((pTile m c t r _).trans ?_))
    (Eq.trans (congrArg (iblk m c 2 t) (?_ : _ = ix2 r ⟨l.val, by omega⟩)) ((gTile m c t r _).trans ?_))
  · idx_ext
  · rfl
  · idx_ext
  · rfl

/-- The gated input of the sixteen rows before the tile, zero at a batch's first tile. -/
def before (c : Dev nD) (t : Fin cfg0.N) : FVec Ideal S16x512 .f32 :=
  k0_pay14 (grid0.coords t) (View.ld (X0_1 m c t) (Rect.unit ![0, 512] ![16, 512] inb_S16x4096_S16x512_0_512))
    (View.ld (X0_1 m c t) (Rect.unit ![0, 1024] ![16, 512] inb_S16x4096_S16x512_0_1024))

/-- The row `k` before the tile's first, `k` from one to sixteen. -/
theorem before_at (c : Dev nD) (t : Fin cfg0.N) (r : Fin 16) (l : Fin 512) (k : ℕ) (hk : k + r.val = 16) (s : Fin 4096) (j : ℕ) (hs : s.val = 256 * (15 - t.val % 16) + j) :
    before m c t (ix2 r l) = gatedBack (m ((c : Thread nD τ).loc main_arg0)) (batch t) (k + j) s l := by
  unfold before
  rw [before_rows, place]
  by_cases h : t.val % 16 = 15
  · rw [if_pos h, gatedBack, if_neg (by omega)]
  · rw [if_neg h, gatedBack, if_pos (by omega), gated]
    have e : 256 * (15 - t.val % 16) - 16 + r.val = s.val - (k + j) := by omega
    refine congrArg₂ (· * ·) (Eq.trans (congrArg (X0_1 m c t) (?_ : _ = ix2 r ⟨512 + l.val, by omega⟩)) ((beforeTile m c t h r _).trans ?_))
      (Eq.trans (congrArg (X0_1 m c t) (?_ : _ = ix2 r ⟨1024 + l.val, by omega⟩)) ((beforeTile m c t h r _).trans ?_))
    · idx_ext
    · exact congrArg _ (congrArg (ix2 · _) (Fin.ext (by show 4096 * (batch t).val + (256 * (15 - t.val % 16) - 16 + r.val) = 4096 * (batch t).val + (s.val - (k + j)); rw [e])))
    · idx_ext
    · exact congrArg _ (congrArg (ix2 · _) (Fin.ext (by show 4096 * (batch t).val + (256 * (15 - t.val % 16) - 16 + r.val) = 4096 * (batch t).val + (s.val - (k + j)); rw [e])))

/-- A row of what a whole store left. -/
theorem read_before {κ : Kind} {sp : Space} (v : View sig κ sp S16x512 .f32) (o : ℕ) (ho : o < 16) (i : ∀ a, (![o, 0] : Fin 2 → ℕ) a + (![1, 512] : Fin 2 → ℕ) a ≤ S16x512.size a) (w : FVec Ideal S16x512 .f32) (l : Fin 512) :
    v.readCov ([⟨Rect.unit ![0, 0] ![16, 512] inb_S16x512_S16x512_0_0, w⟩] : List (View.Piece (Elt Ideal) S16x512 .f32)) (Rect.unit (s := S16x512) ![o, 0] ![1, 512] i).toLoadRect
      (show (⟨2, ![1, 512]⟩ : Shape).Idx from ix2 0 l) = w (ix2 ⟨o, ho⟩ l) := by
  rw [View.readCov_eq_canon']
  refine Eq.trans (congrArg _ (?_ : _ = ix2 ⟨o, ho⟩ l)) ?_
  · funext a
    match a with
    | ⟨0, _⟩ => exact Fin.ext rfl
    | ⟨1, _⟩ => exact Fin.ext (by show 0 + 1 * l.val = l.val; omega)
  · rw [← View.read_writes_junk_eq_canon v]
    exact View.read_writes_cons_unit_of_mem v _ _ _ _ (ix2 ⟨o, ho⟩ l) (ix2 ⟨o, ho⟩ l) rfl (Fin.forall_fin_two.2 ⟨(Nat.zero_add _).symm, (Nat.zero_add _).symm⟩)

/-- What a grid point adds to tap `r`. -/
def tapTerm (c : Dev nD) (t : Fin cfg0.N) (r : Fin 8) (l : Fin 512) : EReal := ∑ k : Fin 256, tapAt (m ((c : Thread nD τ).loc main_arg0)) (m ((c : Thread nD τ).loc main_arg1)) r l (batch t) (row t k)

/-- The grid point's row of the last tap. -/
theorem row2 (c : Dev nD) (t : Fin cfg0.N) (old : FVec Ideal S1x512 .f32) (l : Fin 512) :
    k0_pay28 (F := Ideal) (k0_pay13 (F := Ideal) (View.ld (X0_0 m c t) (Rect.unit ![0, 512] ![256, 512] inb_S256x4096_S256x512_0_512)) (View.ld (X0_0 m c t) (Rect.unit ![0, 1024] ![256, 512] inb_S256x4096_S256x512_0_1024))) (k0_pay20 (F := Ideal) (k0_pay10 (View.ld (X0_0 m c t) (Rect.unit ![0, 0] ![256, 512] inb_S256x4096_S256x512_0_0))) (View.ld (iblk m c 2 t) (Rect.unit ![0, 0] ![256, 512] inb_S256x1536_S256x512_0_0))) old (ix2 0 l) = old (ix2 0 l) + tapTerm m c t 2 l := by
  rw [tap2]
  refine congrArg (old (ix2 0 l) + ·) (Finset.sum_congr rfl fun r _ => ?_)
  rw [isU, isE, tapAt, if_pos (by decide), gatedBack, if_pos (by omega)]
  rfl

/-- The grid point's row of the middle tap. -/
theorem row1 (c : Dev nD) (t : Fin cfg0.N) (old : FVec Ideal S1x512 .f32) (l : Fin 512) :
    k0_pay27 (F := Ideal) (k0_pay16 (k0_pay13 (F := Ideal) (View.ld (X0_0 m c t) (Rect.unit ![0, 512] ![256, 512] inb_S256x4096_S256x512_0_512)) (View.ld (X0_0 m c t) (Rect.unit ![0, 1024] ![256, 512] inb_S256x4096_S256x512_0_1024))) ((View.whole cc0_scratch2).readCov [⟨Rect.unit ![0, 0] ![16, 512] inb_S16x512_S16x512_0_0, before m c t⟩] (Rect.unit (s := S16x512) ![15, 0] ![1, 512] inb_S16x512_S1x512_15_0).toLoadRect) k0_pay15) (k0_pay20 (F := Ideal) (k0_pay10 (View.ld (X0_0 m c t) (Rect.unit ![0, 0] ![256, 512] inb_S256x4096_S256x512_0_0))) (View.ld (iblk m c 2 t) (Rect.unit ![0, 0] ![256, 512] inb_S256x1536_S256x512_0_0))) old (ix2 0 l) = old (ix2 0 l) + tapTerm m c t 1 l := by
  rw [tap1]
  refine congrArg (old (ix2 0 l) + ·) (Finset.sum_congr rfl fun r _ => ?_)
  rw [isE, tapAt, if_pos (by decide), one_back]
  refine congrArg (dconv (m ((c : Thread nD τ).loc main_arg0)) (m ((c : Thread nD τ).loc main_arg1)) (batch t) (row t r) l * ·) ?_
  by_cases h : r.val = 0
  · rw [if_pos h, read_before _ 15 (by omega)]
    exact before_at m c t ⟨15, by omega⟩ l 1 rfl (row t r) 0 (by show 256 * (15 - t.val % 16) + r.val = _; omega)
  · rw [if_neg h, isU]
    refine Eq.trans (congrArg (gated _ _ · l) (Fin.ext ?_)) (gatedBack_sub _ (batch t) 1 (row t r) (by show 1 ≤ 256 * (15 - t.val % 16) + r.val; omega) l).symm
    show 256 * (15 - t.val % 16) + (r.val - 1) = 256 * (15 - t.val % 16) + r.val - 1
    omega

/-- The grid point's row of the first tap. -/
theorem row0 (c : Dev nD) (t : Fin cfg0.N) (old : FVec Ideal S1x512 .f32) (l : Fin 512) :
    k0_pay26 (F := Ideal) (k0_pay17 (k0_pay13 (F := Ideal) (View.ld (X0_0 m c t) (Rect.unit ![0, 512] ![256, 512] inb_S256x4096_S256x512_0_512)) (View.ld (X0_0 m c t) (Rect.unit ![0, 1024] ![256, 512] inb_S256x4096_S256x512_0_1024))) (iota Kind.tc S256x512 32 [0] iota_S256x512_d0_w32) ((View.whole cc0_scratch2).readCov [⟨Rect.unit ![0, 0] ![16, 512] inb_S16x512_S16x512_0_0, before m c t⟩] (Rect.unit (s := S16x512) ![15, 0] ![1, 512] inb_S16x512_S1x512_15_0).toLoadRect) ((View.whole cc0_scratch2).readCov [⟨Rect.unit ![0, 0] ![16, 512] inb_S16x512_S16x512_0_0, before m c t⟩] (Rect.unit (s := S16x512) ![14, 0] ![1, 512] inb_S16x512_S1x512_14_0).toLoadRect)) (k0_pay20 (F := Ideal) (k0_pay10 (View.ld (X0_0 m c t) (Rect.unit ![0, 0] ![256, 512] inb_S256x4096_S256x512_0_0))) (View.ld (iblk m c 2 t) (Rect.unit ![0, 0] ![256, 512] inb_S256x1536_S256x512_0_0))) old (ix2 0 l) = old (ix2 0 l) + tapTerm m c t 0 l := by
  rw [tap0]
  refine congrArg (old (ix2 0 l) + ·) (Finset.sum_congr rfl fun r _ => ?_)
  rw [isE, tapAt, if_pos (by decide), two_back]
  refine congrArg (dconv (m ((c : Thread nD τ).loc main_arg0)) (m ((c : Thread nD τ).loc main_arg1)) (batch t) (row t r) l * ·) ?_
  by_cases h : r.val = 0
  · rw [if_pos h, read_before _ 14 (by omega)]
    exact before_at m c t ⟨14, by omega⟩ l 2 rfl (row t r) 0 (by show 256 * (15 - t.val % 16) + r.val = _; omega)
  · rw [if_neg h]
    by_cases h' : r.val = 1
    · rw [if_pos h', read_before _ 15 (by omega)]
      exact before_at m c t ⟨15, by omega⟩ l 1 rfl (row t r) 1 (by show 256 * (15 - t.val % 16) + r.val = _; omega)
    · rw [if_neg h', isU]
      refine Eq.trans (congrArg (gated _ _ · l) (Fin.ext ?_)) (gatedBack_sub _ (batch t) 2 (row t r) (by show 2 ≤ 256 * (15 - t.val % 16) + r.val; omega) l).symm
      show 256 * (15 - t.val % 16) + (r.val - 2) = 256 * (15 - t.val % 16) + r.val - 2
      omega

/-- Three stores, each into one of the first three rows: there the store's own value, elsewhere what was there. -/
theorem tap_stores {κ : Kind} {sp : Space} (v : View sig κ sp S8x512 .f32) (f : v.ty.Contents (Elt Ideal))
    (w0 w1 w2 : FVec Ideal S1x512 .f32) (L : List (View.Piece (Elt Ideal) S8x512 .f32)) (r : Fin 8) (l : Fin 512) :
    v.read (Elt Ideal) (v.writes (Elt Ideal) f
      (⟨Rect.unit ![2, 0] ![1, 512] inb_S8x512_S1x512_2_0, w2⟩ :: ⟨Rect.unit ![1, 0] ![1, 512] inb_S8x512_S1x512_1_0, w1⟩
        :: ⟨Rect.unit ![0, 0] ![1, 512] inb_S8x512_S1x512_0_0, w0⟩ :: L)) (ix2 r l)
    = if r.val = 0 then (w0 (ix2 0 l) : EReal) else if r.val = 1 then w1 (ix2 0 l) else if r.val = 2 then w2 (ix2 0 l)
      else v.read (Elt Ideal) (v.writes (Elt Ideal) f L) (ix2 r l) := by
  by_cases h0 : r.val = 0
  · rw [if_pos h0, View.read_writes_cons_unit_of_not_mem v f _ _ _ _ rfl 0 (.inl (by show r.val < 2; omega)),
      View.read_writes_cons_unit_of_not_mem v f _ _ _ _ rfl 0 (.inl (by show r.val < 1; omega))]
    exact View.read_writes_cons_unit_of_mem v f _ _ _ _ (ix2 0 l) rfl (Fin.forall_fin_two.2 ⟨h0, (Nat.zero_add _).symm⟩)
  rw [if_neg h0]
  by_cases h1 : r.val = 1
  · rw [if_pos h1, View.read_writes_cons_unit_of_not_mem v f _ _ _ _ rfl 0 (.inl (by show r.val < 2; omega))]
    exact View.read_writes_cons_unit_of_mem v f _ _ _ _ (ix2 0 l) rfl (Fin.forall_fin_two.2 ⟨h1, (Nat.zero_add _).symm⟩)
  rw [if_neg h1]
  by_cases h2 : r.val = 2
  · rw [if_pos h2]
    exact View.read_writes_cons_unit_of_mem v f _ _ _ _ (ix2 0 l) rfl (Fin.forall_fin_two.2 ⟨h2, (Nat.zero_add _).symm⟩)
  rw [if_neg h2, View.read_writes_cons_unit_of_not_mem v f _ _ _ _ rfl 0 (.inr (by show 2 + 1 ≤ r.val; omega)),
    View.read_writes_cons_unit_of_not_mem v f _ _ _ _ rfl 0 (.inr (by show 1 + 1 ≤ r.val; omega)),
    View.read_writes_cons_unit_of_not_mem v f _ _ _ _ rfl 0 (.inr (by show 0 + 1 ≤ r.val; omega))]

/-- The zero fill reads zero. -/
theorem tap_zero {κ : Kind} {sp : Space} (v : View sig κ sp S8x512 .f32) (f : v.ty.Contents (Elt Ideal)) (y : S8x512.Idx) :
    v.read (Elt Ideal) (v.writes (Elt Ideal) f [⟨Rect.unit ![0, 0] ![8, 512] inb_S8x512_S8x512_0_0, k0_pay7 (F := Ideal)⟩]) y = (0 : EReal) := by
  refine (View.read_writes_cons_unit_of_mem v f _ _ _ y y rfl (Fin.forall_fin_two.2 ⟨(Nat.zero_add _).symm, (Nat.zero_add _).symm⟩)).trans ?_
  pointwise [k0_pay7]

/-- A load of a row from what the stores so far left. -/
theorem tap_load {κ : Kind} {sp : Space} (v : View sig κ sp S8x512 .f32) (L : List (View.Piece (Elt Ideal) S8x512 .f32)) (o : ℕ) (ho : o < 8)
    (inb : ∀ a, (![o, 0] : Fin 2 → ℕ) a + (![1, 512] : Fin 2 → ℕ) a ≤ S8x512.size a) (l : Fin 512) :
    v.readCov L (Rect.unit (s := S8x512) ![o, 0] ![1, 512] inb).toLoadRect (show (⟨2, ![1, 512]⟩ : Shape).Idx from ix2 0 l)
      = v.read (Elt Ideal) (v.writes (Elt Ideal) v.junk L) (ix2 ⟨o, ho⟩ l) := by
  rw [View.readCov_eq_canon', ← View.read_writes_junk_eq_canon v]
  refine congrArg _ (funext fun a => ?_)
  match a with
  | ⟨0, _⟩ => exact Fin.ext rfl
  | ⟨1, _⟩ => exact Fin.ext (by show 0 + 1 * l.val = l.val; omega)

/-- A row past the third gets nothing. -/
theorem tapTerm_out (c : Dev nD) (t : Fin cfg0.N) (r : Fin 8) (hr : 3 ≤ r.val) (l : Fin 512) : tapTerm m c t r l = 0 := by
  unfold tapTerm tapAt
  simp only [if_neg (show ¬r.val < 3 by omega)]
  exact Finset.sum_const_zero

/-- The three rows a later grid point stores over what the taps held. -/
theorem tap_later (c : Dev nD) (t : Fin cfg0.N) (p : Vec Ideal S8x512 .f32) (r : Fin 8) (l : Fin 512) :
    (ms0_13 t).view.read (Elt Ideal) ((ms0_13 t).view.writes (Elt Ideal) ((hs0_13 t).unread p)
      [⟨Rect.unit ![2, 0] ![1, 512] inb_S8x512_S1x512_2_0, k0_pay28 (k0_pay13 (F := Ideal) (View.ld (X0_0 m c t) (Rect.unit ![0, 512] ![256, 512] inb_S256x4096_S256x512_0_512)) (View.ld (X0_0 m c t) (Rect.unit ![0, 1024] ![256, 512] inb_S256x4096_S256x512_0_1024))) (k0_pay20 (F := Ideal) (k0_pay10 (View.ld (X0_0 m c t) (Rect.unit ![0, 0] ![256, 512] inb_S256x4096_S256x512_0_0))) (View.ld (iblk m c 2 t) (Rect.unit ![0, 0] ![256, 512] inb_S256x1536_S256x512_0_0))) (View.ld p (Rect.unit (s := S8x512) ![2, 0] ![1, 512] inb_S8x512_S1x512_2_0))⟩,
       ⟨Rect.unit ![1, 0] ![1, 512] inb_S8x512_S1x512_1_0, k0_pay27 (k0_pay16 (k0_pay13 (F := Ideal) (View.ld (X0_0 m c t) (Rect.unit ![0, 512] ![256, 512] inb_S256x4096_S256x512_0_512)) (View.ld (X0_0 m c t) (Rect.unit ![0, 1024] ![256, 512] inb_S256x4096_S256x512_0_1024))) ((View.whole cc0_scratch2).readCov [⟨Rect.unit ![0, 0] ![16, 512] inb_S16x512_S16x512_0_0, before m c t⟩] (Rect.unit (s := S16x512) ![15, 0] ![1, 512] inb_S16x512_S1x512_15_0).toLoadRect) k0_pay15) (k0_pay20 (F := Ideal) (k0_pay10 (View.ld (X0_0 m c t) (Rect.unit ![0, 0] ![256, 512] inb_S256x4096_S256x512_0_0))) (View.ld (iblk m c 2 t) (Rect.unit ![0, 0] ![256, 512] inb_S256x1536_S256x512_0_0))) (View.ld p (Rect.unit (s := S8x512) ![1, 0] ![1, 512] inb_S8x512_S1x512_1_0))⟩,
       ⟨Rect.unit ![0, 0] ![1, 512] inb_S8x512_S1x512_0_0, k0_pay26 (k0_pay17 (k0_pay13 (F := Ideal) (View.ld (X0_0 m c t) (Rect.unit ![0, 512] ![256, 512] inb_S256x4096_S256x512_0_512)) (View.ld (X0_0 m c t) (Rect.unit ![0, 1024] ![256, 512] inb_S256x4096_S256x512_0_1024))) (iota Kind.tc S256x512 32 [0] iota_S256x512_d0_w32) ((View.whole cc0_scratch2).readCov [⟨Rect.unit ![0, 0] ![16, 512] inb_S16x512_S16x512_0_0, before m c t⟩] (Rect.unit (s := S16x512) ![15, 0] ![1, 512] inb_S16x512_S1x512_15_0).toLoadRect) ((View.whole cc0_scratch2).readCov [⟨Rect.unit ![0, 0] ![16, 512] inb_S16x512_S16x512_0_0, before m c t⟩] (Rect.unit (s := S16x512) ![14, 0] ![1, 512] inb_S16x512_S1x512_14_0).toLoadRect)) (k0_pay20 (F := Ideal) (k0_pay10 (View.ld (X0_0 m c t) (Rect.unit ![0, 0] ![256, 512] inb_S256x4096_S256x512_0_0))) (View.ld (iblk m c 2 t) (Rect.unit ![0, 0] ![256, 512] inb_S256x1536_S256x512_0_0))) (View.ld p (Rect.unit (s := S8x512) ![0, 0] ![1, 512] inb_S8x512_S1x512_0_0))⟩])
      (ix2 r l) = (show EReal from p (ix2 r l)) + tapTerm m c t r l := by
  rw [tap_stores]
  by_cases hr0 : r.val = 0
  · rw [if_pos hr0, show r = 0 from Fin.ext hr0]
    refine (row0 m c t _ l).trans (congrArg (· + _) (congrArg p ?_))
    idx_ext
  rw [if_neg hr0]
  by_cases hr1 : r.val = 1
  · rw [if_pos hr1, show r = 1 from Fin.ext hr1]
    refine (row1 m c t _ l).trans (congrArg (· + _) (congrArg p ?_))
    idx_ext
  rw [if_neg hr1]
  by_cases hr2 : r.val = 2
  · rw [if_pos hr2, show r = 2 from Fin.ext hr2]
    refine (row2 m c t _ l).trans (congrArg (· + _) (congrArg p ?_))
    idx_ext
  rw [if_neg hr2, tapTerm_out m c t r (by omega), add_zero, View.writes_nil, Memref.IsWhole.read_unread]

/-- The first grid point starts the taps from zero. -/
theorem tap_A (c : Dev nD) (t : Fin cfg0.N) (h0 : t.val % 16 = 0) (h1 : t.val % 32 = 0) (r : Fin 8) (l : Fin 512) :
    (leftA m c t h0 h1).2.2.2.1 (ix2 r l) = tapTerm m c t r l := by
  unfold leftA runA
  dsimp only
  frame_out
  rw [← View.read_writes_junk_eq_canon (ms0_13 t).view, tap_stores]
  by_cases hr0 : r.val = 0
  · rw [if_pos hr0, show r = 0 from Fin.ext hr0]
    refine (row0 m c t _ l).trans ?_
    rw [tap_load _ _ 0 (by omega), tap_zero, zero_add]
  rw [if_neg hr0]
  by_cases hr1 : r.val = 1
  · rw [if_pos hr1, show r = 1 from Fin.ext hr1]
    refine (row1 m c t _ l).trans ?_
    rw [tap_load _ _ 1 (by omega), View.read_writes_cons_unit_of_not_mem _ _ _ _ _ _ rfl 0 (.inr (by show 0 + 1 ≤ 1; omega)), tap_zero, zero_add]
  rw [if_neg hr1]
  by_cases hr2 : r.val = 2
  · rw [if_pos hr2, show r = 2 from Fin.ext hr2]
    refine (row2 m c t _ l).trans ?_
    rw [tap_load _ _ 2 (by omega), View.read_writes_cons_unit_of_not_mem _ _ _ _ _ _ rfl 0 (.inr (by show 1 + 1 ≤ 2; omega)),
      View.read_writes_cons_unit_of_not_mem _ _ _ _ _ _ rfl 0 (.inr (by show 0 + 1 ≤ 2; omega)), tap_zero, zero_add]
  rw [if_neg hr2, tap_zero, tapTerm_out m c t r (by omega)]

/-- A later grid point adds to the taps. -/
theorem tap_B (c : Dev nD) (t : Fin cfg0.N) (h0 : ¬t.val % 16 = 0) (h1 : ¬t.val % 32 = 0) (p : Held Ideal) (r : Fin 8) (l : Fin 512) :
    (leftB m c t h0 h1 p).2.2.2.1 (ix2 r l) = (show EReal from p.2.2.2.1 (ix2 r l)) + tapTerm m c t r l := by
  unfold leftB runB
  dsimp only
  frame_out
  exact tap_later m c t p.2.2.2.1 r l

/-- A later grid point adds to the taps. -/
theorem tap_C (c : Dev nD) (t : Fin cfg0.N) (h0 : t.val % 16 = 0) (h1 : ¬t.val % 32 = 0) (p : Held Ideal) (r : Fin 8) (l : Fin 512) :
    (leftC m c t h0 h1 p).2.2.2.1 (ix2 r l) = (show EReal from p.2.2.2.1 (ix2 r l)) + tapTerm m c t r l := by
  unfold leftC runC
  dsimp only
  frame_out
  exact tap_later m c t p.2.2.2.1 r l

end Cert.Kernel2Ideal.Mixer

end
-- ==== Proof.Mixer.ConvFinal.lean ====
module

public import Idealize.ShloMosaic.Lib.Pipeline.ValueKit
public import Idealize.ShloMosaic.Lib.Pipeline.ReadBack
public import proofs.«01_k».proof.Proof.Mixer.Final
public import proofs.«01_k».proof.Proof.Mixer.ConvSteps

@[expose] public section

set_option maxRecDepth 16384

noncomputable section

open Idealize.ShloMosaic Idealize.ShloMosaic.TcCoe Idealize.SL.Sem
open Idealize.ShloMosaic.Pipeline (Dat)

namespace Cert.Kernel2Ideal.Mixer

open Cert.Kernel2Ideal Cert.Kernel2Ideal.Gen Cert.Mixer

variable (m : (ℓ : Loc nD τ sig) → Buf (Elt Ideal) ℓ)

/-- The taps' block is one for the whole grid. -/
theorem idxTap : ∀ t : Fin cfg0.N, win0_13.index t = ![0, 0] :=
  (by decide +kernel : ∀ t : Fin grid0.N, _)

/-- The taps' block after grid point `n`. -/
def tapHeld (c : Dev nD) (n : ℕ) (hn : n < cfg0.N) (i : S8x512.Idx) : EReal := (outsAt0 m c n hn).2.2.2.1 i

/-- Summing over the grid points and a tile's rows is summing over both batches' rows. -/
theorem sum_points (f : Fin 2 → Fin 4096 → EReal) (h : ∀ s : Fin 32, s.val < cfg0.N) :
    ∑ s : Fin 32, ∑ r : Fin 256, f (batch ⟨s.val, h s⟩) (row ⟨s.val, h s⟩ r) = ∑ b : Fin 2, ∑ u : Fin 4096, f b u := by
  have e : ∀ b : Fin 2, ∑ u : Fin 4096, f b u = ∑ s : Fin 16, ∑ r : Fin 256, f b (row ⟨16 * b.val + s.val, by have := h ⟨16 * b.val + s.val, by omega⟩; exact this⟩ r) := fun b => by
    have hb : 16 * b.val < cfg0.N := h ⟨16 * b.val, by omega⟩
    have hq : 16 * b.val / 16 = b.val := by omega
    have g := sum_rows (f b) ⟨16 * b.val, hb⟩ (fun s => by show 16 * (16 * b.val / 16) + s.val < cfg0.N; rw [hq]; exact h ⟨16 * b.val + s.val, by omega⟩)
    rw [← g]
    refine Finset.sum_congr rfl fun s _ => Finset.sum_congr rfl fun r _ => congrArg (fun t => f b (row t r)) (Fin.ext ?_)
    show 16 * (16 * b.val / 16) + s.val = 16 * b.val + s.val
    rw [hq]
  rw [Finset.sum_congr rfl fun b _ => e b]
  refine (Fin.sum_mul_add_congr fun b s hl => ?_).symm
  refine Finset.sum_congr rfl fun r _ => ?_
  have hbt : batch ⟨b.val * 16 + s.val, h ⟨b.val * 16 + s.val, hl⟩⟩ = b := Fin.ext (by show (b.val * 16 + s.val) / 16 = b.val; omega)
  refine Eq.trans (congrArg (fun t => f b (row t r)) (Fin.ext ?_)) (congrArg (fun b' => f b' (row ⟨b.val * 16 + s.val, h ⟨b.val * 16 + s.val, hl⟩⟩ r)) hbt.symm)
  show 16 * b.val + s.val = b.val * 16 + s.val
  omega

/-- The gradient of the convolution's taps as the run leaves it. -/
theorem final13 (c : Dev nD) : (dats m 0 c).arrAt 13 (cfgs 0).N
    = fun i : (⟨2, ![8, 512]⟩ : Shape).Idx => dTap (m ((c : Thread nD τ).loc main_arg0)) (m ((c : Thread nD τ).loc main_arg1)) (i 0) (i 1) := by
  refine (dats m 0 c).arrAt_eq_of_covers 13 _ (by decide +kernel) fun t hf y => ?_
  have ht := (flush0_13 t).mp hf
  blk_simp
  rw [after0_13]
  have hN : t.val < 32 := lt_of_lt_of_eq t.isLt N_0
  have hy : (win0_13.blk t).view.emb y = y := by blk_ext [idxTap t]
  rw [hy]
  obtain ⟨r, l, rfl⟩ : ∃ (r : Fin 8) (l : Fin 512), y = ix2 r l := ⟨y 0, y 1, (ix2_eta y).symm⟩
  have e : tapHeld m c t.val t.isLt (ix2 r l) = 0 + ∑ s : Fin 32, tapTerm m c ⟨32 * (t.val / 32) + s.val, _⟩ r l :=
    Pipeline.eq_sum_fin_of_reset_step_apply_of_flush (tapHeld m c) 32 (fun _ => 0) (fun t i => tapTerm m c t (i 0) (i 1))
      (fun t h1 i => by
        rw [tapHeld, zero_add, outsAt0_A m c t (by omega) h1, ← ix2_eta i]
        exact tap_A m c t (by omega) h1 (i 0) (i 1))
      (fun t h1 i => by
        rw [tapHeld, ← ix2_eta i]
        by_cases h0 : t.val % 16 = 0
        · rw [outsAt0_C m c t h0 h1]
          exact tap_C m c t h0 h1 _ (i 0) (i 1)
        · rw [outsAt0_B m c t h0 h1]
          exact tap_B m c t h0 h1 _ (i 0) (i 1))
      t ht (ix2 r l)
  refine e.trans ?_
  rw [zero_add]
  refine Eq.trans (Finset.sum_congr rfl fun s _ => ?_) (sum_points (tapAt (m ((c : Thread nD τ).loc main_arg0)) (m ((c : Thread nD τ).loc main_arg1)) r l) fun s => lt_of_lt_of_eq s.isLt N_0.symm)
  refine congrArg (fun t => tapTerm m c t r l) (Fin.ext ?_)
  show 32 * (t.val / 32) + s.val = s.val
  omega

end Cert.Kernel2Ideal.Mixer

end
-- ==== Proof.Mixer.RefScore.lean ====
module

public import proofs.«01_k».proof.Proof.Gen.Reference2Ideal.Read
public import Idealize.ShloMosaic.Lib.Pipeline.ValueKit
public import proofs.«01_k».proof.Proof.Mixer.Attn

@[expose] public section

set_option maxRecDepth 16384

noncomputable section

open Idealize.ShloMosaic Idealize.ShloMosaic.TcCoe Idealize.SL.Sem

namespace Cert.Reference2Ideal.Mixer

open Cert.Reference2Ideal Cert.Reference2Ideal.Gen Cert.Mixer Cert.Reference2Ideal.Read

variable (P : FVec Ideal ⟨2, ![8192, 7168]⟩ .bf16) (G : FVec Ideal ⟨2, ![8192, 1536]⟩ .bf16)
  (K V : FVec Ideal ⟨2, ![512, 512]⟩ .bf16)

/-- The reference's scores. -/
theorem v43 (b : Fin 2) (h : Fin 4) (t : Fin 4096) (n : Fin 256) :
    val_main_v43 (F := Ideal) P K (ix4 b h t n) = score P K b h t n := by
  pointwise [val_main_v43, val_main_v42, val_main_cst_0, val_main_v41, val_main_v38, val_main_v39, val_main_v36, val_main_v12, val_main_v11, val_main_v10, val_main_v9, val_main_v8, val_main_v7, val_main_v6, val_main_v5, val_main_v4, val_main_v3, val_main_v2, val_main_v1, val_main_v0, score]
  blk_point

end Cert.Reference2Ideal.Mixer

end
-- ==== Proof.Mixer.Quot.lean ====
module

public import proofs.«01_k».proof.Proof.Mixer.Attn
public import Idealize.ShloMosaic.Lib.IdealHost
public import proofs.«01_k».proof.Proof.Real

@[expose] public section

set_option maxRecDepth 16384

noncomputable section

open Idealize.ShloMosaic

namespace Cert.Mixer

open Cert.Real

/-- The queries' columns lie inside the projection. -/
theorem query_lt (l : Fin 512) : 3584 + l.val < 7168 := by omega

/-- The scale is a real number. -/
theorem scale_real : ∃ r : ℝ, Ideal.ofBits .f32 0x3DB504F3#32 = r := by
  simp [Ideal.ofBits, Ideal.ieee, -EReal.coe_mul]

variable (P : FVec Ideal ⟨2, ![8192, 7168]⟩ .bf16) (K : FVec Ideal ⟨2, ![512, 512]⟩ .bf16)
  (hP : ∀ (r : Fin 8192) (l : Fin 512), ∃ x : ℝ, P (ix2 r ⟨3584 + l.val, query_lt l⟩) = x) (hK : ∀ i, ∃ r : ℝ, K i = r)

include hP hK

/-- Scores of finite rows are finite. -/
theorem score_real (b : Fin 2) (h : Fin 4) (t : Fin 4096) (n : Fin 256) : ∃ r : ℝ, score P K b h t n = r := by
  obtain ⟨s, hs⟩ := scale_real
  obtain ⟨u, hu⟩ := sum_real (fun d : Fin 128 => P (ix2 ⟨4096 * b.val + t.val, by omega⟩ ⟨3584 + (128 * h.val + d.val), by omega⟩)
      * K (ix2 ⟨256 * b.val + n.val, by omega⟩ ⟨128 * h.val + d.val, by omega⟩)) fun d => by
    obtain ⟨x, hx⟩ := hP ⟨4096 * b.val + t.val, by omega⟩ ⟨128 * h.val + d.val, by omega⟩
    obtain ⟨y, hy⟩ := hK (ix2 ⟨256 * b.val + n.val, by omega⟩ ⟨128 * h.val + d.val, by omega⟩)
    exact ⟨x * y, by rw [hx, hy, EReal.coe_mul]⟩
  exact ⟨u * s, by unfold score; rw [hu, hs, EReal.coe_mul]⟩

/-- The exponentials of finite rows are positive real numbers. -/
theorem expo_real (b : Fin 2) (h : Fin 4) (t : Fin 4096) (n : Fin 256) : ∃ r : ℝ, 0 < r ∧ expo P K b h t n = r := by
  obtain ⟨s, hs⟩ := score_real P K hP hK b h t n
  obtain ⟨u, hu⟩ := fold_max_real (fun n => score P K b h t n) (score_real P K hP hK b h t)
  refine ⟨Real.exp (s - u), Real.exp_pos _, ?_⟩
  unfold expo top
  rw [hs, least_word, hu, ← EReal.coe_sub]
  rfl

/-- The totals of finite rows are positive real numbers. -/
theorem total_real (b : Fin 2) (h : Fin 4) (t : Fin 4096) : ∃ r : ℝ, 0 < r ∧ total P K b h t = r := by
  choose g h0 hg using expo_real P K hP hK b h t
  refine ⟨∑ n, g n, Finset.sum_pos (fun n _ => h0 n) ⟨0, Finset.mem_univ _⟩, ?_⟩
  unfold total
  rw [coe_sum]
  exact Finset.sum_congr rfl fun n _ => hg n

/-- The gradient of a score as the rule for the quotient gives it, in the form of the probabilities. -/
theorem dscore_quotient (G : FVec Ideal ⟨2, ![8192, 1536]⟩ .bf16) (V : FVec Ideal ⟨2, ![512, 512]⟩ .bf16) (b : Fin 2) (h : Fin 4) (t : Fin 4096) (n : Fin 256) :
    dscore P G K V b h t n = (Ideal.div (dprob G V b h t n) (total P K b h t)
          + -∑ k : Fin 256, dprob G V b h t k * Ideal.div 1 (total P K b h t * total P K b h t) * expo P K b h t k)
        * expo P K b h t n * Ideal.ofBits .f32 0x3DB504F3#32 := by
  obtain ⟨z, hz, ez⟩ := total_real P K hP hK b h t
  obtain ⟨a, ha, ea⟩ := expo_real P K hP hK b h t n
  unfold dscore prob
  rw [ez]
  exact congrArg (· * _) (quotient_rule (expo P K b h t) (dprob G V b h t) a z ha.le hz n ea)

end Cert.Mixer

end
-- ==== Proof.Mixer.RefAttn.lean ====
module

public import proofs.«01_k».proof.Proof.Gen.Reference2Ideal.Read
public import Idealize.ShloMosaic.Lib.Pipeline.ValueKit
public import proofs.«01_k».proof.Proof.Mixer.RefScore
public import proofs.«01_k».proof.Proof.Mixer.Quot

@[expose] public section

set_option maxRecDepth 16384

noncomputable section

open Idealize.ShloMosaic Idealize.ShloMosaic.TcCoe Idealize.SL.Sem

namespace Cert.Reference2Ideal.Mixer

open Cert.Reference2Ideal Cert.Reference2Ideal.Gen Cert.Mixer Cert.Reference2Ideal.Read

variable (P : FVec Ideal ⟨2, ![8192, 7168]⟩ .bf16) (G : FVec Ideal ⟨2, ![8192, 1536]⟩ .bf16)
  (K V : FVec Ideal ⟨2, ![512, 512]⟩ .bf16)

/-- The reference's largest scores. -/
theorem v44 (b : Fin 2) (h : Fin 4) (t : Fin 4096) :
    val_main_v44 (F := Ideal) P K (ix3 b h t) = top P K b h t := by
  have h43 := v43 P K
  unfold val_main_v44
  generalize val_main_v43 (F := Ideal) P K = x at *
  pointwise [val_main_cst_1, h43, top]

/-- The reference's largest scores, against the least word. -/
theorem v51 (b : Fin 2) (h : Fin 4) (t : Fin 4096) : val_main_v51 (F := Ideal) P K (ix3 b h t) = top P K b h t := by
  have e := max_top P K b h t
  rw [val_main_v51_apply, v44, val_main_v50_apply, val_main_cst_3_apply]
  generalize top P K b h t = y at *
  exact e

/-- The reference's exponentials. -/
theorem v64 (b : Fin 2) (h : Fin 4) (t : Fin 4096) (n : Fin 256) :
    val_main_v64 (F := Ideal) P K (ix4 b h t n) = expo P K b h t n := by
  have h43 := v43 P K
  have h51 := v51 P K
  unfold val_main_v64 val_main_v63 val_main_v62 val_main_v61
  generalize val_main_v43 (F := Ideal) P K = x at *
  generalize val_main_v51 (F := Ideal) P K = y at *
  pointwise [h43, h51, expo]

/-- The reference's totals. -/
theorem v66 (b : Fin 2) (h : Fin 4) (t : Fin 4096) :
    val_main_v66 (F := Ideal) P K (ix4 b h t 0) = total P K b h t := by
  have h64 := v64 P K
  unfold val_main_v66 val_main_v65
  generalize val_main_v64 (F := Ideal) P K = x at *
  pointwise [val_main_cst_9, h64, total]

/-- The reference's probabilities. -/
theorem v68 (b : Fin 2) (h : Fin 4) (t : Fin 4096) (n : Fin 256) :
    val_main_v68 (F := Ideal) P K (ix4 b h t n) = prob P K b h t n := by
  have h64 := v64 P K
  have h66 := v66 P K
  unfold val_main_v68 val_main_v67
  generalize val_main_v64 (F := Ideal) P K = x at *
  generalize val_main_v66 (F := Ideal) P K = y at *
  pointwise [h64, h66, prob]

/-- The reference's gradients of the probabilities. -/
theorem v85 (b : Fin 2) (h : Fin 4) (t : Fin 4096) (n : Fin 256) :
    val_main_v85 (F := Ideal) G V (ix4 b h t n) = dprob G V b h t n := by
  pointwise [val_main_v85, val_main_v84, val_main_v83, val_main_v81, val_main_v80, val_main_v79, val_main_v40, val_main_v37, val_main_v13, dprob]
  blk_point

/-- The reference's gradients of the memory's values. -/
theorem v106 (b : Fin 2) (n : Fin 256) (h : Fin 4) (d : Fin 128) :
    val_main_v106 (F := Ideal) P G K (ix2 ⟨256 * b.val + n.val, by omega⟩ ⟨128 * h.val + d.val, by omega⟩) = dValueAt P G K b n h d := by
  have h68 := v68 P K
  unfold val_main_v106 val_main_v104 val_main_v87 val_main_v86
  generalize val_main_v68 (F := Ideal) P K = x at *
  pointwise [val_main_v84, val_main_v83, val_main_v81, val_main_v80, val_main_v79, h68, dValueAt]
  refine Finset.sum_congr rfl fun t _ => (mul_comm _ _).trans ?_
  blk_point

/-- The reference's gradients of the scores, before the rule for the quotient is put in the kernel's form. -/
theorem v101 (b : Fin 2) (h : Fin 4) (t : Fin 4096) (n : Fin 256) :
    val_main_v101 (F := Ideal) P G K V (ix4 b h t n)
      = (Ideal.div (dprob G V b h t n) (total P K b h t)
          + -∑ k : Fin 256, dprob G V b h t k * Ideal.div 1 (total P K b h t * total P K b h t) * expo P K b h t k)
        * expo P K b h t n * Ideal.ofBits .f32 0x3DB504F3#32 := by
  have h64 := v64 P K
  have h66 := v66 P K
  have h85 := v85 G V
  unfold val_main_v101 val_main_v99 val_main_v98 val_main_v95 val_main_v94 val_main_v97 val_main_v96 val_main_v93 val_main_v92 val_main_v91 val_main_v90 val_main_v89 val_main_v88 val_main_v71 val_main_v69
  generalize val_main_v64 (F := Ideal) P K = x at *
  generalize val_main_v66 (F := Ideal) P K = y at *
  generalize val_main_v85 (F := Ideal) G V = z at *
  pointwise [val_main_v100, val_main_v70, val_main_cst_10, val_main_cst_11, val_main_cst_12, val_main_cst_13, h64, h66, h85]
  rw [Fin.sum_univ_one]

/-- The reference's gradients of the memory's keys. -/
theorem v107 (hP : ∀ (r : Fin 8192) (l : Fin 512), ∃ x : ℝ, P (ix2 r ⟨3584 + l.val, query_lt l⟩) = x) (hK : ∀ i, ∃ r : ℝ, K i = r) (b : Fin 2) (n : Fin 256) (h : Fin 4) (d : Fin 128) :
    val_main_v107 (F := Ideal) P G K V (ix2 ⟨256 * b.val + n.val, by omega⟩ ⟨128 * h.val + d.val, by omega⟩) = dKeyAt P G K V b n h d := by
  have h101 : ∀ (b : Fin 2) (h : Fin 4) (t : Fin 4096) (n : Fin 256), val_main_v101 (F := Ideal) P G K V (ix4 b h t n) = dscore P G K V b h t n :=
    fun b h t n => (v101 P G K V b h t n).trans (dscore_quotient P K hP hK G V b h t n).symm
  unfold val_main_v107 val_main_v105 val_main_v103 val_main_v102
  generalize val_main_v101 (F := Ideal) P G K V = x at *
  pointwise [val_main_v38, val_main_v11, val_main_v10, val_main_v1, val_main_v0, h101, dKeyAt]
  blk_point

end Cert.Reference2Ideal.Mixer

end
-- ==== Proof.Mixer.RefConv.lean ====
module

public import proofs.«01_k».proof.Proof.Gen.Reference2Ideal.Read
public import Idealize.ShloMosaic.Lib.Pipeline.ValueKit
public import Idealize.ShloMosaic.Lib.Pointwise
public import Idealize.ShloMosaic.Lib.KernelVsHost
public import proofs.«01_k».proof.Proof.Mixer.Conv

@[expose] public section

set_option maxRecDepth 16384

noncomputable section

open Idealize.ShloMosaic Idealize.ShloMosaic.TcCoe Idealize.SL.Sem
open Idealize.ShloMosaic.Pipeline (Dat)

namespace Cert.Reference2Ideal.Mixer

open Cert.Reference2Ideal Cert.Reference2Ideal.Gen Cert.Mixer Cert.Reference2Ideal.Read

variable (P : FVec Ideal ⟨2, ![8192, 7168]⟩ .bf16) (G : FVec Ideal ⟨2, ![8192, 1536]⟩ .bf16)

/-- A sum over the source indices that drop the two leading axes is the double sum along them. -/
theorem sum_lead {n0 n1 n2 : ℕ} (h : (⟨3, ![n0, n1, n2]⟩ : Shape).ReducesTo [0, 1] ⟨1, ![n2]⟩) (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ?_
  rw [← Fintype.sum_prod_type']
  refine Finset.sum_filter_eq_sum_of_fiber _ (fun k : Fin n0 × Fin n1 => ix3 k.1 k.2 j) (fun _ _ e => Prod.ext (congrFun e 0) (congrFun e 1)) (fun i => ?_) v
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- The reference's gated input. -/
theorem v12 (b : Fin 2) (s : Fin 4096) (l : Fin 512) : val_main_v12 (F := Ideal) P (ix3 b s l) = gated P b s l := by
  have e : b.val * 4096 + s.val = 4096 * b.val + s.val := by omega
  unfold val_main_v12 val_main_v7 val_main_v6 val_main_v9 val_main_v8 val_main_v1 val_main_v0
  pointwise [gated]
  simp only [e]

/-- The reference's cotangent of the convolution. -/
theorem v108 (b : Fin 2) (s : Fin 4096) (l : Fin 512) : val_main_v108 (F := Ideal) P G (ix3 b s l) = dconv P G b s l := by
  have e : b.val * 4096 + s.val = 4096 * b.val + s.val := by omega
  unfold val_main_v108 val_main_v5 val_main_v82 val_main_v4 val_main_v78 val_main_v77 val_main_v1 val_main_v0
  pointwise [dconv]
  simp only [e]

/-- The reference's gated input after two rows of zeros. -/
theorem v14 (b : Fin 2) (s : Fin 4098) (l : Fin 512) : val_main_v14 (F := Ideal) P (ix3 b s l) = if h : 2 ≤ s.val then gated P b ⟨s.val - 2, by omega⟩ l else 0 := by
  have h12 := v12 P
  unfold val_main_v14
  generalize val_main_v12 (F := Ideal) P = x at *
  pointwise [h12, val_main_v13, val_main_cst]
  by_cases h : s.val < 2
  · rw [dif_pos h, dif_neg (by omega)]
  · rw [dif_neg h, dif_pos (by omega)]

/-- Tap 2's products. -/
theorem v109 (b : Fin 2) (s : Fin 4096) (l : Fin 512) : val_main_v109 (F := Ideal) P G (ix3 b s l) = tapAt P G ⟨2, by omega⟩ l b s := by
  have h14 := v14 P
  have h108 := v108 P G
  unfold val_main_v109 val_main_v28
  generalize val_main_v14 (F := Ideal) P = x at *
  generalize val_main_v108 (F := Ideal) P G = y at *
  pointwise [h14, h108, tapAt, gatedBack]
  exact mul_comm _ _

/-- Tap 1's products. -/
theorem v115 (b : Fin 2) (s : Fin 4096) (l : Fin 512) : val_main_v115 (F := Ideal) P G (ix3 b s l) = tapAt P G ⟨1, by omega⟩ l b s := by
  have h14 := v14 P
  have h108 := v108 P G
  unfold val_main_v115 val_main_v21
  generalize val_main_v14 (F := Ideal) P = x at *
  generalize val_main_v108 (F := Ideal) P G = y at *
  pointwise [h14, h108, tapAt, gatedBack]
  rw [mul_comm]
  refine congrArg (dconv P G b s l * ·) ?_
  by_cases h : 1 ≤ s.val
  · rw [if_pos h, dif_pos (by omega)]
    exact congrArg (gated P b · l) (Fin.ext (by show 1 + s.val - 2 = s.val - 1; omega))
  · rw [if_neg h, dif_neg (by omega)]

/-- Tap 0's products. -/
theorem v122 (b : Fin 2) (s : Fin 4096) (l : Fin 512) : val_main_v122 (F := Ideal) P G (ix3 b s l) = tapAt P G ⟨0, by omega⟩ l b s := by
  have h14 := v14 P
  have h108 := v108 P G
  unfold val_main_v122 val_main_v15
  generalize val_main_v14 (F := Ideal) P = x at *
  generalize val_main_v108 (F := Ideal) P G = y at *
  pointwise [h14, h108, tapAt, gatedBack]
  rw [mul_comm]
  refine congrArg (dconv P G b s l * ·) ?_
  by_cases h : 2 ≤ s.val
  · rw [if_pos h, dif_pos h]
  · rw [if_neg h, dif_neg h]

/-- Tap 2's products, summed. -/
theorem v113 (l : Fin 512) : val_main_v113 (F := Ideal) P G (ix2 0 l) = ∑ b : Fin 2, ∑ s : Fin 4096, tapAt P G ⟨2, by omega⟩ l b s := by
  have h := v109 P G
  unfold val_main_v113 val_main_v112 val_main_v111 val_main_v110
  generalize val_main_v109 (F := Ideal) P G = x at *
  pointwise [sum_lead, val_main_cst_14, val_main_cst_15, h]
  exact (Fin.sum_univ_one _).trans (Fin.sum_univ_one _)

/-- Tap 1's products, summed. -/
theorem v119 (l : Fin 512) : val_main_v119 (F := Ideal) P G (ix2 0 l) = ∑ b : Fin 2, ∑ s : Fin 4096, tapAt P G ⟨1, by omega⟩ l b s := by
  have h := v115 P G
  unfold val_main_v119 val_main_v118 val_main_v117 val_main_v116
  generalize val_main_v115 (F := Ideal) P G = x at *
  pointwise [sum_lead, val_main_cst_17, val_main_cst_18, h]
  exact (Fin.sum_univ_one _).trans (Fin.sum_univ_one _)

/-- Tap 0's products, summed. -/
theorem v126 (l : Fin 512) : val_main_v126 (F := Ideal) P G (ix2 0 l) = ∑ b : Fin 2, ∑ s : Fin 4096, tapAt P G ⟨0, by omega⟩ l b s := by
  have h := v122 P G
  unfold val_main_v126 val_main_v125 val_main_v124 val_main_v123
  generalize val_main_v122 (F := Ideal) P G = x at *
  pointwise [sum_lead, val_main_cst_20, val_main_cst_21, h]
  exact (Fin.sum_univ_one _).trans (Fin.sum_univ_one _)

/-- The reference's gradient of the convolution's taps, padded with empty rows. -/
theorem v130 (r : Fin 8) (l : Fin 512) : val_main_v130 (F := Ideal) P G (ix2 r l) = dTap P G r l := by
  have h2 := v113 P G l
  have h1 := v119 P G l
  have h0 := v126 P G l
  unfold val_main_v130 val_main_v128 val_main_v121 val_main_v114 val_main_v120 val_main_v127
  generalize val_main_v113 (F := Ideal) P G = x at *
  generalize val_main_v119 (F := Ideal) P G = y at *
  generalize val_main_v126 (F := Ideal) P G = z at *
  pointwise [val_main_cst_16, val_main_cst_19, val_main_cst_22, val_main_v129, val_main_cst_23]
  match r with
  | ⟨0, _⟩ => exact (show 0 + 0 + z (ix2 0 l) = z (ix2 0 l) by rw [add_zero, zero_add]).trans h0
  | ⟨1, _⟩ => exact (show 0 + y (ix2 0 l) + 0 = y (ix2 0 l) by rw [add_zero, zero_add]).trans h1
  | ⟨2, _⟩ => exact (show x (ix2 0 l) + 0 + 0 = x (ix2 0 l) by rw [add_zero, add_zero]).trans h2
  | ⟨n + 3, hn⟩ =>
    rw [dif_neg (by show ¬(n + 3 < 3); omega)]
    unfold dTap tapAt
    simp only [if_neg (show ¬(n + 3 < 3) by omega)]
    simp

end Cert.Reference2Ideal.Mixer

end
-- ==== Proof.Mixer.Pair.lean ====
module

public import Idealize.ShloMosaic.Lib.Pipeline.ValueKit
public import Idealize.ShloMosaic.Lib.Claim
public import proofs.«01_k».proof.Defs
public import proofs.«01_k».proof.Proof.Mixer.Frame
public import proofs.«01_k».proof.Proof.Mixer.Final
public import proofs.«01_k».proof.Proof.Mixer.ConvFinal
public import proofs.«01_k».proof.Proof.Mixer.RefAttn
public import proofs.«01_k».proof.Proof.Mixer.RefConv
public import proofs.«01_k».proof.Proof.Gen.Reference2Ideal.Run
public import proofs.«01_k».proof.Proof.Gen.Pre_finite_attention

@[expose] public section

set_option maxRecDepth 16384

noncomputable section

open Idealize.ShloMosaic Idealize.ShloMosaic.TcCoe Idealize.SL.Sem
open Idealize.ShloMosaic.Pipeline (Dat)

namespace Cert.Mixer

open Cert.Real

/-- Where the comparison of the absolute value with the half-width word of infinity answers one, the element is a real number. -/
theorem finite_real_half (x : EReal) (h : FloatOps.cmpf (F := Ideal) (φ := .bf16) .olt (max x (-x)) (Ideal.ofBits .bf16 0x7F80#16) = 1#1) : ∃ r : ℝ, x = r := by
  refine real_of_abs_lt x ?_
  have e : Ideal.ofBits .bf16 0x7F80#16 = ⊤ := by simp [Ideal.ofBits, Ideal.ieee]
  rw [e] at h
  change Ideal.cmp CmpFPredicate.olt (max x (-x)) ⊤ = 1#1 at h
  by_contra hn
  rw [show Ideal.cmp CmpFPredicate.olt (max x (-x)) ⊤ = 0#1 from by unfold Ideal.cmp; simp only [hn, decide_false]; rfl] at h
  exact absurd h (by decide)

section
variable (P : FVec Ideal ⟨2, ![8192, 7168]⟩ .bf16) (G : FVec Ideal ⟨2, ![8192, 1536]⟩ .bf16) (D : FVec Ideal ⟨2, ![8192, 7168]⟩ .bf16)
  (K V : FVec Ideal ⟨2, ![512, 512]⟩ .bf16) (L : FVec Ideal ⟨2, ![1, 512]⟩ .f32) (C : FVec Ideal ⟨2, ![3, 512]⟩ .f32) (N : FVec Ideal ⟨2, ![1, 128]⟩ .f32)

/-- The queries of an input that meets the precondition are real numbers. -/
theorem queries_real (h : (Cert.Pre_finite_attention.fn P G D K V L C N).1 = fun _ => 1#1) (r : Fin 8192) (l : Fin 512) :
    ∃ x : ℝ, P (ix2 r ⟨3584 + l.val, query_lt l⟩) = x := by
  have := congrFun h (ix2 r l)
  unfold Cert.Pre_finite_attention.fn at this
  have e : extractStridedSlice ⟨2, ![8192, 512]⟩ ![0, 3584] P Cert.Pre_finite_attention.Facts.slices_S8192x7168_S8192x512_0_3584 (ix2 r l)
      = P (ix2 r ⟨3584 + l.val, query_lt l⟩) := by pointwise []
  rw [← e]
  exact finite_real_half _ this

/-- The keys of an input that meets the precondition are real numbers. -/
theorem keys_real (h : (Cert.Pre_finite_attention.fn P G D K V L C N).2 = fun _ => 1#1) (i : (⟨2, ![512, 512]⟩ : Shape).Idx) :
    ∃ x : ℝ, K i = x := by
  have := congrFun h i
  unfold Cert.Pre_finite_attention.fn at this
  exact finite_real_half _ this

/-- Two arrays of the keys' shape agree where they agree at every batch, key, head and lane. -/
theorem ext_heads {f g : (⟨2, ![512, 512]⟩ : Shape).Idx → EReal}
    (h : ∀ (b : Fin 2) (n : Fin 256) (h : Fin 4) (d : Fin 128), f (ix2 ⟨256 * b.val + n.val, by omega⟩ ⟨128 * h.val + d.val, by omega⟩)
      = g (ix2 ⟨256 * b.val + n.val, by omega⟩ ⟨128 * h.val + d.val, by omega⟩)) : f = g := by
  funext i
  have h0 : (i 0).val < 512 := (i 0).isLt
  have h1 : (i 1).val < 512 := (i 1).isLt
  have e : i = ix2 ⟨256 * ((i 0).val / 256) + (i 0).val % 256, by omega⟩ ⟨128 * ((i 1).val / 128) + (i 1).val % 128, by omega⟩ := by
    refine funext (Fin.forall_fin_two.2 ⟨Fin.ext ?_, Fin.ext ?_⟩)
    · show (i 0).val = 256 * ((i 0).val / 256) + (i 0).val % 256
      omega
    · show (i 1).val = 128 * ((i 1).val / 128) + (i 1).val % 128
      omega
  rw [e]
  exact h ⟨(i 0).val / 256, by omega⟩ ⟨(i 0).val % 256, by omega⟩ ⟨(i 1).val / 128, by omega⟩ ⟨(i 1).val % 128, by omega⟩
end

/-- Numbers of a head's row and lane come back from the row's and the lane's places in the array. -/
theorem at_heads (f : Fin 2 → Fin 256 → Fin 4 → Fin 128 → EReal) (b : Fin 2) (n : Fin 256) (h : Fin 4) (d : Fin 128) (p : Fin 2) (q : Fin 256)
    (r : Fin 4) (s : Fin 128) (hp : p.val = (256 * b.val + n.val) / 256) (hq : q.val = (256 * b.val + n.val) % 256)
    (hr : r.val = (128 * h.val + d.val) / 128) (hs : s.val = (128 * h.val + d.val) % 128) : f b n h d = f p q r s := by
  obtain rfl : p = b := Fin.ext (by omega)
  obtain rfl : q = n := Fin.ext (by omega)
  obtain rfl : r = h := Fin.ext (by omega)
  obtain rfl : s = d := Fin.ext (by omega)
  rfl

set_option maxHeartbeats 1000000 in
/-- The mixer's backward call and the derivative of the mixer's lines end with the same gradients of the keys and of the values,
    for finite queries and keys, and with the same gradient of the convolution's taps. -/
theorem algebraic2 : Cert.algebraic_Kernel2Ideal_Reference2Ideal_pre_finite_attention := by
  pair_intro
  · run_from Cert.Kernel2Ideal.Mixer.run_main m g
    exact Cert.Kernel2Ideal.Gen.V_main_arg2 m _
  · run_from Cert.Reference2Ideal.Value.run m' g'
    all_goals obtain ⟨h0, h1, h2, h3, h4, h5, h6, h7⟩ := hagree c
    · have e := Cert.Kernel2Ideal.Mixer.final11 m c
      refine Eq.trans ?_ e.symm
      rw [Cert.Reference2Ideal.Read.val_main_v107_eq, h0, h1, h3, h4]
      refine ext_heads fun b n h d => ?_
      refine (Cert.Reference2Ideal.Mixer.v107 _ _ _ _ (queries_real _ _ _ _ _ _ _ _ (hpre c).1) (keys_real _ _ _ _ _ _ _ _ (hpre c).2) b n h d).trans ?_
      exact at_heads _ b n h d _ _ _ _ rfl rfl rfl rfl
    · have e := Cert.Kernel2Ideal.Mixer.final12 m c
      refine Eq.trans ?_ e.symm
      rw [Cert.Reference2Ideal.Read.val_main_v106_eq, h0, h1, h3]
      refine ext_heads fun b n h d => ?_
      refine (Cert.Reference2Ideal.Mixer.v106 _ _ _ b n h d).trans ?_
      exact at_heads _ b n h d _ _ _ _ rfl rfl rfl rfl
    · have e := Cert.Kernel2Ideal.Mixer.final13 m c
      refine Eq.trans ?_ e.symm
      rw [Cert.Reference2Ideal.Read.val_main_v130_eq, h0, h1]
      funext i
      rw [← ix2_eta i]
      exact Cert.Reference2Ideal.Mixer.v130 _ _ _ _

end Cert.Mixer

end
-- ==== Proof.Norm.Spec.lean ====
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Norm

/-- A row's element less the row's mean. -/
def centred (z : Fin 1024 → EReal) (k : Fin 1024) : EReal := z k - Ideal.div (∑ j, z j) (Ideal.ofBits .f32 0x44800000#32)

/-- The row's variance and the small constant beside it. -/
def spread (z : Fin 1024 → EReal) : EReal :=
  Ideal.div (∑ j, centred z j * centred z j) (Ideal.ofBits .f32 0x44800000#32) + Ideal.ofBits .f32 0x3727C5AC#32

/-- The reciprocal of the row's standard deviation. -/
def scale (z : Fin 1024 → EReal) : EReal := Ideal.rsqrt (spread z)

/-- The normalised row. -/
def normed (z : Fin 1024 → EReal) (k : Fin 1024) : EReal := centred z k * scale z

/-- The gradient of a row from the gradient `u` of its normalised elements. -/
def dRow (z u : Fin 1024 → EReal) (k : Fin 1024) : EReal :=
  scale z * (u k - Ideal.div (∑ j, u j) (Ideal.ofBits .f32 0x44800000#32)
    - normed z k * Ideal.div (∑ j, u j * normed z j) (Ideal.ofBits .f32 0x44800000#32))

/-- What the variance's share of the gradient is multiplied by, by the rules for the root, the mean and the square. -/
def slope (z u : Fin 1024 → EReal) : EReal :=
  Ideal.div ((∑ j, centred z j * u j) * (Ideal.ofBits .f32 0xBF000000#32 * Ideal.div (scale z) (spread z))) (Ideal.ofBits .f32 0x44800000#32)

/-- The gradient of a row by the rules for the root, the means and the differences, one by one. -/
def dRules (z u : Fin 1024 → EReal) (k : Fin 1024) : EReal :=
  u k * scale z + slope z u * (Ideal.ofBits .f32 0x40000000#32 * centred z k)
    + Ideal.div (∑ j, -(u j * scale z) + ∑ j, -(slope z u * (Ideal.ofBits .f32 0x40000000#32 * centred z j))) (Ideal.ofBits .f32 0x44800000#32)

variable (Z D : (⟨2, ![8192, 1024]⟩ : Shape).Idx → EReal) (G : (⟨2, ![1, 1024]⟩ : Shape).Idx → EReal)

/-- The gradient of the layer norm's argument. -/
def dInput : (⟨2, ![8192, 1024]⟩ : Shape).Idx → EReal :=
  fun i => dRow (fun j => Z (ix2 (i 0) j)) (fun j => D (ix2 (i 0) j) * G (ix2 0 j)) (i 1)

/-- A row's share of the gain's gradient. -/
def gainTerm (r : Fin 8192) (k : Fin 1024) : EReal := D (ix2 r k) * normed (fun j => Z (ix2 r j)) k

/-- A row's share of the offset's gradient. -/
def offsetTerm (r : Fin 8192) (k : Fin 1024) : EReal := D (ix2 r k)

/-- The gradient of the layer norm's gain, in the first of eight rows. -/
def dGain : (⟨2, ![8, 1024]⟩ : Shape).Idx → EReal :=
  fun i => if (i 0).val = 0 then ∑ r : Fin 8192, gainTerm Z D r (i 1) else 0

/-- The gradient of the layer norm's offset, in the first of eight rows. -/
def dOffset : (⟨2, ![8, 1024]⟩ : Shape).Idx → EReal :=
  fun i => if (i 0).val = 0 then ∑ r : Fin 8192, offsetTerm D r (i 1) else 0

end Cert.Norm

end
-- ==== Proof.Norm.Rule.lean ====
module

public import Idealize.ShloMosaic.Lib.Pipeline.ValueKit
public import proofs.«01_k».proof.Proof.Real
public import proofs.«01_k».proof.Proof.Norm.Spec

@[expose] public section

set_option maxRecDepth 16384

noncomputable section

open Idealize.ShloMosaic Idealize.ShloMosaic.TcCoe Idealize.SL.Sem
open Idealize.ShloMosaic.Pipeline (Dat)

namespace Cert.Norm

open Cert.Real

/-- The word of the row's length. -/
theorem length_word : Ideal.ofBits .f32 0x44800000#32 = ((1024 : ℝ) : EReal) := by
  simp [Ideal.ofBits, Ideal.ieee, -EReal.coe_mul]; norm_num

/-- The word of two. -/
theorem two_word : Ideal.ofBits .f32 0x40000000#32 = ((2 : ℝ) : EReal) := by
  simp [Ideal.ofBits, Ideal.ieee, -EReal.coe_mul]; norm_num

/-- The word of minus a half. -/
theorem half_word : Ideal.ofBits .f32 0xBF000000#32 = ((-(1 / 2) : ℝ) : EReal) := by
  simp [Ideal.ofBits, Ideal.ieee, -EReal.coe_mul]; norm_num

/-- The small constant is a positive real number. -/
theorem small_word : ∃ e : ℝ, 0 < e ∧ Ideal.ofBits .f32 0x3727C5AC#32 = e := by
  refine ⟨_, ?_, by simp [Ideal.ofBits, Ideal.ieee, -EReal.coe_mul]; rfl⟩
  norm_num

/-- The root's reciprocal of a positive real number. -/
theorem rsqrt_pos (v : ℝ) (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.2 hv.le), if_neg hv.ne']

/-- For finite rows the rules one by one give the gradient in the form that is computed from the normalised row. -/
theorem rules (z u : Fin 1024 → EReal) (hz : ∀ k, ∃ r : ℝ, z k = r) (hu : ∀ k, ∃ r : ℝ, u k = r) (k : Fin 1024) : dRules z u k = dRow z u k := by
  choose a ha using hz
  choose b hb using hu
  obtain ⟨e, he, hew⟩ := small_word
  have hc : ∀ j, centred z j = ((a j - (∑ i, a i) * (1024 : ℝ)⁻¹ : ℝ) : EReal) := fun j => by
    unfold centred
    rw [length_word, div_coe _ _ (by norm_num), ha j, show (∑ i, z i) = ((∑ i, a i : ℝ) : EReal) from by rw [coe_sum]; exact Finset.sum_congr rfl fun i _ => ha i,
      ← EReal.coe_mul, ← EReal.coe_sub]
  have h0 : ∑ j, (a j - (∑ i, a i) * (1024 : ℝ)⁻¹) = 0 := by
    rw [Finset.sum_sub_distrib, Finset.sum_const, Finset.card_univ, Fintype.card_fin, nsmul_eq_mul]
    push_cast
    ring
  generalize hcd : (fun j => a j - (∑ i, a i) * (1024 : ℝ)⁻¹) = c at *
  have hc' : ∀ j, centred z j = (c j : EReal) := fun j => by rw [hc j, ← hcd]
  have h0' : ∑ j, c j = 0 := h0
  have hv : spread z = (((∑ j, c j * c j) * (1024 : ℝ)⁻¹ + e : ℝ) : EReal) := by
    unfold spread
    rw [length_word, div_coe _ _ (by norm_num), hew, show (∑ j, centred z j * centred z j) = ((∑ j, c j * c j : ℝ) : EReal) from by
      rw [coe_sum]; exact Finset.sum_congr rfl fun j _ => by rw [hc' j, EReal.coe_mul], ← EReal.coe_mul, ← EReal.coe_add]
  have hpos : 0 < (∑ j, c j * c j) * (1024 : ℝ)⁻¹ + e :=
    add_pos_of_nonneg_of_pos (mul_nonneg (Finset.sum_nonneg fun j _ => mul_self_nonneg _) (by norm_num)) he
  generalize (∑ j, c j * c j) * (1024 : ℝ)⁻¹ + e = v at *
  have hs : scale z = (((Real.sqrt v)⁻¹ : ℝ) : EReal) := by unfold scale; rw [hv, rsqrt_pos v hpos]
  have hr : (Real.sqrt v)⁻¹ * (Real.sqrt v)⁻¹ = v⁻¹ := by rw [← mul_inv, Real.mul_self_sqrt hpos.le]
  generalize (Real.sqrt v)⁻¹ = r at *
  have hn : ∀ j, normed z j = ((c j * r : ℝ) : EReal) := fun j => by unfold normed; rw [hc' j, hs, EReal.coe_mul]
  have hsl : slope z u = (((∑ j, c j * b j) * (-(1 / 2) * (r * v⁻¹)) * (1024 : ℝ)⁻¹ : ℝ) : EReal) := by
    unfold slope
    rw [length_word, half_word, hs, hv, div_coe _ _ hpos.ne', div_coe _ _ (by norm_num), show (∑ j, centred z j * u j) = ((∑ j, c j * b j : ℝ) : EReal) from by
      rw [coe_sum]; exact Finset.sum_congr rfl fun j _ => by rw [hc' j, hb j, EReal.coe_mul], ← EReal.coe_mul, ← EReal.coe_mul, ← EReal.coe_mul, ← EReal.coe_mul]
  unfold dRules dRow
  rw [hsl, hs, two_word, length_word, div_coe _ _ (by norm_num), div_coe _ _ (by norm_num), div_coe _ _ (by norm_num), hc' k, hb k, hn k,
    show (∑ j, u j) = ((∑ j, b j : ℝ) : EReal) from by rw [coe_sum]; exact Finset.sum_congr rfl fun j _ => hb j,
    show (∑ j, u j * normed z j) = ((∑ j, b j * (c j * r) : ℝ) : EReal) from by
      rw [coe_sum]; exact Finset.sum_congr rfl fun j _ => by rw [hb j, hn j, ← EReal.coe_mul],
    show (∑ j, -(u j * (r : EReal))) = ((∑ j, -(b j * r) : ℝ) : EReal) from by
      rw [coe_sum]; exact Finset.sum_congr rfl fun j _ => by rw [hb j, EReal.coe_neg, EReal.coe_mul],
    show (∑ j, -((((∑ j, c j * b j) * (-(1 / 2) * (r * v⁻¹)) * (1024 : ℝ)⁻¹ : ℝ) : EReal) * (((2 : ℝ) : EReal) * centred z j)))
        = ((∑ j, -((∑ j, c j * b j) * (-(1 / 2) * (r * v⁻¹)) * (1024 : ℝ)⁻¹ * (2 * c j)) : ℝ) : EReal) from by
      rw [coe_sum]; exact Finset.sum_congr rfl fun j _ => by rw [hc' j, EReal.coe_neg, EReal.coe_mul _ (2 * c j), EReal.coe_mul 2]]
  simp only [← EReal.coe_mul, ← EReal.coe_add, ← EReal.coe_sub]
  refine congrArg _ ?_
  have e1 : (∑ j, -((∑ j, c j * b j) * (-(1 / 2) * (r * v⁻¹)) * (1024 : ℝ)⁻¹ * (2 * c j))) = 0 := by
    rw [Finset.sum_neg_distrib, ← Finset.mul_sum, ← Finset.mul_sum, h0', mul_zero, mul_zero, neg_zero]
  have e2 : (∑ j, b j * (c j * r)) = (∑ j, c j * b j) * r := by
    rw [Finset.sum_mul]; exact Finset.sum_congr rfl fun j _ => by ring
  have e3 : (∑ j, -(b j * r)) = -((∑ j, b j) * r) := by rw [Finset.sum_neg_distrib, Finset.sum_mul]
  rw [e1, e2, e3, ← hr]
  ring

end Cert.Norm

end
-- ==== Proof.Norm.Geo.lean ====
module

public import proofs.«01_k».proof.Proof.Gen.Kernel3Ideal.Frame
public import Idealize.ShloMosaic.Lib.Pipeline.ValueKit
public import Idealize.ShloMosaic.Lib.Pointwise
public import proofs.«01_k».proof.Proof.Norm.Spec

@[expose] public section

set_option maxRecDepth 16384

noncomputable section

open Idealize.ShloMosaic Idealize.ShloMosaic.TcCoe Idealize.SL.Sem
open Idealize.ShloMosaic.Pipeline (Dat)

namespace Cert.Kernel3Ideal.Norm

open Cert.Norm Cert.Kernel3Ideal Cert.Kernel3Ideal.Gen

/-- The block of every window at grid point `t`. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] ∧ win0_7.index t = ![0, 0] :=
  (by decide +kernel : ∀ t : Fin grid0.N, _)

variable (m : (ℓ : Loc nD τ sig) → Buf (Elt Ideal) ℓ)

/-- The array of normalised rows that the call is handed. -/
theorem handed_rows (c : Dev nD) : V m c main_v15 = fun i : (⟨2, ![8192, 1024]⟩ : Shape).Idx => normed (fun j => m ((c : Thread nD τ).loc main_arg0) (ix2 (i 0) j)) (i 1) := by
  unfold V hostOps0
  after_results_simp
  funext i
  pointwise [normed, centred, scale, spread]

/-- The reciprocals of the standard deviations that the call is handed. -/
theorem handed_scales (c : Dev nD) : V m c main_v13 = fun i : (⟨2, ![8192, 1]⟩ : Shape).Idx => scale (fun j => m ((c : Thread nD τ).loc main_arg0) (ix2 (i 0) j)) := by
  unfold V hostOps0
  after_results_simp
  funext i
  pointwise [centred, scale, spread]

/-- The gradient that the call is handed. -/
theorem handed_gradient (c : Dev nD) : V m c main_arg3 = m ((c : Thread nD τ).loc main_arg3) := by
  unfold V hostOps0
  after_results_simp

/-- The gain that the call is handed. -/
theorem handed_gain (c : Dev nD) : V m c main_arg1 = m ((c : Thread nD τ).loc main_arg1) := by
  unfold V hostOps0
  after_results_simp

end Cert.Kernel3Ideal.Norm

end
-- ==== Proof.Norm.Tiles.lean ====
module

public import proofs.«01_k».proof.Proof.Gen.Kernel3Ideal.Frame
public import Idealize.ShloMosaic.Lib.Pipeline.ValueKit
public import Idealize.ShloMosaic.Lib.Pointwise
public import proofs.«01_k».proof.Proof.Norm.Geo

@[expose] public section

set_option maxRecDepth 16384

noncomputable section

open Idealize.ShloMosaic Idealize.ShloMosaic.TcCoe Idealize.SL.Sem
open Idealize.ShloMosaic.Pipeline (Dat)

namespace Cert.Kernel3Ideal.Norm

open Cert.Norm Cert.Kernel3Ideal Cert.Kernel3Ideal.Gen

variable (m : (ℓ : Loc nD τ sig) → Buf (Elt Ideal) ℓ)

/-- A row of a tile is a row of the array. -/
theorem row_lt (t : Fin cfg0.N) (r : Fin 1024) : 1024 * t.val + r.val < 8192 := by
  have : t.val < 8 := lt_of_lt_of_eq t.isLt N_0
  omega

/-- The tile's gradient. -/
theorem gradient_at (c : Dev nD) (t : Fin cfg0.N) (r k : Fin 1024) :
    iblk m c 0 t (ix2 r k) = m ((c : Thread nD τ).loc main_arg3) (ix2 ⟨1024 * t.val + r.val, row_lt t r⟩ k) := by
  show V m c main_arg3 ((win0_0.blk t).view.emb (ix2 r k)) = _
  rw [handed_gradient]
  exact congrArg _ (by blk_ext [idx t])

/-- The tile's normalised rows. -/
theorem rows_at (c : Dev nD) (t : Fin cfg0.N) (r k : Fin 1024) :
    iblk m c 1 t (ix2 r k) = normed (fun j => m ((c : Thread nD τ).loc main_arg0) (ix2 ⟨1024 * t.val + r.val, row_lt t r⟩ j)) k := by
  show V m c main_v15 ((win0_1.blk t).view.emb (ix2 r k)) = _
  rw [handed_rows, show (win0_1.blk t).view.emb (ix2 r k) = (ix2 ⟨1024 * t.val + r.val, row_lt t r⟩ k : S8192x1024.Idx) from by blk_ext [idx t]]
  rfl

/-- The tile's reciprocals of the standard deviations. -/
theorem scales_at (c : Dev nD) (t : Fin cfg0.N) (r : Fin 1024) :
    iblk m c 2 t (ix2 r 0) = scale (fun j => m ((c : Thread nD τ).loc main_arg0) (ix2 ⟨1024 * t.val + r.val, row_lt t r⟩ j)) := by
  show V m c main_v13 ((win0_2.blk t).view.emb (ix2 r 0)) = _
  rw [handed_scales, show (win0_2.blk t).view.emb (ix2 r 0) = (ix2 ⟨1024 * t.val + r.val, row_lt t r⟩ 0 : S8192x1.Idx) from by blk_ext [idx t]]
  rfl

/-- The gain. -/
theorem gain_at (c : Dev nD) (t : Fin cfg0.N) (k : Fin 1024) :
    iblk m c 3 t (ix2 0 k) = m ((c : Thread nD τ).loc main_arg1) (ix2 0 k) := by
  show V m c main_arg1 ((win0_3.blk t).view.emb (ix2 0 k)) = _
  rw [handed_gain]
  exact congrArg _ (by blk_ext [idx t])

/-- What a tile stores is the gradient of its rows. -/
theorem stored (c : Dev nD) (t : Fin cfg0.N) (r k : Fin 1024) :
    k0_pay1 (F := Ideal) (k0_pay5 (iblk m c 1 t)) (k0_pay9 (iblk m c 2 t)) (k0_pay10 (iblk m c 0 t) (iblk m c 3 t))
      (k0_pay11 (iblk m c 0 t) (iblk m c 1 t) (iblk m c 3 t)) (ix2 r k)
    = dInput (m ((c : Thread nD τ).loc main_arg0)) (m ((c : Thread nD τ).loc main_arg3)) (m ((c : Thread nD τ).loc main_arg1))
        (ix2 ⟨1024 * t.val + r.val, row_lt t r⟩ k) := by
  open_payloads
  pointwise [dInput, dRow]
  simp only [gradient_at, rows_at, scales_at, gain_at]

/-- The first result after the run: the gradient of the layer norm's argument. -/
theorem final4 (c : Dev nD) : (dats m 0 c).arrAt 4 (cfgs 0).N
    = dInput (m ((c : Thread nD τ).loc main_arg0)) (m ((c : Thread nD τ).loc main_arg3)) (m ((c : Thread nD τ).loc main_arg1)) := by
  refine (dats m 0 c).arrAt_eq_of_covers 4 _ (by decide +kernel) fun t hf y => ?_
  blk_simp
  rw [after0_4]
  obtain ⟨r, k, rfl⟩ : ∃ (r k : Fin 1024), y = ix2 r k := ⟨y 0, y 1, (ix2_eta y).symm⟩
  rw [show (win0_4.blk t).view.emb (ix2 r k) = (ix2 ⟨1024 * t.val + r.val, row_lt t r⟩ k : S8192x1024.Idx) from by blk_ext [idx t]]
  by_cases h : t.val % 8 = 0
  · rw [outsAt0_A m c t h]
    frame_out
    exact stored m c t r k
  · rw [outsAt0_B m c t h]
    frame_out
    exact stored m c t r k

/-- The second result after the run: the same gradient. -/
theorem final5 (c : Dev nD) : (dats m 0 c).arrAt 5 (cfgs 0).N
    = dInput (m ((c : Thread nD τ).loc main_arg0)) (m ((c : Thread nD τ).loc main_arg3)) (m ((c : Thread nD τ).loc main_arg1)) := by
  refine (dats m 0 c).arrAt_eq_of_covers 5 _ (by decide +kernel) fun t hf y => ?_
  blk_simp
  rw [after0_5]
  obtain ⟨r, k, rfl⟩ : ∃ (r k : Fin 1024), y = ix2 r k := ⟨y 0, y 1, (ix2_eta y).symm⟩
  rw [show (win0_5.blk t).view.emb (ix2 r k) = (ix2 ⟨1024 * t.val + r.val, row_lt t r⟩ k : S8192x1024.Idx) from by blk_ext [idx t]]
  by_cases h : t.val % 8 = 0
  · rw [outsAt0_A m c t h]
    frame_out
    exact stored m c t r k
  · rw [outsAt0_B m c t h]
    frame_out
    exact stored m c t r k

end Cert.Kernel3Ideal.Norm

end
-- ==== Proof.Norm.Rows.lean ====
module

public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Norm

variable {sig : RefSig} {κ : Kind} {sp : Space} (v : View sig κ sp ⟨2, ![8, 1024]⟩ .f32)

/-- A store into the first row: there the store's own value, elsewhere what was there. -/
theorem row_store (f : v.ty.Contents (Elt Ideal)) (w : FVec Ideal ⟨2, ![1, 1024]⟩ .f32) (L : List (View.Piece (Elt Ideal) ⟨2, ![8, 1024]⟩ .f32))
    (inb : ∀ a, (![0, 0] : Fin 2 → ℕ) a + (![1, 1024] : Fin 2 → ℕ) a ≤ (⟨2, ![8, 1024]⟩ : Shape).size a) (r : Fin 8) (k : Fin 1024) :
    v.read (Elt Ideal) (v.writes (Elt Ideal) f (⟨Rect.unit ![0, 0] ![1, 1024] inb, w⟩ :: L)) (ix2 r k)
    = if r.val = 0 then (w (ix2 0 k) : EReal) else v.read (Elt Ideal) (v.writes (Elt Ideal) f L) (ix2 r k) := by
  by_cases hr : r.val = 0
  · rw [if_pos hr]
    exact View.read_writes_cons_unit_of_mem v f _ _ _ _ (ix2 0 k) rfl (Fin.forall_fin_two.2 ⟨hr, (Nat.zero_add _).symm⟩)
  · rw [if_neg hr]
    exact View.read_writes_cons_unit_of_not_mem v f _ _ _ _ rfl 0 (.inr (by show 0 + 1 ≤ r.val; omega))

/-- A store of the whole block reads back. -/
theorem fill (f : v.ty.Contents (Elt Ideal)) (w : FVec Ideal ⟨2, ![8, 1024]⟩ .f32)
    (inb : ∀ a, (![0, 0] : Fin 2 → ℕ) a + (![8, 1024] : Fin 2 → ℕ) a ≤ (⟨2, ![8, 1024]⟩ : Shape).size a) (y : (⟨2, ![8, 1024]⟩ : Shape).Idx) :
    v.read (Elt Ideal) (v.writes (Elt Ideal) f [⟨Rect.unit ![0, 0] ![8, 1024] inb, w⟩]) y = w y :=
  View.read_writes_cons_unit_of_mem v f _ _ _ y y rfl (Fin.forall_fin_two.2 ⟨(Nat.zero_add _).symm, (Nat.zero_add _).symm⟩)

/-- A load of the first row from what the stores so far left. -/
theorem load_row (L : List (View.Piece (Elt Ideal) ⟨2, ![8, 1024]⟩ .f32))
    (inb : ∀ a, (![0, 0] : Fin 2 → ℕ) a + (![1, 1024] : Fin 2 → ℕ) a ≤ (⟨2, ![8, 1024]⟩ : Shape).size a) (k : Fin 1024) :
    v.readCov L (Rect.unit (s := ⟨2, ![8, 1024]⟩) ![0, 0] ![1, 1024] inb).toLoadRect (show (⟨2, ![1, 1024]⟩ : Shape).Idx from ix2 0 k)
      = v.read (Elt Ideal) (v.writes (Elt Ideal) v.junk L) (ix2 0 k) := by
  rw [View.readCov_eq_canon', ← View.read_writes_junk_eq_canon v]
  refine congrArg _ (funext fun a => Fin.ext ?_)
  match a with
  | ⟨0, _⟩ => rfl
  | ⟨1, _⟩ => show 0 + 1 * k.val = k.val; omega

end Cert.Norm

end
-- ==== Proof.Norm.Sums.lean ====
module

public import proofs.«01_k».proof.Proof.Gen.Kernel3Ideal.Frame
public import Idealize.ShloMosaic.Lib.Pipeline.ValueKit
public import Idealize.ShloMosaic.Lib.Pointwise
public import Idealize.ShloMosaic.Lib.WritesUnit
public import proofs.«01_k».proof.Proof.Norm.Rows
public import proofs.«01_k».proof.Proof.Norm.Tiles

@[expose] public section

set_option maxRecDepth 16384

noncomputable section

open Idealize.ShloMosaic Idealize.ShloMosaic.TcCoe Idealize.SL.Sem
open Idealize.ShloMosaic.Pipeline (Dat)

namespace Cert.Kernel3Ideal.Norm

open Cert.Norm Cert.Kernel3Ideal Cert.Kernel3Ideal.Gen

variable (m : (ℓ : Loc nD τ sig) → Buf (Elt Ideal) ℓ)

/-- A first row that each tile adds its share to ends as the sum of the shares. -/
theorem sums (f : (n : ℕ) → n < cfg0.N → FVec Ideal S8x1024 .f32) (s : Fin cfg0.N → Fin 1024 → EReal)
    (first : ∀ t : Fin cfg0.N, t.val % 8 = 0 → ∀ (r : Fin 8) (k : Fin 1024), f t.val t.isLt (ix2 r k) = if r.val = 0 then s t k else (0 : EReal))
    (later : ∀ t : Fin cfg0.N, ¬t.val % 8 = 0 → ∀ (r : Fin 8) (k : Fin 1024), f t.val t.isLt (ix2 r k)
      = (show EReal from f (t.val - 1) (Nat.lt_of_le_of_lt (Nat.sub_le _ _) t.isLt) (ix2 r k)) + if r.val = 0 then s t k else (0 : EReal))
    (t : Fin cfg0.N) (h : t.val % 8 = 7) (y : S8x1024.Idx) :
    f t.val t.isLt y = if (y 0).val = 0 then ∑ a : Fin 8, s ⟨8 * (t.val / 8) + a.val, Pipeline.run_point_lt_of_flush t h a⟩ (y 1) else (0 : EReal) := by
  refine (Pipeline.eq_sum_fin_of_reset_step_apply_of_flush f 8 (fun _ => (0 : EReal)) (fun t j => if (j 0).val = 0 then s t (j 1) else 0)
    (fun t h j => ?_) (fun t h j => ?_) t h y).trans ?_
  · rw [zero_add]
    exact (congrArg _ (ix2_eta j)).symm.trans (first t h (j 0) (j 1))
  · have e := later t h (j 0) (j 1)
    rwa [show (ix2 (j 0) (j 1) : S8x1024.Idx) = j from ix2_eta j] at e
  · rw [zero_add]
    by_cases h0 : (y 0).val = 0
    · simp only [if_pos h0]
    · simp only [if_neg h0]
      exact Finset.sum_const_zero

/-- A tile's share of the gain's gradient. -/
def gainShare (c : Dev nD) (t : Fin cfg0.N) (k : Fin 1024) : EReal :=
  ∑ r : Fin 1024, gainTerm (m ((c : Thread nD τ).loc main_arg0)) (m ((c : Thread nD τ).loc main_arg3)) ⟨1024 * t.val + r.val, row_lt t r⟩ k

/-- What the tile adds to the first row of the gain's gradient. -/
theorem gainShare_added (c : Dev nD) (t : Fin cfg0.N) (old : FVec Ideal S1x1024 .f32) (k : Fin 1024) :
    k0_pay6 (F := Ideal) (iblk m c 0 t) (iblk m c 1 t) old (ix2 0 k) = old (ix2 0 k) + gainShare m c t k := by
  open_payloads
  pointwise [gainShare, gainTerm]
  simp only [gradient_at, rows_at]

/-- What the first tile leaves of the gain's gradient. -/
theorem gainShare_first (c : Dev nD) (t : Fin cfg0.N) (h : t.val % 8 = 0) (r : Fin 8) (k : Fin 1024) :
    (outsAt0 m c t.val t.isLt).2.2.1 (ix2 r k) = if r.val = 0 then gainShare m c t k else (0 : EReal) := by
  rw [outsAt0_A m c t h]
  frame_out
  rw [← View.read_writes_junk_eq_canon (ms0_6 t).view, row_store]
  by_cases hr : r.val = 0
  · rw [if_pos hr, if_pos hr]
    refine (gainShare_added m c t _ k).trans ?_
    rw [load_row, fill]
    refine Eq.trans ?_ (zero_add _)
    exact congrArg (· + _) (by pointwise [k0_pay3])
  · rw [if_neg hr, if_neg hr, fill]
    pointwise [k0_pay3]

/-- What a later tile leaves of the gain's gradient. -/
theorem gainShare_later (c : Dev nD) (t : Fin cfg0.N) (h : ¬t.val % 8 = 0) (r : Fin 8) (k : Fin 1024) :
    (outsAt0 m c t.val t.isLt).2.2.1 (ix2 r k)
      = (show EReal from (outsAt0 m c (t.val - 1) (Nat.lt_of_le_of_lt (Nat.sub_le _ _) t.isLt)).2.2.1 (ix2 r k))
        + if r.val = 0 then gainShare m c t k else (0 : EReal) := by
  rw [outsAt0_B m c t h]
  frame_out
  rw [row_store]
  by_cases hr : r.val = 0
  · rw [if_pos hr, if_pos hr]
    refine (gainShare_added m c t _ k).trans ?_
    pointwise
    blk_point
  · rw [if_neg hr, if_neg hr, View.writes_nil, Memref.IsWhole.read_unread]
    exact (add_zero _).symm

/-- The gain's gradient after the run. -/
theorem final6 (c : Dev nD) : (dats m 0 c).arrAt 6 (cfgs 0).N = dGain (m ((c : Thread nD τ).loc main_arg0)) (m ((c : Thread nD τ).loc main_arg3)) := by
  refine (dats m 0 c).arrAt_eq_of_covers 6 _ (by decide +kernel) fun t hf y => ?_
  blk_simp
  have hN : t.val < 8 := lt_of_lt_of_eq t.isLt N_0
  rw [after0_6, show (win0_6.blk t).view.emb y = y from by blk_ext [idx t]]
  refine (sums (fun n h => (outsAt0 m c n h).2.2.1) (gainShare m c) (gainShare_first m c) (gainShare_later m c) t ((flush0_6 t).mp hf) y).trans ?_
  unfold gainShare dGain
  refine if_congr Iff.rfl (Fin.sum_mul_add_congr fun s r hl => ?_) rfl
  exact congrArg (fun i => gainTerm (m ((c : Thread nD τ).loc main_arg0)) (m ((c : Thread nD τ).loc main_arg3)) i (y 1)) (Fin.ext (by show 1024 * (8 * (t.val / 8) + s.val) + r.val = s.val * 1024 + r.val; omega))

/-- A tile's share of the offset's gradient. -/
def offsetShare (c : Dev nD) (t : Fin cfg0.N) (k : Fin 1024) : EReal :=
  ∑ r : Fin 1024, offsetTerm (m ((c : Thread nD τ).loc main_arg3)) ⟨1024 * t.val + r.val, row_lt t r⟩ k

/-- What the tile adds to the first row of the offset's gradient. -/
theorem offsetShare_added (c : Dev nD) (t : Fin cfg0.N) (old : FVec Ideal S1x1024 .f32) (k : Fin 1024) :
    k0_pay7 (F := Ideal) (iblk m c 0 t) old (ix2 0 k) = old (ix2 0 k) + offsetShare m c t k := by
  open_payloads
  pointwise [offsetShare, offsetTerm]
  simp only [gradient_at, rows_at]

/-- What the first tile leaves of the offset's gradient. -/
theorem offsetShare_first (c : Dev nD) (t : Fin cfg0.N) (h : t.val % 8 = 0) (r : Fin 8) (k : Fin 1024) :
    (outsAt0 m c t.val t.isLt).2.2.2 (ix2 r k) = if r.val = 0 then offsetShare m c t k else (0 : EReal) := by
  rw [outsAt0_A m c t h]
  frame_out
  rw [← View.read_writes_junk_eq_canon (ms0_7 t).view, row_store]
  by_cases hr : r.val = 0
  · rw [if_pos hr, if_pos hr]
    refine (offsetShare_added m c t _ k).trans ?_
    rw [load_row, fill]
    refine Eq.trans ?_ (zero_add _)
    exact congrArg (· + _) (by pointwise [k0_pay4])
  · rw [if_neg hr, if_neg hr, fill]
    pointwise [k0_pay4]

/-- What a later tile leaves of the offset's gradient. -/
theorem offsetShare_later (c : Dev nD) (t : Fin cfg0.N) (h : ¬t.val % 8 = 0) (r : Fin 8) (k : Fin 1024) :
    (outsAt0 m c t.val t.isLt).2.2.2 (ix2 r k)
      = (show EReal from (outsAt0 m c (t.val - 1) (Nat.lt_of_le_of_lt (Nat.sub_le _ _) t.isLt)).2.2.2 (ix2 r k))
        + if r.val = 0 then offsetShare m c t k else (0 : EReal) := by
  rw [outsAt0_B m c t h]
  frame_out
  rw [row_store]
  by_cases hr : r.val = 0
  · rw [if_pos hr, if_pos hr]
    refine (offsetShare_added m c t _ k).trans ?_
    pointwise
    blk_point
  · rw [if_neg hr, if_neg hr, View.writes_nil, Memref.IsWhole.read_unread]
    exact (add_zero _).symm

/-- The offset's gradient after the run. -/
theorem final7 (c : Dev nD) : (dats m 0 c).arrAt 7 (cfgs 0).N = dOffset (m ((c : Thread nD τ).loc main_arg3)) := by
  refine (dats m 0 c).arrAt_eq_of_covers 7 _ (by decide +kernel) fun t hf y => ?_
  blk_simp
  have hN : t.val < 8 := lt_of_lt_of_eq t.isLt N_0
  rw [after0_7, show (win0_7.blk t).view.emb y = y from by blk_ext [idx t]]
  refine (sums (fun n h => (outsAt0 m c n h).2.2.2) (offsetShare m c) (offsetShare_first m c) (offsetShare_later m c) t ((flush0_7 t).mp hf) y).trans ?_
  unfold offsetShare dOffset
  refine if_congr Iff.rfl (Fin.sum_mul_add_congr fun s r hl => ?_) rfl
  exact congrArg (fun i => offsetTerm (m ((c : Thread nD τ).loc main_arg3)) i (y 1)) (Fin.ext (by show 1024 * (8 * (t.val / 8) + s.val) + r.val = s.val * 1024 + r.val; omega))

end Cert.Kernel3Ideal.Norm

end
-- ==== Proof.Norm.Ref.lean ====
module

public import proofs.«01_k».proof.Proof.Gen.Reference3Ideal.Read
public import Idealize.ShloMosaic.Lib.Pipeline.ValueKit
public import Idealize.ShloMosaic.Lib.Pointwise
public import Idealize.ShloMosaic.Lib.KernelVsHost
public import proofs.«01_k».proof.Proof.Norm.Spec

@[expose] public section

set_option maxRecDepth 16384

noncomputable section

open Idealize.ShloMosaic Idealize.ShloMosaic.TcCoe Idealize.SL.Sem
open Idealize.ShloMosaic.Pipeline (Dat)

namespace Cert.Reference3Ideal.Norm

open Cert.Reference3Ideal Cert.Reference3Ideal.Gen Cert.Norm Cert.Reference3Ideal.Read

variable (Z D : FVec Ideal S8192x1024 .f32) (G : FVec Ideal S1x1024 .f32)

/-- The rows less their means. -/
theorem v5 : val_main_v5 (F := Ideal) Z = fun i => centred (fun j => Z (ix2 (i 0) j)) (i 1) := by
  funext i
  pointwise [val_main_v5, val_main_v4, val_main_v3, val_main_v2, val_main_v1, val_main_v0, val_main_cst, val_main_cst_0, centred]

/-- The rows less their means, taken once more. -/
theorem v14 : val_main_v14 (F := Ideal) Z = fun i => centred (fun j => Z (ix2 (i 0) j)) (i 1) := v5 Z

/-- The variances and the small constant. -/
theorem v16 : val_main_v16 (F := Ideal) Z = fun i => spread (fun j => Z (ix2 (i 0) j)) := by
  have h := v5 Z
  unfold val_main_v16 val_main_v12 val_main_v10 val_main_v9 val_main_v6
  generalize val_main_v5 (F := Ideal) Z = x at *
  subst h
  funext i
  pointwise [val_main_v15, val_main_v11, val_main_cst_2, val_main_cst_3, val_main_cst_4, spread]

/-- The reciprocals of the standard deviations. -/
theorem v17 : val_main_v17 (F := Ideal) Z = fun i => scale (fun j => Z (ix2 (i 0) j)) := by
  have h := v16 Z
  unfold val_main_v17
  generalize val_main_v16 (F := Ideal) Z = x at *
  subst h
  funext i
  pointwise [scale]

/-- The normalised rows. -/
theorem v22 : val_main_v22 (F := Ideal) Z = fun i => normed (fun j => Z (ix2 (i 0) j)) (i 1) := by
  have h := v14 Z
  have h' := v17 Z
  unfold val_main_v22 val_main_v21
  generalize val_main_v14 (F := Ideal) Z = x at *
  generalize val_main_v17 (F := Ideal) Z = y at *
  subst h h'
  funext i
  pointwise [normed]

/-- The gradient of the normalised rows. -/
theorem v34 : val_main_v34 (F := Ideal) G D = fun i => D i * G (ix2 0 (i 1)) := by
  funext i
  pointwise [val_main_v34, val_main_v33, val_main_v27]

/-- The gradient of the offset. -/
theorem v63 : val_main_v63 (F := Ideal) D = dOffset D := by
  funext i
  pointwise [val_main_v63, val_main_v62, val_main_v29, val_main_v28, val_main_cst_6, val_main_cst_16, dOffset, offsetTerm]
  simp only [Nat.lt_one_iff, dite_eq_ite]

/-- The gradient of the gain. -/
theorem v61 : val_main_v61 (F := Ideal) Z D = dGain Z D := by
  have h := v22 Z
  unfold val_main_v61 val_main_v32 val_main_v31 val_main_v30
  generalize val_main_v22 (F := Ideal) Z = x at *
  subst h
  funext i
  pointwise [val_main_v60, val_main_v27, val_main_cst_7, val_main_cst_15, dGain, gainTerm]
  simp only [Nat.lt_one_iff, dite_eq_ite, mul_comm]

/-- The variance's share of the gradient. -/
theorem v45 : val_main_v45 (F := Ideal) Z G D = fun i => slope (fun j => Z (ix2 (i 0) j)) (fun j => D (ix2 (i 0) j) * G (ix2 0 j)) := by
  have h := v14 Z
  have h1 := v16 Z
  have h2 := v17 Z
  have h3 := v34 D G
  unfold val_main_v45 val_main_v40 val_main_v37 val_main_v36 val_main_v35 val_main_v20 val_main_v18
  generalize val_main_v14 (F := Ideal) Z = x at *
  generalize val_main_v16 (F := Ideal) Z = y at *
  generalize val_main_v17 (F := Ideal) Z = w at *
  generalize val_main_v34 (F := Ideal) G D = u at *
  subst h h1 h2 h3
  funext i
  pointwise [val_main_v44, val_main_v19, val_main_cst_5, val_main_cst_8, val_main_cst_10, Cert.Norm.slope]

/-- The gradient of the layer norm's argument, by the rules one by one. -/
theorem v58 : val_main_v58 (F := Ideal) Z G D = fun i => dRules (fun j => Z (ix2 (i 0) j)) (fun j => D (ix2 (i 0) j) * G (ix2 0 j)) (i 1) := by
  have h := v5 Z
  have h2 := v17 Z
  have h3 := v34 D G
  have h4 := v45 Z D G
  unfold val_main_v58 val_main_v57 val_main_v56 val_main_v55 val_main_v53 val_main_v52 val_main_v51 val_main_v50 val_main_v49 val_main_v48 val_main_v47
    val_main_v46 val_main_v43 val_main_v42 val_main_v41 val_main_v39 val_main_v38 val_main_v8
  generalize val_main_v5 (F := Ideal) Z = x at *
  generalize val_main_v17 (F := Ideal) Z = w at *
  generalize val_main_v34 (F := Ideal) G D = u at *
  generalize val_main_v45 (F := Ideal) Z G D = s at *
  subst h h2 h3 h4
  funext i
  pointwise [val_main_v54, val_main_v7, val_main_cst_1, val_main_cst_9, val_main_cst_11, val_main_cst_12, val_main_cst_13, val_main_cst_14, dRules]
  simp only [Fin.sum_univ_one]

/-- The gradient again, in the narrow type. -/
theorem v59 : val_main_v59 (F := Ideal) Z G D = val_main_v58 (F := Ideal) Z G D := by
  funext i
  pointwise [val_main_v59]

end Cert.Reference3Ideal.Norm

end
-- ==== Proof.Norm.Pair.lean ====
module

public import Idealize.ShloMosaic.Lib.Pipeline.ValueKit
public import Idealize.ShloMosaic.Lib.Claim
public import proofs.«01_k».proof.Defs
public import proofs.«01_k».proof.Proof.Real
public import proofs.«01_k».proof.Proof.Norm.Rule
public import proofs.«01_k».proof.Proof.Norm.Tiles
public import proofs.«01_k».proof.Proof.Norm.Sums
public import proofs.«01_k».proof.Proof.Norm.Ref
public import proofs.«01_k».proof.Proof.Gen.Reference3Ideal.Run
public import proofs.«01_k».proof.Proof.Gen.Pre_finite_rows

@[expose] public section

set_option maxRecDepth 16384

noncomputable section

open Idealize.ShloMosaic Idealize.ShloMosaic.TcCoe Idealize.SL.Sem
open Idealize.ShloMosaic.Pipeline (Dat)

namespace Cert.Norm

open Cert.Real

section
variable (Z : FVec Ideal ⟨2, ![8192, 1024]⟩ .f32) (G B : FVec Ideal ⟨2, ![1, 1024]⟩ .f32) (D : FVec Ideal ⟨2, ![8192, 1024]⟩ .f32)

/-- The rows of an input that meets the precondition are real numbers. -/
theorem rows_real (h : (Cert.Pre_finite_rows.fn Z G B D).1 = fun _ => 1#1) (i : (⟨2, ![8192, 1024]⟩ : Shape).Idx) : ∃ r : ℝ, Z i = r := by
  have := congrFun h i
  unfold Cert.Pre_finite_rows.fn at this
  exact finite_real _ this

/-- The gain of an input that meets the precondition is made of real numbers. -/
theorem gain_real (h : (Cert.Pre_finite_rows.fn Z G B D).2.1 = fun _ => 1#1) (i : (⟨2, ![1, 1024]⟩ : Shape).Idx) : ∃ r : ℝ, G i = r := by
  have := congrFun h i
  unfold Cert.Pre_finite_rows.fn at this
  exact finite_real _ this

/-- The gradient of an input that meets the precondition is made of real numbers. -/
theorem gradient_real (h : (Cert.Pre_finite_rows.fn Z G B D).2.2 = fun _ => 1#1) (i : (⟨2, ![8192, 1024]⟩ : Shape).Idx) : ∃ r : ℝ, D i = r := by
  have := congrFun h i
  unfold Cert.Pre_finite_rows.fn at this
  exact finite_real _ this

/-- The reference's gradient of the argument, for finite arguments. -/
theorem input_rule (h1 : (Cert.Pre_finite_rows.fn Z G B D).1 = fun _ => 1#1) (h2 : (Cert.Pre_finite_rows.fn Z G B D).2.1 = fun _ => 1#1)
    (h3 : (Cert.Pre_finite_rows.fn Z G B D).2.2 = fun _ => 1#1) : Cert.Reference3Ideal.Read.val_main_v58 (F := Ideal) Z G D = dInput Z D G := by
  rw [Cert.Reference3Ideal.Norm.v58]
  funext i
  refine rules _ _ (fun k => rows_real Z G B D h1 _) (fun k => ?_) (i 1)
  obtain ⟨x, hx⟩ := gradient_real Z G B D h3 (ix2 (i 0) k)
  obtain ⟨y, hy⟩ := gain_real Z G B D h2 (ix2 0 k)
  exact ⟨x * y, by rw [hx, hy, EReal.coe_mul]⟩
end

set_option maxHeartbeats 1000000 in
/-- The layer norm's backward call and the derivative of its lines end with the same four gradients of finite arguments. -/
theorem algebraic3 : Cert.algebraic_Kernel3Ideal_Reference3Ideal_pre_finite_rows := by
  pair_intro
  · run_from Cert.Kernel3Ideal.Gen.run_main m g
  · run_from Cert.Reference3Ideal.Value.run m' g'
    all_goals obtain ⟨h0, h1, h2, h3⟩ := hagree c
    all_goals obtain ⟨p1, p2, p3⟩ := hpre c
    · refine Eq.trans ?_ (Cert.Kernel3Ideal.Norm.final4 m c).symm
      rw [Cert.Reference3Ideal.Read.val_main_v58_eq, h0, h1, h3]
      exact input_rule _ _ _ _ p1 p2 p3
    · refine Eq.trans ?_ (Cert.Kernel3Ideal.Norm.final5 m c).symm
      rw [Cert.Reference3Ideal.Read.val_main_v59_eq, h0, h1, h3]
      exact (Cert.Reference3Ideal.Norm.v59 _ _ _).trans (input_rule _ _ _ _ p1 p2 p3)
    · refine Eq.trans ?_ (Cert.Kernel3Ideal.Norm.final6 m c).symm
      rw [← h0, ← h3]
      exact (Cert.Reference3Ideal.Read.val_main_v61_eq _ _).trans (Cert.Reference3Ideal.Norm.v61 _ _)
    · refine Eq.trans ?_ (Cert.Kernel3Ideal.Norm.final7 m c).symm
      rw [← h3]
      exact (Cert.Reference3Ideal.Read.val_main_v63_eq _).trans (Cert.Reference3Ideal.Norm.v63 _)

end Cert.Norm

end
-- ==== Proof.Loss.Spec.lean ====
module

public import Idealize.ShloMosaic.Lib.Pipeline.ValueKit
public import proofs.«01_k».proof.Proof.Norm.Spec

@[expose] public section

set_option maxRecDepth 16384

noncomputable section

open Idealize.ShloMosaic Idealize.ShloMosaic.TcCoe Idealize.SL.Sem
open Idealize.ShloMosaic.Pipeline (Dat)

namespace Cert.Loss

open Cert.Norm

variable (Z T : (⟨2, ![8192, 1024]⟩ : Shape).Idx → EReal) (G B : (⟨2, ![1, 1024]⟩ : Shape).Idx → EReal)

/-- The layer norm's result less the target. -/
def err : (⟨2, ![8192, 1024]⟩ : Shape).Idx → EReal :=
  fun i => normed (fun j => Z (ix2 (i 0) j)) (i 1) * G (ix2 0 (i 1)) + B (ix2 0 (i 1)) - T i

/-- The gradient of the layer norm's result. -/
def dOut : (⟨2, ![8192, 1024]⟩ : Shape).Idx → EReal := fun i => err Z T G B i * Ideal.ofBits .f32 0x3A800000#32

/-- A squared difference. -/
def square (r : Fin 8192) (k : Fin 1024) : EReal := err Z T G B (ix2 r k) * err Z T G B (ix2 r k)

/-- The loss: half the mean of the squared differences along a row, added over the rows; the columns are added last. -/
def loss : EReal := Ideal.ofBits .f32 0x3A000000#32 * ∑ k : Fin 1024, ∑ r : Fin 8192, square Z T G B r k

/-- The loss, with the rows added last and each row's mean taken on its own. -/
def lossByRows : EReal :=
  Ideal.ofBits .f32 0x3F000000#32 * ∑ r : Fin 8192, Ideal.div (∑ k : Fin 1024, square Z T G B r k) (Ideal.ofBits .f32 0x44800000#32)

end Cert.Loss

end
-- ==== Proof.Loss.Rule.lean ====
module

public import Idealize.ShloMosaic.Lib.Pipeline.ValueKit
public import proofs.«01_k».proof.Proof.Real
public import proofs.«01_k».proof.Proof.Norm.Rule
public import proofs.«01_k».proof.Proof.Loss.Spec

@[expose] public section

set_option maxRecDepth 16384

noncomputable section

open Idealize.ShloMosaic Idealize.ShloMosaic.TcCoe Idealize.SL.Sem
open Idealize.ShloMosaic.Pipeline (Dat)

namespace Cert.Loss

open Cert.Real Cert.Norm

/-- The word of a half. -/
theorem half_word : Ideal.ofBits .f32 0x3F000000#32 = ((1 / 2 : ℝ) : EReal) := by
  simp [Ideal.ofBits, Ideal.ieee, -EReal.coe_mul]; norm_num

/-- The word of one. -/
theorem one_word : Ideal.ofBits .f32 0x3F800000#32 = ((1 : ℝ) : EReal) := by
  simp [Ideal.ofBits, Ideal.ieee, -EReal.coe_mul]; norm_num

/-- The word of the reciprocal of the row's length. -/
theorem share_word : Ideal.ofBits .f32 0x3A800000#32 = ((1 / 1024 : ℝ) : EReal) := by
  simp [Ideal.ofBits, Ideal.ieee, -EReal.coe_mul]; norm_num

/-- The word of half the reciprocal of the row's length. -/
theorem half_share_word : Ideal.ofBits .f32 0x3A000000#32 = ((1 / 2048 : ℝ) : EReal) := by
  simp [Ideal.ofBits, Ideal.ieee, -EReal.coe_mul]; norm_num

/-- The derivative of half a mean of squares, factor by factor, is the difference over the row's length. -/
theorem factors (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [half_word, one_word, length_word, two_word, share_word, div_coe _ _ (by norm_num), ← EReal.coe_mul, ← EReal.coe_mul, ← mul_assoc, ← EReal.coe_mul, mul_comm]
  refine congrArg (fun x : ℝ => e * (x : EReal)) ?_
  norm_num

/-- The normalised elements of a finite row are real numbers. -/
theorem normed_real (z : Fin 1024 → EReal) (hz : ∀ k, ∃ r : ℝ, z k = r) (k : Fin 1024) : ∃ r : ℝ, normed z k = r := by
  choose a ha using hz
  obtain ⟨e, he, hew⟩ := small_word
  have hc : ∀ j, ∃ r : ℝ, centred z j = r := fun j => by
    refine ⟨a j - (∑ i, a i) * (1024 : ℝ)⁻¹, ?_⟩
    unfold centred
    rw [length_word, div_coe _ _ (by norm_num), ha j, show (∑ i, z i) = ((∑ i, a i : ℝ) : EReal) from by rw [coe_sum]; exact Finset.sum_congr rfl fun i _ => ha i,
      ← EReal.coe_mul, ← EReal.coe_sub]
  choose b hb using hc
  have hpos : 0 < (∑ j, b j * b j) * (1024 : ℝ)⁻¹ + e :=
    add_pos_of_nonneg_of_pos (mul_nonneg (Finset.sum_nonneg fun j _ => mul_self_nonneg _) (by norm_num)) he
  have hv : spread z = (((∑ j, b j * b j) * (1024 : ℝ)⁻¹ + e : ℝ) : EReal) := by
    unfold spread
    rw [length_word, div_coe _ _ (by norm_num), hew, show (∑ j, centred z j * centred z j) = ((∑ j, b j * b j : ℝ) : EReal) from by
      rw [coe_sum]; exact Finset.sum_congr rfl fun j _ => by rw [hb j, EReal.coe_mul], ← EReal.coe_mul, ← EReal.coe_add]
  exact ⟨_, by unfold normed scale; rw [hv, rsqrt_pos _ hpos, hb k, ← EReal.coe_mul]⟩

variable (Z T : (⟨2, ![8192, 1024]⟩ : Shape).Idx → EReal) (G B : (⟨2, ![1, 1024]⟩ : Shape).Idx → EReal)

/-- The differences of finite arguments are real numbers. -/
theorem err_real (hZ : ∀ i, ∃ r : ℝ, Z i = r) (hG : ∀ i, ∃ r : ℝ, G i = r) (hB : ∀ i, ∃ r : ℝ, B i = r) (hT : ∀ i, ∃ r : ℝ, T i = r)
    (i : (⟨2, ![8192, 1024]⟩ : Shape).Idx) : ∃ r : ℝ, err Z T G B i = r := by
  obtain ⟨n, hn⟩ := normed_real (fun j => Z (ix2 (i 0) j)) (fun j => hZ _) (i 1)
  obtain ⟨g, hg⟩ := hG (ix2 0 (i 1))
  obtain ⟨b, hb⟩ := hB (ix2 0 (i 1))
  obtain ⟨t, ht⟩ := hT i
  exact ⟨n * g + b - t, by unfold err; rw [hn, hg, hb, ht, ← EReal.coe_mul, ← EReal.coe_add, ← EReal.coe_sub]⟩

/-- For real differences the two orders of adding give the same loss. -/
theorem loss_rows (h : ∀ i, ∃ r : ℝ, err Z T G B i = r) : lossByRows Z T G B = loss Z T G B := by
  choose e he using h
  have hs : ∀ r k, square Z T G B r k = ((e (ix2 r k) * e (ix2 r k) : ℝ) : EReal) := fun r k => by unfold square; rw [he, EReal.coe_mul]
  have h1 : ∀ r, Ideal.div (∑ k : Fin 1024, square Z T G B r k) ((1024 : ℝ) : EReal) = (((∑ k : Fin 1024, e (ix2 r k) * e (ix2 r k)) * (1024 : ℝ)⁻¹ : ℝ) : EReal) := fun r => by
    rw [div_coe _ _ (by norm_num), EReal.coe_mul, coe_sum]
    exact congrArg (· * _) (Finset.sum_congr rfl fun k _ => hs r k)
  have h2 : ∀ k, (∑ r : Fin 8192, square Z T G B r k) = ((∑ r : Fin 8192, e (ix2 r k) * e (ix2 r k) : ℝ) : EReal) := fun k => by
    rw [coe_sum]; exact Finset.sum_congr rfl fun r _ => hs r k
  unfold lossByRows loss
  rw [half_word, half_share_word, length_word, Finset.sum_congr rfl fun r _ => h1 r, Finset.sum_congr rfl fun k _ => h2 k, ← coe_sum, ← coe_sum, ← EReal.coe_mul, ← EReal.coe_mul,
    Finset.sum_comm, ← Finset.sum_mul]
  refine congrArg _ ?_
  ring

end Cert.Loss

end
-- ==== Proof.Loss.Geo.lean ====
module

public import proofs.«01_k».proof.Proof.Gen.Kernel4Ideal.Frame
public import Idealize.ShloMosaic.Lib.Pipeline.ValueKit
public import Idealize.ShloMosaic.Lib.Pointwise
public import proofs.«01_k».proof.Proof.Loss.Spec

@[expose] public section

set_option maxRecDepth 16384

noncomputable section

open Idealize.ShloMosaic Idealize.ShloMosaic.TcCoe Idealize.SL.Sem
open Idealize.ShloMosaic.Pipeline (Dat)

namespace Cert.Kernel4Ideal.Loss

open Cert.Norm Cert.Loss Cert.Kernel4Ideal Cert.Kernel4Ideal.Gen

/-- The block of every window at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] ∧ win0_7.index t = ![t.val, 0]
    ∧ win0_8.index t = ![0, 0] ∧ win0_9.index t = ![0, 0] :=
  (by decide +kernel : ∀ t : Fin grid0.N, _)

variable (m : (ℓ : Loc nD τ sig) → Buf (Elt Ideal) ℓ)

/-- The array of normalised rows that the call is handed. -/
theorem handed_rows (c : Dev nD) : V m c main_v15 = fun i : (⟨2, ![8192, 1024]⟩ : Shape).Idx => normed (fun j => m ((c : Thread nD τ).loc main_arg0) (ix2 (i 0) j)) (i 1) := by
  unfold V hostOps0
  after_results_simp
  funext i
  pointwise [normed, centred, scale, spread]

/-- The layer norm's result that the call is handed. -/
theorem handed_output (c : Dev nD) : V m c main_v19 = fun i : (⟨2, ![8192, 1024]⟩ : Shape).Idx => normed (fun j => m ((c : Thread nD τ).loc main_arg0) (ix2 (i 0) j)) (i 1)
    * (show EReal from m ((c : Thread nD τ).loc main_arg1) (ix2 0 (i 1))) + (show EReal from m ((c : Thread nD τ).loc main_arg2) (ix2 0 (i 1))) := by
  unfold V hostOps0
  after_results_simp
  funext i
  pointwise [normed, centred, scale, spread]

/-- The reciprocals of the standard deviations that the call is handed. -/
theorem handed_scales (c : Dev nD) : V m c main_v13 = fun i : (⟨2, ![8192, 1]⟩ : Shape).Idx => scale (fun j => m ((c : Thread nD τ).loc main_arg0) (ix2 (i 0) j)) := by
  unfold V hostOps0
  after_results_simp
  funext i
  pointwise [centred, scale, spread]

end Cert.Kernel4Ideal.Loss

end
-- ==== Proof.Loss.Tiles.lean ====
module

public import proofs.«01_k».proof.Proof.Gen.Kernel4Ideal.Frame
public import Idealize.ShloMosaic.Lib.Pipeline.ValueKit
public import Idealize.ShloMosaic.Lib.Pointwise
public import proofs.«01_k».proof.Proof.Loss.Geo

@[expose] public section

set_option maxRecDepth 16384

noncomputable section

open Idealize.ShloMosaic Idealize.ShloMosaic.TcCoe Idealize.SL.Sem
open Idealize.ShloMosaic.Pipeline (Dat)

namespace Cert.Kernel4Ideal.Loss

open Cert.Norm Cert.Loss Cert.Kernel4Ideal Cert.Kernel4Ideal.Gen

variable (m : (ℓ : Loc nD τ sig) → Buf (Elt Ideal) ℓ)

/-- A row of a tile is a row of the array. -/
theorem row_lt (t : Fin cfg0.N) (r : Fin 512) : 512 * t.val + r.val < 8192 := by
  have : t.val < 16 := lt_of_lt_of_eq t.isLt N_0
  omega

/-- The tile's part of the layer norm's result. -/
theorem output_at (c : Dev nD) (t : Fin cfg0.N) (r : Fin 512) (k : Fin 1024) :
    iblk m c 0 t (ix2 r k) = normed (fun j => m ((c : Thread nD τ).loc main_arg0) (ix2 ⟨512 * t.val + r.val, row_lt t r⟩ j)) k
      * (show EReal from m ((c : Thread nD τ).loc main_arg1) (ix2 0 k)) + (show EReal from m ((c : Thread nD τ).loc main_arg2) (ix2 0 k)) := by
  show V m c main_v19 ((win0_0.blk t).view.emb (ix2 r k)) = _
  rw [handed_output, show (win0_0.blk t).view.emb (ix2 r k) = (ix2 ⟨512 * t.val + r.val, row_lt t r⟩ k : S8192x1024.Idx) from by blk_ext [idx t]]
  rfl

/-- The tile's target. -/
theorem target_at (c : Dev nD) (t : Fin cfg0.N) (r : Fin 512) (k : Fin 1024) :
    iblk m c 1 t (ix2 r k) = m ((c : Thread nD τ).loc main_arg3) (ix2 ⟨512 * t.val + r.val, row_lt t r⟩ k) := by
  show V m c main_arg3 ((win0_1.blk t).view.emb (ix2 r k)) = _
  rw [V_main_arg3]
  exact congrArg _ (by blk_ext [idx t])

/-- The tile's normalised rows. -/
theorem rows_at (c : Dev nD) (t : Fin cfg0.N) (r : Fin 512) (k : Fin 1024) :
    iblk m c 2 t (ix2 r k) = normed (fun j => m ((c : Thread nD τ).loc main_arg0) (ix2 ⟨512 * t.val + r.val, row_lt t r⟩ j)) k := by
  show V m c main_v15 ((win0_2.blk t).view.emb (ix2 r k)) = _
  rw [handed_rows, show (win0_2.blk t).view.emb (ix2 r k) = (ix2 ⟨512 * t.val + r.val, row_lt t r⟩ k : S8192x1024.Idx) from by blk_ext [idx t]]
  rfl

/-- The tile's reciprocals of the standard deviations. -/
theorem scales_at (c : Dev nD) (t : Fin cfg0.N) (r : Fin 512) :
    iblk m c 3 t (ix2 r 0) = scale (fun j => m ((c : Thread nD τ).loc main_arg0) (ix2 ⟨512 * t.val + r.val, row_lt t r⟩ j)) := by
  show V m c main_v13 ((win0_3.blk t).view.emb (ix2 r 0)) = _
  rw [handed_scales, show (win0_3.blk t).view.emb (ix2 r 0) = (ix2 ⟨512 * t.val + r.val, row_lt t r⟩ 0 : S8192x1.Idx) from by blk_ext [idx t]]
  rfl

/-- The gain. -/
theorem gain_at (c : Dev nD) (t : Fin cfg0.N) (k : Fin 1024) :
    iblk m c 4 t (ix2 0 k) = m ((c : Thread nD τ).loc main_arg1) (ix2 0 k) := by
  show V m c main_arg1 ((win0_4.blk t).view.emb (ix2 0 k)) = _
  rw [V_main_arg1]
  exact congrArg _ (by blk_ext [idx t])

/-- The tile's differences. -/
theorem err_at (c : Dev nD) (t : Fin cfg0.N) (r : Fin 512) (k : Fin 1024) :
    k0_pay7 (F := Ideal) (iblk m c 0 t) (iblk m c 1 t) (ix2 r k) = err (m ((c : Thread nD τ).loc main_arg0)) (m ((c : Thread nD τ).loc main_arg3)) (m ((c : Thread nD τ).loc main_arg1)) (m ((c : Thread nD τ).loc main_arg2)) (ix2 ⟨512 * t.val + r.val, row_lt t r⟩ k) := by
  open_payloads
  pointwise [err]
  simp only [output_at, target_at]

/-- The tile's gradients of the layer norm's result. -/
theorem out_at (c : Dev nD) (t : Fin cfg0.N) (r : Fin 512) (k : Fin 1024) :
    k0_pay9 (F := Ideal) (iblk m c 0 t) (iblk m c 1 t) (ix2 r k) = dOut (m ((c : Thread nD τ).loc main_arg0)) (m ((c : Thread nD τ).loc main_arg3)) (m ((c : Thread nD τ).loc main_arg1)) (m ((c : Thread nD τ).loc main_arg2)) (ix2 ⟨512 * t.val + r.val, row_lt t r⟩ k) := by
  have h := err_at m c t r k
  unfold k0_pay9
  generalize k0_pay7 (F := Ideal) (iblk m c 0 t) (iblk m c 1 t) = x at *
  pointwise [dOut]
  simp only [h]

/-- What a tile stores is the gradient of its rows. -/
theorem stored (c : Dev nD) (t : Fin cfg0.N) (r : Fin 512) (k : Fin 1024) :
    k0_pay1 (F := Ideal) (k0_pay9 (iblk m c 0 t) (iblk m c 1 t)) (k0_pay10 (iblk m c 2 t)) (iblk m c 4 t) (iblk m c 3 t) (ix2 r k)
    = dInput (m ((c : Thread nD τ).loc main_arg0)) (dOut (m ((c : Thread nD τ).loc main_arg0)) (m ((c : Thread nD τ).loc main_arg3)) (m ((c : Thread nD τ).loc main_arg1)) (m ((c : Thread nD τ).loc main_arg2))) (m ((c : Thread nD τ).loc main_arg1)) (ix2 ⟨512 * t.val + r.val, row_lt t r⟩ k) := by
  have h := out_at m c t r
  generalize k0_pay9 (F := Ideal) (iblk m c 0 t) (iblk m c 1 t) = x at *
  open_payloads
  pointwise [dInput, dRow]
  simp only [h, rows_at, scales_at, gain_at]

/-- The second result after the run: the gradient of the layer norm's argument. -/
theorem final6 (c : Dev nD) : (dats m 0 c).arrAt 6 (cfgs 0).N = dInput (m ((c : Thread nD τ).loc main_arg0)) (dOut (m ((c : Thread nD τ).loc main_arg0)) (m ((c : Thread nD τ).loc main_arg3)) (m ((c : Thread nD τ).loc main_arg1)) (m ((c : Thread nD τ).loc main_arg2))) (m ((c : Thread nD τ).loc main_arg1)) := by
  refine (dats m 0 c).arrAt_eq_of_covers 6 _ (by decide +kernel) fun t hf y => ?_
  blk_simp
  have hN : t.val < 16 := lt_of_lt_of_eq t.isLt N_0
  rw [after0_6]
  obtain ⟨r, k, rfl⟩ : ∃ (r : Fin 512) (k : Fin 1024), y = ix2 r k := ⟨y 0, y 1, (ix2_eta y).symm⟩
  rw [show (win0_6.blk t).view.emb (ix2 r k) = (ix2 ⟨512 * t.val + r.val, row_lt t r⟩ k : S8192x1024.Idx) from by blk_ext [idx t]]
  by_cases h : t.val % 16 = 0
  · rw [outsAt0_A m c t h (by omega)]
    frame_out
    exact stored m c t r k
  · by_cases h' : t.val % 16 = 15
    · rw [outsAt0_C m c t h h']
      frame_out
      exact stored m c t r k
    · rw [outsAt0_B m c t h h']
      frame_out
      exact stored m c t r k

/-- The third result after the run: the gradient of the layer norm's argument. -/
theorem final7 (c : Dev nD) : (dats m 0 c).arrAt 7 (cfgs 0).N = dInput (m ((c : Thread nD τ).loc main_arg0)) (dOut (m ((c : Thread nD τ).loc main_arg0)) (m ((c : Thread nD τ).loc main_arg3)) (m ((c : Thread nD τ).loc main_arg1)) (m ((c : Thread nD τ).loc main_arg2))) (m ((c : Thread nD τ).loc main_arg1)) := by
  refine (dats m 0 c).arrAt_eq_of_covers 7 _ (by decide +kernel) fun t hf y => ?_
  blk_simp
  have hN : t.val < 16 := lt_of_lt_of_eq t.isLt N_0
  rw [after0_7]
  obtain ⟨r, k, rfl⟩ : ∃ (r : Fin 512) (k : Fin 1024), y = ix2 r k := ⟨y 0, y 1, (ix2_eta y).symm⟩
  rw [show (win0_7.blk t).view.emb (ix2 r k) = (ix2 ⟨512 * t.val + r.val, row_lt t r⟩ k : S8192x1024.Idx) from by blk_ext [idx t]]
  by_cases h : t.val % 16 = 0
  · rw [outsAt0_A m c t h (by omega)]
    frame_out
    exact stored m c t r k
  · by_cases h' : t.val % 16 = 15
    · rw [outsAt0_C m c t h h']
      frame_out
      exact stored m c t r k
    · rw [outsAt0_B m c t h h']
      frame_out
      exact stored m c t r k

end Cert.Kernel4Ideal.Loss

end
-- ==== Proof.Loss.Total.lean ====
module

public import proofs.«01_k».proof.Proof.Gen.Kernel4Ideal.Frame
public import Idealize.ShloMosaic.Lib.Pipeline.ValueKit
public import Idealize.ShloMosaic.Lib.Pointwise
public import Idealize.ShloMosaic.Lib.WritesUnit
public import proofs.«01_k».proof.Proof.Loss.Tiles

@[expose] public section

set_option maxRecDepth 16384

noncomputable section

open Idealize.ShloMosaic Idealize.ShloMosaic.TcCoe Idealize.SL.Sem
open Idealize.ShloMosaic.Pipeline (Dat)

namespace Cert.Kernel4Ideal.Loss

open Cert.Norm Cert.Loss Cert.Kernel4Ideal Cert.Kernel4Ideal.Gen

variable (m : (ℓ : Loc nD τ sig) → Buf (Elt Ideal) ℓ)

/-- A tile's squared differences, added along each column. -/
def squares (c : Dev nD) (t : Fin cfg0.N) (k : Fin 1024) : EReal := ∑ r : Fin 512, square (m ((c : Thread nD τ).loc main_arg0)) (m ((c : Thread nD τ).loc main_arg3)) (m ((c : Thread nD τ).loc main_arg1)) (m ((c : Thread nD τ).loc main_arg2)) ⟨512 * t.val + r.val, row_lt t r⟩ k

/-- What the tile adds to the carried sums. -/
theorem squares_added (c : Dev nD) (t : Fin cfg0.N) (old : FVec Ideal S1x1024 .f32) (k : Fin 1024) :
    k0_pay8 (F := Ideal) (iblk m c 0 t) (iblk m c 1 t) old (ix2 0 k) = old (ix2 0 k) + squares m c t k := by
  have h := err_at m c t
  unfold k0_pay8
  generalize k0_pay7 (F := Ideal) (iblk m c 0 t) (iblk m c 1 t) = x at *
  pointwise [squares, square]
  simp only [h]

/-- What the first tile leaves of the carried sums. -/
theorem squares_first (c : Dev nD) (t : Fin cfg0.N) (h : t.val % 16 = 0) (k : Fin 1024) :
    (outsAt0 m c t.val t.isLt).2.2.2.2.2 (ix2 0 k) = (0 : EReal) + squares m c t k := by
  rw [outsAt0_A m c t h (by omega)]
  frame_out
  refine (squares_added m c t _ k).trans ?_
  exact congrArg (· + _) (by pointwise [k0_pay4])

/-- What a later tile leaves of the carried sums. -/
theorem squares_later (c : Dev nD) (t : Fin cfg0.N) (h : ¬t.val % 16 = 0) (k : Fin 1024) :
    (outsAt0 m c t.val t.isLt).2.2.2.2.2 (ix2 0 k)
      = (show EReal from (outsAt0 m c (t.val - 1) (Nat.lt_of_le_of_lt (Nat.sub_le _ _) t.isLt)).2.2.2.2.2 (ix2 0 k)) + squares m c t k := by
  by_cases h' : t.val % 16 = 15
  · rw [outsAt0_C m c t h h']
    frame_out
    refine (squares_added m c t _ k).trans ?_
    exact congrArg (fun x : FVec Ideal S1x1024 .f32 => (x (ix2 0 k) : EReal) + squares m c t k) (Memref.IsWhole.read_unread (Memref.isWhole_whole _) _)
  · rw [outsAt0_B m c t h h']
    frame_out
    refine (squares_added m c t _ k).trans ?_
    exact congrArg (fun x : FVec Ideal S1x1024 .f32 => (x (ix2 0 k) : EReal) + squares m c t k) (Memref.IsWhole.read_unread (Memref.isWhole_whole _) _)

/-- The last tile turns the carried sums into the loss. -/
theorem last (c : Dev nD) (t : Fin cfg0.N) (h : ¬t.val % 16 = 0) (h' : t.val % 16 = 15) :
    (outsAt0 m c t.val t.isLt).1 = k0_pay3 (F := Ideal) (outsAt0 m c t.val t.isLt).2.2.2.2.2 := by
  rw [outsAt0_C m c t h h']
  frame_out

/-- The first result after the run: the loss. -/
theorem final5 (c : Dev nD) : (dats m 0 c).arrAt 5 (cfgs 0).N = fun _ => loss (m ((c : Thread nD τ).loc main_arg0)) (m ((c : Thread nD τ).loc main_arg3)) (m ((c : Thread nD τ).loc main_arg1)) (m ((c : Thread nD τ).loc main_arg2)) := by
  refine (dats m 0 c).arrAt_eq_of_covers 5 _ (by decide +kernel) fun t hf y => ?_
  blk_simp
  have hN : t.val < 16 := lt_of_lt_of_eq t.isLt N_0
  have h15 := (flush0_5 t).mp hf
  rw [after0_5, last m c t (by omega) h15]
  have hs : ∀ k : Fin 1024, (outsAt0 m c t.val t.isLt).2.2.2.2.2 (ix2 0 k) = ∑ r : Fin 8192, square (m ((c : Thread nD τ).loc main_arg0)) (m ((c : Thread nD τ).loc main_arg3)) (m ((c : Thread nD τ).loc main_arg1)) (m ((c : Thread nD τ).loc main_arg2)) r k := fun k => by
    refine (Pipeline.eq_sum_fin_of_reset_step_apply_of_flush (fun n h => (outsAt0 m c n h).2.2.2.2.2) 16 (fun _ => (0 : EReal)) (fun t j => squares m c t (j 1))
      (fun t h j => ?_) (fun t h j => ?_) t h15 (ix2 0 k)).trans ?_
    · obtain ⟨a, b, rfl⟩ : ∃ (a : Fin 1) (b : Fin 1024), j = ix2 a b := ⟨j 0, j 1, (ix2_eta j).symm⟩
      obtain rfl := Subsingleton.elim 0 a
      exact squares_first m c t h b
    · obtain ⟨a, b, rfl⟩ : ∃ (a : Fin 1) (b : Fin 1024), j = ix2 a b := ⟨j 0, j 1, (ix2_eta j).symm⟩
      obtain rfl := Subsingleton.elim 0 a
      exact squares_later m c t h b
    · rw [zero_add]
      unfold squares
      refine Fin.sum_mul_add_congr fun s r hl => ?_
      exact congrArg (fun i => square (m ((c : Thread nD τ).loc main_arg0)) (m ((c : Thread nD τ).loc main_arg3)) (m ((c : Thread nD τ).loc main_arg1)) (m ((c : Thread nD τ).loc main_arg2)) i k) (Fin.ext (by show 512 * (16 * (t.val / 16) + s.val) + r.val = s.val * 512 + r.val; omega))
  generalize (outsAt0 m c t.val t.isLt).2.2.2.2.2 = x at *
  unfold loss
  simp only [← hs]
  pointwise [k0_pay3]

end Cert.Kernel4Ideal.Loss

end
-- ==== Proof.Loss.Sums.lean ====
module

public import proofs.«01_k».proof.Proof.Gen.Kernel4Ideal.Frame
public import Idealize.ShloMosaic.Lib.Pipeline.ValueKit
public import Idealize.ShloMosaic.Lib.Pointwise
public import Idealize.ShloMosaic.Lib.WritesUnit
public import proofs.«01_k».proof.Proof.Norm.Rows
public import proofs.«01_k».proof.Proof.Loss.Tiles

@[expose] public section

set_option maxRecDepth 16384

noncomputable section

open Idealize.ShloMosaic Idealize.ShloMosaic.TcCoe Idealize.SL.Sem
open Idealize.ShloMosaic.Pipeline (Dat)

namespace Cert.Kernel4Ideal.Loss

open Cert.Norm Cert.Loss Cert.Kernel4Ideal Cert.Kernel4Ideal.Gen

variable (m : (ℓ : Loc nD τ sig) → Buf (Elt Ideal) ℓ)

/-- A first row that each tile adds its share to ends as the sum of the shares. -/
theorem sums (f : (n : ℕ) → n < cfg0.N → FVec Ideal S8x1024 .f32) (s : Fin cfg0.N → Fin 1024 → EReal)
    (first : ∀ t : Fin cfg0.N, t.val % 16 = 0 → ∀ (r : Fin 8) (k : Fin 1024), f t.val t.isLt (ix2 r k) = if r.val = 0 then s t k else (0 : EReal))
    (later : ∀ t : Fin cfg0.N, ¬t.val % 16 = 0 → ∀ (r : Fin 8) (k : Fin 1024), f t.val t.isLt (ix2 r k)
      = (show EReal from f (t.val - 1) (Nat.lt_of_le_of_lt (Nat.sub_le _ _) t.isLt) (ix2 r k)) + if r.val = 0 then s t k else (0 : EReal))
    (t : Fin cfg0.N) (h : t.val % 16 = 15) (y : S8x1024.Idx) :
    f t.val t.isLt y = if (y 0).val = 0 then ∑ a : Fin 16, s ⟨16 * (t.val / 16) + a.val, Pipeline.run_point_lt_of_flush t h a⟩ (y 1) else (0 : EReal) := by
  refine (Pipeline.eq_sum_fin_of_reset_step_apply_of_flush f 16 (fun _ => (0 : EReal)) (fun t j => if (j 0).val = 0 then s t (j 1) else 0)
    (fun t h j => ?_) (fun t h j => ?_) t h y).trans ?_
  · rw [zero_add]
    exact (congrArg _ (ix2_eta j)).symm.trans (first t h (j 0) (j 1))
  · have e := later t h (j 0) (j 1)
    rwa [show (ix2 (j 0) (j 1) : S8x1024.Idx) = j from ix2_eta j] at e
  · rw [zero_add]
    by_cases h0 : (y 0).val = 0
    · simp only [if_pos h0]
    · simp only [if_neg h0]
      exact Finset.sum_const_zero

/-- A tile's share of the gain's gradient. -/
def gainShare (c : Dev nD) (t : Fin cfg0.N) (k : Fin 1024) : EReal :=
  ∑ r : Fin 512, gainTerm (m ((c : Thread nD τ).loc main_arg0)) (dOut (m ((c : Thread nD τ).loc main_arg0)) (m ((c : Thread nD τ).loc main_arg3)) (m ((c : Thread nD τ).loc main_arg1)) (m ((c : Thread nD τ).loc main_arg2))) ⟨512 * t.val + r.val, row_lt t r⟩ k

/-- What the tile adds to the first row of the gain's gradient. -/
theorem gainShare_added (c : Dev nD) (t : Fin cfg0.N) (old : FVec Ideal S1x1024 .f32) (k : Fin 1024) :
    k0_pay11 (F := Ideal) (iblk m c 0 t) (iblk m c 1 t) (iblk m c 2 t) old (ix2 0 k) = old (ix2 0 k) + gainShare m c t k := by
  have h := out_at m c t
  unfold k0_pay11
  generalize k0_pay9 (F := Ideal) (iblk m c 0 t) (iblk m c 1 t) = x at *
  open_payloads
  pointwise [gainShare, gainTerm]
  simp only [h, rows_at]

/-- What the first tile leaves of the gain's gradient. -/
theorem gainShare_first (c : Dev nD) (t : Fin cfg0.N) (h : t.val % 16 = 0) (r : Fin 8) (k : Fin 1024) :
    (outsAt0 m c t.val t.isLt).2.2.2.1 (ix2 r k) = if r.val = 0 then gainShare m c t k else (0 : EReal) := by
  rw [outsAt0_A m c t h (by omega)]
  frame_out
  rw [← View.read_writes_junk_eq_canon (ms0_8 t).view, row_store]
  by_cases hr : r.val = 0
  · rw [if_pos hr, if_pos hr]
    refine (gainShare_added m c t _ k).trans ?_
    rw [load_row, fill]
    refine Eq.trans ?_ (zero_add _)
    exact congrArg (· + _) (by pointwise [k0_pay5])
  · rw [if_neg hr, if_neg hr, fill]
    pointwise [k0_pay5]

/-- What a later tile leaves of the gain's gradient. -/
theorem gainShare_later (c : Dev nD) (t : Fin cfg0.N) (h : ¬t.val % 16 = 0) (r : Fin 8) (k : Fin 1024) :
    (outsAt0 m c t.val t.isLt).2.2.2.1 (ix2 r k)
      = (show EReal from (outsAt0 m c (t.val - 1) (Nat.lt_of_le_of_lt (Nat.sub_le _ _) t.isLt)).2.2.2.1 (ix2 r k))
        + if r.val = 0 then gainShare m c t k else (0 : EReal) := by
  by_cases h' : t.val % 16 = 15
  · rw [outsAt0_C m c t h h']
    frame_out
    rw [row_store]
    by_cases hr : r.val = 0
    · rw [if_pos hr, if_pos hr]
      refine (gainShare_added m c t _ k).trans ?_
      pointwise
      blk_point
    · rw [if_neg hr, if_neg hr, View.writes_nil, Memref.IsWhole.read_unread]
      exact (add_zero _).symm
  · rw [outsAt0_B m c t h h']
    frame_out
    rw [row_store]
    by_cases hr : r.val = 0
    · rw [if_pos hr, if_pos hr]
      refine (gainShare_added m c t _ k).trans ?_
      pointwise
      blk_point
    · rw [if_neg hr, if_neg hr, View.writes_nil, Memref.IsWhole.read_unread]
      exact (add_zero _).symm

/-- The gain's gradient after the run. -/
theorem final8 (c : Dev nD) : (dats m 0 c).arrAt 8 (cfgs 0).N = dGain (m ((c : Thread nD τ).loc main_arg0)) (dOut (m ((c : Thread nD τ).loc main_arg0)) (m ((c : Thread nD τ).loc main_arg3)) (m ((c : Thread nD τ).loc main_arg1)) (m ((c : Thread nD τ).loc main_arg2))) := by
  refine (dats m 0 c).arrAt_eq_of_covers 8 _ (by decide +kernel) fun t hf y => ?_
  blk_simp
  have hN : t.val < 16 := lt_of_lt_of_eq t.isLt N_0
  rw [after0_8, show (win0_8.blk t).view.emb y = y from by blk_ext [idx t]]
  refine (sums (fun n h => (outsAt0 m c n h).2.2.2.1) (gainShare m c) (gainShare_first m c) (gainShare_later m c) t ((flush0_8 t).mp hf) y).trans ?_
  unfold gainShare dGain
  refine if_congr Iff.rfl (Fin.sum_mul_add_congr fun s r hl => ?_) rfl
  exact congrArg (fun i => gainTerm (m ((c : Thread nD τ).loc main_arg0)) (dOut (m ((c : Thread nD τ).loc main_arg0)) (m ((c : Thread nD τ).loc main_arg3)) (m ((c : Thread nD τ).loc main_arg1)) (m ((c : Thread nD τ).loc main_arg2))) i (y 1)) (Fin.ext (by show 512 * (16 * (t.val / 16) + s.val) + r.val = s.val * 512 + r.val; omega))

/-- A tile's share of the offset's gradient. -/
def offsetShare (c : Dev nD) (t : Fin cfg0.N) (k : Fin 1024) : EReal :=
  ∑ r : Fin 512, offsetTerm (dOut (m ((c : Thread nD τ).loc main_arg0)) (m ((c : Thread nD τ).loc main_arg3)) (m ((c : Thread nD τ).loc main_arg1)) (m ((c : Thread nD τ).loc main_arg2))) ⟨512 * t.val + r.val, row_lt t r⟩ k

/-- What the tile adds to the first row of the offset's gradient. -/
theorem offsetShare_added (c : Dev nD) (t : Fin cfg0.N) (old : FVec Ideal S1x1024 .f32) (k : Fin 1024) :
    k0_pay12 (F := Ideal) (iblk m c 0 t) (iblk m c 1 t) old (ix2 0 k) = old (ix2 0 k) + offsetShare m c t k := by
  have h := out_at m c t
  unfold k0_pay12
  generalize k0_pay9 (F := Ideal) (iblk m c 0 t) (iblk m c 1 t) = x at *
  open_payloads
  pointwise [offsetShare, offsetTerm]
  simp only [h]

/-- What the first tile leaves of the offset's gradient. -/
theorem offsetShare_first (c : Dev nD) (t : Fin cfg0.N) (h : t.val % 16 = 0) (r : Fin 8) (k : Fin 1024) :
    (outsAt0 m c t.val t.isLt).2.2.2.2.1 (ix2 r k) = if r.val = 0 then offsetShare m c t k else (0 : EReal) := by
  rw [outsAt0_A m c t h (by omega)]
  frame_out
  rw [← View.read_writes_junk_eq_canon (ms0_9 t).view, row_store]
  by_cases hr : r.val = 0
  · rw [if_pos hr, if_pos hr]
    refine (offsetShare_added m c t _ k).trans ?_
    rw [load_row, fill]
    refine Eq.trans ?_ (zero_add _)
    exact congrArg (· + _) (by pointwise [k0_pay6])
  · rw [if_neg hr, if_neg hr, fill]
    pointwise [k0_pay6]

/-- What a later tile leaves of the offset's gradient. -/
theorem offsetShare_later (c : Dev nD) (t : Fin cfg0.N) (h : ¬t.val % 16 = 0) (r : Fin 8) (k : Fin 1024) :
    (outsAt0 m c t.val t.isLt).2.2.2.2.1 (ix2 r k)
      = (show EReal from (outsAt0 m c (t.val - 1) (Nat.lt_of_le_of_lt (Nat.sub_le _ _) t.isLt)).2.2.2.2.1 (ix2 r k))
        + if r.val = 0 then offsetShare m c t k else (0 : EReal) := by
  by_cases h' : t.val % 16 = 15
  · rw [outsAt0_C m c t h h']
    frame_out
    rw [row_store]
    by_cases hr : r.val = 0
    · rw [if_pos hr, if_pos hr]
      refine (offsetShare_added m c t _ k).trans ?_
      pointwise
      blk_point
    · rw [if_neg hr, if_neg hr, View.writes_nil, Memref.IsWhole.read_unread]
      exact (add_zero _).symm
  · rw [outsAt0_B m c t h h']
    frame_out
    rw [row_store]
    by_cases hr : r.val = 0
    · rw [if_pos hr, if_pos hr]
      refine (offsetShare_added m c t _ k).trans ?_
      pointwise
      blk_point
    · rw [if_neg hr, if_neg hr, View.writes_nil, Memref.IsWhole.read_unread]
      exact (add_zero _).symm

/-- The offset's gradient after the run. -/
theorem final9 (c : Dev nD) : (dats m 0 c).arrAt 9 (cfgs 0).N = dOffset (dOut (m ((c : Thread nD τ).loc main_arg0)) (m ((c : Thread nD τ).loc main_arg3)) (m ((c : Thread nD τ).loc main_arg1)) (m ((c : Thread nD τ).loc main_arg2))) := by
  refine (dats m 0 c).arrAt_eq_of_covers 9 _ (by decide +kernel) fun t hf y => ?_
  blk_simp
  have hN : t.val < 16 := lt_of_lt_of_eq t.isLt N_0
  rw [after0_9, show (win0_9.blk t).view.emb y = y from by blk_ext [idx t]]
  refine (sums (fun n h => (outsAt0 m c n h).2.2.2.2.1) (offsetShare m c) (offsetShare_first m c) (offsetShare_later m c) t ((flush0_9 t).mp hf) y).trans ?_
  unfold offsetShare dOffset
  refine if_congr Iff.rfl (Fin.sum_mul_add_congr fun s r hl => ?_) rfl
  exact congrArg (fun i => offsetTerm (dOut (m ((c : Thread nD τ).loc main_arg0)) (m ((c : Thread nD τ).loc main_arg3)) (m ((c : Thread nD τ).loc main_arg1)) (m ((c : Thread nD τ).loc main_arg2))) i (y 1)) (Fin.ext (by show 512 * (16 * (t.val / 16) + s.val) + r.val = s.val * 512 + r.val; omega))

end Cert.Kernel4Ideal.Loss

end
-- ==== Proof.Loss.Ref.lean ====
module

public import proofs.«01_k».proof.Proof.Gen.Reference4Ideal.Read
public import Idealize.ShloMosaic.Lib.Pipeline.ValueKit
public import Idealize.ShloMosaic.Lib.Pointwise
public import Idealize.ShloMosaic.Lib.KernelVsHost
public import proofs.«01_k».proof.Proof.Loss.Rule

@[expose] public section

set_option maxRecDepth 16384

noncomputable section

open Idealize.ShloMosaic Idealize.ShloMosaic.TcCoe Idealize.SL.Sem
open Idealize.ShloMosaic.Pipeline (Dat)

namespace Cert.Reference4Ideal.Loss

open Cert.Reference4Ideal Cert.Reference4Ideal.Gen Cert.Norm Cert.Loss Cert.Reference4Ideal.Read

variable (Z T : FVec Ideal S8192x1024 .f32) (G B : FVec Ideal S1x1024 .f32)

/-- The rows less their means. -/
theorem v5 : val_main_v5 (F := Ideal) Z = fun i => centred (fun j => Z (ix2 (i 0) j)) (i 1) := by
  funext i
  pointwise [val_main_v5, val_main_v4, val_main_v3, val_main_v2, val_main_v1, val_main_v0, val_main_cst, val_main_cst_0, centred]

/-- The rows less their means, taken once more. -/
theorem v14 : val_main_v14 (F := Ideal) Z = fun i => centred (fun j => Z (ix2 (i 0) j)) (i 1) := v5 Z

/-- The variances and the small constant. -/
theorem v16 : val_main_v16 (F := Ideal) Z = fun i => spread (fun j => Z (ix2 (i 0) j)) := by
  have h := v5 Z
  unfold val_main_v16 val_main_v12 val_main_v10 val_main_v9 val_main_v6
  generalize val_main_v5 (F := Ideal) Z = x at *
  subst h
  funext i
  pointwise [val_main_v15, val_main_v11, val_main_cst_2, val_main_cst_3, val_main_cst_4, spread]

/-- The reciprocals of the standard deviations. -/
theorem v17 : val_main_v17 (F := Ideal) Z = fun i => scale (fun j => Z (ix2 (i 0) j)) := by
  have h := v16 Z
  unfold val_main_v17
  generalize val_main_v16 (F := Ideal) Z = x at *
  subst h
  funext i
  pointwise [scale]

/-- The normalised rows. -/
theorem v22 : val_main_v22 (F := Ideal) Z = fun i => normed (fun j => Z (ix2 (i 0) j)) (i 1) := by
  have h := v14 Z
  have h' := v17 Z
  unfold val_main_v22 val_main_v21
  generalize val_main_v14 (F := Ideal) Z = x at *
  generalize val_main_v17 (F := Ideal) Z = y at *
  subst h h'
  funext i
  pointwise [normed]

/-- The layer norm's result less the target. -/
theorem v27 : val_main_v27 (F := Ideal) Z G B T = err Z T G B := by
  have h := v22 Z
  unfold val_main_v27 val_main_v26 val_main_v24
  generalize val_main_v22 (F := Ideal) Z = x at *
  subst h
  funext i
  pointwise [val_main_v23, val_main_v25, err]

/-- The loss, the rows added last. -/
theorem v73 : val_main_v73 (F := Ideal) Z G B T = fun _ => lossByRows Z T G B := by
  have h := v27 Z T G B
  unfold val_main_v73 val_main_v35 val_main_v34 val_main_v33 val_main_v31 val_main_v28
  generalize val_main_v27 (F := Ideal) Z G B T = x at *
  subst h
  funext i
  pointwise [val_main_v32, val_main_cst_7, val_main_cst_8, val_main_cst_9, val_main_cst_10, lossByRows, square]

/-- The gradient of the layer norm's result. -/
theorem v41 : val_main_v41 (F := Ideal) Z G B T = dOut Z T G B := by
  have h := v27 Z T G B
  unfold val_main_v41 val_main_v30
  generalize val_main_v27 (F := Ideal) Z G B T = x at *
  subst h
  funext i
  refine Eq.trans ?_ (factors (err Z T G B i))
  pointwise [val_main_v40, val_main_v39, val_main_v38, val_main_v37, val_main_v36, val_main_v29, val_main_cst_6, val_main_cst_11, val_main_cst_12, val_main_cst_13]

/-- The gradient of the normalised rows. -/
theorem v48 : val_main_v48 (F := Ideal) Z G B T = fun i => dOut Z T G B i * G (ix2 0 (i 1)) := by
  have h := v41 Z T G B
  unfold val_main_v48
  generalize val_main_v41 (F := Ideal) Z G B T = x at *
  subst h
  funext i
  pointwise [val_main_v47]

/-- The gradient of the offset. -/
theorem v78 : val_main_v78 (F := Ideal) Z G B T = dOffset (dOut Z T G B) := by
  have h := v41 Z T G B
  unfold val_main_v78 val_main_v43 val_main_v42
  generalize val_main_v41 (F := Ideal) Z G B T = x at *
  subst h
  funext i
  pointwise [val_main_v77, val_main_cst_14, val_main_cst_24, dOffset, offsetTerm]
  simp only [Nat.lt_one_iff, dite_eq_ite]

/-- The gradient of the gain. -/
theorem v76 : val_main_v76 (F := Ideal) Z G B T = dGain Z (dOut Z T G B) := by
  have h := v22 Z
  have h' := v41 Z T G B
  unfold val_main_v76 val_main_v46 val_main_v45 val_main_v44
  generalize val_main_v22 (F := Ideal) Z = x at *
  generalize val_main_v41 (F := Ideal) Z G B T = y at *
  subst h h'
  funext i
  pointwise [val_main_v75, val_main_cst_15, val_main_cst_23, dGain, gainTerm]
  simp only [Nat.lt_one_iff, dite_eq_ite, mul_comm]

/-- The variance's share of the gradient. -/
theorem v59 : val_main_v59 (F := Ideal) Z G B T = fun i => slope (fun j => Z (ix2 (i 0) j)) (fun j => dOut Z T G B (ix2 (i 0) j) * G (ix2 0 j)) := by
  have h := v14 Z
  have h1 := v16 Z
  have h2 := v17 Z
  have h3 := v48 Z T G B
  unfold val_main_v59 val_main_v54 val_main_v51 val_main_v50 val_main_v49 val_main_v20 val_main_v18
  generalize val_main_v14 (F := Ideal) Z = x at *
  generalize val_main_v16 (F := Ideal) Z = y at *
  generalize val_main_v17 (F := Ideal) Z = w at *
  generalize val_main_v48 (F := Ideal) Z G B T = u at *
  subst h h1 h2 h3
  funext i
  pointwise [val_main_v58, val_main_v19, val_main_cst_5, val_main_cst_16, val_main_cst_18, Cert.Norm.slope]

/-- The gradient of the layer norm's argument, by the rules one by one. -/
theorem v72 : val_main_v72 (F := Ideal) Z G B T = fun i => dRules (fun j => Z (ix2 (i 0) j)) (fun j => dOut Z T G B (ix2 (i 0) j) * G (ix2 0 j)) (i 1) := by
  have h := v5 Z
  have h2 := v17 Z
  have h3 := v48 Z T G B
  have h4 := v59 Z T G B
  unfold val_main_v72 val_main_v71 val_main_v70 val_main_v69 val_main_v67 val_main_v66 val_main_v65 val_main_v64 val_main_v63 val_main_v62 val_main_v61
    val_main_v60 val_main_v57 val_main_v56 val_main_v55 val_main_v53 val_main_v52 val_main_v8
  generalize val_main_v5 (F := Ideal) Z = x at *
  generalize val_main_v17 (F := Ideal) Z = w at *
  generalize val_main_v48 (F := Ideal) Z G B T = u at *
  generalize val_main_v59 (F := Ideal) Z G B T = s at *
  subst h h2 h3 h4
  funext i
  pointwise [val_main_v68, val_main_v7, val_main_cst_1, val_main_cst_17, val_main_cst_19, val_main_cst_20, val_main_cst_21, val_main_cst_22, dRules]
  simp only [Fin.sum_univ_one]

/-- The gradient again, in the narrow type. -/
theorem v74 : val_main_v74 (F := Ideal) Z G B T = val_main_v72 (F := Ideal) Z G B T := by
  funext i
  pointwise [val_main_v74]

end Cert.Reference4Ideal.Loss

end
-- ==== Proof.Loss.Pair.lean ====
module

public import Idealize.ShloMosaic.Lib.Pipeline.ValueKit
public import Idealize.ShloMosaic.Lib.Claim
public import proofs.«01_k».proof.Defs
public import proofs.«01_k».proof.Proof.Real
public import proofs.«01_k».proof.Proof.Norm.Rule
public import proofs.«01_k».proof.Proof.Loss.Rule
public import proofs.«01_k».proof.Proof.Loss.Total
public import proofs.«01_k».proof.Proof.Loss.Sums
public import proofs.«01_k».proof.Proof.Loss.Ref
public import proofs.«01_k».proof.Proof.Gen.Reference4Ideal.Run
public import proofs.«01_k».proof.Proof.Gen.Pre_finite_loss

@[expose] public section

set_option maxRecDepth 16384

noncomputable section

open Idealize.ShloMosaic Idealize.ShloMosaic.TcCoe Idealize.SL.Sem
open Idealize.ShloMosaic.Pipeline (Dat)

namespace Cert.Loss

open Cert.Norm

open Cert.Real

section
variable (Z : FVec Ideal ⟨2, ![8192, 1024]⟩ .f32) (G B : FVec Ideal ⟨2, ![1, 1024]⟩ .f32) (T : FVec Ideal ⟨2, ![8192, 1024]⟩ .f32)

/-- The rows of an input that meets the precondition are real numbers. -/
theorem rows_real (h : (Cert.Pre_finite_loss.fn Z G B T).1 = fun _ => 1#1) (i : (⟨2, ![8192, 1024]⟩ : Shape).Idx) : ∃ r : ℝ, Z i = r := by
  have := congrFun h i
  unfold Cert.Pre_finite_loss.fn at this
  exact finite_real _ this

/-- Its gain is made of real numbers. -/
theorem gain_real (h : (Cert.Pre_finite_loss.fn Z G B T).2.1 = fun _ => 1#1) (i : (⟨2, ![1, 1024]⟩ : Shape).Idx) : ∃ r : ℝ, G i = r := by
  have := congrFun h i
  unfold Cert.Pre_finite_loss.fn at this
  exact finite_real _ this

/-- Its offset is made of real numbers. -/
theorem offset_real (h : (Cert.Pre_finite_loss.fn Z G B T).2.2.1 = fun _ => 1#1) (i : (⟨2, ![1, 1024]⟩ : Shape).Idx) : ∃ r : ℝ, B i = r := by
  have := congrFun h i
  unfold Cert.Pre_finite_loss.fn at this
  exact finite_real _ this

/-- Its target is made of real numbers. -/
theorem target_real (h : (Cert.Pre_finite_loss.fn Z G B T).2.2.2 = fun _ => 1#1) (i : (⟨2, ![8192, 1024]⟩ : Shape).Idx) : ∃ r : ℝ, T i = r := by
  have := congrFun h i
  unfold Cert.Pre_finite_loss.fn at this
  exact finite_real _ this

variable (h1 : (Cert.Pre_finite_loss.fn Z G B T).1 = fun _ => 1#1) (h2 : (Cert.Pre_finite_loss.fn Z G B T).2.1 = fun _ => 1#1)
  (h3 : (Cert.Pre_finite_loss.fn Z G B T).2.2.1 = fun _ => 1#1) (h4 : (Cert.Pre_finite_loss.fn Z G B T).2.2.2 = fun _ => 1#1)
include h1 h2 h3 h4

/-- The differences of an input that meets the precondition are real numbers. -/
theorem differences (i : (⟨2, ![8192, 1024]⟩ : Shape).Idx) : ∃ r : ℝ, err Z T G B i = r :=
  err_real Z T G B (rows_real Z G B T h1) (gain_real Z G B T h2) (offset_real Z G B T h3) (target_real Z G B T h4) i

/-- The reference's gradient of the layer norm's argument, for finite arguments. -/
theorem input_rule : Cert.Reference4Ideal.Read.val_main_v72 (F := Ideal) Z G B T = dInput Z (dOut Z T G B) G := by
  rw [Cert.Reference4Ideal.Loss.v72]
  funext i
  refine rules _ _ (fun k => rows_real Z G B T h1 _) (fun k => ?_) (i 1)
  obtain ⟨x, hx⟩ := differences Z G B T h1 h2 h3 h4 (ix2 (i 0) k)
  obtain ⟨y, hy⟩ := gain_real Z G B T h2 (ix2 0 k)
  exact ⟨x * (1 / 1024) * y, by unfold dOut; rw [hx, hy, share_word, EReal.coe_mul, EReal.coe_mul]⟩

/-- The reference's loss, for finite arguments. -/
theorem loss_rule : Cert.Reference4Ideal.Read.val_main_v73 (F := Ideal) Z G B T = fun _ => loss Z T G B := by
  rw [Cert.Reference4Ideal.Loss.v73, loss_rows Z T G B (differences Z G B T h1 h2 h3 h4)]
end

set_option maxHeartbeats 2000000 in
/-- The call that ends the forward pass and starts the backward pass, and the loss with its derivative, end with the same loss and the same gradients of finite arguments. -/
theorem algebraic4 : Cert.algebraic_Kernel4Ideal_Reference4Ideal_pre_finite_loss := by
  pair_intro
  · run_from Cert.Kernel4Ideal.Gen.run_main m g
  · run_from Cert.Reference4Ideal.Value.run m' g'
    all_goals obtain ⟨h0, h1, h2, h3⟩ := hagree c
    all_goals obtain ⟨p1, p2, p3, p4⟩ := hpre c
    · refine Eq.trans ?_ (Cert.Kernel4Ideal.Loss.final5 m c).symm
      rw [← h0, ← h1, ← h2, ← h3] at *
      exact (Cert.Reference4Ideal.Read.val_main_v73_eq _ _ _ _).trans (loss_rule _ _ _ _ p1 p2 p3 p4)
    · refine Eq.trans ?_ (Cert.Kernel4Ideal.Loss.final6 m c).symm
      rw [Cert.Reference4Ideal.Read.val_main_v72_eq, h0, h1, h2, h3]
      exact input_rule _ _ _ _ p1 p2 p3 p4
    · refine Eq.trans ?_ (Cert.Kernel4Ideal.Loss.final7 m c).symm
      rw [Cert.Reference4Ideal.Read.val_main_v74_eq, h0, h1, h2, h3]
      exact (Cert.Reference4Ideal.Loss.v74 _ _ _ _).trans (input_rule _ _ _ _ p1 p2 p3 p4)
    · refine Eq.trans ?_ (Cert.Kernel4Ideal.Loss.final8 m c).symm
      rw [Cert.Reference4Ideal.Read.val_main_v76_eq, h0, h1, h2, h3]
      exact Cert.Reference4Ideal.Loss.v76 _ _ _ _
    · refine Eq.trans ?_ (Cert.Kernel4Ideal.Loss.final9 m c).symm
      rw [← h0, ← h1, ← h2, ← h3]
      exact (Cert.Reference4Ideal.Read.val_main_v78_eq _ _ _ _).trans (Cert.Reference4Ideal.Loss.v78 _ _ _ _)

end Cert.Loss

end
-- ==== Proof.Forward.Bounds.lean ====
module

public import Idealize.ShloMosaic.Lib.Pointwise
public import proofs.«01_k».proof.Proof.Bounds.Spec

@[expose] public section

set_option maxRecDepth 16384

noncomputable section

open Idealize.ShloMosaic Idealize.ShloMosaic.TcCoe Idealize.SL.Sem
open Idealize.ShloMosaic.Pipeline (Dat)

namespace Cert.Forward

open Cert.Bounds

/-- Entry `k` of the lower bounds from the softmax: its rows up to row `k` added, the first row taken off. -/
def lowered (s : (⟨2, ![4, 512]⟩ : Shape).Idx → EReal) (k : Fin 4) (l : Fin 512) : EReal :=
  if k.val = 0 then s (ix2 0 l) - s (ix2 0 l)
  else if k.val = 1 then s (ix2 0 l) + s (ix2 1 l) - s (ix2 0 l)
  else if k.val = 2 then s (ix2 0 l) + s (ix2 1 l) + s (ix2 2 l) - s (ix2 0 l)
  else s (ix2 0 l) + s (ix2 1 l) + s (ix2 2 l) + s (ix2 3 l) - s (ix2 0 l)

/-- The lower bounds of the forget gates. -/
def lower (x : FVec Ideal ⟨2, ![4, 512]⟩ .f32) : (⟨2, ![4, 512]⟩ : Shape).Idx → EReal := fun i => lowered (soft x) (i 0) (i 1)

end Cert.Forward

end
-- ==== Proof.Forward.BoundsCall.lean ====
module

public import proofs.«01_k».proof.Proof.Gen.Kernel9Ideal.Frame
public import Idealize.ShloMosaic.Lib.Pipeline.ValueKit
public import Idealize.ShloMosaic.Lib.Pointwise
public import proofs.«01_k».proof.Proof.Forward.Bounds

@[expose] public section

set_option maxRecDepth 16384

noncomputable section

open Idealize.ShloMosaic Idealize.ShloMosaic.TcCoe Idealize.SL.Sem
open Idealize.ShloMosaic.Pipeline (Dat)

namespace Cert.Kernel9Ideal.Forward

open Cert.Forward Cert.Bounds Cert.Kernel9Ideal Cert.Kernel9Ideal.Gen

variable (m : (ℓ : Loc nD τ sig) → Buf (Elt Ideal) ℓ)

/-- The block of every window at the one grid point. -/
theorem idx : ∀ t : Fin cfg0.N, win0_0.index t = ![0, 0] ∧ win0_1.index t = ![0, 0] ∧ win0_2.index t = ![0, 0] :=
  (by decide +kernel : ∀ t : Fin grid0.N, _)

/-- The softmax the body computes from its block. -/
theorem soft_at (c : Dev nD) (t : Fin cfg0.N) (i : S4x512.Idx) : k0_pay2 (F := Ideal) (iblk m c 0 t) i = soft (m ((c : Thread nD τ).loc main_arg0)) i := by
  rw [← ix2_eta i]
  open_payloads
  pointwise [soft, expo, total, top, show ∀ a : EReal, max ⊥ a = a from fun a => max_eq_right bot_le, show Ideal.ofBits .f32 0xFF800000#32 = ⊥ from by simp [Ideal.ofBits, Ideal.ieee]]
  blk_point [iblk, V, idx t]

/-- The first result after the run: the softmax. -/
theorem final1 (c : Dev nD) : (dats m 0 c).arrAt 1 (cfgs 0).N = soft (m ((c : Thread nD τ).loc main_arg0)) := by
  refine (dats m 0 c).arrAt_eq_of_covers 1 _ (by decide +kernel) fun t hf y => ?_
  blk_simp
  rw [after0_1, outsAt0]
  frame_out
  rw [show (win0_1.blk t).view.emb y = y from by blk_ext [idx t]]
  exact (congrArg (fun x => k0_pay2 (F := Ideal) x y) (Memref.IsWhole.read_unread (Memref.isWhole_whole _) _)).trans (soft_at m c t y)

/-- A row of a block stored whole, read back. -/
theorem row_back (v : View sig .tc .vmem S4x512 .f32) (w G : FVec Ideal S4x512 .f32) (n : ℕ) (k : Fin 4) (hk : n = k.val)
    (inb : ∀ a, (![n, 0] : Fin 2 → ℕ) a + (![1, 512] : Fin 2 → ℕ) a ≤ S4x512.size a) (hw : w = G) :
    v.readCov (Val := Elt Ideal) [⟨Rect.unit ![0, 0] ![4, 512] inb_S4x512_S4x512_0_0, w⟩] (Rect.unit ![n, 0] ![1, 512] inb).toLoadRect
      = fun x => G (ix2 k (x 1)) := by
  subst hw hk
  rw [View.readCov_eq_canon']
  funext x
  have hx : (x 0).val = 0 := by have : (x 0).val < 1 := (x 0).isLt; omega
  rw [show (Rect.unit (s := S4x512) ![k.val, 0] ![1, 512] inb).toLoadRect.idx x = ix2 k (x 1) from by
    funext a
    match a with
    | ⟨0, _⟩ => exact Fin.ext (by show k.val + 1 * (x 0).val = k.val; omega)
    | ⟨1, _⟩ => exact Fin.ext (by show 0 + 1 * (x 1).val = (x 1).val; omega)]
  canon_tiles y h
  exact congrArg w (by idx_ext)

/-- The second result after the run: the lower bounds. -/
theorem final2 (c : Dev nD) : (dats m 0 c).arrAt 2 (cfgs 0).N = lower (m ((c : Thread nD τ).loc main_arg0)) := by
  refine (dats m 0 c).arrAt_eq_of_covers 2 _ (by decide +kernel) fun t hf y => ?_
  blk_simp
  rw [after0_2, outsAt0]
  have e : k0_pay2 (F := Ideal) (iblk m c 0 t) = soft (m ((c : Thread nD τ).loc main_arg0)) := funext (soft_at m c t)
  frame_out
  rw [row_back (G := soft (m ((c : Thread nD τ).loc main_arg0))) (n := 0) (k := 0) (hk := rfl),
    row_back (G := soft (m ((c : Thread nD τ).loc main_arg0))) (n := 1) (k := 1) (hk := rfl),
    row_back (G := soft (m ((c : Thread nD τ).loc main_arg0))) (n := 2) (k := 2) (hk := rfl),
    row_back (G := soft (m ((c : Thread nD τ).loc main_arg0))) (n := 3) (k := 3) (hk := rfl)]
  all_goals first | exact (congrArg (k0_pay2 (F := Ideal)) (Memref.IsWhole.read_unread (Memref.isWhole_whole _) _)).trans e | skip
  clear e
  unfold lower
  generalize soft (m ((c : Thread nD τ).loc main_arg0)) = s
  rw [show (win0_2.blk t).view.emb y = y from by blk_ext [idx t]]
  canon_tiles x h
  all_goals
    have hx : (x 0).val = 0 := by have : (x 0).val < 1 := (x 0).isLt; omega
    try simp only [Rect.emb_unit] at h
    first
    | (rw [show y = (ix2 0 (x 1) : S4x512.Idx) from funext (Fin.forall_fin_two.2 ⟨Fin.ext (by show (y 0).val = 0; omega), Fin.ext (by show (y 1).val = (x 1).val; omega)⟩)]
       open_payloads
       pointwise [lowered])
    | (rw [show y = (ix2 1 (x 1) : S4x512.Idx) from funext (Fin.forall_fin_two.2 ⟨Fin.ext (by show (y 0).val = 1; omega), Fin.ext (by show (y 1).val = (x 1).val; omega)⟩)]
       open_payloads
       pointwise [lowered])
    | (rw [show y = (ix2 2 (x 1) : S4x512.Idx) from funext (Fin.forall_fin_two.2 ⟨Fin.ext (by show (y 0).val = 2; omega), Fin.ext (by show (y 1).val = (x 1).val; omega)⟩)]
       open_payloads
       pointwise [lowered])
    | (rw [show y = (ix2 3 (x 1) : S4x512.Idx) from funext (Fin.forall_fin_two.2 ⟨Fin.ext (by show (y 0).val = 3; omega), Fin.ext (by show (y 1).val = (x 1).val; omega)⟩)]
       open_payloads
       pointwise [lowered])

end Cert.Kernel9Ideal.Forward

end
-- ==== Proof.Forward.BoundsRef.lean ====
module

public import proofs.«01_k».proof.Proof.Gen.Reference9Ideal.Read
public import Idealize.ShloMosaic.Lib.Pipeline.ValueKit
public import Idealize.ShloMosaic.Lib.Pointwise
public import Idealize.ShloMosaic.Lib.KernelVsHost
public import proofs.«01_k».proof.Proof.Forward.Bounds

@[expose] public section

set_option maxRecDepth 16384

noncomputable section

open Idealize.ShloMosaic Idealize.ShloMosaic.TcCoe Idealize.SL.Sem
open Idealize.ShloMosaic.Pipeline (Dat)

namespace Cert.Reference9Ideal.Forward

open Cert.Reference9Ideal Cert.Reference9Ideal.Gen Cert.Reference9Ideal.Read Cert.Forward Cert.Bounds

/-- The running sums from the first row down: each entry is the initial value, where no row is, and the entries of the rows up to its own. -/
theorem window (x : S4x512.Idx → EReal) (v : EReal) (k : Fin 4) (l : Fin 512) :
    Ideal.hostReduceWindowAdd ![4, 1] ![1, 1] ![3, 0] ![0, 0] reduceWindows_S4x512_S4x512_w4s1p3_0_w1s1p0_0 x v (ix2 k l)
      = v + (if h : 3 ≤ k.val + 0 ∧ k.val + 0 - 3 < 4 then x (ix2 ⟨k.val + 0 - 3, h.2⟩ l) else v) + (if h : 3 ≤ k.val + 1 ∧ k.val + 1 - 3 < 4 then x (ix2 ⟨k.val + 1 - 3, h.2⟩ l) else v)
        + (if h : 3 ≤ k.val + 2 ∧ k.val + 2 - 3 < 4 then x (ix2 ⟨k.val + 2 - 3, h.2⟩ l) else v) + (if h : 3 ≤ k.val + 3 ∧ k.val + 3 - 3 < 4 then x (ix2 ⟨k.val + 3 - 3, h.2⟩ l) else v) := by
  unfold Ideal.hostReduceWindowAdd Host.reduceWindow
  have e : List.finRange (Shape.numel ⟨S4x512.rank, ![4, 1]⟩) = [⟨0, by decide⟩, ⟨1, by decide⟩, ⟨2, by decide⟩, ⟨3, by decide⟩] := by decide
  have step : ∀ (n : Fin (Shape.numel ⟨S4x512.rank, ![4, 1]⟩)) (c : ℕ), c = n.val →
      (if hin : ∀ a, ![3, 0] a ≤ ((ix2 k l : S4x512.Idx) a).val * ![1, 1] a + ((Shape.rowMajor ⟨S4x512.rank, ![4, 1]⟩).symm n a).val
            ∧ ((ix2 k l : S4x512.Idx) a).val * ![1, 1] a + ((Shape.rowMajor ⟨S4x512.rank, ![4, 1]⟩).symm n a).val - ![3, 0] a < S4x512.size a
        then x (fun a => ⟨((ix2 k l : S4x512.Idx) a).val * ![1, 1] a + ((Shape.rowMajor ⟨S4x512.rank, ![4, 1]⟩).symm n a).val - ![3, 0] a, (hin a).2⟩) else v)
      = if h : 3 ≤ k.val + c ∧ k.val + c - 3 < 4 then x (ix2 ⟨k.val + c - 3, h.2⟩ l) else v := by
    rintro n c rfl
    have h0 : ((Shape.rowMajor ⟨S4x512.rank, ![4, 1]⟩).symm n 0).val = n.val := by revert n; decide
    have h1 : ((Shape.rowMajor ⟨S4x512.rank, ![4, 1]⟩).symm n 1).val = 0 := by revert n; decide
    by_cases hk : 3 ≤ k.val + n.val ∧ k.val + n.val - 3 < 4
    · rw [dif_pos hk, dif_pos (Fin.forall_fin_two.2 ⟨⟨by show 3 ≤ k.val * 1 + _; omega, by show k.val * 1 + _ - 3 < 4; omega⟩, ⟨Nat.zero_le _, by show l.val * 1 + _ - 0 < 512; omega⟩⟩)]
      exact congrArg x (funext (Fin.forall_fin_two.2 ⟨Fin.ext (by show k.val * 1 + _ - 3 = k.val + n.val - 3; omega), Fin.ext (by show l.val * 1 + _ - 0 = l.val; omega)⟩))
    · rw [dif_neg hk, dif_neg fun hin => hk (by have h2 := hin 0; change 3 ≤ k.val * 1 + _ ∧ k.val * 1 + _ - 3 < 4 at h2; omega)]
  dsimp only
  rw [e]
  simp only [List.foldl]
  exact congrArg₂ (· + ·) (congrArg₂ (· + ·) (congrArg₂ (· + ·) (congrArg (v + ·) (step ⟨0, by decide⟩ 0 rfl)) (step ⟨1, by decide⟩ 1 rfl))
    (step ⟨2, by decide⟩ 2 rfl)) (step ⟨3, by decide⟩ 3 rfl)

/-- The reference's softmax. -/
theorem v10 (x0 : FVec Ideal S4x512 .f32) : val_main_v10 (F := Ideal) x0 = soft x0 := by
  funext i
  pointwise [val_main_v0, val_main_v1, val_main_v2, val_main_v3, val_main_v4, val_main_v5, val_main_v6, val_main_v7, val_main_v8, val_main_v9, val_main_v10, val_main_cst, val_main_cst_0, val_main_cst_1, soft, expo, total, top, show ∀ a : EReal, max ⊥ a = a from fun a => max_eq_right bot_le, show Ideal.ofBits .f32 0xFF800000#32 = ⊥ from by simp [Ideal.ofBits, Ideal.ieee]]

/-- The softmax under the lower bounds. -/
theorem v21 (x0 : FVec Ideal S4x512 .f32) : val_main_v21 (F := Ideal) x0 = soft x0 := v10 x0

/-- The reference's lower bounds. -/
theorem v25 (x0 : FVec Ideal S4x512 .f32) : val_main_v25 (F := Ideal) x0 = lower x0 := by
  have h := v21 x0
  unfold val_main_v25 val_main_v24 val_main_v23 val_main_v22
  rw [h]
  show _ = fun i : S4x512.Idx => lowered (soft x0) (i 0) (i 1)
  generalize soft x0 = s at *
  funext i
  obtain ⟨k, l, rfl⟩ : ∃ (k : Fin 4) (l : Fin 512), i = ix2 k l := ⟨i 0, i 1, (ix2_eta i).symm⟩
  have e : Host.reduceWindowAdd ![4, 1] ![1, 1] ![3, 0] ![0, 0] s (val_main_call0_call0_v0 (F := Ideal))
      reduceWindows_S4x512_S4x512_w4s1p3_0_w1s1p0_0 h_S_ (ix2 k l) = _ := window s (Ideal.ofBits .f32 0x00000000#32) k l
  pointwise [lowered]
  rw [e]
  match k with
  | ⟨0, _⟩ => simp [Ideal.ofBits, Ideal.ieee]
  | ⟨1, _⟩ => simp [Ideal.ofBits, Ideal.ieee]
  | ⟨2, _⟩ => simp [Ideal.ofBits, Ideal.ieee]
  | ⟨3, _⟩ => simp [Ideal.ofBits, Ideal.ieee]

end Cert.Reference9Ideal.Forward

end
-- ==== Proof.Forward.BoundsPair.lean ====
module

public import Idealize.ShloMosaic.Lib.Pipeline.ValueKit
public import Idealize.ShloMosaic.Lib.Claim
public import proofs.«01_k».proof.Defs
public import proofs.«01_k».proof.Proof.Gen.Reference9Ideal.Run
public import proofs.«01_k».proof.Proof.Gen.Reference9Ideal.Read
public import proofs.«01_k».proof.Proof.Forward.BoundsCall
public import proofs.«01_k».proof.Proof.Forward.BoundsRef

@[expose] public section

set_option maxRecDepth 16384

noncomputable section

open Idealize.ShloMosaic Idealize.ShloMosaic.TcCoe Idealize.SL.Sem
open Idealize.ShloMosaic.Pipeline (Dat)

namespace Cert.Forward

set_option maxHeartbeats 1000000 in
/-- The softmax and the lower bounds of the forward call are the reference's. -/
theorem algebraic9 : Cert.algebraic_Kernel9Ideal_Reference9Ideal := by
  pair_intro
  · run_from Cert.Kernel9Ideal.Gen.run_main m g
  · run_from Cert.Reference9Ideal.Value.run m' g'
    all_goals have h0 := hagree c
    · refine Eq.trans ?_ (Cert.Kernel9Ideal.Forward.final1 m c).symm
      rw [← h0]
      exact (Cert.Reference9Ideal.Read.val_main_v10_eq _).trans (Cert.Reference9Ideal.Forward.v10 _)
    · refine Eq.trans ?_ (Cert.Kernel9Ideal.Forward.final2 m c).symm
      rw [← h0]
      exact (Cert.Reference9Ideal.Read.val_main_v25_eq _).trans (Cert.Reference9Ideal.Forward.v25 _)

end Cert.Forward

end
-- ==== Proof.Forward.Spec.lean ====
module

public import Idealize.ShloMosaic.Lib.Pointwise
public import proofs.«01_k».proof.Proof.Merge.Spec
public import proofs.«01_k».proof.Proof.Norm.Spec

@[expose] public section

set_option maxRecDepth 16384

noncomputable section

open Idealize.ShloMosaic Idealize.ShloMosaic.TcCoe Idealize.SL.Sem
open Idealize.ShloMosaic.Pipeline (Dat)

namespace Cert.Forward

open Cert.Merge Cert.Norm

variable (Y : FVec Ideal ⟨2, ![8192, 1536]⟩ .bf16) (P : FVec Ideal ⟨2, ![8192, 7168]⟩ .bf16) (X : FVec Ideal ⟨2, ![8192, 1024]⟩ .f32)
  (Wb : FVec Ideal ⟨2, ![1536, 1024]⟩ .bf16) (Wo : FVec Ideal ⟨2, ![1024, 1024]⟩ .bf16) (B : FVec Ideal ⟨2, ![1, 3072]⟩ .f32)
  (G O : FVec Ideal ⟨2, ![1, 1024]⟩ .f32)

/-- The merged rows: each branch times its gate, the three added. -/
def merged (i : Fin 8192) (k : Fin 1024) : EReal :=
  gate P B 0 i k * branch Y Wb 0 i k + gate P B 1 i k * branch Y Wb 1 i k + gate P B 2 i k * branch Y Wb 2 i k

/-- A row of the layer norm's argument: the scaled residual and the merged row times the output projection. -/
def mixed (i : Fin 8192) (k : Fin 1024) : EReal :=
  Ideal.ofBits .f32 0x3FD744FD#32 * (X (ix2 i k) : EReal) + ∑ e : Fin 1024, merged Y P Wb B i e * Wo (ix2 e k)

/-- The merged rows as an array. -/
def mergedRows : (⟨2, ![8192, 1024]⟩ : Shape).Idx → EReal := fun j => merged Y P Wb B (j 0) (j 1)

/-- The normalised rows. -/
def normedRows : (⟨2, ![8192, 1024]⟩ : Shape).Idx → EReal := fun j => normed (mixed Y P X Wb Wo B (j 0)) (j 1)

/-- The reciprocals of the rows' standard deviations. -/
def scales : (⟨2, ![8192, 1]⟩ : Shape).Idx → EReal := fun j => scale (mixed Y P X Wb Wo B (j 0))

/-- The layer norm's rows: the normalised rows times the gain, plus the offset. -/
def outRows : (⟨2, ![8192, 1024]⟩ : Shape).Idx → EReal :=
  fun j => normed (mixed Y P X Wb Wo B (j 0)) (j 1) * (G (ix2 0 (j 1)) : EReal) + (O (ix2 0 (j 1)) : EReal)

end Cert.Forward

end
-- ==== Proof.Forward.Tiles.lean ====
module

public import proofs.«01_k».proof.Proof.Gen.Kernel10Ideal.Frame
public import Idealize.ShloMosaic.Lib.Pipeline.ValueKit
public import Idealize.ShloMosaic.Lib.Pointwise
public import proofs.«01_k».proof.Proof.Forward.Spec

@[expose] public section

set_option maxRecDepth 16384

noncomputable section

open Idealize.ShloMosaic Idealize.ShloMosaic.TcCoe Idealize.SL.Sem
open Idealize.ShloMosaic.Pipeline (Dat)

namespace Cert.Kernel10Ideal.Forward

open Cert.Forward Cert.Merge Cert.Norm Cert.Kernel10Ideal Cert.Kernel10Ideal.Gen

variable (m : (ℓ : Loc nD τ sig) → Buf (Elt Ideal) ℓ)

/-- The block of every window at grid point `t`. -/
theorem idx : ∀ t : Fin cfg0.N, win0_0.index t = ![t.val, 0] ∧ win0_1.index t = ![t.val, 4] ∧ win0_2.index t = ![t.val, 5]
    ∧ win0_3.index t = ![t.val, 6] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] :=
  (by decide +kernel : ∀ t : Fin grid0.N, _)

/-- A row of a tile is a row of the array. -/
theorem row_lt (t : Fin cfg0.N) (r : Fin 512) : 512 * t.val + r.val < 8192 := by
  have : t.val < 16 := lt_of_lt_of_eq t.isLt N_0
  omega

/-- A tile's merged rows. -/
theorem merged_at (c : Dev nD) (t : Fin cfg0.N) (r : Fin 512) (k : Fin 1024) :
    k0_pay7 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k)
      = merged (m ((c : Thread nD τ).loc main_arg0)) (m ((c : Thread nD τ).loc main_arg1)) (m ((c : Thread nD τ).loc main_arg3)) (m ((c : Thread nD τ).loc main_arg5)) ⟨512 * t.val + r.val, row_lt t r⟩ k := by
  unfold k0_pay7
  open_payloads
  pointwise [merged, gate, branch]
  blk_point [iblk, V, idx t]

/-- The residual's block. -/
theorem residual_at (c : Dev nD) (t : Fin cfg0.N) (r : Fin 512) (k : Fin 1024) :
    iblk m c 4 t (ix2 r k) = m ((c : Thread nD τ).loc main_arg2) (ix2 ⟨512 * t.val + r.val, row_lt t r⟩ k) := by
  show V m c main_arg2 ((win0_4.blk t).view.emb (ix2 r k)) = _
  exact congrArg (m ((c : Thread nD τ).loc main_arg2)) (by blk_ext [idx t])

/-- The output projection's block is the whole of it. -/
theorem output_at (c : Dev nD) (t : Fin cfg0.N) (e k : Fin 1024) :
    iblk m c 6 t (ix2 e k) = m ((c : Thread nD τ).loc main_arg4) (ix2 e k) := by
  show V m c main_arg4 ((win0_6.blk t).view.emb (ix2 e k)) = _
  exact congrArg (m ((c : Thread nD τ).loc main_arg4)) (by blk_ext [idx t])

/-- The gain's block is the whole of it. -/
theorem gain_at (c : Dev nD) (t : Fin cfg0.N) (k : Fin 1024) :
    iblk m c 8 t (ix2 0 k) = m ((c : Thread nD τ).loc main_arg6) (ix2 0 k) := by
  show V m c main_arg6 ((win0_8.blk t).view.emb (ix2 0 k)) = _
  exact congrArg (m ((c : Thread nD τ).loc main_arg6)) (by blk_ext [idx t])

/-- The offset's block is the whole of it. -/
theorem offset_at (c : Dev nD) (t : Fin cfg0.N) (k : Fin 1024) :
    iblk m c 9 t (ix2 0 k) = m ((c : Thread nD τ).loc main_arg7) (ix2 0 k) := by
  show V m c main_arg7 ((win0_9.blk t).view.emb (ix2 0 k)) = _
  exact congrArg (m ((c : Thread nD τ).loc main_arg7)) (by blk_ext [idx t])

/-- The first result after the run: the merged rows. -/
theorem final10 (c : Dev nD) : (dats m 0 c).arrAt 10 (cfgs 0).N = mergedRows (m ((c : Thread nD τ).loc main_arg0)) (m ((c : Thread nD τ).loc main_arg1)) (m ((c : Thread nD τ).loc main_arg3)) (m ((c : Thread nD τ).loc main_arg5)) := by
  refine (dats m 0 c).arrAt_eq_of_covers 10 _ (by decide +kernel) fun t hf y => ?_
  blk_simp
  rw [after0_10]
  obtain ⟨r, k, rfl⟩ : ∃ (r : Fin 512) (k : Fin 1024), y = ix2 r k := ⟨y 0, y 1, (ix2_eta y).symm⟩
  rw [show (win0_10.blk t).view.emb (ix2 r k) = (ix2 ⟨512 * t.val + r.val, row_lt t r⟩ k : S8192x1024.Idx) from by blk_ext [idx t]]
  frame_out
  exact merged_at m c t r k

section
variable (M R : FVec Ideal S512x1024 .f32) (W : FVec Ideal S1024x1024 .bf16) (H K : FVec Ideal S1x1024 .f32)

/-- A row of a tile of the layer norm's argument, from the merged tile `M` and the residual's `R`. -/
def tileRow (r : Fin 512) (k : Fin 1024) : EReal :=
  Ideal.ofBits .f32 0x3FD744FD#32 * (R (ix2 r k) : EReal) + ∑ e : Fin 1024, (M (ix2 r e) : EReal) * (W (ix2 e k) : EReal)

/-- What the body stores of the normalised rows. -/
theorem pay5 (r : Fin 512) (k : Fin 1024) : k0_pay5 (F := Ideal) M R W (ix2 r k) = normed (tileRow M R W r) k := by
  open_payloads
  pointwise [normed, scale, spread, centred, tileRow]

/-- What the body stores of the reciprocals of the standard deviations. -/
theorem pay4 (r : Fin 512) : k0_pay4 (F := Ideal) M R W (ix2 r 0) = scale (tileRow M R W r) := by
  open_payloads
  pointwise [scale, spread, centred, tileRow]

/-- What the body stores of the layer norm's rows. -/
theorem pay6 (r : Fin 512) (k : Fin 1024) : k0_pay6 (F := Ideal) M R W H K (ix2 r k)
    = normed (tileRow M R W r) k * (H (ix2 0 k) : EReal) + (K (ix2 0 k) : EReal) := by
  have h := pay5 M R W r k
  unfold k0_pay6
  generalize k0_pay5 (F := Ideal) M R W = x at *
  rw [← h]
  pointwise []
end

/-- A tile's row is the array's. -/
theorem row_at (c : Dev nD) (t : Fin cfg0.N) (r : Fin 512) :
    tileRow (k0_pay7 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 4 t) (iblk m c 6 t) r = mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨512 * t.val + r.val, row_lt t r⟩ := by
  funext k
  unfold tileRow mixed
  simp only [residual_at, output_at]
  refine congrArg _ (Finset.sum_congr rfl fun e _ => ?_)
  rw [merged_at]

/-- The second result after the run: the normalised rows. -/
theorem final11 (c : Dev nD) : (dats m 0 c).arrAt 11 (cfgs 0).N = normedRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  obtain ⟨r, k, rfl⟩ : ∃ (r : Fin 512) (k : Fin 1024), y = ix2 r k := ⟨y 0, y 1, (ix2_eta y).symm⟩
  rw [show (win0_11.blk t).view.emb (ix2 r k) = (ix2 ⟨512 * t.val + r.val, row_lt t r⟩ k : S8192x1024.Idx) from by blk_ext [idx t]]
  frame_out
  refine (pay5 _ _ _ r k).trans ?_
  rw [row_at]
  rfl

/-- The third result after the run: the reciprocals of the rows' standard deviations. -/
theorem final12 (c : Dev nD) : (dats m 0 c).arrAt 12 (cfgs 0).N = scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp
  rw [after0_12]
  obtain ⟨r, k, rfl⟩ : ∃ (r : Fin 512) (k : Fin 1), y = ix2 r k := ⟨y 0, y 1, (ix2_eta y).symm⟩
  rw [show (win0_12.blk t).view.emb (ix2 r k) = (ix2 ⟨512 * t.val + r.val, row_lt t r⟩ k : S8192x1.Idx) from by blk_ext [idx t]]
  frame_out
  obtain rfl : k = 0 := Subsingleton.elim _ _
  refine (pay4 _ _ _ r).trans ?_
  rw [row_at]
  rfl

/-- The fourth result after the run: the layer norm's rows. -/
theorem final13 (c : Dev nD) : (dats m 0 c).arrAt 13 (cfgs 0).N = outRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp
  rw [after0_13]
  obtain ⟨r, k, rfl⟩ : ∃ (r : Fin 512) (k : Fin 1024), y = ix2 r k := ⟨y 0, y 1, (ix2_eta y).symm⟩
  rw [show (win0_13.blk t).view.emb (ix2 r k) = (ix2 ⟨512 * t.val + r.val, row_lt t r⟩ k : S8192x1024.Idx) from by blk_ext [idx t]]
  frame_out
  refine (pay6 _ _ _ _ _ r k).trans ?_
  rw [row_at, gain_at, offset_at]
  rfl

end Cert.Kernel10Ideal.Forward

end
-- ==== Proof.Forward.Ref.lean ====
module

public import proofs.«01_k».proof.Proof.Gen.Reference10Ideal.Read
public import Idealize.ShloMosaic.Lib.Pipeline.ValueKit
public import Idealize.ShloMosaic.Lib.Pointwise
public import Idealize.ShloMosaic.Lib.KernelVsHost
public import proofs.«01_k».proof.Proof.Forward.Spec

@[expose] public section

set_option maxRecDepth 16384

noncomputable section

open Idealize.ShloMosaic Idealize.ShloMosaic.TcCoe Idealize.SL.Sem
open Idealize.ShloMosaic.Pipeline (Dat)

namespace Cert.Reference10Ideal.Forward

open Cert.Reference10Ideal Cert.Reference10Ideal.Gen Cert.Reference10Ideal.Read Cert.Forward Cert.Merge Cert.Norm

variable (Y : FVec Ideal S8192x1536 .bf16) (P : FVec Ideal S8192x7168 .bf16) (X : FVec Ideal S8192x1024 .f32)
  (Wb : FVec Ideal S1536x1024 .bf16) (Wo : FVec Ideal S1024x1024 .bf16) (B : FVec Ideal S1x3072 .f32) (G O : FVec Ideal S1x1024 .f32)

/-- The first branch. -/
theorem v15 : val_main_v15 (F := Ideal) Y Wb = fun j => branch Y Wb 0 (j 0) (j 1) := by
  funext j
  pointwise [val_main_v15, val_main_v16, val_main_v17, val_main_v13, val_main_v8, val_main_v10, val_main_v12, val_main_v4, val_main_v5, val_main_v6, val_main_v7, val_main_v9, val_main_v11, val_main_v0, val_main_v2, branch]
  try simp (disch := omega) only [dif_pos, dif_neg]
  try blk_point

/-- The first gate. -/
theorem v31 : val_main_v31 (F := Ideal) P B = fun j => gate P B 0 (j 0) (j 1) := by
  funext j
  pointwise [val_main_v31, val_main_v18, val_main_v19, val_main_v20, val_main_v14, val_main_v1, val_main_v21, val_main_v22, val_main_v23, val_main_v24, val_main_v33, val_main_v43, val_main_v25, val_main_v34, val_main_v44, val_main_v26, val_main_v35, val_main_v45, val_main_v27, val_main_v36, val_main_v46, val_main_v28, val_main_v37, val_main_v47, val_main_v29, val_main_v38, val_main_v48, val_main_v30, val_main_v39, val_main_v49, val_main_cst, val_main_cst_0, val_main_cst_1, val_main_cst_2, val_main_cst_3, val_main_cst_4, gate, Ideal.logistic]
  try blk_point

/-- The second branch. -/
theorem v16 : val_main_v16 (F := Ideal) Y Wb = fun j => branch Y Wb 1 (j 0) (j 1) := by
  funext j
  pointwise [val_main_v15, val_main_v16, val_main_v17, val_main_v13, val_main_v8, val_main_v10, val_main_v12, val_main_v4, val_main_v5, val_main_v6, val_main_v7, val_main_v9, val_main_v11, val_main_v0, val_main_v2, branch]
  try simp (disch := omega) only [dif_pos, dif_neg]
  try blk_point

/-- The second gate. -/
theorem v40 : val_main_v40 (F := Ideal) P B = fun j => gate P B 1 (j 0) (j 1) := by
  funext j
  pointwise [val_main_v40, val_main_v18, val_main_v19, val_main_v20, val_main_v14, val_main_v1, val_main_v21, val_main_v22, val_main_v23, val_main_v24, val_main_v33, val_main_v43, val_main_v25, val_main_v34, val_main_v44, val_main_v26, val_main_v35, val_main_v45, val_main_v27, val_main_v36, val_main_v46, val_main_v28, val_main_v37, val_main_v47, val_main_v29, val_main_v38, val_main_v48, val_main_v30, val_main_v39, val_main_v49, val_main_cst, val_main_cst_0, val_main_cst_1, val_main_cst_2, val_main_cst_3, val_main_cst_4, gate, Ideal.logistic]
  try blk_point

/-- The third branch. -/
theorem v17 : val_main_v17 (F := Ideal) Y Wb = fun j => branch Y Wb 2 (j 0) (j 1) := by
  funext j
  pointwise [val_main_v15, val_main_v16, val_main_v17, val_main_v13, val_main_v8, val_main_v10, val_main_v12, val_main_v4, val_main_v5, val_main_v6, val_main_v7, val_main_v9, val_main_v11, val_main_v0, val_main_v2, branch]
  try simp (disch := omega) only [dif_pos, dif_neg]
  try blk_point

/-- The third gate. -/
theorem v50 : val_main_v50 (F := Ideal) P B = fun j => gate P B 2 (j 0) (j 1) := by
  funext j
  pointwise [val_main_v50, val_main_v18, val_main_v19, val_main_v20, val_main_v14, val_main_v1, val_main_v21, val_main_v22, val_main_v23, val_main_v24, val_main_v33, val_main_v43, val_main_v25, val_main_v34, val_main_v44, val_main_v26, val_main_v35, val_main_v45, val_main_v27, val_main_v36, val_main_v46, val_main_v28, val_main_v37, val_main_v47, val_main_v29, val_main_v38, val_main_v48, val_main_v30, val_main_v39, val_main_v49, val_main_cst, val_main_cst_0, val_main_cst_1, val_main_cst_2, val_main_cst_3, val_main_cst_4, gate, Ideal.logistic]
  try blk_point

/-- The merged rows. -/
theorem v52 : val_main_v52 (F := Ideal) Y P Wb B = fun j => merged Y P Wb B (j 0) (j 1) := by
  have h1 := v15 Y Wb
  have h2 := v16 Y Wb
  have h3 := v17 Y Wb
  have g1 := v31 P B
  have g2 := v40 P B
  have g3 := v50 P B
  unfold val_main_v52 val_main_v51 val_main_v42 val_main_v41 val_main_v32
  rw [h1, h2, h3, g1, g2, g3]
  funext j
  pointwise [merged]

/-- The layer norm's argument. -/
theorem v56 : val_main_v56 (F := Ideal) Y P X Wb Wo B = fun j => mixed Y P X Wb Wo B (j 0) (j 1) := by
  have h := v52 Y P Wb B
  unfold val_main_v56 val_main_v55
  rw [h]
  funext j
  pointwise [val_main_v54, val_main_v53, val_main_v3, val_main_cst_5, mixed]

/-- The rows less their means. -/
theorem v62 : val_main_v62 (F := Ideal) Y P X Wb Wo B = fun j => centred (mixed Y P X Wb Wo B (j 0)) (j 1) := by
  have h := v56 Y P X Wb Wo B
  unfold val_main_v62 val_main_v61 val_main_v60 val_main_v58 val_main_v57
  rw [h]
  funext j
  pointwise [val_main_v59, val_main_cst_6, val_main_cst_7, centred]

/-- The rows less their means, taken once more. -/
theorem v72 : val_main_v72 (F := Ideal) Y P X Wb Wo B = fun j => centred (mixed Y P X Wb Wo B (j 0)) (j 1) := v62 Y P X Wb Wo B

/-- The reciprocals of the rows' standard deviations. -/
theorem v70 : val_main_v70 (F := Ideal) Y P X Wb Wo B = scales Y P X Wb Wo B := by
  have h := v62 Y P X Wb Wo B
  unfold val_main_v70 val_main_v69 val_main_v67 val_main_v65 val_main_v64 val_main_v63
  rw [h]
  funext j
  pointwise [val_main_v66, val_main_v68, val_main_cst_8, val_main_cst_9, val_main_cst_10, scales, scale, spread]

/-- The normalised rows. -/
theorem v74 : val_main_v74 (F := Ideal) Y P X Wb Wo B = normedRows Y P X Wb Wo B := by
  have h := v72 Y P X Wb Wo B
  have h' := v70 Y P X Wb Wo B
  unfold val_main_v74 val_main_v73
  rw [h, h']
  funext j
  pointwise [normedRows, normed, scales]

/-- The merged rows, as the reference ends with them. -/
theorem v75 : val_main_v75 (F := Ideal) Y P Wb B = mergedRows Y P Wb B := by
  have h := v52 Y P Wb B
  unfold val_main_v75
  rw [h]
  funext j
  pointwise [mergedRows]

/-- The layer norm's rows. -/
theorem v80 : val_main_v80 (F := Ideal) Y P X Wb Wo B G O = outRows Y P X Wb Wo B G O := by
  have h := v74 Y P X Wb Wo B
  unfold val_main_v80 val_main_v79 val_main_v77
  rw [h]
  funext j
  pointwise [val_main_v76, val_main_v78, outRows, normedRows]

end Cert.Reference10Ideal.Forward

end
-- ==== Proof.Forward.Pair.lean ====
module

public import Idealize.ShloMosaic.Lib.Pipeline.ValueKit
public import Idealize.ShloMosaic.Lib.Claim
public import proofs.«01_k».proof.Defs
public import proofs.«01_k».proof.Proof.Gen.Reference10Ideal.Run
public import proofs.«01_k».proof.Proof.Gen.Reference10Ideal.Read
public import proofs.«01_k».proof.Proof.Forward.Tiles
public import proofs.«01_k».proof.Proof.Forward.Ref

@[expose] public section

set_option maxRecDepth 16384

noncomputable section

open Idealize.ShloMosaic Idealize.ShloMosaic.TcCoe Idealize.SL.Sem
open Idealize.ShloMosaic.Pipeline (Dat)

namespace Cert.Forward

set_option maxHeartbeats 1000000 in
/-- The merge's forward call and the reference's lines end with the same merged rows, normalised rows, scales and layer norm. -/
theorem algebraic10 : Cert.algebraic_Kernel10Ideal_Reference10Ideal := by
  pair_intro
  · run_from Cert.Kernel10Ideal.Gen.run_main m g
  · run_from Cert.Reference10Ideal.Value.run m' g'
    all_goals obtain ⟨h0, h1, h2, h3, h4, h5, h6, h7⟩ := hagree c
    · refine Eq.trans ?_ (Cert.Kernel10Ideal.Forward.final10 m c).symm
      rw [Cert.Reference10Ideal.Read.val_main_v75_eq, h0, h1, h3, h5]
      exact Cert.Reference10Ideal.Forward.v75 _ _ _ _
    · refine Eq.trans ?_ (Cert.Kernel10Ideal.Forward.final11 m c).symm
      rw [Cert.Reference10Ideal.Read.val_main_v74_eq, h0, h1, h2, h3, h4, h5]
      exact Cert.Reference10Ideal.Forward.v74 _ _ _ _ _ _
    · refine Eq.trans ?_ (Cert.Kernel10Ideal.Forward.final12 m c).symm
      rw [Cert.Reference10Ideal.Read.val_main_v70_eq, h0, h1, h2, h3, h4, h5]
      exact Cert.Reference10Ideal.Forward.v70 _ _ _ _ _ _
    · refine Eq.trans ?_ (Cert.Kernel10Ideal.Forward.final13 m c).symm
      rw [Cert.Reference10Ideal.Read.val_main_v80_eq, h0, h1, h2, h3, h4, h5, h6, h7]
      exact Cert.Reference10Ideal.Forward.v80 _ _ _ _ _ _ _ _

end Cert.Forward

end
-- ==== Proof.Forward.Mlp.lean ====
module

public import Idealize.ShloMosaic.Lib.Pointwise
public import proofs.«01_k».proof.Proof.Norm.Spec

@[expose] public section

set_option maxRecDepth 16384

noncomputable section

open Idealize.ShloMosaic Idealize.ShloMosaic.TcCoe Idealize.SL.Sem
open Idealize.ShloMosaic.Pipeline (Dat)

namespace Cert.Forward

open Cert.Norm

variable (Z : FVec Ideal ⟨2, ![8192, 1024]⟩ .f32) (G H : FVec Ideal ⟨2, ![1, 1024]⟩ .f32) (U : FVec Ideal ⟨2, ![1024, 4096]⟩ .bf16)
  (W : FVec Ideal ⟨2, ![4096, 1024]⟩ .bf16) (G' H' : FVec Ideal ⟨2, ![1, 1024]⟩ .f32)

/-- A row of the channel mixer's input: the layer norm of the first argument. -/
def input (i : Fin 8192) (e : Fin 1024) : EReal := normed (fun j => Z (ix2 i j)) e * (G (ix2 0 e) : EReal) + (H (ix2 0 e) : EReal)

/-- A row times the up projection. -/
def up (i : Fin 8192) (f : Fin 4096) : EReal := ∑ e : Fin 1024, input Z G H i e * (U (ix2 e f) : EReal)

/-- The squared ReLU of a row times the up projection. -/
def act (i : Fin 8192) (f : Fin 4096) : EReal := max (up Z G H U i f) 0 * max (up Z G H U i f) 0

/-- A row of the second layer norm's argument: the scaled residual and the squared ReLU times the down projection. -/
def channel (i : Fin 8192) (k : Fin 1024) : EReal :=
  Ideal.ofBits .f32 0x3FD744FD#32 * input Z G H i k + ∑ f : Fin 4096, act Z G H U i f * (W (ix2 f k) : EReal)

/-- The rows times the up projection, as an array. -/
def upRows : (⟨2, ![8192, 4096]⟩ : Shape).Idx → EReal := fun j => up Z G H U (j 0) (j 1)

/-- The second layer norm's normalised rows. -/
def channelNormed : (⟨2, ![8192, 1024]⟩ : Shape).Idx → EReal := fun j => normed (channel Z G H U W (j 0)) (j 1)

/-- The reciprocals of their standard deviations. -/
def channelScales : (⟨2, ![8192, 1]⟩ : Shape).Idx → EReal := fun j => scale (channel Z G H U W (j 0))

/-- The second layer norm's rows. -/
def channelOut : (⟨2, ![8192, 1024]⟩ : Shape).Idx → EReal :=
  fun j => normed (channel Z G H U W (j 0)) (j 1) * (G' (ix2 0 (j 1)) : EReal) + (H' (ix2 0 (j 1)) : EReal)

/-- A sum over four thousand and ninety-six as four sums over a thousand and twenty-four. -/
theorem four (F : Fin 4096 → EReal) : ∑ f, F f
    = ∑ f : Fin 1024, F ⟨f.val, by omega⟩ + ∑ f : Fin 1024, F ⟨1024 + f.val, by omega⟩ + ∑ f : Fin 1024, F ⟨2048 + f.val, by omega⟩
      + ∑ f : Fin 1024, F ⟨3072 + f.val, by omega⟩ := by
  have h1 := Fin.sum_univ_add (a := 3072) (b := 1024) F
  have h2 := Fin.sum_univ_add (a := 2048) (b := 1024) fun f => F (Fin.castAdd (n := 3072) 1024 f)
  have h3 := Fin.sum_univ_add (a := 1024) (b := 1024) fun f => F (Fin.castAdd (n := 3072) 1024 (Fin.castAdd (n := 2048) 1024 f))
  exact h1.trans (congrArg (· + _) (h2.trans (congrArg (· + _) h3)))

end Cert.Forward

end
-- ==== Proof.Forward.MlpGeo.lean ====
module

public import proofs.«01_k».proof.Proof.Gen.Kernel11Ideal.Frame
public import Idealize.ShloMosaic.Lib.Pipeline.ValueKit
public import Idealize.ShloMosaic.Lib.Pointwise
public import proofs.«01_k».proof.Proof.Forward.Mlp

@[expose] public section

set_option maxRecDepth 16384

noncomputable section

open Idealize.ShloMosaic Idealize.ShloMosaic.TcCoe Idealize.SL.Sem
open Idealize.ShloMosaic.Pipeline (Dat)

namespace Cert.Kernel11Ideal.Forward

open Cert.Forward Cert.Norm Cert.Kernel11Ideal Cert.Kernel11Ideal.Gen

variable (m : (ℓ : Loc nD τ sig) → Buf (Elt Ideal) ℓ)

/-- The block of every window at grid point `t`. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- A row of a tile is a row of the array. -/
theorem row_lt (t : Fin cfg0.N) (r : Fin 512) : 512 * t.val + r.val < 8192 := by
  have : t.val < 16 := lt_of_lt_of_eq t.isLt N_0
  omega

/-- The array of normalised rows that the call is handed. -/
theorem handed_rows (c : Dev nD) : V m c main_v15 = fun i : (⟨2, ![8192, 1024]⟩ : Shape).Idx => normed (fun j => m ((c : Thread nD τ).loc main_arg0) (ix2 (i 0) j)) (i 1) := by
  unfold V hostOps0
  after_results_simp
  funext i
  pointwise [normed, centred, scale, spread]

/-- The layer norm's rows that the call is handed. -/
theorem handed_input (c : Dev nD) : V m c main_v20 = fun i : (⟨2, ![8192, 1024]⟩ : Shape).Idx => input (m ((c : Thread nD τ).loc main_arg0)) (m ((c : Thread nD τ).loc main_arg1)) (m ((c : Thread nD τ).loc main_arg2)) (i 0) (i 1) := by
  unfold V hostOps0
  after_results_simp
  funext i
  pointwise [input, normed, centred, scale, spread]

/-- The normalised rows' block. -/
theorem rows_at (c : Dev nD) (t : Fin cfg0.N) (r : Fin 512) (k : Fin 1024) :
    iblk m c 0 t (ix2 r k) = normed (fun j => m ((c : Thread nD τ).loc main_arg0) (ix2 ⟨512 * t.val + r.val, row_lt t r⟩ j)) k := by
  show V m c main_v15 ((win0_0.blk t).view.emb (ix2 r k)) = _
  rw [handed_rows, show (win0_0.blk t).view.emb (ix2 r k) = (ix2 ⟨512 * t.val + r.val, row_lt t r⟩ k : S8192x1024.Idx) from by blk_ext [idx t]]
  rfl

/-- The input's block. -/
theorem input_at (c : Dev nD) (t : Fin cfg0.N) (r : Fin 512) (k : Fin 1024) :
    iblk m c 1 t (ix2 r k) = input (m ((c : Thread nD τ).loc main_arg0)) (m ((c : Thread nD τ).loc main_arg1)) (m ((c : Thread nD τ).loc main_arg2)) ⟨512 * t.val + r.val, row_lt t r⟩ k := by
  show V m c main_v20 ((win0_1.blk t).view.emb (ix2 r k)) = _
  rw [handed_input, show (win0_1.blk t).view.emb (ix2 r k) = (ix2 ⟨512 * t.val + r.val, row_lt t r⟩ k : S8192x1024.Idx) from by blk_ext [idx t]]
  rfl

/-- The first gain's block. -/
theorem gain_at (c : Dev nD) (t : Fin cfg0.N) (k : Fin 1024) : iblk m c 2 t (ix2 0 k) = m ((c : Thread nD τ).loc main_arg1) (ix2 0 k) := by
  show V m c main_arg1 ((win0_2.blk t).view.emb (ix2 0 k)) = _
  rw [V_main_arg1]
  exact congrArg (m ((c : Thread nD τ).loc main_arg1)) (by blk_ext [idx t])

/-- The first offset's block. -/
theorem offset_at (c : Dev nD) (t : Fin cfg0.N) (k : Fin 1024) : iblk m c 3 t (ix2 0 k) = m ((c : Thread nD τ).loc main_arg2) (ix2 0 k) := by
  show V m c main_arg2 ((win0_3.blk t).view.emb (ix2 0 k)) = _
  rw [V_main_arg2]
  exact congrArg (m ((c : Thread nD τ).loc main_arg2)) (by blk_ext [idx t])

/-- The up projection's block. -/
theorem up_at (c : Dev nD) (t : Fin cfg0.N) (e : Fin 1024) (f : Fin 4096) : iblk m c 4 t (ix2 e f) = m ((c : Thread nD τ).loc main_arg3) (ix2 e f) := by
  show V m c main_arg3 ((win0_4.blk t).view.emb (ix2 e f)) = _
  rw [V_main_arg3]
  exact congrArg (m ((c : Thread nD τ).loc main_arg3)) (by blk_ext [idx t])

/-- The down projection's block. -/
theorem down_at (c : Dev nD) (t : Fin cfg0.N) (f : Fin 4096) (k : Fin 1024) : iblk m c 5 t (ix2 f k) = m ((c : Thread nD τ).loc main_arg4) (ix2 f k) := by
  show V m c main_arg4 ((win0_5.blk t).view.emb (ix2 f k)) = _
  rw [V_main_arg4]
  exact congrArg (m ((c : Thread nD τ).loc main_arg4)) (by blk_ext [idx t])

/-- The second gain's block. -/
theorem gain2_at (c : Dev nD) (t : Fin cfg0.N) (k : Fin 1024) : iblk m c 6 t (ix2 0 k) = m ((c : Thread nD τ).loc main_arg5) (ix2 0 k) := by
  show V m c main_arg5 ((win0_6.blk t).view.emb (ix2 0 k)) = _
  rw [V_main_arg5]
  exact congrArg (m ((c : Thread nD τ).loc main_arg5)) (by blk_ext [idx t])

/-- The second offset's block. -/
theorem offset2_at (c : Dev nD) (t : Fin cfg0.N) (k : Fin 1024) : iblk m c 7 t (ix2 0 k) = m ((c : Thread nD τ).loc main_arg6) (ix2 0 k) := by
  show V m c main_arg6 ((win0_7.blk t).view.emb (ix2 0 k)) = _
  rw [V_main_arg6]
  exact congrArg (m ((c : Thread nD τ).loc main_arg6)) (by blk_ext [idx t])

end Cert.Kernel11Ideal.Forward

end
-- ==== Proof.Forward.MlpRows.lean ====
module

public import proofs.«01_k».proof.Proof.Gen.Kernel11Ideal.Frame
public import Idealize.ShloMosaic.Lib.Pipeline.ValueKit
public import Idealize.ShloMosaic.Lib.Pointwise
public import proofs.«01_k».proof.Proof.Forward.Mlp

@[expose] public section

set_option maxRecDepth 16384

noncomputable section

open Idealize.ShloMosaic Idealize.ShloMosaic.TcCoe Idealize.SL.Sem
open Idealize.ShloMosaic.Pipeline (Dat)

namespace Cert.Kernel11Ideal.Forward

open Cert.Forward Cert.Norm Cert.Kernel11Ideal Cert.Kernel11Ideal.Gen

section
variable (A B C : FVec Ideal S512x1024 .f32) (W₁ W₂ : FVec Ideal S1024x1024 .bf16) (X : FVec Ideal S512x1024 .f32) (H K G' H' : FVec Ideal S1x1024 .f32)

/-- A row of a tile of the second layer norm's argument, from the last two chunks' products with the up projection, the sum `B` over the
    first two, the down projection's last two chunks, and the normalised rows, gain and offset of the residual. -/
def tileRow (r : Fin 512) (k : Fin 1024) : EReal :=
  Ideal.ofBits .f32 0x3FD744FD#32 * ((X (ix2 r k) : EReal) * (H (ix2 0 k) : EReal) + (K (ix2 0 k) : EReal))
    + ((B (ix2 r k) : EReal) + ∑ f : Fin 1024, max (A (ix2 r f) : EReal) 0 * max (A (ix2 r f) : EReal) 0 * (W₁ (ix2 f k) : EReal)
      + ∑ f : Fin 1024, max (C (ix2 r f) : EReal) 0 * max (C (ix2 r f) : EReal) 0 * (W₂ (ix2 f k) : EReal))

/-- The rows less their means. -/
theorem pay15 (r : Fin 512) (k : Fin 1024) : k0_pay15 (F := Ideal) A B C W₁ W₂ X H K (ix2 r k) = centred (tileRow A B C W₁ W₂ X H K r) k := by
  open_payloads
  pointwise [centred, tileRow]

/-- The sums of their squares. -/
theorem pay16 (r : Fin 512) : k0_pay16 (F := Ideal) A B C W₁ W₂ X H K (ix2 r 0)
    = ∑ k, centred (tileRow A B C W₁ W₂ X H K r) k * centred (tileRow A B C W₁ W₂ X H K r) k := by
  open_payloads
  pointwise [centred, tileRow]

/-- What the body stores of the reciprocals of the standard deviations. -/
theorem pay1 (r : Fin 512) : k0_pay1 (F := Ideal) (k0_pay16 A B C W₁ W₂ X H K) k0_pay17 (ix2 r 0) = scale (tileRow A B C W₁ W₂ X H K r) := by
  have h := pay16 A B C W₁ W₂ X H K r
  unfold k0_pay1 k0_pay17
  generalize k0_pay16 (F := Ideal) A B C W₁ W₂ X H K = x at *
  unfold scale spread
  rw [← h]
  pointwise []

/-- What the body stores of the normalised rows. -/
theorem pay2 (r : Fin 512) (k : Fin 1024) : k0_pay2 (F := Ideal) (k0_pay15 A B C W₁ W₂ X H K) (k0_pay16 A B C W₁ W₂ X H K) k0_pay17 (ix2 r k) = normed (tileRow A B C W₁ W₂ X H K r) k := by
  have h := pay15 A B C W₁ W₂ X H K r k
  have h' := pay1 A B C W₁ W₂ X H K r
  unfold k0_pay2
  generalize k0_pay1 (F := Ideal) (k0_pay16 A B C W₁ W₂ X H K) k0_pay17 = y at *
  generalize k0_pay15 (F := Ideal) A B C W₁ W₂ X H K = x at *
  unfold normed
  rw [← h, ← h']
  pointwise []

/-- What the body stores of the layer norm's rows. -/
theorem pay3 (r : Fin 512) (k : Fin 1024) : k0_pay3 (F := Ideal) (k0_pay15 A B C W₁ W₂ X H K) (k0_pay16 A B C W₁ W₂ X H K) k0_pay17 G' H' (ix2 r k)
    = normed (tileRow A B C W₁ W₂ X H K r) k * (G' (ix2 0 k) : EReal) + (H' (ix2 0 k) : EReal) := by
  have h := pay2 A B C W₁ W₂ X H K r k
  unfold k0_pay3
  generalize k0_pay2 (F := Ideal) (k0_pay15 A B C W₁ W₂ X H K) (k0_pay16 A B C W₁ W₂ X H K) k0_pay17 = x at *
  rw [← h]
  pointwise []
end

end Cert.Kernel11Ideal.Forward

end
-- ==== Proof.Forward.MlpTiles.lean ====
module

public import proofs.«01_k».proof.Proof.Forward.MlpGeo
public import proofs.«01_k».proof.Proof.Forward.MlpRows

@[expose] public section

set_option maxRecDepth 16384

noncomputable section

open Idealize.ShloMosaic Idealize.ShloMosaic.TcCoe Idealize.SL.Sem
open Idealize.ShloMosaic.Pipeline (Dat)

namespace Cert.Kernel11Ideal.Forward

open Cert.Forward Cert.Norm Cert.Kernel11Ideal Cert.Kernel11Ideal.Gen

variable (m : (ℓ : Loc nD τ sig) → Buf (Elt Ideal) ℓ)

/-- The third chunk of a row times the up projection. -/
theorem third_at (c : Dev nD) (t : Fin cfg0.N) (r : Fin 512) (f : Fin 1024) :
    k0_pay18 (F := Ideal) (iblk m c 0 t) (iblk m c 1 t) (iblk m c 2 t) (iblk m c 3 t) (iblk m c 4 t) (iblk m c 5 t) (iblk m c 6 t) (iblk m c 7 t) (ix2 r f) = up (m ((c : Thread nD τ).loc main_arg0)) (m ((c : Thread nD τ).loc main_arg1)) (m ((c : Thread nD τ).loc main_arg2)) (m ((c : Thread nD τ).loc main_arg3)) ⟨512 * t.val + r.val, row_lt t r⟩ ⟨2048 + f.val, by omega⟩ := by
  unfold k0_pay18
  open_payloads
  pointwise [up]
  simp only [input_at, up_at]

/-- The fourth chunk. -/
theorem fourth_at (c : Dev nD) (t : Fin cfg0.N) (r : Fin 512) (f : Fin 1024) :
    k0_pay20 (F := Ideal) (iblk m c 0 t) (iblk m c 1 t) (iblk m c 2 t) (iblk m c 3 t) (iblk m c 4 t) (iblk m c 5 t) (iblk m c 6 t) (iblk m c 7 t) (ix2 r f) = up (m ((c : Thread nD τ).loc main_arg0)) (m ((c : Thread nD τ).loc main_arg1)) (m ((c : Thread nD τ).loc main_arg2)) (m ((c : Thread nD τ).loc main_arg3)) ⟨512 * t.val + r.val, row_lt t r⟩ ⟨3072 + f.val, by omega⟩ := by
  unfold k0_pay20
  open_payloads
  pointwise [up]
  simp only [input_at, up_at]

/-- The sum over the first two chunks. -/
theorem first_at (c : Dev nD) (t : Fin cfg0.N) (r : Fin 512) (k : Fin 1024) :
    k0_pay19 (F := Ideal) (iblk m c 0 t) (iblk m c 1 t) (iblk m c 2 t) (iblk m c 3 t) (iblk m c 4 t) (iblk m c 5 t) (iblk m c 6 t) (iblk m c 7 t) (ix2 r k)
      = ∑ f : Fin 1024, act (m ((c : Thread nD τ).loc main_arg0)) (m ((c : Thread nD τ).loc main_arg1)) (m ((c : Thread nD τ).loc main_arg2)) (m ((c : Thread nD τ).loc main_arg3)) ⟨512 * t.val + r.val, row_lt t r⟩ ⟨f.val, by omega⟩ * (show EReal from m ((c : Thread nD τ).loc main_arg4) (ix2 ⟨f.val, by omega⟩ k))
        + ∑ f : Fin 1024, act (m ((c : Thread nD τ).loc main_arg0)) (m ((c : Thread nD τ).loc main_arg1)) (m ((c : Thread nD τ).loc main_arg2)) (m ((c : Thread nD τ).loc main_arg3)) ⟨512 * t.val + r.val, row_lt t r⟩ ⟨1024 + f.val, by omega⟩ * (show EReal from m ((c : Thread nD τ).loc main_arg4) (ix2 ⟨1024 + f.val, by omega⟩ k)) := by
  unfold k0_pay19
  open_payloads
  pointwise [act, up]
  simp only [input_at, up_at, down_at]

/-- The down projection's third chunk. -/
theorem down3_at (c : Dev nD) (t : Fin cfg0.N) (f k : Fin 1024) :
    (View.ld (iblk m c 5 t) r0_10 : S1024x1024.Idx → EReal) (ix2 f k) = m ((c : Thread nD τ).loc main_arg4) (ix2 ⟨2048 + f.val, by omega⟩ k) := by
  pointwise []
  simp only [down_at]

/-- The down projection's fourth chunk. -/
theorem down4_at (c : Dev nD) (t : Fin cfg0.N) (f k : Fin 1024) :
    (View.ld (iblk m c 5 t) r0_12 : S1024x1024.Idx → EReal) (ix2 f k) = m ((c : Thread nD τ).loc main_arg4) (ix2 ⟨3072 + f.val, by omega⟩ k) := by
  pointwise []
  simp only [down_at]

/-- The residual's rows. -/
theorem rows'_at (c : Dev nD) (t : Fin cfg0.N) (r : Fin 512) (k : Fin 1024) :
    (View.ld (iblk m c 0 t) r0_0 : S512x1024.Idx → EReal) (ix2 r k) = iblk m c 0 t (ix2 r k) := by
  pointwise []

/-- The first gain. -/
theorem gain'_at (c : Dev nD) (t : Fin cfg0.N) (k : Fin 1024) :
    (View.ld (iblk m c 2 t) r0_13 : S1x1024.Idx → EReal) (ix2 0 k) = iblk m c 2 t (ix2 0 k) := by
  pointwise []

/-- The first offset. -/
theorem offset'_at (c : Dev nD) (t : Fin cfg0.N) (k : Fin 1024) :
    (View.ld (iblk m c 3 t) r0_13 : S1x1024.Idx → EReal) (ix2 0 k) = iblk m c 3 t (ix2 0 k) := by
  pointwise []

/-- A tile's row is the array's. -/
theorem row_at (c : Dev nD) (t : Fin cfg0.N) (r : Fin 512) :
    tileRow (k0_pay18 (F := Ideal) (iblk m c 0 t) (iblk m c 1 t) (iblk m c 2 t) (iblk m c 3 t) (iblk m c 4 t) (iblk m c 5 t) (iblk m c 6 t) (iblk m c 7 t)) (k0_pay19 (iblk m c 0 t) (iblk m c 1 t) (iblk m c 2 t) (iblk m c 3 t) (iblk m c 4 t) (iblk m c 5 t) (iblk m c 6 t) (iblk m c 7 t)) (k0_pay20 (iblk m c 0 t) (iblk m c 1 t) (iblk m c 2 t) (iblk m c 3 t) (iblk m c 4 t) (iblk m c 5 t) (iblk m c 6 t) (iblk m c 7 t)) (View.ld (iblk m c 5 t) r0_10) (View.ld (iblk m c 5 t) r0_12) (View.ld (iblk m c 0 t) r0_0) (View.ld (iblk m c 2 t) r0_13) (View.ld (iblk m c 3 t) r0_13) r
      = channel (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + r.val, row_lt t r⟩ := by
  funext k
  unfold tileRow channel
  rw [four, first_at, rows'_at, gain'_at, offset'_at, rows_at, gain_at, offset_at]
  simp only [third_at, fourth_at, down3_at, down4_at]
  rfl

/-- Chunk 1 of the product with the up projection, as the body stores it. -/
theorem chunk1 (c : Dev nD) (t : Fin cfg0.N) (x : S512x1024.Idx) :
    (k0_pay8 (F := Ideal) (iblk m c 1 t) (View.ld (iblk m c 4 t) r0_1) : S512x1024.Idx → EReal) x = upRows (m ((c : Thread nD τ).loc main_arg0)) (m ((c : Thread nD τ).loc main_arg1)) (m ((c : Thread nD τ).loc main_arg2)) (m ((c : Thread nD τ).loc main_arg3)) (ix2 ⟨512 * t.val + (x 0).val, row_lt t (x 0)⟩ ⟨(x 1).val, by have : (x 1).val < 1024 := (x 1).isLt; omega⟩) := by
  obtain ⟨r, f, rfl⟩ : ∃ (r : Fin 512) (f : Fin 1024), x = ix2 r f := ⟨x 0, x 1, (ix2_eta x).symm⟩
  show _ = up (m ((c : Thread nD τ).loc main_arg0)) (m ((c : Thread nD τ).loc main_arg1)) (m ((c : Thread nD τ).loc main_arg2)) (m ((c : Thread nD τ).loc main_arg3)) ⟨512 * t.val + r.val, row_lt t r⟩ ⟨f.val, _⟩
  open_payloads
  pointwise [up]
  simp only [input_at, up_at]

/-- Chunk 2 of the product with the up projection, as the body stores it. -/
theorem chunk2 (c : Dev nD) (t : Fin cfg0.N) (x : S512x1024.Idx) :
    (k0_pay10 (F := Ideal) (iblk m c 1 t) (View.ld (iblk m c 4 t) r0_2) : S512x1024.Idx → EReal) x = upRows (m ((c : Thread nD τ).loc main_arg0)) (m ((c : Thread nD τ).loc main_arg1)) (m ((c : Thread nD τ).loc main_arg2)) (m ((c : Thread nD τ).loc main_arg3)) (ix2 ⟨512 * t.val + (x 0).val, row_lt t (x 0)⟩ ⟨1024 + (x 1).val, by have : (x 1).val < 1024 := (x 1).isLt; omega⟩) := by
  obtain ⟨r, f, rfl⟩ : ∃ (r : Fin 512) (f : Fin 1024), x = ix2 r f := ⟨x 0, x 1, (ix2_eta x).symm⟩
  show _ = up (m ((c : Thread nD τ).loc main_arg0)) (m ((c : Thread nD τ).loc main_arg1)) (m ((c : Thread nD τ).loc main_arg2)) (m ((c : Thread nD τ).loc main_arg3)) ⟨512 * t.val + r.val, row_lt t r⟩ ⟨1024 + f.val, _⟩
  open_payloads
  pointwise [up]
  simp only [input_at, up_at]

/-- Chunk 3 of the product with the up projection, as the body stores it. -/
theorem chunk3 (c : Dev nD) (t : Fin cfg0.N) (x : S512x1024.Idx) :
    (k0_pay13 (F := Ideal) (iblk m c 1 t) (View.ld (iblk m c 4 t) r0_5) : S512x1024.Idx → EReal) x = upRows (m ((c : Thread nD τ).loc main_arg0)) (m ((c : Thread nD τ).loc main_arg1)) (m ((c : Thread nD τ).loc main_arg2)) (m ((c : Thread nD τ).loc main_arg3)) (ix2 ⟨512 * t.val + (x 0).val, row_lt t (x 0)⟩ ⟨2048 + (x 1).val, by have : (x 1).val < 1024 := (x 1).isLt; omega⟩) := by
  obtain ⟨r, f, rfl⟩ : ∃ (r : Fin 512) (f : Fin 1024), x = ix2 r f := ⟨x 0, x 1, (ix2_eta x).symm⟩
  show _ = up (m ((c : Thread nD τ).loc main_arg0)) (m ((c : Thread nD τ).loc main_arg1)) (m ((c : Thread nD τ).loc main_arg2)) (m ((c : Thread nD τ).loc main_arg3)) ⟨512 * t.val + r.val, row_lt t r⟩ ⟨2048 + f.val, _⟩
  open_payloads
  pointwise [up]
  simp only [input_at, up_at]

/-- Chunk 4 of the product with the up projection, as the body stores it. -/
theorem chunk4 (c : Dev nD) (t : Fin cfg0.N) (x : S512x1024.Idx) :
    (k0_pay14 (k0_pay20 (iblk m c 0 t) (iblk m c 1 t) (iblk m c 2 t) (iblk m c 3 t) (iblk m c 4 t) (iblk m c 5 t) (iblk m c 6 t) (iblk m c 7 t)) : S512x1024.Idx → EReal) x = upRows (m ((c : Thread nD τ).loc main_arg0)) (m ((c : Thread nD τ).loc main_arg1)) (m ((c : Thread nD τ).loc main_arg2)) (m ((c : Thread nD τ).loc main_arg3)) (ix2 ⟨512 * t.val + (x 0).val, row_lt t (x 0)⟩ ⟨3072 + (x 1).val, by have : (x 1).val < 1024 := (x 1).isLt; omega⟩) := by
  obtain ⟨r, f, rfl⟩ : ∃ (r : Fin 512) (f : Fin 1024), x = ix2 r f := ⟨x 0, x 1, (ix2_eta x).symm⟩
  show _ = up (m ((c : Thread nD τ).loc main_arg0)) (m ((c : Thread nD τ).loc main_arg1)) (m ((c : Thread nD τ).loc main_arg2)) (m ((c : Thread nD τ).loc main_arg3)) ⟨512 * t.val + r.val, row_lt t r⟩ ⟨3072 + f.val, _⟩
  exact fourth_at m c t r f

end Cert.Kernel11Ideal.Forward

end
-- ==== Proof.Forward.MlpFinal.lean ====
module

public import proofs.«01_k».proof.Proof.Forward.MlpTiles

@[expose] public section

set_option maxRecDepth 16384

noncomputable section

open Idealize.ShloMosaic Idealize.ShloMosaic.TcCoe Idealize.SL.Sem
open Idealize.ShloMosaic.Pipeline (Dat)

namespace Cert.Kernel11Ideal.Forward

open Cert.Forward Cert.Norm Cert.Kernel11Ideal Cert.Kernel11Ideal.Gen

variable (m : (ℓ : Loc nD τ sig) → Buf (Elt Ideal) ℓ)

/-- Where a position of the first result's block lies in the array. -/
theorem out_row (t : Fin cfg0.N) (y : S512x4096.Idx) :
    (win0_8.blk t).view.emb y = (ix2 ⟨512 * t.val + (y 0).val, row_lt t (y 0)⟩ (y 1) : S8192x4096.Idx) := by
  blk_ext [idx t]

set_option maxHeartbeats 2000000 in
/-- The first result after the run: the product with the up projection. -/
theorem final8 (c : Dev nD) : (dats m 0 c).arrAt 8 (cfgs 0).N = upRows (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  frame_out
  canon_tiles x h
  · refine (chunk4 m c t x).trans (congrArg _ ((funext (Fin.forall_fin_two.2 ⟨Fin.ext ?_, Fin.ext ?_⟩) : _ = _).trans (out_row t y).symm))
    · show 512 * t.val + (x 0).val = 512 * t.val + (y 0).val
      omega
    · show 3072 + (x 1).val = (y 1).val
      omega
  · refine (chunk3 m c t x).trans (congrArg _ ((funext (Fin.forall_fin_two.2 ⟨Fin.ext ?_, Fin.ext ?_⟩) : _ = _).trans (out_row t y).symm))
    · show 512 * t.val + (x 0).val = 512 * t.val + (y 0).val
      omega
    · show 2048 + (x 1).val = (y 1).val
      omega
  · refine (chunk2 m c t x).trans (congrArg _ ((funext (Fin.forall_fin_two.2 ⟨Fin.ext ?_, Fin.ext ?_⟩) : _ = _).trans (out_row t y).symm))
    · show 512 * t.val + (x 0).val = 512 * t.val + (y 0).val
      omega
    · show 1024 + (x 1).val = (y 1).val
      omega
  · refine (chunk1 m c t x).trans (congrArg _ ((funext (Fin.forall_fin_two.2 ⟨Fin.ext ?_, Fin.ext ?_⟩) : _ = _).trans (out_row t y).symm))
    · show 512 * t.val + (x 0).val = 512 * t.val + (y 0).val
      omega
    · show (x 1).val = (y 1).val
      omega

/-- The second result after the run: the normalised rows. -/
theorem final9 (c : Dev nD) : (dats m 0 c).arrAt 9 (cfgs 0).N = channelNormed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  obtain ⟨r, k, rfl⟩ : ∃ (r : Fin 512) (k : Fin 1024), y = ix2 r k := ⟨y 0, y 1, (ix2_eta y).symm⟩
  rw [show (win0_9.blk t).view.emb (ix2 r k) = (ix2 ⟨512 * t.val + r.val, row_lt t r⟩ k : S8192x1024.Idx) from by blk_ext [idx t]]
  frame_out
  refine (pay2 (k0_pay18 (iblk m c 0 t) (iblk m c 1 t) (iblk m c 2 t) (iblk m c 3 t) (iblk m c 4 t) (iblk m c 5 t) (iblk m c 6 t) (iblk m c 7 t)) (k0_pay19 (iblk m c 0 t) (iblk m c 1 t) (iblk m c 2 t) (iblk m c 3 t) (iblk m c 4 t) (iblk m c 5 t) (iblk m c 6 t) (iblk m c 7 t)) (k0_pay20 (iblk m c 0 t) (iblk m c 1 t) (iblk m c 2 t) (iblk m c 3 t) (iblk m c 4 t) (iblk m c 5 t) (iblk m c 6 t) (iblk m c 7 t)) (View.ld (iblk m c 5 t) r0_10) (View.ld (iblk m c 5 t) r0_12) (View.ld (iblk m c 0 t) r0_0) (View.ld (iblk m c 2 t) r0_13) (View.ld (iblk m c 3 t) r0_13) r k).trans ?_
  rw [row_at]
  rfl

/-- The third result after the run: the reciprocals of the standard deviations. -/
theorem final10 (c : Dev nD) : (dats m 0 c).arrAt 10 (cfgs 0).N = channelScales (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10]
  obtain ⟨r, k, rfl⟩ : ∃ (r : Fin 512) (k : Fin 1), y = ix2 r k := ⟨y 0, y 1, (ix2_eta y).symm⟩
  rw [show (win0_10.blk t).view.emb (ix2 r k) = (ix2 ⟨512 * t.val + r.val, row_lt t r⟩ k : S8192x1.Idx) from by blk_ext [idx t]]
  frame_out
  obtain rfl : k = 0 := Subsingleton.elim _ _
  refine (pay1 (k0_pay18 (iblk m c 0 t) (iblk m c 1 t) (iblk m c 2 t) (iblk m c 3 t) (iblk m c 4 t) (iblk m c 5 t) (iblk m c 6 t) (iblk m c 7 t)) (k0_pay19 (iblk m c 0 t) (iblk m c 1 t) (iblk m c 2 t) (iblk m c 3 t) (iblk m c 4 t) (iblk m c 5 t) (iblk m c 6 t) (iblk m c 7 t)) (k0_pay20 (iblk m c 0 t) (iblk m c 1 t) (iblk m c 2 t) (iblk m c 3 t) (iblk m c 4 t) (iblk m c 5 t) (iblk m c 6 t) (iblk m c 7 t)) (View.ld (iblk m c 5 t) r0_10) (View.ld (iblk m c 5 t) r0_12) (View.ld (iblk m c 0 t) r0_0) (View.ld (iblk m c 2 t) r0_13) (View.ld (iblk m c 3 t) r0_13) r).trans ?_
  rw [row_at]
  rfl

/-- The fourth result after the run: the layer norm's rows. -/
theorem final11 (c : Dev nD) : (dats m 0 c).arrAt 11 (cfgs 0).N = channelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after0_11]
  obtain ⟨r, k, rfl⟩ : ∃ (r : Fin 512) (k : Fin 1024), y = ix2 r k := ⟨y 0, y 1, (ix2_eta y).symm⟩
  rw [show (win0_11.blk t).view.emb (ix2 r k) = (ix2 ⟨512 * t.val + r.val, row_lt t r⟩ k : S8192x1024.Idx) from by blk_ext [idx t]]
  frame_out
  refine (pay3 (k0_pay18 (iblk m c 0 t) (iblk m c 1 t) (iblk m c 2 t) (iblk m c 3 t) (iblk m c 4 t) (iblk m c 5 t) (iblk m c 6 t) (iblk m c 7 t)) (k0_pay19 (iblk m c 0 t) (iblk m c 1 t) (iblk m c 2 t) (iblk m c 3 t) (iblk m c 4 t) (iblk m c 5 t) (iblk m c 6 t) (iblk m c 7 t)) (k0_pay20 (iblk m c 0 t) (iblk m c 1 t) (iblk m c 2 t) (iblk m c 3 t) (iblk m c 4 t) (iblk m c 5 t) (iblk m c 6 t) (iblk m c 7 t)) (View.ld (iblk m c 5 t) r0_10) (View.ld (iblk m c 5 t) r0_12) (View.ld (iblk m c 0 t) r0_0) (View.ld (iblk m c 2 t) r0_13) (View.ld (iblk m c 3 t) r0_13) (iblk m c 6 t) (iblk m c 7 t) r k).trans ?_
  rw [row_at, gain2_at, offset2_at]
  rfl

/-- The fifth result after the run: the same rows. -/
theorem final12 (c : Dev nD) : (dats m 0 c).arrAt 12 (cfgs 0).N = channelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12]
  obtain ⟨r, k, rfl⟩ : ∃ (r : Fin 512) (k : Fin 1024), y = ix2 r k := ⟨y 0, y 1, (ix2_eta y).symm⟩
  rw [show (win0_12.blk t).view.emb (ix2 r k) = (ix2 ⟨512 * t.val + r.val, row_lt t r⟩ k : S8192x1024.Idx) from by blk_ext [idx t]]
  frame_out
  refine (pay3 (k0_pay18 (iblk m c 0 t) (iblk m c 1 t) (iblk m c 2 t) (iblk m c 3 t) (iblk m c 4 t) (iblk m c 5 t) (iblk m c 6 t) (iblk m c 7 t)) (k0_pay19 (iblk m c 0 t) (iblk m c 1 t) (iblk m c 2 t) (iblk m c 3 t) (iblk m c 4 t) (iblk m c 5 t) (iblk m c 6 t) (iblk m c 7 t)) (k0_pay20 (iblk m c 0 t) (iblk m c 1 t) (iblk m c 2 t) (iblk m c 3 t) (iblk m c 4 t) (iblk m c 5 t) (iblk m c 6 t) (iblk m c 7 t)) (View.ld (iblk m c 5 t) r0_10) (View.ld (iblk m c 5 t) r0_12) (View.ld (iblk m c 0 t) r0_0) (View.ld (iblk m c 2 t) r0_13) (View.ld (iblk m c 3 t) r0_13) (iblk m c 6 t) (iblk m c 7 t) r k).trans ?_
  rw [row_at, gain2_at, offset2_at]
  rfl

end Cert.Kernel11Ideal.Forward

end
-- ==== Proof.Forward.MlpRef.lean ====
module

public import proofs.«01_k».proof.Proof.Gen.Reference11Ideal.Read
public import Idealize.ShloMosaic.Lib.Pipeline.ValueKit
public import Idealize.ShloMosaic.Lib.Pointwise
public import Idealize.ShloMosaic.Lib.KernelVsHost
public import proofs.«01_k».proof.Proof.Forward.Mlp

@[expose] public section

set_option maxRecDepth 16384

noncomputable section

open Idealize.ShloMosaic Idealize.ShloMosaic.TcCoe Idealize.SL.Sem
open Idealize.ShloMosaic.Pipeline (Dat)

namespace Cert.Reference11Ideal.Forward

open Cert.Reference11Ideal Cert.Reference11Ideal.Gen Cert.Reference11Ideal.Read Cert.Forward Cert.Norm

variable (Z : FVec Ideal S8192x1024 .f32) (G H : FVec Ideal S1x1024 .f32) (U : FVec Ideal S1024x4096 .bf16) (W : FVec Ideal S4096x1024 .bf16)
  (G' H' : FVec Ideal S1x1024 .f32)

/-- The rows less their means. -/
theorem v7 : val_main_v7 (F := Ideal) Z = fun i => centred (fun j => Z (ix2 (i 0) j)) (i 1) := by
  funext i
  pointwise [val_main_v7, val_main_v6, val_main_v5, val_main_v4, val_main_v3, val_main_v2, val_main_cst, val_main_cst_0, centred]

/-- The rows less their means, taken once more. -/
theorem v14 : val_main_v14 (F := Ideal) Z = fun i => centred (fun j => Z (ix2 (i 0) j)) (i 1) := v7 Z

/-- The reciprocals of the standard deviations. -/
theorem v17 : val_main_v17 (F := Ideal) Z = fun i => scale (fun j => Z (ix2 (i 0) j)) := by
  have h := v7 Z
  unfold val_main_v17 val_main_v16 val_main_v12 val_main_v10 val_main_v9 val_main_v8
  rw [h]
  funext i
  pointwise [val_main_v15, val_main_v11, val_main_cst_1, val_main_cst_2, val_main_cst_3, scale, spread]

/-- The channel mixer's input. -/
theorem v23 : val_main_v23 (F := Ideal) Z G H = fun i => input Z G H (i 0) (i 1) := by
  have h := v14 Z
  have h' := v17 Z
  unfold val_main_v23 val_main_v21 val_main_v19 val_main_v18
  rw [h, h']
  funext i
  pointwise [val_main_v20, val_main_v22, input, normed]

/-- The product with the up projection. -/
theorem v24 : val_main_v24 (F := Ideal) Z G H U = fun i => up Z G H U (i 0) (i 1) := by
  have h := v23 Z G H
  unfold val_main_v24
  rw [h]
  funext i
  pointwise [val_main_v0, up]

/-- The squared ReLU. -/
theorem v28 : val_main_v28 (F := Ideal) Z G H U = fun i => act Z G H U (i 0) (i 1) := by
  have h := v24 Z G H U
  unfold val_main_v28 val_main_v27
  rw [h]
  funext i
  pointwise [val_main_call0_v0, val_main_call0_cst, act]

/-- The second layer norm's argument. -/
theorem v30 : val_main_v30 (F := Ideal) Z G H U W = fun i => channel Z G H U W (i 0) (i 1) := by
  have h := v28 Z G H U
  have h' := v23 Z G H
  unfold val_main_v30 val_main_v29 val_main_v26
  rw [h, h']
  funext i
  pointwise [val_main_v25, val_main_v1, val_main_cst_4, channel]

/-- Its rows less their means. -/
theorem v36 : val_main_v36 (F := Ideal) Z G H U W = fun i => centred (channel Z G H U W (i 0)) (i 1) := by
  have h := v30 Z G H U W
  unfold val_main_v36 val_main_v35 val_main_v34 val_main_v32 val_main_v31
  rw [h]
  funext i
  pointwise [val_main_v33, val_main_cst_5, val_main_cst_6, centred]

/-- Its rows less their means, taken once more. -/
theorem v46 : val_main_v46 (F := Ideal) Z G H U W = fun i => centred (channel Z G H U W (i 0)) (i 1) := v36 Z G H U W

/-- The reciprocals of its rows' standard deviations. -/
theorem v44 : val_main_v44 (F := Ideal) Z G H U W = channelScales Z G H U W := by
  have h := v36 Z G H U W
  unfold val_main_v44 val_main_v43 val_main_v41 val_main_v39 val_main_v38 val_main_v37
  rw [h]
  funext i
  pointwise [val_main_v40, val_main_v42, val_main_cst_7, val_main_cst_8, val_main_cst_9, channelScales, scale, spread]

/-- Its normalised rows. -/
theorem v48 : val_main_v48 (F := Ideal) Z G H U W = channelNormed Z G H U W := by
  have h := v46 Z G H U W
  have h' := v44 Z G H U W
  unfold val_main_v48 val_main_v47
  rw [h, h']
  funext i
  pointwise [channelNormed, normed, channelScales]

/-- The second layer norm's rows. -/
theorem v52 : val_main_v52 (F := Ideal) Z G H U W G' H' = channelOut Z G H U W G' H' := by
  have h := v48 Z G H U W
  unfold val_main_v52 val_main_v50
  rw [h]
  funext i
  pointwise [val_main_v49, val_main_v51, channelOut, channelNormed]

/-- The product with the up projection, as the reference ends with it. -/
theorem v53 : val_main_v53 (F := Ideal) Z G H U = upRows Z G H U := by
  have h := v24 Z G H U
  unfold val_main_v53
  rw [h]
  funext i
  pointwise [upRows]

/-- The same rows once more. -/
theorem v54 : val_main_v54 (F := Ideal) Z G H U W G' H' = channelOut Z G H U W G' H' := v52 Z G H U W G' H'

end Cert.Reference11Ideal.Forward

end
-- ==== Proof.Forward.MlpPair.lean ====
module

public import Idealize.ShloMosaic.Lib.Pipeline.ValueKit
public import Idealize.ShloMosaic.Lib.Claim
public import proofs.«01_k».proof.Defs
public import proofs.«01_k».proof.Proof.Gen.Reference11Ideal.Run
public import proofs.«01_k».proof.Proof.Gen.Reference11Ideal.Read
public import proofs.«01_k».proof.Proof.Forward.MlpFinal
public import proofs.«01_k».proof.Proof.Forward.MlpRef

@[expose] public section

set_option maxRecDepth 16384

noncomputable section

open Idealize.ShloMosaic Idealize.ShloMosaic.TcCoe Idealize.SL.Sem
open Idealize.ShloMosaic.Pipeline (Dat)

namespace Cert.Forward

set_option maxHeartbeats 1000000 in
/-- The channel mixer's forward call and the reference's lines end with the same product with the up projection, normalised rows, scales
    and layer norm. -/
theorem algebraic11 : Cert.algebraic_Kernel11Ideal_Reference11Ideal := by
  pair_intro
  · run_from Cert.Kernel11Ideal.Gen.run_main m g
  · run_from Cert.Reference11Ideal.Value.run m' g'
    all_goals obtain ⟨h0, h1, h2, h3, h4, h5, h6⟩ := hagree c
    · refine Eq.trans ?_ (Cert.Kernel11Ideal.Forward.final8 m c).symm
      rw [Cert.Reference11Ideal.Read.val_main_v53_eq]
      exact Cert.Reference11Ideal.Forward.v53 _ _ _ _
    · refine Eq.trans ?_ (Cert.Kernel11Ideal.Forward.final9 m c).symm
      rw [Cert.Reference11Ideal.Read.val_main_v48_eq, h0, h1, h2, h3, h4]
      exact Cert.Reference11Ideal.Forward.v48 _ _ _ _ _
    · refine Eq.trans ?_ (Cert.Kernel11Ideal.Forward.final10 m c).symm
      rw [Cert.Reference11Ideal.Read.val_main_v44_eq, h0, h1, h2, h3, h4]
      exact Cert.Reference11Ideal.Forward.v44 _ _ _ _ _
    · refine Eq.trans ?_ (Cert.Kernel11Ideal.Forward.final11 m c).symm
      rw [Cert.Reference11Ideal.Read.val_main_v52_eq, h0, h1, h2, h3, h4, h5, h6]
      exact Cert.Reference11Ideal.Forward.v52 _ _ _ _ _ _ _
    · refine Eq.trans ?_ (Cert.Kernel11Ideal.Forward.final12 m c).symm
      rw [Cert.Reference11Ideal.Read.val_main_v54_eq, h0, h1, h2, h3, h4, h5, h6]
      exact Cert.Reference11Ideal.Forward.v54 _ _ _ _ _ _ _

end Cert.Forward

end
-- ==== Proof.Memory.Spec.lean ====
module

public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Memory

/-- The gradient of a projection of the memory: the memory transposed times the gradient of the projected rows. -/
def grad (M : FVec Ideal ⟨2, ![512, 1024]⟩ .f32) (D : FVec Ideal ⟨2, ![512, 512]⟩ .f32) : (⟨2, ![1024, 512]⟩ : Shape).Idx → EReal :=
  fun i => ∑ r : Fin 512, (M (ix2 r (i 0)) : EReal) * (D (ix2 r (i 1)) : EReal)

/-- A projection of the memory: the memory times the weights. -/
def proj (M : FVec Ideal ⟨2, ![512, 1024]⟩ .f32) (W : FVec Ideal ⟨2, ![1024, 512]⟩ .bf16) : (⟨2, ![512, 512]⟩ : Shape).Idx → EReal :=
  fun i => ∑ e : Fin 1024, (M (ix2 (i 0) e) : EReal) * (W (ix2 e (i 1)) : EReal)

end Cert.Memory

end
-- ==== Proof.Memory.Grads.lean ====
module

public import proofs.«01_k».proof.Proof.Gen.Kernel12Ideal.Frame
public import Idealize.ShloMosaic.Lib.Pipeline.ValueKit
public import Idealize.ShloMosaic.Lib.Pointwise
public import proofs.«01_k».proof.Proof.Memory.Spec

@[expose] public section

set_option maxRecDepth 16384

noncomputable section

open Idealize.ShloMosaic Idealize.ShloMosaic.TcCoe Idealize.SL.Sem
open Idealize.ShloMosaic.Pipeline (Dat)

namespace Cert.Kernel12Ideal.Memory

open Cert.Memory Cert.Kernel12Ideal Cert.Kernel12Ideal.Gen

variable (m : (ℓ : Loc nD τ sig) → Buf (Elt Ideal) ℓ)

/-- The block of every window at the one grid point. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The memory's block is the memory. -/
theorem memory_at (c : Dev nD) (t : Fin cfg0.N) : iblk m c 0 t = m ((c : Thread nD τ).loc main_arg0) := by
  funext y
  blk_point [iblk, V, idx t]

/-- The second argument's block is that argument. -/
theorem operand1_at (c : Dev nD) (t : Fin cfg0.N) : iblk m c 1 t = m ((c : Thread nD τ).loc main_arg1) := by
  funext y
  blk_point [iblk, V, idx t]

/-- The third argument's block is that argument. -/
theorem operand2_at (c : Dev nD) (t : Fin cfg0.N) : iblk m c 2 t = m ((c : Thread nD τ).loc main_arg2) := by
  funext y
  blk_point [iblk, V, idx t]

/-- The first product of the body, from its two blocks. -/
theorem pay2 (A : Vec Ideal S512x1024 .f32) (M : Vec Ideal S512x1024 .f32) (hA : A = M) (B D : Vec Ideal S512x512 .f32) (hB : B = D) (i : S1024x512.Idx) :
    k0_pay2 (F := Ideal) A B i = grad M D i := by
  subst hA hB
  rw [← ix2_eta i]
  unfold k0_pay2
  open_payloads
  pointwise [grad]

/-- The second product of the body, from its two blocks. -/
theorem pay3 (A : Vec Ideal S512x1024 .f32) (M : Vec Ideal S512x1024 .f32) (hA : A = M) (B D : Vec Ideal S512x512 .f32) (hB : B = D) (i : S1024x512.Idx) :
    k0_pay3 (F := Ideal) A B i = grad M D i := by
  subst hA hB
  rw [← ix2_eta i]
  unfold k0_pay3
  open_payloads
  pointwise [grad]

/-- The first result after the run: the memory transposed times a gradient. -/
theorem final3 (c : Dev nD) : (dats m 0 c).arrAt 3 (cfgs 0).N = grad (m ((c : Thread nD τ).loc main_arg0)) (m ((c : Thread nD τ).loc main_arg1)) := by
  refine (dats m 0 c).arrAt_eq_of_covers 3 _ (by decide +kernel) fun t hf y => ?_
  blk_simp
  rw [after0_3]
  rw [show (win0_3.blk t).view.emb y = y from by blk_ext [idx t]]
  frame_out
  exact pay2 _ _ (memory_at m c t) _ _ (operand1_at m c t) y

/-- The second result after the run: the memory transposed times a gradient. -/
theorem final4 (c : Dev nD) : (dats m 0 c).arrAt 4 (cfgs 0).N = grad (m ((c : Thread nD τ).loc main_arg0)) (m ((c : Thread nD τ).loc main_arg2)) := by
  refine (dats m 0 c).arrAt_eq_of_covers 4 _ (by decide +kernel) fun t hf y => ?_
  blk_simp
  rw [after0_4]
  rw [show (win0_4.blk t).view.emb y = y from by blk_ext [idx t]]
  frame_out
  exact pay3 _ _ (memory_at m c t) _ _ (operand2_at m c t) y

end Cert.Kernel12Ideal.Memory

end
-- ==== Proof.Memory.GradsRef.lean ====
module

public import proofs.«01_k».proof.Proof.Gen.Reference12Ideal.Read
public import Idealize.ShloMosaic.Lib.Pointwise
public import proofs.«01_k».proof.Proof.Memory.Spec

@[expose] public section

set_option maxRecDepth 16384

noncomputable section

open Idealize.ShloMosaic Idealize.ShloMosaic.TcCoe Idealize.SL.Sem
open Idealize.ShloMosaic.Pipeline (Dat)

namespace Cert.Reference12Ideal.Memory

open Cert.Reference12Ideal Cert.Reference12Ideal.Gen Cert.Reference12Ideal.Read Cert.Memory

variable (M : FVec Ideal S512x1024 .f32) (D : FVec Ideal S512x512 .f32)

/-- The reference's gradient of the keys' projection. -/
theorem v7 : val_main_v7 (F := Ideal) M D = grad M D := by
  funext i
  pointwise [val_main_v7, val_main_v6, val_main_v5, grad]
  exact Finset.sum_congr rfl fun r _ => mul_comm _ _

/-- The reference's gradient of the values' projection. -/
theorem v8 : val_main_v8 (F := Ideal) M D = grad M D := by
  funext i
  pointwise [val_main_v8, val_main_v4, val_main_v3, grad]
  exact Finset.sum_congr rfl fun r _ => mul_comm _ _

end Cert.Reference12Ideal.Memory

end
-- ==== Proof.Memory.GradsPair.lean ====
module

public import Idealize.ShloMosaic.Lib.Pipeline.ValueKit
public import Idealize.ShloMosaic.Lib.Claim
public import proofs.«01_k».proof.Defs
public import proofs.«01_k».proof.Proof.Gen.Reference12Ideal.Run
public import proofs.«01_k».proof.Proof.Gen.Reference12Ideal.Read
public import proofs.«01_k».proof.Proof.Memory.Grads
public import proofs.«01_k».proof.Proof.Memory.GradsRef

@[expose] public section

set_option maxRecDepth 16384

noncomputable section

open Idealize.ShloMosaic Idealize.ShloMosaic.TcCoe Idealize.SL.Sem
open Idealize.ShloMosaic.Pipeline (Dat)

namespace Cert.Memory

set_option maxHeartbeats 1000000 in
/-- The gradients of the two projections of the memory are the reference's. -/
theorem algebraic12 : Cert.algebraic_Kernel12Ideal_Reference12Ideal := by
  pair_intro
  · run_from Cert.Kernel12Ideal.Gen.run_main m g
  · run_from Cert.Reference12Ideal.Value.run m' g'
    all_goals obtain ⟨h0, h1, h2⟩ := hagree c
    · refine Eq.trans ?_ (Cert.Kernel12Ideal.Memory.final3 m c).symm
      rw [← h0, ← h1]
      exact (Cert.Reference12Ideal.Read.val_main_v7_eq _ _).trans (Cert.Reference12Ideal.Memory.v7 _ _)
    · refine Eq.trans ?_ (Cert.Kernel12Ideal.Memory.final4 m c).symm
      rw [← h0, ← h2]
      exact (Cert.Reference12Ideal.Read.val_main_v8_eq _ _).trans (Cert.Reference12Ideal.Memory.v8 _ _)

end Cert.Memory

end
-- ==== Proof.Memory.Proj.lean ====
module

public import proofs.«01_k».proof.Proof.Gen.Kernel13Ideal.Frame
public import Idealize.ShloMosaic.Lib.Pipeline.ValueKit
public import Idealize.ShloMosaic.Lib.Pointwise
public import proofs.«01_k».proof.Proof.Memory.Spec

@[expose] public section

set_option maxRecDepth 16384

noncomputable section

open Idealize.ShloMosaic Idealize.ShloMosaic.TcCoe Idealize.SL.Sem
open Idealize.ShloMosaic.Pipeline (Dat)

namespace Cert.Kernel13Ideal.Memory

open Cert.Memory Cert.Kernel13Ideal Cert.Kernel13Ideal.Gen

variable (m : (ℓ : Loc nD τ sig) → Buf (Elt Ideal) ℓ)

/-- The block of every window at the one grid point. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The memory's block is the memory. -/
theorem memory_at (c : Dev nD) (t : Fin cfg0.N) : iblk m c 0 t = m ((c : Thread nD τ).loc main_arg0) := by
  funext y
  blk_point [iblk, V, idx t]

/-- The second argument's block is that argument. -/
theorem operand1_at (c : Dev nD) (t : Fin cfg0.N) : iblk m c 1 t = m ((c : Thread nD τ).loc main_arg1) := by
  funext y
  blk_point [iblk, V, idx t]

/-- The third argument's block is that argument. -/
theorem operand2_at (c : Dev nD) (t : Fin cfg0.N) : iblk m c 2 t = m ((c : Thread nD τ).loc main_arg2) := by
  funext y
  blk_point [iblk, V, idx t]

/-- The first product of the body, from its two blocks. -/
theorem pay2 (A : Vec Ideal S512x1024 .f32) (M : Vec Ideal S512x1024 .f32) (hA : A = M) (B D : Vec Ideal S1024x512 .bf16) (hB : B = D) (i : S512x512.Idx) :
    k0_pay2 (F := Ideal) A B i = proj M D i := by
  subst hA hB
  rw [← ix2_eta i]
  unfold k0_pay2
  open_payloads
  pointwise [proj]

/-- The second product of the body, from its two blocks. -/
theorem pay3 (A : Vec Ideal S512x1024 .f32) (M : Vec Ideal S512x1024 .f32) (hA : A = M) (B D : Vec Ideal S1024x512 .bf16) (hB : B = D) (i : S512x512.Idx) :
    k0_pay3 (F := Ideal) A B i = proj M D i := by
  subst hA hB
  rw [← ix2_eta i]
  unfold k0_pay3
  open_payloads
  pointwise [proj]

/-- The first result after the run: the memory times a projection. -/
theorem final3 (c : Dev nD) : (dats m 0 c).arrAt 3 (cfgs 0).N = proj (m ((c : Thread nD τ).loc main_arg0)) (m ((c : Thread nD τ).loc main_arg1)) := by
  refine (dats m 0 c).arrAt_eq_of_covers 3 _ (by decide +kernel) fun t hf y => ?_
  blk_simp
  rw [after0_3]
  rw [show (win0_3.blk t).view.emb y = y from by blk_ext [idx t]]
  frame_out
  exact pay2 _ _ (memory_at m c t) _ _ (operand1_at m c t) y

/-- The second result after the run: the memory times a projection. -/
theorem final4 (c : Dev nD) : (dats m 0 c).arrAt 4 (cfgs 0).N = proj (m ((c : Thread nD τ).loc main_arg0)) (m ((c : Thread nD τ).loc main_arg2)) := by
  refine (dats m 0 c).arrAt_eq_of_covers 4 _ (by decide +kernel) fun t hf y => ?_
  blk_simp
  rw [after0_4]
  rw [show (win0_4.blk t).view.emb y = y from by blk_ext [idx t]]
  frame_out
  exact pay3 _ _ (memory_at m c t) _ _ (operand2_at m c t) y

end Cert.Kernel13Ideal.Memory

end
-- ==== Proof.Memory.ProjRef.lean ====
module

public import proofs.«01_k».proof.Proof.Gen.Reference13Ideal.Read
public import Idealize.ShloMosaic.Lib.Pointwise
public import proofs.«01_k».proof.Proof.Memory.Spec

@[expose] public section

set_option maxRecDepth 16384

noncomputable section

open Idealize.ShloMosaic Idealize.ShloMosaic.TcCoe Idealize.SL.Sem
open Idealize.ShloMosaic.Pipeline (Dat)

namespace Cert.Reference13Ideal.Memory

open Cert.Reference13Ideal Cert.Reference13Ideal.Gen Cert.Reference13Ideal.Read Cert.Memory

variable (M : FVec Ideal S512x1024 .f32) (W : FVec Ideal S1024x512 .bf16)

/-- The reference's keys. -/
theorem v2 : val_main_v2 (F := Ideal) M W = proj M W := by
  funext i
  pointwise [val_main_v2, val_main_v1, val_main_v0, proj]

/-- The reference's values. -/
theorem v5 : val_main_v5 (F := Ideal) M W = proj M W := by
  funext i
  pointwise [val_main_v5, val_main_v4, val_main_v3, proj]

end Cert.Reference13Ideal.Memory

end
-- ==== Proof.Memory.ProjPair.lean ====
module

public import Idealize.ShloMosaic.Lib.Pipeline.ValueKit
public import Idealize.ShloMosaic.Lib.Claim
public import proofs.«01_k».proof.Defs
public import proofs.«01_k».proof.Proof.Gen.Reference13Ideal.Run
public import proofs.«01_k».proof.Proof.Gen.Reference13Ideal.Read
public import proofs.«01_k».proof.Proof.Memory.Proj
public import proofs.«01_k».proof.Proof.Memory.ProjRef

@[expose] public section

set_option maxRecDepth 16384

noncomputable section

open Idealize.ShloMosaic Idealize.ShloMosaic.TcCoe Idealize.SL.Sem
open Idealize.ShloMosaic.Pipeline (Dat)

namespace Cert.Memory

set_option maxHeartbeats 1000000 in
/-- The memory's keys and values are the reference's. -/
theorem algebraic13 : Cert.algebraic_Kernel13Ideal_Reference13Ideal := by
  pair_intro
  · run_from Cert.Kernel13Ideal.Gen.run_main m g
  · run_from Cert.Reference13Ideal.Value.run m' g'
    all_goals obtain ⟨h0, h1, h2⟩ := hagree c
    · refine Eq.trans ?_ (Cert.Kernel13Ideal.Memory.final3 m c).symm
      rw [← h0, ← h1]
      exact (Cert.Reference13Ideal.Read.val_main_v2_eq _ _).trans (Cert.Reference13Ideal.Memory.v2 _ _)
    · refine Eq.trans ?_ (Cert.Kernel13Ideal.Memory.final4 m c).symm
      rw [← h0, ← h2]
      exact (Cert.Reference13Ideal.Read.val_main_v5_eq _ _).trans (Cert.Reference13Ideal.Memory.v5 _ _)

end Cert.Memory

end
-- ==== Proof.Adam.Step.lean ====
module

public import proofs.«01_k».proof.Proof.Gen.Kernel14Ideal.Frame
public import proofs.«01_k».proof.Proof.Gen.Reference14Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel14Ideal.Adam

open Cert.Kernel14Ideal Cert.Kernel14Ideal.Gen Cert.Reference14Ideal.Read

variable (m : (ℓ : Loc nD τ sig) → Buf (Elt Ideal) ℓ)

/-- The blocks at a grid point. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- There are four grid points. -/
theorem lt4 (t : Fin cfg0.N) : t.val < 4 := t.isLt

/-- The weights at a position of the block. -/
theorem arg0_at (c : Dev nD) (t : Fin cfg0.N) (k : Fin 1024) : iblk m c 0 t (ix3 0 0 k) = m ((c : Thread nD τ).loc main_arg0) (ix3 ⟨t.val, lt4 t⟩ 0 k) := by
  blk_point [iblk, V, idx t]

/-- The first moment at a position of the block. -/
theorem arg1_at (c : Dev nD) (t : Fin cfg0.N) (k : Fin 1024) : iblk m c 1 t (ix3 0 0 k) = m ((c : Thread nD τ).loc main_arg1) (ix3 ⟨t.val, lt4 t⟩ 0 k) := by
  blk_point [iblk, V, idx t]

/-- The second moment at a position of the block. -/
theorem arg2_at (c : Dev nD) (t : Fin cfg0.N) (k : Fin 1024) : iblk m c 2 t (ix3 0 0 k) = m ((c : Thread nD τ).loc main_arg2) (ix3 ⟨t.val, lt4 t⟩ 0 k) := by
  blk_point [iblk, V, idx t]

/-- The own half of the gradient at a position of the block. -/
theorem arg3_at (c : Dev nD) (t : Fin cfg0.N) (k : Fin 1024) : iblk m c 3 t (ix3 0 0 k) = m ((c : Thread nD τ).loc main_arg3) (ix3 ⟨t.val, lt4 t⟩ 0 k) := by
  blk_point [iblk, V, idx t]

/-- The other half of the gradient at a position of the block. -/
theorem arg4_at (c : Dev nD) (t : Fin cfg0.N) (k : Fin 1024) : iblk m c 4 t (ix3 0 0 k) = m ((c : Thread nD τ).loc main_arg4) (ix3 ⟨t.val, lt4 t⟩ 0 k) := by
  blk_point [iblk, V, idx t]

/-- The result after the run: the gradient, the sum of the two halves. -/
theorem final5 (c : Dev nD) : (dats m 0 c).arrAt 5 (cfgs 0).N = val_main_v0 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  obtain ⟨a, b, k, rfl⟩ : ∃ (a b : Fin 1) (k : Fin 1024), y = ix3 a b k := ⟨y 0, y 1, y 2, (ix3_eta y).symm⟩
  obtain rfl : a = 0 := Subsingleton.elim _ _
  obtain rfl : b = 0 := Subsingleton.elim _ _
  rw [show (win0_5.blk t).view.emb (ix3 0 0 k) = (ix3 ⟨t.val, lt4 t⟩ 0 k : S4x1x1024.Idx) from by blk_ext [idx t]]
  frame_out
  open_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7]
  simp only [arg0_at, arg1_at, arg2_at, arg3_at, arg4_at]
  rfl

/-- The result after the run: the step. -/
theorem final6 (c : Dev nD) : (dats m 0 c).arrAt 6 (cfgs 0).N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨a, b, k, rfl⟩ : ∃ (a b : Fin 1) (k : Fin 1024), y = ix3 a b k := ⟨y 0, y 1, y 2, (ix3_eta y).symm⟩
  obtain rfl : a = 0 := Subsingleton.elim _ _
  obtain rfl : b = 0 := Subsingleton.elim _ _
  rw [show (win0_6.blk t).view.emb (ix3 0 0 k) = (ix3 ⟨t.val, lt4 t⟩ 0 k : S4x1x1024.Idx) from by blk_ext [idx t]]
  frame_out
  open_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7]
  simp only [arg0_at, arg1_at, arg2_at, arg3_at, arg4_at]
  rfl

/-- The result after the run: the first moment. -/
theorem final7 (c : Dev nD) : (dats m 0 c).arrAt 7 (cfgs 0).N = val_main_v5 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  obtain ⟨a, b, k, rfl⟩ : ∃ (a b : Fin 1) (k : Fin 1024), y = ix3 a b k := ⟨y 0, y 1, y 2, (ix3_eta y).symm⟩
  obtain rfl : a = 0 := Subsingleton.elim _ _
  obtain rfl : b = 0 := Subsingleton.elim _ _
  rw [show (win0_7.blk t).view.emb (ix3 0 0 k) = (ix3 ⟨t.val, lt4 t⟩ 0 k : S4x1x1024.Idx) from by blk_ext [idx t]]
  frame_out
  open_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7]
  simp only [arg0_at, arg1_at, arg2_at, arg3_at, arg4_at]
  rfl

/-- The result after the run: the second moment. -/
theorem final8 (c : Dev nD) : (dats m 0 c).arrAt 8 (cfgs 0).N = val_main_v11 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨a, b, k, rfl⟩ : ∃ (a b : Fin 1) (k : Fin 1024), y = ix3 a b k := ⟨y 0, y 1, y 2, (ix3_eta y).symm⟩
  obtain rfl : a = 0 := Subsingleton.elim _ _
  obtain rfl : b = 0 := Subsingleton.elim _ _
  rw [show (win0_8.blk t).view.emb (ix3 0 0 k) = (ix3 ⟨t.val, lt4 t⟩ 0 k : S4x1x1024.Idx) from by blk_ext [idx t]]
  frame_out
  open_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7]
  simp only [arg0_at, arg1_at, arg2_at, arg3_at, arg4_at]
  rfl

end Cert.Kernel14Ideal.Adam

end
-- ==== Proof.Adam.Pair.lean ====
module

public import Idealize.ShloMosaic.Lib.Pipeline.ValueKit
public import Idealize.ShloMosaic.Lib.Claim
public import proofs.«01_k».proof.Defs
public import proofs.«01_k».proof.Proof.Gen.Reference14Ideal.Run
public import proofs.«01_k».proof.Proof.Gen.Reference14Ideal.Read
public import proofs.«01_k».proof.Proof.Adam.Step

@[expose] public section

set_option maxRecDepth 16384

noncomputable section

open Idealize.ShloMosaic Idealize.ShloMosaic.TcCoe Idealize.SL.Sem
open Idealize.ShloMosaic.Pipeline (Dat)

namespace Cert.Adam

set_option maxHeartbeats 1000000 in
/-- The optimiser's step is the reference's: the gradient, the step and the two moments. -/
theorem algebraic14 : Cert.algebraic_Kernel14Ideal_Reference14Ideal := by
  pair_intro
  · run_from Cert.Kernel14Ideal.Gen.run_main m g
  · run_from Cert.Reference14Ideal.Value.run m' g'
    all_goals obtain ⟨h0, h1, h2, h3, h4⟩ := hagree c
    · refine Eq.trans ?_ (Cert.Kernel14Ideal.Adam.final5 m c).symm
      rw [← h3, ← h4]
      exact Cert.Reference14Ideal.Read.val_main_v0_eq _ _
    · refine Eq.trans ?_ (Cert.Kernel14Ideal.Adam.final6 m c).symm
      rw [← h0, ← h1, ← h2, ← h3, ← h4]
      exact Cert.Reference14Ideal.Read.val_main_v24_eq _ _ _ _ _
    · refine Eq.trans ?_ (Cert.Kernel14Ideal.Adam.final7 m c).symm
      rw [← h1, ← h3, ← h4]
      exact Cert.Reference14Ideal.Read.val_main_v5_eq _ _ _
    · refine Eq.trans ?_ (Cert.Kernel14Ideal.Adam.final8 m c).symm
      rw [← h2, ← h3, ← h4]
      exact Cert.Reference14Ideal.Read.val_main_v11_eq _ _ _

end Cert.Adam

end
-- ==== Proof.Product.Spec.lean ====
module

public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Product

/-- The rows times the input projection's weights. -/
def rowsTimes (x : FVec Ideal ⟨2, ![8192, 1024]⟩ .bf16) (w : FVec Ideal ⟨2, ![1024, 7168]⟩ .bf16) : FVec Ideal ⟨2, ![8192, 7168]⟩ .bf16 :=
  fun i => ∑ e : Fin 1024, x (ix2 (i 0) e) * w (ix2 e (i 1))

/-- The gradient of the up projection's weights: the rows transposed times the cotangent. -/
def dUp (x : FVec Ideal ⟨2, ![8192, 1024]⟩ .bf16) (da : FVec Ideal ⟨2, ![8192, 4096]⟩ .bf16) : FVec Ideal ⟨2, ![1024, 4096]⟩ .bf16 :=
  fun i => ∑ t : Fin 8192, x (ix2 t (i 0)) * da (ix2 t (i 1))

end Cert.Product

end
-- ==== Proof.Product.Input.lean ====
module

public import proofs.«01_k».proof.Proof.Gen.Kernel15Ideal.Frame
public import Idealize.ShloMosaic.Lib.Pipeline.ValueKit
public import Idealize.ShloMosaic.Lib.Pointwise
public import proofs.«01_k».proof.Proof.Product.Spec

@[expose] public section

set_option maxRecDepth 16384

noncomputable section

open Idealize.ShloMosaic Idealize.ShloMosaic.TcCoe Idealize.SL.Sem
open Idealize.ShloMosaic.Pipeline (Dat)

namespace Cert.Kernel15Ideal.Product

open Cert.Product Cert.Kernel15Ideal Cert.Kernel15Ideal.Gen

variable (m : (ℓ : Loc nD τ sig) → Buf (Elt Ideal) ℓ)

/-- The block of every window at grid point `t`. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The result after the run: the rows times the weights. -/
theorem final2 (c : Dev nD) : (dats m 0 c).arrAt 2 (cfgs 0).N = rowsTimes (m ((c : Thread nD τ).loc main_arg0)) (m ((c : Thread nD τ).loc main_arg1)) := by
  refine (dats m 0 c).arrAt_eq_of_covers 2 _ (by decide +kernel) fun t hf y => ?_
  blk_simp
  rw [after0_2]
  frame_out
  open_payloads
  pointwise [rowsTimes]
  blk_point [iblk, V, idx t]

end Cert.Kernel15Ideal.Product

end
-- ==== Proof.Product.InputPair.lean ====
module

public import Idealize.ShloMosaic.Lib.Pipeline.ValueKit
public import Idealize.ShloMosaic.Lib.Claim
public import Idealize.ShloMosaic.Lib.Pointwise
public import proofs.«01_k».proof.Defs
public import proofs.«01_k».proof.Proof.Gen.Reference15Ideal.Run
public import proofs.«01_k».proof.Proof.Gen.Reference15Ideal.Read
public import proofs.«01_k».proof.Proof.Product.Input

@[expose] public section

set_option maxRecDepth 16384

noncomputable section

open Idealize.ShloMosaic Idealize.ShloMosaic.TcCoe Idealize.SL.Sem
open Idealize.ShloMosaic.Pipeline (Dat)

namespace Cert.Product

open Cert.Reference15Ideal Cert.Reference15Ideal.Gen Cert.Reference15Ideal.Read in
/-- The reference's value. -/
theorem reference15 (x : FVec Ideal S8192x1024 .bf16) (w : FVec Ideal S1024x7168 .bf16) : val_main_v3 (F := Ideal) x w = rowsTimes x w := by
  funext i
  pointwise [val_main_v3, val_main_v2, val_main_v1, val_main_v0, rowsTimes]

set_option maxHeartbeats 1000000 in
/-- The product with the input projection is the reference's. -/
theorem algebraic15 : Cert.algebraic_Kernel15Ideal_Reference15Ideal := by
  pair_intro
  · run_from Cert.Kernel15Ideal.Gen.run_main m g
  · run_from Cert.Reference15Ideal.Value.run m' g'
    all_goals obtain ⟨h0, h1⟩ := hagree c
    · refine Eq.trans ?_ (Cert.Kernel15Ideal.Product.final2 m c).symm
      rw [← h0, ← h1]
      exact (Cert.Reference15Ideal.Read.val_main_v3_eq _ _).trans (reference15 _ _)

end Cert.Product

end
-- ==== Proof.Product.Up.lean ====
module

public import proofs.«01_k».proof.Proof.Gen.Kernel16Ideal.Frame
public import Idealize.ShloMosaic.Lib.Pipeline.ValueKit
public import Idealize.ShloMosaic.Lib.Pipeline.ReadBack
public import Idealize.ShloMosaic.Lib.Pointwise
public import proofs.«01_k».proof.Proof.Product.Spec

@[expose] public section

set_option maxRecDepth 16384

noncomputable section

open Idealize.ShloMosaic Idealize.ShloMosaic.TcCoe Idealize.SL.Sem
open Idealize.ShloMosaic.Pipeline (Dat)

namespace Cert.Kernel16Ideal.Product

open Cert.Product Cert.Kernel16Ideal Cert.Kernel16Ideal.Gen

variable (m : (ℓ : Loc nD τ sig) → Buf (Elt Ideal) ℓ)

/-- The block of every window at grid point `t`. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The product of a tile of rows, transposed, and its cotangents. -/
def tileSum (a b : Vec Ideal S2048x1024 .bf16) (y : S1024x1024.Idx) : EReal :=
  ∑ k : Fin 2048, a (ix2 k (y 0)) * b (ix2 k (y 1))

/-- What grid point `t` adds at an entry of its block. -/
def term (c : Dev nD) (t : Fin cfg0.N) (y : S1024x1024.Idx) : EReal := tileSum (iblk m c 0 t) (iblk m c 1 t) y

/-- The running sum at grid point `n`: the written block at the last point of a run, the held block before. -/
def running (c : Dev nD) (n : ℕ) (h : n < cfg0.N) (y : S1024x1024.Idx) : EReal :=
  if n % 4 = 3 then (outsAt0 m c n h).1 y else (outsAt0 m c n h).2 y

/-- The result after the run: the gradient of the up projection. -/
theorem final2 (c : Dev nD) : (dats m 0 c).arrAt 2 (cfgs 0).N = dUp (m ((c : Thread nD τ).loc main_arg0)) (m ((c : Thread nD τ).loc main_arg1)) := by
  refine (dats m 0 c).arrAt_eq_of_covers 2 _ (by decide +kernel) fun t hf y => ?_
  have h3 := (flush0_2 t).mp hf
  have h : running m c t.val t.isLt y = 0 + ∑ s : Fin 4, term m c ⟨4 * (t.val / 4) + s.val, _⟩ y :=
    Pipeline.eq_sum_fin_of_reset_step_apply_of_flush (running m c) 4 (fun _ => 0) (term m c)
      (fun t h y => by
        rw [running, if_neg (by omega), outsAt0_A m c t h (by omega) (by omega)]
        frame_out
        open_payloads
        pointwise [term, tileSum])
      (fun t h y => by
        by_cases h3 : t.val % 4 = 3
        · rw [running, if_pos h3, running, if_neg (by omega), outsAt0_C m c t h (by omega) h3]
          frame_out
          rw [read_unread_whole]
          open_payloads
          pointwise [term, tileSum]
        · rw [running, if_neg h3, running, if_neg (by omega), outsAt0_B m c t h (by omega) h3]
          frame_out
          rw [read_unread_whole]
          open_payloads
          pointwise [term, tileSum])
      t h3 y
  blk_simp
  rw [after0_2]
  rw [running, if_pos h3] at h
  refine h.trans ?_
  rw [zero_add]
  unfold term tileSum dUp
  refine Fin.sum_mul_add_congr fun s k hl => ?_
  have hs := idx ⟨4 * (t.val / 4) + s.val, Pipeline.run_point_lt_of_flush t h3 s⟩
  blk_point [iblk, V, idx t, hs]

end Cert.Kernel16Ideal.Product

end
-- ==== Proof.Product.UpPair.lean ====
module

public import Idealize.ShloMosaic.Lib.Pipeline.ValueKit
public import Idealize.ShloMosaic.Lib.Claim
public import Idealize.ShloMosaic.Lib.Pointwise
public import proofs.«01_k».proof.Defs
public import proofs.«01_k».proof.Proof.Gen.Reference16Ideal.Run
public import proofs.«01_k».proof.Proof.Gen.Reference16Ideal.Read
public import proofs.«01_k».proof.Proof.Product.Up

@[expose] public section

set_option maxRecDepth 16384

noncomputable section

open Idealize.ShloMosaic Idealize.ShloMosaic.TcCoe Idealize.SL.Sem
open Idealize.ShloMosaic.Pipeline (Dat)

namespace Cert.Product

open Cert.Reference16Ideal Cert.Reference16Ideal.Gen Cert.Reference16Ideal.Read in
/-- The reference's value. -/
theorem reference16 (x : FVec Ideal S8192x1024 .bf16) (w : FVec Ideal S8192x4096 .bf16) : val_main_v6 (F := Ideal) x w = dUp x w := by
  funext i
  pointwise [val_main_v6, val_main_v5, val_main_v4, val_main_v3, val_main_v1, dUp]
  exact Finset.sum_congr rfl fun r _ => mul_comm _ _

set_option maxHeartbeats 1000000 in
/-- The gradient of the up projection's weights is the reference's. -/
theorem algebraic16 : Cert.algebraic_Kernel16Ideal_Reference16Ideal := by
  pair_intro
  · run_from Cert.Kernel16Ideal.Gen.run_main m g
  · run_from Cert.Reference16Ideal.Value.run m' g'
    all_goals obtain ⟨h0, h1⟩ := hagree c
    · refine Eq.trans ?_ (Cert.Kernel16Ideal.Product.final2 m c).symm
      rw [← h0, ← h1]
      exact (Cert.Reference16Ideal.Read.val_main_v6_eq _ _).trans (reference16 _ _)

end Cert.Product

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Merge.Pair
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Mlp.Pair
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite_logits
public import proofs.«01_k».proof.Proof.Bounds.Pair
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_finite_attention
public import proofs.«01_k».proof.Proof.Mixer.Pair
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite_rows
public import proofs.«01_k».proof.Proof.Norm.Pair
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite_loss
public import proofs.«01_k».proof.Proof.Loss.Pair
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Forward.BoundsPair
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Forward.Pair
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Forward.MlpPair
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Memory.GradsPair
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Memory.ProjPair
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Adam.Pair
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Product.InputPair
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Product.UpPair

@[expose] public section

set_option maxRecDepth 16384

noncomputable section

namespace Cert.Proof

open Idealize.ShloMosaic Idealize.SL.Sem

/-- The derivative of the merge's lines runs, leaves its arguments unchanged and its counters at zero. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

/-- The derivative of the squared ReLU in its argument runs, leaves its arguments unchanged and its counters at zero. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The derivative of the squared ReLU's projection in its weights runs, leaves its arguments unchanged and its counters at zero. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The derivative of the projection and the residual beside it runs, leaves its arguments unchanged and its counters at zero. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The derivative of the lower bounds of the forget gates runs, leaves its arguments unchanged and its counters at zero. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The derivative of the convolution's and the memory attention's lines runs, leaves its arguments unchanged and its counters at zero. -/
theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

/-- The call runs, leaves its arguments unchanged and its counters at zero, said of the ideal program's text read at words. -/
def words2 : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

/-- The call's text and its ideal program's are the same. -/
theorem words2_eq : words2 = Cert.quiescent_Kernel2 := by
  sl_kernel_rfl

/-- The call runs on words, leaves its arguments unchanged and its counters at zero: its text is the ideal one's. -/
theorem frame_kernel2 : Cert.quiescent_Kernel2 :=
  words2_eq ▸ fun m ρ _ => Cert.Kernel2Ideal.Mixer.frame (F := Bits) m ρ

/-- The derivative of the layer norm runs, leaves its arguments unchanged and its counters at zero. -/
theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

/-- The loss and its derivative runs, leaves its arguments unchanged and its counters at zero. -/
theorem frame_reference4 : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run m ρ)

/-- The softmax and the lower bounds of the forget gates runs, leaves its arguments unchanged and its counters at zero. -/
theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

/-- The merge of the branches, the residual and the first layer norm runs, leaves its arguments unchanged and its counters at zero. -/
theorem frame_reference10 : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run m ρ)

/-- The channel mixer, the residual and the second layer norm runs, leaves its arguments unchanged and its counters at zero. -/
theorem frame_reference11 : Cert.quiescent_Reference11Ideal := fun m ρ _ =>
  (θ_run Cert.Reference11Ideal.defs _ _).mono (fun r h => ⟨fun c => (h c).2.2.2.2.2, sem_eq_zero_of_no_sems (by decide) r.2⟩)
    (Cert.Reference11Ideal.Value.run m ρ)

/-- The derivative of the memory's projections: the reference runs, leaves its arguments unchanged and its counters at zero. -/
theorem frame_reference12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run m ρ)

/-- The memory's projections: the reference runs, leaves its arguments unchanged and its counters at zero. -/
theorem frame_reference13 : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run m ρ)

/-- The optimiser's step: the reference runs, leaves its arguments unchanged and its counters at zero. -/
theorem frame_reference14 : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run m ρ)

/-- The product with the input projection: the reference runs, leaves its arguments unchanged and its counters at zero. -/
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

/-- The derivative of the up projection in its weights: the reference runs, leaves its arguments unchanged and its counters at zero. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

/-- Every claim of the certificate. -/
theorem claim : Cert.Claim :=
  ⟨Cert.Kernel.Gen.facts,
    Cert.KernelIdeal.Gen.facts,
    Cert.ReferenceIdeal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel5.Gen.facts,
    Cert.Kernel5Ideal.Gen.facts,
    Cert.Reference5Ideal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Pre_finite_logits.Gen.facts,
    Cert.Pre_finite_attention.Gen.facts,
    Cert.Pre_finite_rows.Gen.facts,
    Cert.Pre_finite_loss.Gen.facts,
    fun m ρ _ => Cert.Kernel.Gen.frame m ρ,
    fun m ρ _ => Cert.KernelIdeal.Gen.frame m ρ,
    frame_reference,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel5.Gen.frame m ρ,
    fun m ρ _ => Cert.Kernel5Ideal.Gen.frame m ρ,
    fun m ρ _ => Cert.Kernel5Ideal.Gen.frame m ρ,
    frame_reference5,
    fun m ρ _ => frame_reference5 m ρ trivial,
    frame_kernel2,
    fun m ρ _ => Cert.Kernel2Ideal.Mixer.frame m ρ,
    fun m ρ _ => Cert.Kernel2Ideal.Mixer.frame m ρ,
    frame_reference2,
    fun m ρ _ => frame_reference2 m ρ trivial,
    fun m ρ _ => Cert.Kernel3.Gen.frame m ρ,
    fun m ρ _ => Cert.Kernel3Ideal.Gen.frame m ρ,
    fun m ρ _ => Cert.Kernel3Ideal.Gen.frame m ρ,
    frame_reference3,
    fun m ρ _ => frame_reference3 m ρ trivial,
    fun m ρ _ => Cert.Kernel4.Gen.frame m ρ,
    fun m ρ _ => Cert.Kernel4Ideal.Gen.frame m ρ,
    fun m ρ _ => Cert.Kernel4Ideal.Gen.frame m ρ,
    frame_reference4,
    fun m ρ _ => frame_reference4 m ρ trivial,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    trivial,
    Cert.Merge.algebraic,
    trivial,
    Cert.Mlp.algebraic6,
    trivial,
    Cert.Mlp.algebraic7,
    trivial,
    Cert.Mlp.algebraic8,
    trivial,
    Cert.Bounds.algebraic5,
    trivial,
    Cert.Mixer.algebraic2,
    trivial,
    Cert.Norm.algebraic3,
    trivial,
    Cert.Loss.algebraic4,
    trivial,
    Cert.Forward.algebraic9,
    trivial,
    Cert.Forward.algebraic10,
    trivial,
    Cert.Forward.algebraic11,
    trivial,
    Cert.Memory.algebraic12,
    trivial,
    Cert.Memory.algebraic13,
    trivial,
    Cert.Adam.algebraic14,
    trivial,
    Cert.Product.algebraic15,
    trivial,
    Cert.Product.algebraic16⟩

end Cert.Proof

end
